-- ==== Defs.lean ====
def Pre_Kernel [hPre_topi_in_range : Cert.Pre_topi_in_range.Facts] (m : (ℓ : Loc Cert.Kernel.nD Cert.Kernel.τ Cert.Kernel.sig) → Buf (Elt Bits) ℓ) : Prop :=
  ∀ c : Dev Cert.Kernel.nD,
    (Cert.Pre_topi_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_topi_in_range : Cert.Pre_topi_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_topi_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_topi_in_range [hPre_topi_in_range : Cert.Pre_topi_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_topi_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_topi_in_range : Cert.Pre_topi_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_topi_in_range : Cert.Pre_topi_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_topi_in_range [hReferenceIdeal : Cert.ReferenceIdeal.Facts] [hPre_topi_in_range : Cert.Pre_topi_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_topi_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.bf16_pair.Statement Cert.KernelIdeal.S2048x1024 Cert.KernelIdeal.S1024x1024
  ∧ IdealRules.bf16_pack.Statement Cert.KernelIdeal.S1024x1024

def algebraic_KernelIdeal_ReferenceIdeal [hKernelIdeal : Cert.KernelIdeal.Facts] [hReferenceIdeal : Cert.ReferenceIdeal.Facts] [hPre_topi_in_range : Cert.Pre_topi_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.bf16_pair.Statement Cert.Kernel2Ideal.S1x512x1024 Cert.Kernel2Ideal.S1x256x1024
  ∧ IdealRules.bf16_pair.Statement Cert.Kernel2Ideal.S512x1024 Cert.Kernel2Ideal.S256x1024

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_topi_in_range : Cert.Pre_topi_in_range.Facts),
    quiescent_Kernel (hKernel := hKernel) (hPre_topi_in_range := hPre_topi_in_range)
    ∧ quiescent_KernelIdeal (hKernelIdeal := hKernelIdeal) (hPre_topi_in_range := hPre_topi_in_range)
    ∧ quiescent_ReferenceIdeal (hReferenceIdeal := hReferenceIdeal)
    ∧ quiescent_ReferenceIdeal_pre_topi_in_range (hReferenceIdeal := hReferenceIdeal) (hPre_topi_in_range := hPre_topi_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_topi_in_range := hPre_topi_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_topi_in_range.lean ====
abbrev S32768x2048 : Shape := ⟨2, ![32768, 2048]⟩
abbrev S32768x4 : Shape := ⟨2, ![32768, 4]⟩
abbrev S2x32x2048x4096 : Shape := ⟨4, ![2, 32, 2048, 4096]⟩
abbrev S2x32x4096 : Shape := ⟨3, ![2, 32, 4096]⟩
abbrev S2x32x2048x2048 : Shape := ⟨4, ![2, 32, 2048, 2048]⟩
abbrev S2x32x2048 : Shape := ⟨3, ![2, 32, 2048]⟩
abbrev S_ : Shape := ⟨0, ![]⟩

class Facts : Prop where
  bcast_S_S32768x4 : S_.BroadcastsInDim S32768x4 (![] : Fin 0 → Fin S32768x4.rank)
  reducesTo_S32768x4_S_d0_1 : S32768x4.ReducesTo [0, 1] S_
  h_S_ : 0 < S_.numel

variable [Facts]

def fn {F : FTy → Type} [FloatOps F] (main_arg0 : FVec F S32768x2048 .f32) (main_arg1 : IVec S32768x4 32) (main_arg2 : FVec F S2x32x2048x4096 .f32) (main_arg3 : FVec F S2x32x4096 .f32) (main_arg4 : FVec F S2x32x2048x2048 .f32) (main_arg5 : FVec F S2x32x2048 .f32) : IVec S_ 1 :=
  let main_c : IVec S_ 32 := constantI S_ 32 0#32
  let main_v0 : IVec S32768x4 32 := broadcastInDim S32768x4 ![] bcast_S_S32768x4 main_c
  let main_v1 : IVec S32768x4 1 := cmpi .sge main_arg1 main_v0
  let main_c_0 : IVec S_ 32 := constantI S_ 32 32#32
  let main_v2 : IVec S32768x4 32 := broadcastInDim S32768x4 ![] bcast_S_S32768x4 main_c_0
  let main_v3 : IVec S32768x4 1 := cmpi .slt main_arg1 main_v2
  let main_v4 : IVec S32768x4 1 := andi main_v1 main_v3
  let main_c_1 : IVec S_ 1 := constantI S_ 1 1#1
  let main_v5 : IVec S_ 1 := (fun x v => Host.reduce IntOp.andi x v reducesTo_S32768x4_S_d0_1 h_S_) main_v4 main_c_1
  main_v5
-- ==== Kernel.lean ====
abbrev S32768x2048 : Shape := ⟨2, ![32768, 2048]⟩
abbrev S32768x4 : Shape := ⟨2, ![32768, 4]⟩
abbrev S2x32x2048x4096 : Shape := ⟨4, ![2, 32, 2048, 4096]⟩
abbrev S2x32x4096 : Shape := ⟨3, ![2, 32, 4096]⟩
abbrev S2x32x2048x2048 : Shape := ⟨4, ![2, 32, 2048, 2048]⟩
abbrev S2x32x2048 : Shape := ⟨3, ![2, 32, 2048]⟩
abbrev S131072 : Shape := ⟨1, ![131072]⟩
abbrev S32 : Shape := ⟨1, ![32]⟩
abbrev S131072x1 : Shape := ⟨2, ![131072, 1]⟩
abbrev S1x32 : Shape := ⟨2, ![1, 32]⟩
abbrev S131072x32 : Shape := ⟨2, ![131072, 32]⟩
abbrev S_ : Shape := ⟨0, ![]⟩
abbrev S163840 : Shape := ⟨1, ![163840]⟩
abbrev S163840x1 : Shape := ⟨2, ![163840, 1]⟩
abbrev S163840x32 : Shape := ⟨2, ![163840, 32]⟩
abbrev S160 : Shape := ⟨1, ![160]⟩
abbrev S1 : Shape := ⟨1, ![1]⟩
abbrev S160x1 : Shape := ⟨2, ![160, 1]⟩
abbrev S160x32 : Shape := ⟨2, ![160, 32]⟩
abbrev S163840x2048 : Shape := ⟨2, ![163840, 2048]⟩
abbrev S327680x1024 : Shape := ⟨2, ![327680, 1024]⟩
abbrev S2x32x1x4096 : Shape := ⟨4, ![2, 32, 1, 4096]⟩
abbrev S2x32x1x2048 : Shape := ⟨4, ![2, 32, 1, 2048]⟩
abbrev S2048x1024 : Shape := ⟨2, ![2048, 1024]⟩
abbrev S1x1x2048x256 : Shape := ⟨4, ![1, 1, 2048, 256]⟩
abbrev S1x1x1x256 : Shape := ⟨4, ![1, 1, 1, 256]⟩
abbrev S1x1x256x2048 : Shape := ⟨4, ![1, 1, 256, 2048]⟩
abbrev S1x1x1x2048 : Shape := ⟨4, ![1, 1, 1, 2048]⟩
abbrev S1024x2048 : Shape := ⟨2, ![1024, 2048]⟩
abbrev S1024x1024 : Shape := ⟨2, ![1024, 1024]⟩
abbrev S1x2048 : Shape := ⟨2, ![1, 2048]⟩
abbrev S2048x256 : Shape := ⟨2, ![2048, 256]⟩
abbrev S1024x256 : Shape := ⟨2, ![1024, 256]⟩
abbrev S1x256 : Shape := ⟨2, ![1, 256]⟩
abbrev S256x2048 : Shape := ⟨2, ![256, 2048]⟩
abbrev S4x32768 : Shape := ⟨2, ![4, 32768]⟩
abbrev S131072x2048 : Shape := ⟨2, ![131072, 2048]⟩
abbrev S4x32768x2048 : Shape := ⟨3, ![4, 32768, 2048]⟩

abbrev nBuf : Space → Nat
  | .hbm => 269
  | .vmem => 18
  | .smem => 3
  | _ => 0

abbrev hbmTy0_0 (i : Nat) : BufTy := match i % 128 with
  | 0 => ⟨S32768x2048, .f32⟩
  | 1 => ⟨S32768x4, .i32⟩
  | 2 => ⟨S2x32x2048x4096, .f32⟩
  | 3 => ⟨S2x32x4096, .f32⟩
  | 4 => ⟨S2x32x2048x2048, .f32⟩
  | 5 => ⟨S2x32x2048, .f32⟩
  | 6 => ⟨S131072, .i32⟩
  | 7 => ⟨S32, .i32⟩
  | 8 => ⟨S131072x1, .i32⟩
  | 9 => ⟨S1x32, .i32⟩
  | 10 => ⟨S131072x32, .i32⟩
  | 11 => ⟨S131072x32, .i32⟩
  | 12 => ⟨S131072x32, .i1⟩
  | 13 => ⟨S131072x32, .i32⟩
  | 14 => ⟨S_, .i32⟩
  | 15 => ⟨S32, .i32⟩
  | 16 => ⟨S_, .i32⟩
  | 17 => ⟨S32, .i32⟩
  | 18 => ⟨S32, .i32⟩
  | 19 => ⟨S_, .i32⟩
  | 20 => ⟨S32, .i32⟩
  | 21 => ⟨S32, .i32⟩
  | 22 => ⟨S_, .i32⟩
  | 23 => ⟨S_, .i32⟩
  | 24 => ⟨S32, .i32⟩
  | 25 => ⟨S32, .i32⟩
  | 26 => ⟨S32, .i32⟩
  | 27 => ⟨S_, .i32⟩
  | 28 => ⟨S32, .i32⟩
  | 29 => ⟨S32, .i1⟩
  | 30 => ⟨S32, .i32⟩
  | 31 => ⟨S32, .i32⟩
  | 32 => ⟨S_, .i32⟩
  | 33 => ⟨S32, .i32⟩
  | 34 => ⟨S32, .i1⟩
  | 35 => ⟨S32, .i1⟩
  | 36 => ⟨S_, .i32⟩
  | 37 => ⟨S32, .i32⟩
  | 38 => ⟨S32, .i32⟩
  | 39 => ⟨S32, .i32⟩
  | 40 => ⟨S_, .i32⟩
  | 41 => ⟨S32, .i32⟩
  | 42 => ⟨S32, .i32⟩
  | 43 => ⟨S_, .i32⟩
  | 44 => ⟨S_, .i32⟩
  | 45 => ⟨S32, .i32⟩
  | 46 => ⟨S32, .i32⟩
  | 47 => ⟨S_, .i32⟩
  | 48 => ⟨S_, .i32⟩
  | 49 => ⟨S32, .i32⟩
  | 50 => ⟨S32, .i32⟩
  | 51 => ⟨S131072, .i32⟩
  | 52 => ⟨S131072, .i32⟩
  | 53 => ⟨S131072, .i32⟩
  | 54 => ⟨S131072, .i32⟩
  | 55 => ⟨S131072, .i32⟩
  | 56 => ⟨S131072, .i32⟩
  | 57 => ⟨S32, .i32⟩
  | 58 => ⟨S1x32, .i32⟩
  | 59 => ⟨S_, .i32⟩
  | 60 => ⟨S_, .i32⟩
  | 61 => ⟨S131072x32, .i32⟩
  | 62 => ⟨S131072x32, .i32⟩
  | 63 => ⟨S131072x32, .i32⟩
  | 64 => ⟨S_, .i32⟩
  | 65 => ⟨S131072, .i32⟩
  | 66 => ⟨S131072, .i32⟩
  | 67 => ⟨S163840, .i32⟩
  | 68 => ⟨S163840x1, .i32⟩
  | 69 => ⟨S1x32, .i32⟩
  | 70 => ⟨S163840x32, .i32⟩
  | 71 => ⟨S163840x32, .i32⟩
  | 72 => ⟨S163840x32, .i1⟩
  | 73 => ⟨S163840x32, .i32⟩
  | 74 => ⟨S_, .i32⟩
  | 75 => ⟨S163840, .i32⟩
  | 76 => ⟨S_, .i32⟩
  | 77 => ⟨S163840, .i32⟩
  | 78 => ⟨S163840, .i32⟩
  | 79 => ⟨S163840x1, .i32⟩
  | 80 => ⟨S1x32, .i32⟩
  | 81 => ⟨S163840x32, .i32⟩
  | 82 => ⟨S163840x32, .i32⟩
  | 83 => ⟨S163840x32, .i1⟩
  | 84 => ⟨S1x32, .i32⟩
  | 85 => ⟨S_, .i32⟩
  | 86 => ⟨S_, .i32⟩
  | 87 => ⟨S163840x32, .i32⟩
  | 88 => ⟨S163840x32, .i32⟩
  | 89 => ⟨S163840x32, .i32⟩
  | 90 => ⟨S_, .i32⟩
  | 91 => ⟨S163840, .i32⟩
  | 92 => ⟨S163840, .i32⟩
  | 93 => ⟨S1x32, .i32⟩
  | 94 => ⟨S_, .i32⟩
  | 95 => ⟨S_, .i32⟩
  | 96 => ⟨S163840x32, .i32⟩
  | 97 => ⟨S163840x32, .i32⟩
  | 98 => ⟨S163840x32, .i32⟩
  | 99 => ⟨S_, .i32⟩
  | 100 => ⟨S163840, .i32⟩
  | 101 => ⟨S163840, .i32⟩
  | 102 => ⟨S_, .i32⟩
  | 103 => ⟨S_, .i32⟩
  | 104 => ⟨S_, .i32⟩
  | 105 => ⟨S163840, .i32⟩
  | 106 => ⟨S163840, .i32⟩
  | 107 => ⟨S_, .i32⟩
  | 108 => ⟨S163840, .i32⟩
  | 109 => ⟨S163840, .i32⟩
  | 110 => ⟨S1x32, .i32⟩
  | 111 => ⟨S_, .i32⟩
  | 112 => ⟨S_, .i32⟩
  | 113 => ⟨S163840x32, .i32⟩
  | 114 => ⟨S163840x32, .i32⟩
  | 115 => ⟨S163840x32, .i32⟩
  | 116 => ⟨S_, .i32⟩
  | 117 => ⟨S163840, .i32⟩
  | 118 => ⟨S163840, .i1⟩
  | 119 => ⟨S_, .i32⟩
  | 120 => ⟨S163840, .i32⟩
  | 121 => ⟨S163840, .i1⟩
  | 122 => ⟨S_, .i32⟩
  | 123 => ⟨S163840, .i32⟩
  | 124 => ⟨S163840, .i32⟩
  | 125 => ⟨S163840, .i32⟩
  | 126 => ⟨S163840x1, .i32⟩
  | 127 => ⟨S163840, .i32⟩
  | _ => ⟨S32768x2048, .f32⟩

abbrev hbmTy0_1 (i : Nat) : BufTy := match i % 128 with
  | 0 => ⟨S_, .i32⟩
  | 1 => ⟨S_, .i32⟩
  | 2 => ⟨S163840, .i32⟩
  | 3 => ⟨S163840, .i32⟩
  | 4 => ⟨S163840, .i32⟩
  | 5 => ⟨S_, .i32⟩
  | 6 => ⟨S163840, .i32⟩
  | 7 => ⟨S163840, .i1⟩
  | 8 => ⟨S163840, .i32⟩
  | 9 => ⟨S163840, .i32⟩
  | 10 => ⟨S_, .i32⟩
  | 11 => ⟨S163840, .i32⟩
  | 12 => ⟨S163840, .i1⟩
  | 13 => ⟨S163840, .i1⟩
  | 14 => ⟨S_, .i32⟩
  | 15 => ⟨S163840, .i32⟩
  | 16 => ⟨S163840, .i32⟩
  | 17 => ⟨S163840, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S163840, .i32⟩
  | 25 => ⟨S163840, .i32⟩
  | 26 => ⟨S_, .i32⟩
  | 27 => ⟨S163840, .i32⟩
  | 28 => ⟨S163840, .i1⟩
  | 29 => ⟨S_, .i32⟩
  | 30 => ⟨S163840, .i32⟩
  | 31 => ⟨S163840, .i1⟩
  | 32 => ⟨S_, .i32⟩
  | 33 => ⟨S_, .i1⟩
  | 34 => ⟨S163840, .i1⟩
  | 35 => ⟨S163840, .i1⟩
  | 36 => ⟨S163840, .i1⟩
  | 37 => ⟨S163840, .i32⟩
  | 38 => ⟨S163840, .i32⟩
  | 39 => ⟨S163840, .i32⟩
  | 40 => ⟨S163840, .i32⟩
  | 41 => ⟨S160, .i32⟩
  | 42 => ⟨S1, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i1⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S160, .i32⟩
  | 60 => ⟨S_, .i32⟩
  | 61 => ⟨S160, .i32⟩
  | 62 => ⟨S160, .i32⟩
  | 63 => ⟨S160x1, .i32⟩
  | 64 => ⟨S1x32, .i32⟩
  | 65 => ⟨S160x32, .i32⟩
  | 66 => ⟨S160x32, .i32⟩
  | 67 => ⟨S160x32, .i1⟩
  | 68 => ⟨S160x32, .i32⟩
  | 69 => ⟨S_, .i32⟩
  | 70 => ⟨S160, .i32⟩
  | 71 => ⟨S_, .i32⟩
  | 72 => ⟨S160, .i32⟩
  | 73 => ⟨S160x1, .i32⟩
  | 74 => ⟨S1x32, .i32⟩
  | 75 => ⟨S160x32, .i32⟩
  | 76 => ⟨S160x32, .i32⟩
  | 77 => ⟨S160x32, .i1⟩
  | 78 => ⟨S160, .i32⟩
  | 79 => ⟨S160, .i1⟩
  | 80 => ⟨S1x32, .i32⟩
  | 81 => ⟨S_, .i32⟩
  | 82 => ⟨S_, .i32⟩
  | 83 => ⟨S160x32, .i32⟩
  | 84 => ⟨S160x32, .i32⟩
  | 85 => ⟨S160x32, .i32⟩
  | 86 => ⟨S_, .i32⟩
  | 87 => ⟨S160, .i32⟩
  | 88 => ⟨S_, .i32⟩
  | 89 => ⟨S160, .i32⟩
  | 90 => ⟨S160, .i32⟩
  | 91 => ⟨S1x32, .i32⟩
  | 92 => ⟨S_, .i32⟩
  | 93 => ⟨S_, .i32⟩
  | 94 => ⟨S160x32, .i32⟩
  | 95 => ⟨S160x32, .i32⟩
  | 96 => ⟨S160x32, .i32⟩
  | 97 => ⟨S_, .i32⟩
  | 98 => ⟨S160, .i32⟩
  | 99 => ⟨S160, .i32⟩
  | 100 => ⟨S160, .i32⟩
  | 101 => ⟨S_, .i32⟩
  | 102 => ⟨S_, .i32⟩
  | 103 => ⟨S_, .i32⟩
  | 104 => ⟨S160, .i32⟩
  | 105 => ⟨S160, .i32⟩
  | 106 => ⟨S_, .i32⟩
  | 107 => ⟨S160, .i32⟩
  | 108 => ⟨S160, .i32⟩
  | 109 => ⟨S_, .i32⟩
  | 110 => ⟨S_, .i32⟩
  | 111 => ⟨S160, .i32⟩
  | 112 => ⟨S32768x2048, .bf16⟩
  | 113 => ⟨S_, .i32⟩
  | 114 => ⟨S163840, .i32⟩
  | 115 => ⟨S163840, .i1⟩
  | 116 => ⟨S_, .i32⟩
  | 117 => ⟨S163840, .i32⟩
  | 118 => ⟨S163840, .i32⟩
  | 119 => ⟨S163840, .i32⟩
  | 120 => ⟨S163840x1, .i32⟩
  | 121 => ⟨S163840x2048, .bf16⟩
  | 122 => ⟨S327680x1024, .bf16⟩
  | 123 => ⟨S2x32x1x4096, .f32⟩
  | 124 => ⟨S2x32x1x2048, .f32⟩
  | 125 => ⟨S327680x1024, .bf16⟩
  | 126 => ⟨S163840x2048, .bf16⟩
  | 127 => ⟨S32768x4, .i32⟩
  | _ => ⟨S32768x2048, .f32⟩

abbrev hbmTy0_2 (i : Nat) : BufTy := match i % 128 with
  | 0 => ⟨S4x32768, .i32⟩
  | 1 => ⟨S131072, .i32⟩
  | 2 => ⟨S_, .i32⟩
  | 3 => ⟨S131072, .i32⟩
  | 4 => ⟨S131072, .i1⟩
  | 5 => ⟨S_, .i32⟩
  | 6 => ⟨S131072, .i32⟩
  | 7 => ⟨S131072, .i32⟩
  | 8 => ⟨S131072, .i32⟩
  | 9 => ⟨S131072x1, .i32⟩
  | 10 => ⟨S131072x2048, .bf16⟩
  | 11 => ⟨S4x32768x2048, .bf16⟩
  | 12 => ⟨S4x32768x2048, .f32⟩
  | _ => ⟨S32768x2048, .f32⟩

abbrev hbmTy (i : Nat) : BufTy := match i / 128 with
  | 0 => hbmTy0_0 i
  | 1 => hbmTy0_1 i
  | 2 => hbmTy0_2 i
  | _ => ⟨S32768x2048, .f32⟩

abbrev bufTy : (tb : Table) → Fin (tcTables nBuf tb) → BufTy
  | .hbm, ⟨i, _⟩ => hbmTy i
  | .local _ .vmem, ⟨0, _⟩ => ⟨S2048x1024, .bf16⟩
  | .local _ .vmem, ⟨1, _⟩ => ⟨S2048x1024, .bf16⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x1x256, .f32⟩
  | .local _ .vmem, ⟨7, _⟩ => ⟨S1x1x1x256, .f32⟩
  | .local _ .vmem, ⟨8, _⟩ => ⟨S1x1x1x256, .f32⟩
  | .local _ .vmem, ⟨9, _⟩ => ⟨S1x1x1x256, .f32⟩
  | .local _ .vmem, ⟨10, _⟩ => ⟨S1x1x256x2048, .f32⟩
  | .local _ .vmem, ⟨11, _⟩ => ⟨S1x1x256x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S2048x1024, .bf16⟩
  | .local _ .vmem, ⟨15, _⟩ => ⟨S2048x1024, .bf16⟩
  | .local _ .vmem, ⟨16, _⟩ => ⟨S1024x2048, .bf16⟩
  | .local _ .vmem, ⟨17, _⟩ => ⟨S1024x2048, .f32⟩
  | .local _ .smem, ⟨0, _⟩ => ⟨S160, .i32⟩
  | .local _ .smem, ⟨1, _⟩ => ⟨S160, .i32⟩
  | .local _ .smem, ⟨2, _⟩ => ⟨S160, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_call1_call0_c : Ref sig .tc := ⟨.hbm, 43, rfl⟩
abbrev main_call1_call0_v0 : Ref sig .tc := ⟨.hbm, 44, rfl⟩
abbrev main_v16 : Ref sig .tc := ⟨.hbm, 45, rfl⟩
abbrev main_v17 : Ref sig .tc := ⟨.hbm, 46, rfl⟩
abbrev main_call2_call0_c : Ref sig .tc := ⟨.hbm, 47, rfl⟩
abbrev main_call2_call0_v0 : Ref sig .tc := ⟨.hbm, 48, rfl⟩
abbrev main_v18 : Ref sig .tc := ⟨.hbm, 49, rfl⟩
abbrev main_v19 : Ref sig .tc := ⟨.hbm, 50, rfl⟩
abbrev main_call3_v0 : Ref sig .tc := ⟨.hbm, 51, rfl⟩
abbrev main_call3_v1_0 : Ref sig .tc := ⟨.hbm, 52, rfl⟩
abbrev main_v20 : Ref sig .tc := ⟨.hbm, 53, rfl⟩
abbrev main_call4_v0 : Ref sig .tc := ⟨.hbm, 54, rfl⟩
abbrev main_call4_v1_0 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_c_4 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_v24 : Ref sig .tc := ⟨.hbm, 63, rfl⟩
abbrev main_c_5 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_c_6 : Ref sig .tc := ⟨.hbm, 74, rfl⟩
abbrev main_v34 : Ref sig .tc := ⟨.hbm, 75, rfl⟩
abbrev main_c_7 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_c_8 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_v43 : Ref sig .tc := ⟨.hbm, 89, rfl⟩
abbrev main_c_9 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_c_10 : Ref sig .tc := ⟨.hbm, 94, rfl⟩
abbrev main_call7_v0 : Ref sig .tc := ⟨.hbm, 95, rfl⟩
abbrev main_call7_v1 : Ref sig .tc := ⟨.hbm, 96, rfl⟩
abbrev main_call7_v2 : Ref sig .tc := ⟨.hbm, 97, rfl⟩
abbrev main_v47 : Ref sig .tc := ⟨.hbm, 98, rfl⟩
abbrev main_c_11 : Ref sig .tc := ⟨.hbm, 99, rfl⟩
abbrev main_v48 : Ref sig .tc := ⟨.hbm, 100, rfl⟩
abbrev main_v49 : Ref sig .tc := ⟨.hbm, 101, rfl⟩
abbrev main_c_12 : Ref sig .tc := ⟨.hbm, 102, rfl⟩
abbrev main_c_13 : Ref sig .tc := ⟨.hbm, 103, rfl⟩
abbrev main_call8_v0 : Ref sig .tc := ⟨.hbm, 104, rfl⟩
abbrev main_call8_v1 : Ref sig .tc := ⟨.hbm, 105, rfl⟩
abbrev main_call8_v2 : Ref sig .tc := ⟨.hbm, 106, rfl⟩
abbrev main_call8_v3 : Ref sig .tc := ⟨.hbm, 107, rfl⟩
abbrev main_call8_v4 : Ref sig .tc := ⟨.hbm, 108, rfl⟩
abbrev main_v50 : Ref sig .tc := ⟨.hbm, 109, rfl⟩
abbrev main_v51 : Ref sig .tc := ⟨.hbm, 110, rfl⟩
abbrev main_c_14 : Ref sig .tc := ⟨.hbm, 111, rfl⟩
abbrev main_call9_v0 : Ref sig .tc := ⟨.hbm, 112, rfl⟩
abbrev main_call9_v1 : Ref sig .tc := ⟨.hbm, 113, rfl⟩
abbrev main_call9_v2 : Ref sig .tc := ⟨.hbm, 114, rfl⟩
abbrev main_v52 : Ref sig .tc := ⟨.hbm, 115, rfl⟩
abbrev main_c_15 : Ref sig .tc := ⟨.hbm, 116, rfl⟩
abbrev main_v53 : Ref sig .tc := ⟨.hbm, 117, rfl⟩
abbrev main_v54 : Ref sig .tc := ⟨.hbm, 118, rfl⟩
abbrev main_c_16 : Ref sig .tc := ⟨.hbm, 119, rfl⟩
abbrev main_v55 : Ref sig .tc := ⟨.hbm, 120, rfl⟩
abbrev main_v56 : Ref sig .tc := ⟨.hbm, 121, rfl⟩
abbrev main_c_17 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_c_18 : Ref sig .tc := ⟨.hbm, 128, rfl⟩
abbrev main_call10_v0 : Ref sig .tc := ⟨.hbm, 129, rfl⟩
abbrev main_call10_v1 : Ref sig .tc := ⟨.hbm, 130, rfl⟩
abbrev main_call10_v2 : Ref sig .tc := ⟨.hbm, 131, rfl⟩
abbrev main_call10_v3 : Ref sig .tc := ⟨.hbm, 132, rfl⟩
abbrev main_call10_v4 : Ref sig .tc := ⟨.hbm, 133, rfl⟩
abbrev main_call10_v5 : Ref sig .tc := ⟨.hbm, 134, rfl⟩
abbrev main_call10_v6 : Ref sig .tc := ⟨.hbm, 135, rfl⟩
abbrev main_call10_v7 : Ref sig .tc := ⟨.hbm, 136, rfl⟩
abbrev main_call10_v8 : Ref sig .tc := ⟨.hbm, 137, rfl⟩
abbrev main_call10_c : Ref sig .tc := ⟨.hbm, 138, rfl⟩
abbrev main_call10_v9 : Ref sig .tc := ⟨.hbm, 139, rfl⟩
abbrev main_call10_v10 : Ref sig .tc := ⟨.hbm, 140, rfl⟩
abbrev main_call10_v11 : Ref sig .tc := ⟨.hbm, 141, rfl⟩
abbrev main_call10_c_0 : Ref sig .tc := ⟨.hbm, 142, rfl⟩
abbrev main_call10_v12 : Ref sig .tc := ⟨.hbm, 143, rfl⟩
abbrev main_call10_v13 : Ref sig .tc := ⟨.hbm, 144, rfl⟩
abbrev main_v62 : Ref sig .tc := ⟨.hbm, 145, rfl⟩
abbrev main_c_19 : Ref sig .tc := ⟨.hbm, 146, rfl⟩
abbrev main_call11_v0 : Ref sig .tc := ⟨.hbm, 147, rfl⟩
abbrev main_call11_c : Ref sig .tc := ⟨.hbm, 148, rfl⟩
abbrev main_call11_v1 : Ref sig .tc := ⟨.hbm, 149, rfl⟩
abbrev main_call11_c_0 : Ref sig .tc := ⟨.hbm, 150, rfl⟩
abbrev main_call11_v2 : Ref sig .tc := ⟨.hbm, 151, rfl⟩
abbrev main_call11_v3 : Ref sig .tc := ⟨.hbm, 152, rfl⟩
abbrev main_call11_v4 : Ref sig .tc := ⟨.hbm, 153, rfl⟩
abbrev main_call11_c_1 : Ref sig .tc := ⟨.hbm, 154, rfl⟩
abbrev main_call11_v5 : Ref sig .tc := ⟨.hbm, 155, rfl⟩
abbrev main_call11_v6 : Ref sig .tc := ⟨.hbm, 156, rfl⟩
abbrev main_call11_c_2 : Ref sig .tc := ⟨.hbm, 157, rfl⟩
abbrev main_call11_v7 : Ref sig .tc := ⟨.hbm, 158, rfl⟩
abbrev main_call11_v8 : Ref sig .tc := ⟨.hbm, 159, rfl⟩
abbrev main_call11_c_3 : Ref sig .tc := ⟨.hbm, 160, rfl⟩
abbrev main_call11_v9 : Ref sig .tc := ⟨.hbm, 161, rfl⟩
abbrev main_call11_v10 : Ref sig .tc := ⟨.hbm, 162, rfl⟩
abbrev main_call11_v11 : Ref sig .tc := ⟨.hbm, 163, rfl⟩
abbrev main_call11_v12 : Ref sig .tc := ⟨.hbm, 164, rfl⟩
abbrev main_call11_v13 : Ref sig .tc := ⟨.hbm, 165, rfl⟩
abbrev main_call11_v14 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_c_20 : Ref sig .tc := ⟨.hbm, 172, rfl⟩
abbrev main_call13_v0 : Ref sig .tc := ⟨.hbm, 173, rfl⟩
abbrev main_call13_v1 : Ref sig .tc := ⟨.hbm, 174, rfl⟩
abbrev main_call13_v2 : Ref sig .tc := ⟨.hbm, 175, rfl⟩
abbrev main_call13_v3 : Ref sig .tc := ⟨.hbm, 176, rfl⟩
abbrev main_call13_v4 : Ref sig .tc := ⟨.hbm, 177, rfl⟩
abbrev main_call13_v5 : Ref sig .tc := ⟨.hbm, 178, rfl⟩
abbrev main_call13_c : Ref sig .tc := ⟨.hbm, 179, rfl⟩
abbrev main_call13_v6 : Ref sig .tc := ⟨.hbm, 180, rfl⟩
abbrev main_call13_v7 : Ref sig .tc := ⟨.hbm, 181, rfl⟩
abbrev main_call13_c_0 : Ref sig .tc := ⟨.hbm, 182, rfl⟩
abbrev main_call13_v8 : Ref sig .tc := ⟨.hbm, 183, rfl⟩
abbrev main_v68 : Ref sig .tc := ⟨.hbm, 184, rfl⟩
abbrev main_c_21 : Ref sig .tc := ⟨.hbm, 185, rfl⟩
abbrev main_v69 : Ref sig .tc := ⟨.hbm, 186, rfl⟩
abbrev main_v70 : Ref sig .tc := ⟨.hbm, 187, rfl⟩
abbrev main_c_22 : Ref sig .tc := ⟨.hbm, 188, rfl⟩
abbrev main_v72 : Ref sig .tc := ⟨.hbm, 189, rfl⟩
abbrev main_v73 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩
abbrev main_v79 : Ref sig .tc := ⟨.hbm, 196, rfl⟩
abbrev main_c_23 : Ref sig .tc := ⟨.hbm, 197, rfl⟩
abbrev main_v80 : Ref sig .tc := ⟨.hbm, 198, rfl⟩
abbrev main_c_24 : Ref sig .tc := ⟨.hbm, 199, rfl⟩
abbrev main_v81 : Ref sig .tc := ⟨.hbm, 200, rfl⟩
abbrev main_v83 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_v87 : Ref sig .tc := ⟨.hbm, 205, rfl⟩
abbrev main_v88 : Ref sig .tc := ⟨.hbm, 206, rfl⟩
abbrev main_v89 : Ref sig .tc := ⟨.hbm, 207, rfl⟩
abbrev main_v90 : Ref sig .tc := ⟨.hbm, 208, rfl⟩
abbrev main_c_25 : Ref sig .tc := ⟨.hbm, 209, rfl⟩
abbrev main_call14_v0 : Ref sig .tc := ⟨.hbm, 210, rfl⟩
abbrev main_call14_v1 : Ref sig .tc := ⟨.hbm, 211, rfl⟩
abbrev main_call14_v2 : Ref sig .tc := ⟨.hbm, 212, rfl⟩
abbrev main_v91 : Ref sig .tc := ⟨.hbm, 213, rfl⟩
abbrev main_c_26 : Ref sig .tc := ⟨.hbm, 214, rfl⟩
abbrev main_v92 : Ref sig .tc := ⟨.hbm, 215, rfl⟩
abbrev main_c_27 : Ref sig .tc := ⟨.hbm, 216, rfl⟩
abbrev main_v93 : Ref sig .tc := ⟨.hbm, 217, rfl⟩
abbrev main_v94 : Ref sig .tc := ⟨.hbm, 218, rfl⟩
abbrev main_v95 : Ref sig .tc := ⟨.hbm, 219, rfl⟩
abbrev main_c_28 : Ref sig .tc := ⟨.hbm, 220, rfl⟩
abbrev main_call15_v0 : Ref sig .tc := ⟨.hbm, 221, rfl⟩
abbrev main_call15_v1 : Ref sig .tc := ⟨.hbm, 222, rfl⟩
abbrev main_call15_v2 : Ref sig .tc := ⟨.hbm, 223, rfl⟩
abbrev main_v96 : Ref sig .tc := ⟨.hbm, 224, rfl⟩
abbrev main_c_29 : Ref sig .tc := ⟨.hbm, 225, rfl⟩
abbrev main_v97 : Ref sig .tc := ⟨.hbm, 226, rfl⟩
abbrev main_v98 : Ref sig .tc := ⟨.hbm, 227, rfl⟩
abbrev main_v99 : Ref sig .tc := ⟨.hbm, 228, rfl⟩
abbrev main_c_30 : Ref sig .tc := ⟨.hbm, 229, rfl⟩
abbrev main_c_31 : Ref sig .tc := ⟨.hbm, 230, rfl⟩
abbrev main_call16_v0 : Ref sig .tc := ⟨.hbm, 231, rfl⟩
abbrev main_call16_v1 : Ref sig .tc := ⟨.hbm, 232, rfl⟩
abbrev main_call16_v2 : Ref sig .tc := ⟨.hbm, 233, rfl⟩
abbrev main_call16_v3 : Ref sig .tc := ⟨.hbm, 234, rfl⟩
abbrev main_call16_v4 : Ref sig .tc := ⟨.hbm, 235, rfl⟩
abbrev main_v100 : Ref sig .tc := ⟨.hbm, 236, rfl⟩
abbrev main_c_32 : Ref sig .tc := ⟨.hbm, 237, rfl⟩
abbrev main_call17_v0 : Ref sig .tc := ⟨.hbm, 238, rfl⟩
abbrev main_call17_v1 : Ref sig .tc := ⟨.hbm, 239, rfl⟩
abbrev main_v102 : Ref sig .tc := ⟨.hbm, 240, rfl⟩
abbrev main_c_33 : Ref sig .tc := ⟨.hbm, 241, rfl⟩
abbrev main_v103 : Ref sig .tc := ⟨.hbm, 242, rfl⟩
abbrev main_v104 : Ref sig .tc := ⟨.hbm, 243, rfl⟩
abbrev main_c_34 : Ref sig .tc := ⟨.hbm, 244, rfl⟩
abbrev main_v105 : Ref sig .tc := ⟨.hbm, 245, rfl⟩
abbrev main_v106 : Ref sig .tc := ⟨.hbm, 246, rfl⟩
abbrev main_v107 : Ref sig .tc := ⟨.hbm, 247, rfl⟩
abbrev main_v108 : Ref sig .tc := ⟨.hbm, 248, rfl⟩
abbrev main_v109 : Ref sig .tc := ⟨.hbm, 249, rfl⟩
abbrev main_v110 : Ref sig .tc := ⟨.hbm, 250, rfl⟩
abbrev main_v111 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_c_35 : Ref sig .tc := ⟨.hbm, 258, rfl⟩
abbrev main_v118 : Ref sig .tc := ⟨.hbm, 259, rfl⟩
abbrev main_v119 : Ref sig .tc := ⟨.hbm, 260, rfl⟩
abbrev main_c_36 : Ref sig .tc := ⟨.hbm, 261, rfl⟩
abbrev main_v120 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_v126 : Ref sig .tc := ⟨.hbm, 268, rfl⟩
abbrev main_v82 : Ref sig .tc := ⟨.smem, 0, rfl⟩
abbrev main_v71 : Ref sig .tc := ⟨.smem, 1, rfl⟩
abbrev main_v101 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![160, 8], ![false, false]⟩

abbrev pre0 : Pipeline.Prefetch sig := ⟨3, ![main_v82.idx, main_v71.idx, main_v101.idx], fun | 0 => main_v82.names | 1 => main_v71.names | 2 => main_v101.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v1 : BitVec 32) : BitVec 1 :=
  let c0_i32 : BitVec 32 := 0#32
  let v2 : BitVec 1 := Scalar.cmpi .sgt v1 c0_i32
  let arg1 : BitVec 32 := BitVec.ofNat 32 (i 1).val
  let c7_i32 : BitVec 32 := 7#32
  let v9 : BitVec 1 := Scalar.cmpi .eq arg1 c7_i32
  let v10 : BitVec 1 := Scalar.andi v2 v9
  let v11 : BitVec 32 := Scalar.extui v10
  let c0_i32_3 : BitVec 32 := 0#32
  let v12 : BitVec 1 := Scalar.cmpi .ne v11 c0_i32_3
  v12

def k0_cond4 (i : grid0.Coords) (v1 : BitVec 32) : BitVec 1 :=
  let c0_i32 : BitVec 32 := 0#32
  let v2 : BitVec 1 := Scalar.cmpi .sgt v1 c0_i32
  let v_true : BitVec 1 := 1#1
  let v13 : BitVec 1 := Scalar.xori v2 v_true
  let arg1 : BitVec 32 := BitVec.ofNat 32 (i 1).val
  let c7_i32_4 : BitVec 32 := 7#32
  let v14 : BitVec 1 := Scalar.cmpi .eq arg1 c7_i32_4
  let v15 : BitVec 1 := Scalar.andi v13 v14
  let v16 : BitVec 32 := Scalar.extui v15
  let c0_i32_5 : BitVec 32 := 0#32
  let v17 : BitVec 1 := Scalar.cmpi .ne v16 c0_i32_5
  v17

def cc0_transform_0 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let v2 : Index := Scalar.indexCast arg0
  let v3 : BitVec 32 := pf.at 2 (Rect.unit (s := S160) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let v2 : Index := Scalar.indexCast arg0
  let v3 : BitVec 32 := pf.at 2 (Rect.unit (s := S160) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c8_i32 : BitVec 32 := 8#32
  let v6 : BitVec 32 := Scalar.addi v5 c8_i32
  let c0_i32_0 : BitVec 32 := 0#32
  let c0_i32_1 : BitVec 32 := 0#32
  let c0_i32_2 : BitVec 32 := 0#32
  ![c0_i32_0.toNat, v1.toNat, c0_i32_1.toNat, v6.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let v2 : Index := Scalar.indexCast arg0
  let v3 : BitVec 32 := pf.at 2 (Rect.unit (s := S160) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_4 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let v2 : Index := Scalar.indexCast arg0
  let v3 : BitVec 32 := pf.at 2 (Rect.unit (s := S160) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c8_i32 : BitVec 32 := 8#32
  let v6 : BitVec 32 := Scalar.addi v5 c8_i32
  let c0_i32_0 : BitVec 32 := 0#32
  let c0_i32_1 : BitVec 32 := 0#32
  let c0_i32_2 : BitVec 32 := 0#32
  ![c0_i32_0.toNat, v1.toNat, c0_i32_1.toNat, v6.toNat]

def cc0_transform_5 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let v2 : Index := Scalar.indexCast arg0
  let v3 : BitVec 32 := pf.at 2 (Rect.unit (s := S160) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  let c0_i32_2 : BitVec 32 := 0#32
  ![c0_i32_0.toNat, v1.toNat, v5.toNat, c0_i32_1.toNat]

def cc0_transform_6 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F]
-- ==== ReferenceIdeal.lean ====
abbrev S32768x2048 : Shape := ⟨2, ![32768, 2048]⟩
abbrev S32768x4 : Shape := ⟨2, ![32768, 4]⟩
abbrev S2x32x2048x4096 : Shape := ⟨4, ![2, 32, 2048, 4096]⟩
abbrev S2x32x4096 : Shape := ⟨3, ![2, 32, 4096]⟩
abbrev S2x32x2048x2048 : Shape := ⟨4, ![2, 32, 2048, 2048]⟩
abbrev S2x32x2048 : Shape := ⟨3, ![2, 32, 2048]⟩
abbrev S1x32x2048x4096 : Shape := ⟨4, ![1, 32, 2048, 4096]⟩
abbrev S32x2048x4096 : Shape := ⟨3, ![32, 2048, 4096]⟩
abbrev S32x4096x32768 : Shape := ⟨3, ![32, 4096, 32768]⟩
abbrev S32x32768x4096 : Shape := ⟨3, ![32, 32768, 4096]⟩
abbrev S1x32x4096 : Shape := ⟨3, ![1, 32, 4096]⟩
abbrev S32x4096 : Shape := ⟨2, ![32, 4096]⟩
abbrev S32x1x4096 : Shape := ⟨3, ![32, 1, 4096]⟩
abbrev S32x32768x2048 : Shape := ⟨3, ![32, 32768, 2048]⟩
abbrev S_ : Shape := ⟨0, ![]⟩
abbrev S1x32x2048x2048 : Shape := ⟨4, ![1, 32, 2048, 2048]⟩
abbrev S32x2048x2048 : Shape := ⟨3, ![32, 2048, 2048]⟩
abbrev S1x32x2048 : Shape := ⟨3, ![1, 32, 2048]⟩
abbrev S32x2048 : Shape := ⟨2, ![32, 2048]⟩
abbrev S32x1x2048 : Shape := ⟨3, ![32, 1, 2048]⟩
abbrev S4x32768 : Shape := ⟨2, ![4, 32768]⟩
abbrev S32768 : Shape := ⟨1, ![32768]⟩
abbrev S1x32768 : Shape := ⟨2, ![1, 32768]⟩
abbrev S4x32768x1 : Shape := ⟨3, ![4, 32768, 1]⟩
abbrev S4x32768x2 : Shape := ⟨3, ![4, 32768, 2]⟩
abbrev S4x32768x2048 : Shape := ⟨3, ![4, 32768, 2048]⟩

abbrev nBuf : Space → Nat
  | .hbm => 74
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x4, .i32⟩
  | .hbm, ⟨2, _⟩ => ⟨S2x32x2048x4096, .f32⟩
  | .hbm, ⟨3, _⟩ => ⟨S2x32x4096, .f32⟩
  | .hbm, ⟨4, _⟩ => ⟨S2x32x2048x2048, .f32⟩
  | .hbm, ⟨5, _⟩ => ⟨S2x32x2048, .f32⟩
  | .hbm, ⟨6, _⟩ => ⟨S1x32x2048x4096, .f32⟩
  | .hbm, ⟨7, _⟩ => ⟨S32x2048x4096, .f32⟩
  | .hbm, ⟨8, _⟩ => ⟨S32x4096x32768, .f32⟩
  | .hbm, ⟨9, _⟩ => ⟨S32x32768x4096, .f32⟩
  | .hbm, ⟨10, _⟩ => ⟨S1x32x4096, .f32⟩
  | .hbm, ⟨11, _⟩ => ⟨S32x4096, .f32⟩
  | .hbm, ⟨12, _⟩ => ⟨S32x1x4096, .f32⟩
  | .hbm, ⟨13, _⟩ => ⟨S32x32768x4096, .f32⟩
  | .hbm, ⟨14, _⟩ => ⟨S32x32768x4096, .f32⟩
  | .hbm, ⟨15, _⟩ => ⟨S32x32768x2048, .f32⟩
  | .hbm, ⟨16, _⟩ => ⟨S_, .f32⟩
  | .hbm, ⟨17, _⟩ => ⟨S32x32768x2048, .f32⟩
  | .hbm, ⟨18, _⟩ => ⟨S32x32768x2048, .f32⟩
  | .hbm, ⟨19, _⟩ => ⟨S32x32768x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S32x32768x2048, .f32⟩
  | .hbm, ⟨24, _⟩ => ⟨S32x32768x2048, .f32⟩
  | .hbm, ⟨25, _⟩ => ⟨S_, .f32⟩
  | .hbm, ⟨26, _⟩ => ⟨S32x32768x2048, .f32⟩
  | .hbm, ⟨27, _⟩ => ⟨S32x32768x2048, .f32⟩
  | .hbm, ⟨28, _⟩ => ⟨S_, .f32⟩
  | .hbm, ⟨29, _⟩ => ⟨S32x32768x2048, .f32⟩
  | .hbm, ⟨30, _⟩ => ⟨S32x32768x2048, .f32⟩
  | .hbm, ⟨31, _⟩ => ⟨S32x32768x2048, .f32⟩
  | .hbm, ⟨32, _⟩ => ⟨S32x32768x2048, .f32⟩
  | .hbm, ⟨33, _⟩ => ⟨S_, .f32⟩
  | .hbm, ⟨34, _⟩ => ⟨S32x32768x2048, .f32⟩
  | .hbm, ⟨35, _⟩ => ⟨S32x32768x2048, .f32⟩
  | .hbm, ⟨36, _⟩ => ⟨S_, .f32⟩
  | .hbm, ⟨37, _⟩ => ⟨S32x32768x2048, .f32⟩
  | .hbm, ⟨38, _⟩ => ⟨S32x32768x2048, .f32⟩
  | .hbm, ⟨39, _⟩ => ⟨S32x32768x2048, .f32⟩
  | .hbm, ⟨40, _⟩ => ⟨S_, .f32⟩
  | .hbm, ⟨41, _⟩ => ⟨S32x32768x2048, .f32⟩
  | .hbm, ⟨42, _⟩ => ⟨S32x32768x2048, .f32⟩
  | .hbm, ⟨43, _⟩ => ⟨S32x32768x2048, .f32⟩
  | .hbm, ⟨44, _⟩ => ⟨S1x32x2048x2048, .f32⟩
  | .hbm, ⟨45, _⟩ => ⟨S32x2048x2048, .f32⟩
  | .hbm, ⟨46, _⟩ => ⟨S32x32768x2048, .f32⟩
  | .hbm, ⟨47, _⟩ => ⟨S1x32x2048, .f32⟩
  | .hbm, ⟨48, _⟩ => ⟨S32x2048, .f32⟩
  | .hbm, ⟨49, _⟩ => ⟨S32x1x2048, .f32⟩
  | .hbm, ⟨50, _⟩ => ⟨S32x32768x2048, .f32⟩
  | .hbm, ⟨51, _⟩ => ⟨S32x32768x2048, .f32⟩
  | .hbm, ⟨52, _⟩ => ⟨S4x32768, .i32⟩
  | .hbm, ⟨53, _⟩ => ⟨S32768, .i32⟩
  | .hbm, ⟨54, _⟩ => ⟨S1x32768, .i32⟩
  | .hbm, ⟨55, _⟩ => ⟨S_, .i32⟩
  | .hbm, ⟨56, _⟩ => ⟨S4x32768, .i32⟩
  | .hbm, ⟨57, _⟩ => ⟨S4x32768, .i1⟩
  | .hbm, ⟨58, _⟩ => ⟨S_, .i32⟩
  | .hbm, ⟨59, _⟩ => ⟨S4x32768, .i32⟩
  | .hbm, ⟨60, _⟩ => ⟨S4x32768, .i32⟩
  | .hbm, ⟨61, _⟩ => ⟨S4x32768, .i32⟩
  | .hbm, ⟨62, _⟩ => ⟨S_, .i32⟩
  | .hbm, ⟨63, _⟩ => ⟨S1x32768, .i32⟩
  | .hbm, ⟨64, _⟩ => ⟨S1x32768, .i1⟩
  | .hbm, ⟨65, _⟩ => ⟨S_, .i32⟩
  | .hbm, ⟨66, _⟩ => ⟨S1x32768, .i32⟩
  | .hbm, ⟨67, _⟩ => ⟨S1x32768, .i32⟩
  | .hbm, ⟨68, _⟩ => ⟨S1x32768, .i32⟩
  | .hbm, ⟨69, _⟩ => ⟨S4x32768, .i32⟩
  | .hbm, ⟨70, _⟩ => ⟨S4x32768x1, .i32⟩
  | .hbm, ⟨71, _⟩ => ⟨S4x32768x1, .i32⟩
  | .hbm, ⟨72, _⟩ => ⟨S4x32768x2, .i32⟩
  | .hbm, ⟨73, _⟩ => ⟨S4x32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Kernel2.lean ====
abbrev S8x4096x2048 : Shape := ⟨3, ![8, 4096, 2048]⟩
abbrev S4x32768x2048 : Shape := ⟨3, ![4, 32768, 2048]⟩
abbrev S32768x4 : Shape := ⟨2, ![32768, 4]⟩
abbrev S8x1x2048 : Shape := ⟨3, ![8, 1, 2048]⟩
abbrev S2048 : Shape := ⟨1, ![2048]⟩
abbrev S4x65536x1024 : Shape := ⟨3, ![4, 65536, 1024]⟩
abbrev S32768x2048 : Shape := ⟨2, ![32768, 2048]⟩
abbrev S_ : Shape := ⟨0, ![]⟩
abbrev S32768x128 : Shape := ⟨2, ![32768, 128]⟩
abbrev S1x2048 : Shape := ⟨2, ![1, 2048]⟩
abbrev S256x2048 : Shape := ⟨2, ![256, 2048]⟩
abbrev S4x512x1024 : Shape := ⟨3, ![4, 512, 1024]⟩
abbrev S256x128 : Shape := ⟨2, ![256, 128]⟩
abbrev S1x1x2048 : Shape := ⟨3, ![1, 1, 2048]⟩
abbrev S1x512x1024 : Shape := ⟨3, ![1, 512, 1024]⟩
abbrev S512x1024 : Shape := ⟨2, ![512, 1024]⟩
abbrev S256x1024 : Shape := ⟨2, ![256, 1024]⟩
abbrev S1x256x1024 : Shape := ⟨3, ![1, 256, 1024]⟩
abbrev S256x1 : Shape := ⟨2, ![256, 1]⟩
abbrev S256 : Shape := ⟨1, ![256]⟩

abbrev nBuf : Space → Nat
  | .hbm => 13
  | .vmem => 11
  | .smem => 0
  | _ => 0

abbrev bufTy : (tb : Table) → Fin (tcTables nBuf tb) → BufTy
  | .hbm, ⟨0, _⟩ => ⟨S8x4096x2048, .f32⟩
  | .hbm, ⟨1, _⟩ => ⟨S4x32768x2048, .f32⟩
  | .hbm, ⟨2, _⟩ => ⟨S32768x4, .f32⟩
  | .hbm, ⟨3, _⟩ => ⟨S8x1x2048, .f32⟩
  | .hbm, ⟨4, _⟩ => ⟨S2048, .f32⟩
  | .hbm, ⟨5, _⟩ => ⟨S4x32768x2048, .bf16⟩
  | .hbm, ⟨6, _⟩ => ⟨S4x65536x1024, .bf16⟩
  | .hbm, ⟨7, _⟩ => ⟨S32768x2048, .f32⟩
  | .hbm, ⟨8, _⟩ => ⟨S_, .i32⟩
  | .hbm, ⟨9, _⟩ => ⟨S_, .f32⟩
  | .hbm, ⟨10, _⟩ => ⟨S32768x128, .f32⟩
  | .hbm, ⟨11, _⟩ => ⟨S1x2048, .f32⟩
  | .hbm, ⟨12, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S4x512x1024, .bf16⟩
  | .local _ .vmem, ⟨3, _⟩ => ⟨S4x512x1024, .bf16⟩
  | .local _ .vmem, ⟨4, _⟩ => ⟨S256x128, .f32⟩
  | .local _ .vmem, ⟨5, _⟩ => ⟨S256x128, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel2Ideal.lean ====
variable {F : FTy → Type} [FloatOps F]
-- ==== Reference2Ideal.lean ====
abbrev S8x4096x2048 : Shape := ⟨3, ![8, 4096, 2048]⟩
abbrev S4x32768x2048 : Shape := ⟨3, ![4, 32768, 2048]⟩
abbrev S32768x4 : Shape := ⟨2, ![32768, 4]⟩
abbrev S8x1x2048 : Shape := ⟨3, ![8, 1, 2048]⟩
abbrev S2048 : Shape := ⟨1, ![2048]⟩
abbrev S4x32768 : Shape := ⟨2, ![4, 32768]⟩
abbrev S4x32768x1 : Shape := ⟨3, ![4, 32768, 1]⟩
abbrev S_ : Shape := ⟨0, ![]⟩
abbrev S32768x2048 : Shape := ⟨2, ![32768, 2048]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S4x32768x2048, .f32⟩
  | .hbm, ⟨2, _⟩ => ⟨S32768x4, .f32⟩
  | .hbm, ⟨3, _⟩ => ⟨S8x1x2048, .f32⟩
  | .hbm, ⟨4, _⟩ => ⟨S2048, .f32⟩
  | .hbm, ⟨5, _⟩ => ⟨S4x32768, .f32⟩
  | .hbm, ⟨6, _⟩ => ⟨S4x32768x1, .f32⟩
  | .hbm, ⟨7, _⟩ => ⟨S4x32768x2048, .f32⟩
  | .hbm, ⟨8, _⟩ => ⟨S4x32768x2048, .f32⟩
  | .hbm, ⟨9, _⟩ => ⟨S_, .f32⟩
  | .hbm, ⟨10, _⟩ => ⟨S32768x2048, .f32⟩
  | .hbm, ⟨11, _⟩ => ⟨S8x4096x2048, .f32⟩
  | .hbm, ⟨12, _⟩ => ⟨S8x4096x2048, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x2048, .f32⟩
  | .hbm, ⟨27, _⟩ => ⟨S8x4096x2048, .f32⟩
  | .hbm, ⟨28, _⟩ => ⟨S1x1x2048, .f32⟩
  | .hbm, ⟨29, _⟩ => ⟨S8x4096x2048, .f32⟩
  | .hbm, ⟨30, _⟩ => ⟨S8x4096x2048, .f32⟩
  | .hbm, ⟨31, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel3.lean ====
abbrev S8x4096x2048 : Shape := ⟨3, ![8, 4096, 2048]⟩
abbrev S2048 : Shape := ⟨1, ![2048]⟩
abbrev S8x1x2048 : Shape := ⟨3, ![8, 1, 2048]⟩
abbrev S2048x8192 : Shape := ⟨2, ![2048, 8192]⟩
abbrev S32768x2048 : Shape := ⟨2, ![32768, 2048]⟩
abbrev S1x2048 : Shape := ⟨2, ![1, 2048]⟩
abbrev S32768x8192 : Shape := ⟨2, ![32768, 8192]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x8192, .f32⟩
  | .hbm, ⟨5, _⟩ => ⟨S32768x2048, .f32⟩
  | .hbm, ⟨6, _⟩ => ⟨S1x2048, .f32⟩
  | .hbm, ⟨7, _⟩ => ⟨S2048x8192, .bf16⟩
  | .hbm, ⟨8, _⟩ => ⟨S32768x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x4096x2048 : Shape := ⟨3, ![8, 4096, 2048]⟩
abbrev S2048 : Shape := ⟨1, ![2048]⟩
abbrev S8x1x2048 : Shape := ⟨3, ![8, 1, 2048]⟩
abbrev S2048x8192 : Shape := ⟨2, ![2048, 8192]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S32768x2048 : Shape := ⟨2, ![32768, 2048]⟩
abbrev S32768x8192 : Shape := ⟨2, ![32768, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x8192, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S_, .f32⟩
  | .hbm, ⟨22, _⟩ => ⟨S8x1x2048, .f32⟩
  | .hbm, ⟨23, _⟩ => ⟨S8x1x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S32768x2048, .f32⟩
  | .hbm, ⟨29, _⟩ => ⟨S32768x8192, .f32⟩
  | .hbm, ⟨30, _⟩ => ⟨S32768x8192, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S8x4096x2048 : Shape := ⟨3, ![8, 4096, 2048]⟩
abbrev S2048 : Shape := ⟨1, ![2048]⟩
abbrev S8x1x2048 : Shape := ⟨3, ![8, 1, 2048]⟩
abbrev S2048x4096 : Shape := ⟨2, ![2048, 4096]⟩
abbrev S4096 : Shape := ⟨1, ![4096]⟩
abbrev S32768x2048 : Shape := ⟨2, ![32768, 2048]⟩
abbrev S1x2048 : Shape := ⟨2, ![1, 2048]⟩
abbrev S1x4096 : Shape := ⟨2, ![1, 4096]⟩
abbrev S1024x2048 : Shape := ⟨2, ![1024, 2048]⟩
abbrev S1x1x2048 : Shape := ⟨3, ![1, 1, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 18
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x4096, .f32⟩
  | .hbm, ⟨5, _⟩ => ⟨S4096, .f32⟩
  | .hbm, ⟨6, _⟩ => ⟨S32768x2048, .f32⟩
  | .hbm, ⟨7, _⟩ => ⟨S1x2048, .f32⟩
  | .hbm, ⟨8, _⟩ => ⟨S2048x4096, .bf16⟩
  | .hbm, ⟨9, _⟩ => ⟨S1x4096, .f32⟩
  | .hbm, ⟨10, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8x4096x2048 : Shape := ⟨3, ![8, 4096, 2048]⟩
abbrev S2048 : Shape := ⟨1, ![2048]⟩
abbrev S8x1x2048 : Shape := ⟨3, ![8, 1, 2048]⟩
abbrev S2048x4096 : Shape := ⟨2, ![2048, 4096]⟩
abbrev S4096 : Shape := ⟨1, ![4096]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S32768x2048 : Shape := ⟨2, ![32768, 2048]⟩
abbrev S32768x4096 : Shape := ⟨2, ![32768, 4096]⟩
abbrev S1x4096 : Shape := ⟨2, ![1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x4096, .f32⟩
  | .hbm, ⟨5, _⟩ => ⟨S4096, .f32⟩
  | .hbm, ⟨6, _⟩ => ⟨S8x4096x2048, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x2048, .f32⟩
  | .hbm, ⟨18, _⟩ => ⟨S8x4096x2048, .f32⟩
  | .hbm, ⟨19, _⟩ => ⟨S1x1x2048, .f32⟩
  | .hbm, ⟨20, _⟩ => ⟨S8x4096x2048, .f32⟩
  | .hbm, ⟨21, _⟩ => ⟨S8x4096x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S32768x2048, .f32⟩
  | .hbm, ⟨30, _⟩ => ⟨S32768x4096, .f32⟩
  | .hbm, ⟨31, _⟩ => ⟨S1x4096, .f32⟩
  | .hbm, ⟨32, _⟩ => ⟨S32768x4096, .f32⟩
  | .hbm, ⟨33, _⟩ => ⟨S32768x4096, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S_, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S32768x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.Pre.lean ====
/- What the precondition says of the experts named: every one is a word below 32. -/
module

public import proofs.«01_k».proof.Pre_topi_in_range
public import Idealize.ShloMosaic.Lib.ReduceAll
public import Idealize.ShloMosaic.Lib.Routing.Words
public import Idealize.ShloMosaic.Lib.Routing.Ops

@[expose] public section

set_option maxRecDepth 16384

namespace Cert.Moe

open Idealize.ShloMosaic Idealize.ShloMosaic.Routing Idealize.ShloMosaic.ValueIdx
open Cert.Pre_topi_in_range

theorem toNat_lt_of_range (x : BitVec 32) (h0 : IntOp.cmpi .sge x 0#32 = 1#1) (h1 : IntOp.cmpi .slt x 32#32 = 1#1) : x.toNat < 32 := by
  have a0 : (0#32).sle x = true := (StableHlo.Predicate.ofBool_eq_one_iff _).1 h0
  have a1 : x.slt 32#32 = true := (StableHlo.Predicate.ofBool_eq_one_iff _).1 h1
  rw [BitVec.sle_iff_toInt_le] at a0
  rw [BitVec.slt_iff_toInt_lt] at a1
  have e0 : (0#32).toInt = 0 := by decide
  have e1 : (32#32).toInt = 32 := by decide
  rw [e0] at a0
  rw [e1] at a1
  rw [BitVec.toInt_eq_toNat_cond] at a0 a1
  have := x.isLt
  split_ifs at a0 a1 <;> omega

/-- Every expert named is below 32. -/
theorem topi_lt {F : FTy → Type} [FloatOps F] [Facts] (a0 : FVec F S32768x2048 .f32) (a1 : IVec S32768x4 32) (a2 : FVec F S2x32x2048x4096 .f32)
    (a3 : FVec F S2x32x4096 .f32) (a4 : FVec F S2x32x2048x2048 .f32) (a5 : FVec F S2x32x2048 .f32)
    (h : fn a0 a1 a2 a3 a4 a5 = fun _ => 1#1) (i : S32768x4.Idx) : (a1 i).toNat < 32 := by
  haveI : Subsingleton S_.Idx := ⟨fun a b => funext fun x => x.elim0⟩
  have e : Host.reduce IntOp.andi (andi (cmpi .sge a1 (broadcastInDim S32768x4 ![] Facts.bcast_S_S32768x4 (constantI S_ 32 0#32)))
      (cmpi .slt a1 (broadcastInDim S32768x4 ![] Facts.bcast_S_S32768x4 (constantI S_ 32 32#32)))) (constantI S_ 1 1#1)
      Facts.reducesTo_S32768x4_S_d0_1 Facts.h_S_ ix0 = 1#1 := congrFun h ix0
  have hi := Host.reduce_andi_all (t := S_) (andi (cmpi .sge a1 (broadcastInDim S32768x4 ![] Facts.bcast_S_S32768x4 (constantI S_ 32 0#32)))
      (cmpi .slt a1 (broadcastInDim S32768x4 ![] Facts.bcast_S_S32768x4 (constantI S_ 32 32#32)))) (constantI S_ 1 1#1) Facts.reducesTo_S32768x4_S_d0_1 Facts.h_S_ ix0 e i
  have hi' : IntOp.andi (IntOp.cmpi .sge (a1 i) (broadcastInDim S32768x4 ![] Facts.bcast_S_S32768x4 (constantI S_ 32 0#32) i))
      (IntOp.cmpi .slt (a1 i) (broadcastInDim S32768x4 ![] Facts.bcast_S_S32768x4 (constantI S_ 32 32#32) i)) = 1#1 := hi
  rw [bc0, bc0] at hi'
  have both : ∀ p q : BitVec 1, IntOp.andi p q = 1#1 → p = 1#1 ∧ q = 1#1 := by decide
  obtain ⟨h0, h1⟩ := both _ _ hi'
  exact toNat_lt_of_range _ h0 h1

end Cert.Moe

end
-- ==== Proof.Nums.lean ====
/- The routing in natural numbers: how many pairs each expert has, and where its padded run of slots begins and ends. -/
module

public import Idealize.ShloMosaic.Lib.Routing.Count

@[expose] public section

namespace Cert.Moe

open Idealize.ShloMosaic.Routing

/-- The number of (token, choice) pairs. -/
abbrev NP : ℕ := 131072

/-- How many pairs go to expert `x`, `g a` being the expert of pair `a`. -/
def cnt (g : ℕ → ℕ) (x : ℕ) : ℕ := Nat.count (fun a => g a = x) NP

/-- The same, rounded up to whole blocks of 1024 slots. -/
def pad (g : ℕ → ℕ) (x : ℕ) : ℕ := (cnt g x + 1023) / 1024 * 1024

/-- Where the run of slots of expert `x` ends. -/
def pend (g : ℕ → ℕ) (x : ℕ) : ℕ := ((List.range (x + 1)).map (pad g)).sum

/-- How many pairs go to an expert up to `x`. -/
def cend (g : ℕ → ℕ) (x : ℕ) : ℕ := ((List.range (x + 1)).map (cnt g)).sum

variable (g : ℕ → ℕ)

theorem cnt_le (x : ℕ) : cnt g x ≤ NP := Nat.count_le _

theorem cend_eq (x : ℕ) : cend g x = Nat.count (fun a => g a ≤ x) NP := sum_count_eq g x NP

theorem cend_le (x : ℕ) : cend g x ≤ NP := by rw [cend_eq]; exact Nat.count_le _

theorem cend_last (h : ∀ a, a < NP → g a < 32) : cend g 31 = NP := by
  rw [cend_eq, Nat.count_iff_forall]
  exact fun a ha => by have := h a ha; omega

theorem pad_ge (x : ℕ) : cnt g x ≤ pad g x := by unfold pad; omega

theorem pad_le (x : ℕ) : pad g x ≤ cnt g x + 1023 := by unfold pad; omega

theorem pend_zero : pend g 0 = pad g 0 := by simp [pend]

theorem pend_succ (x : ℕ) : pend g (x + 1) = pend g x + pad g (x + 1) := by
  simp only [pend, List.range_succ (n := x + 1), List.map_append, List.sum_append, List.map_cons, List.map_nil, List.sum_cons, List.sum_nil, Nat.add_zero]

theorem cend_zero : cend g 0 = cnt g 0 := by simp [cend]

theorem cend_succ (x : ℕ) : cend g (x + 1) = cend g x + cnt g (x + 1) := by
  simp only [cend, List.range_succ (n := x + 1), List.map_append, List.sum_append, List.map_cons, List.map_nil, List.sum_cons, List.sum_nil, Nat.add_zero]

theorem cend_le_pend (x : ℕ) : cend g x ≤ pend g x := by
  induction x with
  | zero => rw [cend_zero, pend_zero]; exact pad_ge g 0
  | succ x ih => rw [cend_succ, pend_succ]; have := pad_ge g (x + 1); omega

theorem pend_le (x : ℕ) : pend g x ≤ cend g x + 1023 * (x + 1) := by
  induction x with
  | zero => rw [cend_zero, pend_zero]; exact pad_le g 0
  | succ x ih => rw [cend_succ, pend_succ]; have := pad_le g (x + 1); omega

theorem pend_lt (x : ℕ) (hx : x < 32) : pend g x < 163840 := by
  have h1 := pend_le g x
  have h2 := cend_le g x
  have : NP = 131072 := rfl
  omega

theorem pad_le_pend (x : ℕ) : pad g x ≤ pend g x := by
  cases x with
  | zero => rw [pend_zero]
  | succ x => rw [pend_succ]; omega

theorem cnt_le_cend (x : ℕ) : cnt g x ≤ cend g x := by
  cases x with
  | zero => rw [cend_zero]
  | succ x => rw [cend_succ]; omega

theorem pend_mono {x y : ℕ} (h : x ≤ y) : pend g x ≤ pend g y := by
  induction y with
  | zero => rw [Nat.le_zero.1 h]
  | succ y ih =>
    rcases Nat.lt_or_ge y x with h' | h'
    · rw [show x = y + 1 by omega]
    · have := ih h'; rw [pend_succ]; omega

/-- Where the run of slots of expert `x` begins. -/
def pst (x : ℕ) : ℕ := pend g x - pad g x

/-- How many pairs go to an expert before `x`. -/
def cst (x : ℕ) : ℕ := cend g x - cnt g x

theorem pst_add (x : ℕ) : pst g x + pad g x = pend g x := Nat.sub_add_cancel (pad_le_pend g x)

theorem cst_add (x : ℕ) : cst g x + cnt g x = cend g x := Nat.sub_add_cancel (cnt_le_cend g x)

theorem pend_le_pst {x y : ℕ} (h : x < y) : pend g x ≤ pst g y := by
  obtain ⟨y, rfl⟩ : ∃ z, y = z + 1 := ⟨y - 1, by omega⟩
  have h1 := pend_mono g (show x ≤ y by omega)
  have h2 := pend_succ g y
  have h3 := pst_add g (y + 1)
  omega

theorem pad_dvd (x : ℕ) : 1024 ∣ pad g x := Nat.dvd_mul_left _ _

theorem pend_dvd (x : ℕ) : 1024 ∣ pend g x := by
  induction x with
  | zero => rw [pend_zero]; exact pad_dvd g 0
  | succ x ih => rw [pend_succ]; exact Nat.dvd_add ih (pad_dvd g _)

theorem pst_dvd (x : ℕ) : 1024 ∣ pst g x := Nat.dvd_sub (pend_dvd g x) (pad_dvd g x)

/-- A slot in the run of expert `x` has `x` runs ending at or before it. -/
theorem count_pend {x s : ℕ} (hx : x < 32) (h1 : pst g x ≤ s) (h2 : s < pend g x) : Nat.count (fun y => pend g y ≤ s) 32 = x := by
  have e : Nat.count (fun y => pend g y ≤ s) 32 = Nat.count (fun y => y < x) 32 := count_congr_of_lt 32 fun y _ => by
    constructor
    · intro h
      by_contra hn
      have := pend_mono g (show x ≤ y by omega)
      omega
    · intro h
      exact (pend_le_pst g h).trans h1
  rw [e]
  refine le_antisymm ?_ ?_
  · by_contra hn
    have := (lt_count_iff (N := 32) (Q := fun y => y < x) (fun a b hab _ hb => lt_of_le_of_lt hab hb) (r := x) (by omega)).2 (by omega)
    omega
  · have hc : Nat.count (fun y => y < x) x = x := Nat.count_iff_forall.2 fun a ha => ha
    calc x = Nat.count (fun y => y < x) x := hc.symm
      _ ≤ _ := Nat.count_monotone _ hx.le

/-- The number of blocks in use. -/
def used : ℕ := pend g 31 / 1024

theorem used_pos (h : ∀ a, a < NP → g a < 32) : 0 < used g := by
  have := cend_le_pend g 31
  rw [cend_last g h] at this
  have e : NP = 131072 := rfl
  unfold used
  omega

theorem used_le : used g ≤ 159 := by
  have := pend_lt g 31 (by omega)
  unfold used
  omega

end Cert.Moe

end
-- ==== Proof.K.Eqs.lean ====
/- The host lines before the experts' call, each as an equation about what the buffers hold when the call begins. -/
module

public import proofs.«01_k».proof.Proof.K.Lines

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

attribute [local irreducible] Host.reduceWindow extractStridedSlice

theorem e_main_v0 (V : Valuation τ sig (Elt F)) : E V main_v0 = shapeCast S131072 (E V main_arg1) shapeCasts_S32768x4_S131072 := lineR V 0 main_arg1 main_v0 rfl (by decide +kernel) (by decide +kernel)
theorem e_main_v1 (V : Valuation τ sig (Elt F)) : E V main_v1 = ((iotaInDim S32 32 0) : main_v1.ty.Contents (Elt F))  :=
  line0 V 1 _ _ rfl (by decide +kernel)
theorem e_main_v2 (V : Valuation τ sig (Elt F)) : E V main_v2 = (broadcastInDim S131072x1 ![0] bcast_S131072_S131072x1_0 : (⟨S131072, .i32⟩ : BufTy).Contents (Elt F) → (⟨S131072x1, .i32⟩ : BufTy).Contents (Elt F)) (E V main_v0) :=
  line1 V 2 _ _ _ rfl (by decide +kernel) (by decide +kernel)
theorem e_main_v3 (V : Valuation τ sig (Elt F)) : E V main_v3 = (broadcastInDim S1x32 ![1] bcast_S32_S1x32_1 : (⟨S32, .i32⟩ : BufTy).Contents (Elt F) → (⟨S1x32, .i32⟩ : BufTy).Contents (Elt F)) (E V main_v1) :=
  line1 V 3 _ _ _ rfl (by decide +kernel) (by decide +kernel)
theorem e_main_v4 (V : Valuation τ sig (Elt F)) : E V main_v4 = (broadcastInDim S131072x32 ![0, 1] bcast_S131072x1_S131072x32_0_1 : (⟨S131072x1, .i32⟩ : BufTy).Contents (Elt F) → (⟨S131072x32, .i32⟩ : BufTy).Contents (Elt F)) (E V main_v2) :=
  line1 V 4 _ _ _ rfl (by decide +kernel) (by decide +kernel)
theorem e_main_v5 (V : Valuation τ sig (Elt F)) : E V main_v5 = (broadcastInDim S131072x32 ![0, 1] bcast_S1x32_S131072x32_0_1 : (⟨S1x32, .i32⟩ : BufTy).Contents (Elt F) → (⟨S131072x32, .i32⟩ : BufTy).Contents (Elt F)) (E V main_v3) :=
  line1 V 5 _ _ _ rfl (by decide +kernel) (by decide +kernel)
theorem e_main_v6 (V : Valuation τ sig (Elt F)) : E V main_v6 = (cmpi .eq : (⟨S131072x32, .i32⟩ : BufTy).Contents (Elt F) → (⟨S131072x32, .i32⟩ : BufTy).Contents (Elt F) → (⟨S131072x32, .i1⟩ : BufTy).Contents (Elt F)) (E V main_v4) (E V main_v5) :=
  line2 V 6 _ _ _ _ rfl (by decide +kernel) (by decide +kernel) (by decide +kernel)
theorem e_main_v7 (V : Valuation τ sig (Elt F)) : E V main_v7 = ((extui 32 · natLt_1_32) : (⟨S131072x32, .i1⟩ : BufTy).Contents (Elt F) → (⟨S131072x32, .i32⟩ : BufTy).Contents (Elt F)) (E V main_v6) :=
  line1 V 7 _ _ _ rfl (by decide +kernel) (by decide +kernel)
theorem e_main_c (V : Valuation τ sig (Elt F)) : E V main_c = ((constantI S_ 32 0#32) : main_c.ty.Contents (Elt F))  :=
  line0 V 8 _ _ rfl (by decide +kernel)
theorem e_main_v8 (V : Valuation τ sig (Elt F)) : E V main_v8 = ((fun x v => Host.reduce IntOp.addi x v reducesTo_S131072x32_S32_d0 h_S_) : (⟨S131072x32, .i32⟩ : BufTy).Contents (Elt F) → (⟨S_, .i32⟩ : BufTy).Contents (Elt F) → (⟨S32, .i32⟩ : BufTy).Contents (Elt F)) (E V main_v7) (E V main_c) :=
  line2 V 9 main_v7 main_c main_v8 ((fun x v => Host.reduce IntOp.addi x v reducesTo_S131072x32_S32_d0 h_S_) : (⟨S131072x32, .i32⟩ : BufTy).Contents (Elt F) → (⟨S_, .i32⟩ : BufTy).Contents (Elt F) → (⟨S32, .i32⟩ : BufTy).Contents (Elt F)) rfl (by decide +kernel) (by decide +kernel) (by decide +kernel)
theorem e_main_c_0 (V : Valuation τ sig (Elt F)) : E V main_c_0 = ((constantI S_ 32 1024#32) : main_c_0.ty.Contents (Elt F))  :=
  line0 V 10 _ _ rfl (by decide +kernel)
theorem e_main_v9 (V : Valuation τ sig (Elt F)) : E V main_v9 = (broadcastInDim S32 ![] bcast_S_S32 : (⟨S_, .i32⟩ : BufTy).Contents (Elt F) → (⟨S32, .i32⟩ : BufTy).Contents (Elt F)) (E V main_c_0) :=
  line1 V 11 _ _ _ rfl (by decide +kernel) (by decide +kernel)
theorem e_main_v10 (V : Valuation τ sig (Elt F)) : E V main_v10 = (addi : (⟨S32, .i32⟩ : BufTy).Contents (Elt F) → (⟨S32, .i32⟩ : BufTy).Contents (Elt F) → (⟨S32, .i32⟩ : BufTy).Contents (Elt F)) (E V main_v8) (E V main_v9) :=
  line2 V 12 _ _ _ _ rfl (by decide +kernel) (by decide +kernel) (by decide +kernel)
theorem e_main_c_1 (V : Valuation τ sig (Elt F)) : E V main_c_1 = ((constantI S_ 32 1#32) : main_c_1.ty.Contents (Elt F))  :=
  line0 V 13 _ _ rfl (by decide +kernel)
theorem e_main_v11 (V : Valuation τ sig (Elt F)) : E V main_v11 = (broadcastInDim S32 ![] bcast_S_S32 : (⟨S_, .i32⟩ : BufTy).Contents (Elt F) → (⟨S32, .i32⟩ : BufTy).Contents (Elt F)) (E V main_c_1) :=
  line1 V 14 _ _ _ rfl (by decide +kernel) (by decide +kernel)
theorem e_main_v12 (V : Valuation τ sig (Elt F)) : E V main_v12 = (subi : (⟨S32, .i32⟩ : BufTy).Contents (Elt F) → (⟨S32, .i32⟩ : BufTy).Contents (Elt F) → (⟨S32, .i32⟩ : BufTy).Contents (Elt F)) (E V main_v10) (E V main_v11) :=
  line2 V 15 _ _ _ _ rfl (by decide +kernel) (by decide +kernel) (by decide +kernel)
theorem e_main_c_2 (V : Valuation τ sig (Elt F)) : E V main_c_2 = ((constantI S_ 32 1024#32) : main_c_2.ty.Contents (Elt F))  :=
  line0 V 16 _ _ rfl (by decide +kernel)
theorem e_main_call0_v0 (V : Valuation τ sig (Elt F)) : E V main_call0_v0 = (id : (⟨S_, .i32⟩ : BufTy).Contents (Elt F) → (⟨S_, .i32⟩ : BufTy).Contents (Elt F)) (E V main_c_2) :=
  line1 V 17 _ _ _ rfl (by decide +kernel) (by decide +kernel)
theorem e_main_call0_v1 (V : Valuation τ sig (Elt F)) : E V main_call0_v1 = ((broadcastInDim S32 ![] bcast_S_S32) : (⟨S_, .i32⟩ : BufTy).Contents (Elt F) → (⟨S32, .i32⟩ : BufTy).Contents (Elt F)) (E V main_call0_v0) :=
  line1 V 18 _ _ _ rfl (by decide +kernel) (by decide +kernel)
theorem e_main_call0_v2 (V : Valuation τ sig (Elt F)) : E V main_call0_v2 = (Host.divsi : (⟨S32, .i32⟩ : BufTy).Contents (Elt F) → (⟨S32, .i32⟩ : BufTy).Contents (Elt F) → (⟨S32, .i32⟩ : BufTy).Contents (Elt F)) (E V main_v12) (E V main_call0_v1) :=
  line2 V 19 _ _ _ _ rfl (by decide +kernel) (by decide +kernel) (by decide +kernel)
theorem e_main_call0_v3 (V : Valuation τ sig (Elt F)) : E V main_call0_v3 = (signi : (⟨S32, .i32⟩ : BufTy).Contents (Elt F) → (⟨S32, .i32⟩ : BufTy).Contents (Elt F)) (E V main_v12) :=
  line1 V 20 _ _ _ rfl (by decide +kernel) (by decide +kernel)
theorem e_main_call0_v4 (V : Valuation τ sig (Elt F)) : E V main_call0_v4 = (signi : (⟨S_, .i32⟩ : BufTy).Contents (Elt F) → (⟨S_, .i32⟩ : BufTy).Contents (Elt F)) (E V main_call0_v0) :=
  line1 V 21 _ _ _ rfl (by decide +kernel) (by decide +kernel)
theorem e_main_call0_v5 (V : Valuation τ sig (Elt F)) : E V main_call0_v5 = ((broadcastInDim S32 ![] bcast_S_S32) : (⟨S_, .i32⟩ : BufTy).Contents (Elt F) → (⟨S32, .i32⟩ : BufTy).Contents (Elt F)) (E V main_call0_v4) :=
  line1 V 22 _ _ _ rfl (by decide +kernel) (by decide +kernel)
theorem e_main_call0_v6 (V : Valuation τ sig (Elt F)) : E V main_call0_v6 = ((cmpi .ne) : (⟨S32, .i32⟩ : BufTy).Contents (Elt F) → (⟨S32, .i32⟩ : BufTy).Contents (Elt F) → (⟨S32, .i1⟩ : BufTy).Contents (Elt F)) (E V main_call0_v3) (E V main_call0_v5) :=
  line2 V 23 _ _ _ _ rfl (by decide +kernel) (by decide +kernel) (by decide +kernel)
theorem e_main_call0_v7 (V : Valuation τ sig (Elt F)) : E V main_call0_v7 = ((broadcastInDim S32 ![] bcast_S_S32) : (⟨S_, .i32⟩ : BufTy).Contents (Elt F) → (⟨S32, .i32⟩ : BufTy).Contents (Elt F)) (E V main_call0_v0) :=
  line1 V 24 _ _ _ rfl (by decide +kernel) (by decide +kernel)
theorem e_main_call0_v8 (V : Valuation τ sig (Elt F)) : E V main_call0_v8 = (Host.remsi : (⟨S32, .i32⟩ : BufTy).Contents (Elt F) → (⟨S32, .i32⟩ : BufTy).Contents (Elt F) → (⟨S32, .i32⟩ : BufTy).Contents (Elt F)) (E V main_v12) (E V main_call0_v7) :=
  line2 V 25 _ _ _ _ rfl (by decide +kernel) (by decide +kernel) (by decide +kernel)
theorem e_main_call0_c (V : Valuation τ sig (Elt F)) : E V main_call0_c = ((constantI S_ 32 0#32) : (⟨S_, .i32⟩ : BufTy).Contents (Elt F))  :=
  line0 V 26 _ _ rfl (by decide +kernel)
theorem e_main_call0_v9 (V : Valuation τ sig (Elt F)) : E V main_call0_v9 = ((broadcastInDim S32 ![] bcast_S_S32) : (⟨S_, .i32⟩ : BufTy).Contents (Elt F) → (⟨S32, .i32⟩ : BufTy).Contents (Elt F)) (E V main_call0_c) :=
  line1 V 27 _ _ _ rfl (by decide +kernel) (by decide +kernel)
theorem e_main_call0_v10 (V : Valuation τ sig (Elt F)) : E V main_call0_v10 = ((cmpi .ne) : (⟨S32, .i32⟩ : BufTy).Contents (Elt F) → (⟨S32, .i32⟩ : BufTy).Contents (Elt F) → (⟨S32, .i1⟩ : BufTy).Contents (Elt F)) (E V main_call0_v8) (E V main_call0_v9) :=
  line2 V 28 _ _ _ _ rfl (by decide +kernel) (by decide +kernel) (by decide +kernel)
theorem e_main_call0_v11 (V : Valuation τ sig (Elt F)) : E V main_call0_v11 = (andi : (⟨S32, .i1⟩ : BufTy).Contents (Elt F) → (⟨S32, .i1⟩ : BufTy).Contents (Elt F) → (⟨S32, .i1⟩ : BufTy).Contents (Elt F)) (E V main_call0_v6) (E V main_call0_v10) :=
  line2 V 29 _ _ _ _ rfl (by decide +kernel) (by decide +kernel) (by decide +kernel)
theorem e_main_call0_c_0 (V : Valuation τ sig (Elt F)) : E V main_call0_c_0 = ((constantI S_ 32 1#32) : (⟨S_, .i32⟩ : BufTy).Contents (Elt F))  :=
  line0 V 30 _ _ rfl (by decide +kernel)
theorem e_main_call0_v12 (V : Valuation τ sig (Elt F)) : E V main_call0_v12 = ((broadcastInDim S32 ![] bcast_S_S32) : (⟨S_, .i32⟩ : BufTy).Contents (Elt F) → (⟨S32, .i32⟩ : BufTy).Contents (Elt F)) (E V main_call0_c_0) :=
  line1 V 31 _ _ _ rfl (by decide +kernel) (by decide +kernel)
theorem e_main_call0_v13 (V : Valuation τ sig (Elt F)) : E V main_call0_v13 = (subi : (⟨S32, .i32⟩ : BufTy).Contents (Elt F) → (⟨S32, .i32⟩ : BufTy).Contents (Elt F) → (⟨S32, .i32⟩ : BufTy).Contents (Elt F)) (E V main_call0_v2) (E V main_call0_v12) :=
  line2 V 32 _ _ _ _ rfl (by decide +kernel) (by decide +kernel) (by decide +kernel)
theorem e_main_v13 (V : Valuation τ sig (Elt F)) : E V main_v13 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (E V main_call0_v11) (E V main_call0_v13) (E V main_call0_v2) :=
  line3 V 33 _ _ _ _ _ rfl (by decide +kernel) (by decide +kernel) (by decide +kernel) (by decide +kernel)
theorem e_main_c_3 (V : Valuation τ sig (Elt F)) : E V main_c_3 = ((constantI S_ 32 1024#32) : main_c_3.ty.Contents (Elt F))  :=
  line0 V 34 _ _ rfl (by decide +kernel)
theorem e_main_v14 (V : Valuation τ sig (Elt F)) : E V main_v14 = (broadcastInDim S32 ![] bcast_S_S32 : (⟨S_, .i32⟩ : BufTy).Contents (Elt F) → (⟨S32, .i32⟩ : BufTy).Contents (Elt F)) (E V main_c_3) :=
  line1 V 35 _ _ _ rfl (by decide +kernel) (by decide +kernel)
theorem e_main_v15 (V : Valuation τ sig (Elt F)) : E V main_v15 = (muli : (⟨S32, .i32⟩ : BufTy).Contents (Elt F) → (⟨S32, .i32⟩ : BufTy).Contents (Elt F) → (⟨S32, .i32⟩ : BufTy).Contents (Elt F)) (E V main_v13) (E V main_v14) :=
  line2 V 36 _ _ _ _ rfl (by decide +kernel) (by decide +kernel) (by decide +kernel)
theorem e_main_call1_call0_c (V : Valuation τ sig (Elt F)) : E V main_call1_call0_c = ((constantI S_ 32 0#32) : (⟨S_, .i32⟩ : BufTy).Contents (Elt F))  :=
  line0 V 37 _ _ rfl (by decide +kernel)
theorem e_main_call1_call0_v0 (V : Valuation τ sig (Elt F)) : E V main_call1_call0_v0 = ((broadcastInDim S_ ![] bcast_S_S_) : (⟨S_, .i32⟩ : BufTy).Contents (Elt F) → (⟨S_, .i32⟩ : BufTy).Contents (Elt F)) (E V main_call1_call0_c) :=
  line1 V 38 _ _ _ rfl (by decide +kernel) (by decide +kernel)
theorem e_main_v16 (V : Valuation τ sig (Elt F)) : E V main_v16 = ((fun x v => Host.reduceWindow IntOp.addi ![32] ![1] ![31] ![0] x v reduceWindows_S32_S32_w32s1p31_0 h_S_) : (⟨S32, .i32⟩ : BufTy).Contents (Elt F) → (⟨S_, .i32⟩ : BufTy).Contents (Elt F) → (⟨S32, .i32⟩ : BufTy).Contents (Elt F)) (E V main_v15) (E V main_call1_call0_v0) :=
  line2 V 39 main_v15 main_call1_call0_v0 main_v16 ((fun x v => Host.reduceWindow IntOp.addi ![32] ![1] ![31] ![0] x v reduceWindows_S32_S32_w32s1p31_0 h_S_) : (⟨S32, .i32⟩ : BufTy).Contents (Elt F) → (⟨S_, .i32⟩ : BufTy).Contents (Elt F) → (⟨S32, .i32⟩ : BufTy).Contents (Elt F)) rfl (by decide +kernel) (by decide +kernel) (by decide +kernel)
theorem e_main_v65 (V : Valuation τ sig (Elt F)) : E V main_v65 = ((iotaInDim S160 32 0) : main_v65.ty.Contents (Elt F))  :=
  line0 V 163 _ _ rfl (by decide +kernel)
theorem e_main_v66 (V : Valuation τ sig (Elt F)) : E V main_v66 = ((extractStridedSlice S1 ![31] · slices_S32_S1_31) : (⟨S32, .i32⟩ : BufTy).Contents (Elt F) → (⟨S1, .i32⟩ : BufTy).Contents (Elt F)) (E V main_v16) :=
  line1 V 164 _ _ _ rfl (by decide +kernel) (by decide +kernel)
theorem e_main_v67 (V : Valuation τ sig (Elt F)) : E V main_v67 = shapeCast S_ (E V main_v66) shapeCasts_S1_S_ := lineR V 165 main_v66 main_v67 rfl (by decide +kernel) (by decide +kernel)
theorem e_main_c_20 (V : Valuation τ sig (Elt F)) : E V main_c_20 = ((constantI S_ 32 1024#32) : main_c_20.ty.Contents (Elt F))  :=
  line0 V 166 _ _ rfl (by decide +kernel)
theorem e_main_call13_v0 (V : Valuation τ sig (Elt F)) : E V main_call13_v0 = (id : (⟨S_, .i32⟩ : BufTy).Contents (Elt F) → (⟨S_, .i32⟩ : BufTy).Contents (Elt F)) (E V main_c_20) :=
  line1 V 167 _ _ _ rfl (by decide +kernel) (by decide +kernel)
theorem e_main_call13_v1 (V : Valuation τ sig (Elt F)) : E V main_call13_v1 = (Host.divsi : (⟨S_, .i32⟩ : BufTy).Contents (Elt F) → (⟨S_, .i32⟩ : BufTy).Contents (Elt F) → (⟨S_, .i32⟩ : BufTy).Contents (Elt F)) (E V main_v67) (E V main_call13_v0) :=
  line2 V 168 _ _ _ _ rfl (by decide +kernel) (by decide +kernel) (by decide +kernel)
theorem e_main_call13_v2 (V : Valuation τ sig (Elt F)) : E V main_call13_v2 = (signi : (⟨S_, .i32⟩ : BufTy).Contents (Elt F) → (⟨S_, .i32⟩ : BufTy).Contents (Elt F)) (E V main_v67) :=
  line1 V 169 _ _ _ rfl (by decide +kernel) (by decide +kernel)
theorem e_main_call13_v3 (V : Valuation τ sig (Elt F)) : E V main_call13_v3 = (signi : (⟨S_, .i32⟩ : BufTy).Contents (Elt F) → (⟨S_, .i32⟩ : BufTy).Contents (Elt F)) (E V main_call13_v0) :=
  line1 V 170 _ _ _ rfl (by decide +kernel) (by decide +kernel)
theorem e_main_call13_v4 (V : Valuation τ sig (Elt F)) : E V main_call13_v4 = ((cmpi .ne) : (⟨S_, .i32⟩ : BufTy).Contents (Elt F) → (⟨S_, .i32⟩ : BufTy).Contents (Elt F) → (⟨S_, .i1⟩ : BufTy).Contents (Elt F)) (E V main_call13_v2) (E V main_call13_v3) :=
  line2 V 171 _ _ _ _ rfl (by decide +kernel) (by decide +kernel) (by decide +kernel)
theorem e_main_call13_v5 (V : Valuation τ sig (Elt F)) : E V main_call13_v5 = (Host.remsi : (⟨S_, .i32⟩ : BufTy).Contents (Elt F) → (⟨S_, .i32⟩ : BufTy).Contents (Elt F) → (⟨S_, .i32⟩ : BufTy).Contents (Elt F)) (E V main_v67) (E V main_call13_v0) :=
  line2 V 172 _ _ _ _ rfl (by decide +kernel) (by decide +kernel) (by decide +kernel)
theorem e_main_call13_c (V : Valuation τ sig (Elt F)) : E V main_call13_c = ((constantI S_ 32 0#32) : (⟨S_, .i32⟩ : BufTy).Contents (Elt F))  :=
  line0 V 173 _ _ rfl (by decide +kernel)
theorem e_main_call13_v6 (V : Valuation τ sig (Elt F)) : E V main_call13_v6 = ((cmpi .ne) : (⟨S_, .i32⟩ : BufTy).Contents (Elt F) → (⟨S_, .i32⟩ : BufTy).Contents (Elt F) → (⟨S_, .i1⟩ : BufTy).Contents (Elt F)) (E V main_call13_v5) (E V main_call13_c) :=
  line2 V 174 _ _ _ _ rfl (by decide +kernel) (by decide +kernel) (by decide +kernel)
theorem e_main_call13_v7 (V : Valuation τ sig (Elt F)) : E V main_call13_v7 = (andi : (⟨S_, .i1⟩ : BufTy).Contents (Elt F) → (⟨S_, .i1⟩ : BufTy).Contents (Elt F) → (⟨S_, .i1⟩ : BufTy).Contents (Elt F)) (E V main_call13_v4) (E V main_call13_v6) :=
  line2 V 175 _ _ _ _ rfl (by decide +kernel) (by decide +kernel) (by decide +kernel)
theorem e_main_call13_c_0 (V : Valuation τ sig (Elt F)) : E V main_call13_c_0 = ((constantI S_ 32 1#32) : (⟨S_, .i32⟩ : BufTy).Contents (Elt F))  :=
  line0 V 176 _ _ rfl (by decide +kernel)
theorem e_main_call13_v8 (V : Valuation τ sig (Elt F)) : E V main_call13_v8 = (subi : (⟨S_, .i32⟩ : BufTy).Contents (Elt F) → (⟨S_, .i32⟩ : BufTy).Contents (Elt F) → (⟨S_, .i32⟩ : BufTy).Contents (Elt F)) (E V main_call13_v1) (E V main_call13_c_0) :=
  line2 V 177 _ _ _ _ rfl (by decide +kernel) (by decide +kernel) (by decide +kernel)
theorem e_main_v68 (V : Valuation τ sig (Elt F)) : E V main_v68 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (E V main_call13_v7) (E V main_call13_v8) (E V main_call13_v1) :=
  line3 V 178 _ _ _ _ _ rfl (by decide +kernel) (by decide +kernel) (by decide +kernel) (by decide +kernel)
theorem e_main_c_21 (V : Valuation τ sig (Elt F)) : E V main_c_21 = ((constantI S_ 32 1#32) : main_c_21.ty.Contents (Elt F))  :=
  line0 V 179 _ _ rfl (by decide +kernel)
theorem e_main_v69 (V : Valuation τ sig (Elt F)) : E V main_v69 = (subi : (⟨S_, .i32⟩ : BufTy).Contents (Elt F) → (⟨S_, .i32⟩ : BufTy).Contents (Elt F) → (⟨S_, .i32⟩ : BufTy).Contents (Elt F)) (E V main_v68) (E V main_c_21) :=
  line2 V 180 _ _ _ _ rfl (by decide +kernel) (by decide +kernel) (by decide +kernel)
theorem e_main_v70 (V : Valuation τ sig (Elt F)) : E V main_v70 = (broadcastInDim S160 ![] bcast_S_S160 : (⟨S_, .i32⟩ : BufTy).Contents (Elt F) → (⟨S160, .i32⟩ : BufTy).Contents (Elt F)) (E V main_v69) :=
  line1 V 181 _ _ _ rfl (by decide +kernel) (by decide +kernel)
theorem e_main_v71 (V : Valuation τ sig (Elt F)) : E V main_v71 = (minsi : (⟨S160, .i32⟩ : BufTy).Contents (Elt F) → (⟨S160, .i32⟩ : BufTy).Contents (Elt F) → (⟨S160, .i32⟩ : BufTy).Contents (Elt F)) (E V main_v65) (E V main_v70) :=
  line2 V 182 _ _ _ _ rfl (by decide +kernel) (by decide +kernel) (by decide +kernel)
theorem e_main_c_22 (V : Valuation τ sig (Elt F)) : E V main_c_22 = ((constantI S_ 32 1024#32) : main_c_22.ty.Contents (Elt F))  :=
  line0 V 183 _ _ rfl (by decide +kernel)
theorem e_main_v72 (V : Valuation τ sig (Elt F)) : E V main_v72 = (broadcastInDim S160 ![] bcast_S_S160 : (⟨S_, .i32⟩ : BufTy).Contents (Elt F) → (⟨S160, .i32⟩ : BufTy).Contents (Elt F)) (E V main_c_22) :=
  line1 V 184 _ _ _ rfl (by decide +kernel) (by decide +kernel)
theorem e_main_v73 (V : Valuation τ sig (Elt F)) : E V main_v73 = (muli : (⟨S160, .i32⟩ : BufTy).Contents (Elt F) → (⟨S160, .i32⟩ : BufTy).Contents (Elt F) → (⟨S160, .i32⟩ : BufTy).Contents (Elt F)) (E V main_v71) (E V main_v72) :=
  line2 V 185 _ _ _ _ rfl (by decide +kernel) (by decide +kernel) (by decide +kernel)
theorem e_main_v74 (V : Valuation τ sig (Elt F)) : E V main_v74 = (broadcastInDim S160x1 ![0] bcast_S160_S160x1_0 : (⟨S160, .i32⟩ : BufTy).Contents (Elt F) → (⟨S160x1, .i32⟩ : BufTy).Contents (Elt F)) (E V main_v73) :=
  line1 V 186 _ _ _ rfl (by decide +kernel) (by decide +kernel)
theorem e_main_v75 (V : Valuation τ sig (Elt F)) : E V main_v75 = (broadcastInDim S1x32 ![1] bcast_S32_S1x32_1 : (⟨S32, .i32⟩ : BufTy).Contents (Elt F) → (⟨S1x32, .i32⟩ : BufTy).Contents (Elt F)) (E V main_v16) :=
  line1 V 187 _ _ _ rfl (by decide +kernel) (by decide +kernel)
theorem e_main_v76 (V : Valuation τ sig (Elt F)) : E V main_v76 = (broadcastInDim S160x32 ![0, 1] bcast_S160x1_S160x32_0_1 : (⟨S160x1, .i32⟩ : BufTy).Contents (Elt F) → (⟨S160x32, .i32⟩ : BufTy).Contents (Elt F)) (E V main_v74) :=
  line1 V 188 _ _ _ rfl (by decide +kernel) (by decide +kernel)
theorem e_main_v77 (V : Valuation τ sig (Elt F)) : E V main_v77 = (broadcastInDim S160x32 ![0, 1] bcast_S1x32_S160x32_0_1 : (⟨S1x32, .i32⟩ : BufTy).Contents (Elt F) → (⟨S160x32, .i32⟩ : BufTy).Contents (Elt F)) (E V main_v75) :=
  line1 V 189 _ _ _ rfl (by decide +kernel) (by decide +kernel)
theorem e_main_v78 (V : Valuation τ sig (Elt F)) : E V main_v78 = (cmpi .sge : (⟨S160x32, .i32⟩ : BufTy).Contents (Elt F) → (⟨S160x32, .i32⟩ : BufTy).Contents (Elt F) → (⟨S160x32, .i1⟩ : BufTy).Contents (Elt F)) (E V main_v76) (E V main_v77) :=
  line2 V 190 _ _ _ _ rfl (by decide +kernel) (by decide +kernel) (by decide +kernel)
theorem e_main_v79 (V : Valuation τ sig (Elt F)) : E V main_v79 = ((extui 32 · natLt_1_32) : (⟨S160x32, .i1⟩ : BufTy).Contents (Elt F) → (⟨S160x32, .i32⟩ : BufTy).Contents (Elt F)) (E V main_v78) :=
  line1 V 191 _ _ _ rfl (by decide +kernel) (by decide +kernel)
theorem e_main_c_23 (V : Valuation τ sig (Elt F)) : E V main_c_23 = ((constantI S_ 32 0#32) : main_c_23.ty.Contents (Elt F))  :=
  line0 V 192 _ _ rfl (by decide +kernel)
theorem e_main_v80 (V : Valuation τ sig (Elt F)) : E V main_v80 = ((fun x v => Host.reduce IntOp.addi x v reducesTo_S160x32_S160_d1 h_S_) : (⟨S160x32, .i32⟩ : BufTy).Contents (Elt F) → (⟨S_, .i32⟩ : BufTy).Contents (Elt F) → (⟨S160, .i32⟩ : BufTy).Contents (Elt F)) (E V main_v79) (E V main_c_23) :=
  line2 V 193 main_v79 main_c_23 main_v80 ((fun x v => Host.reduce IntOp.addi x v reducesTo_S160x32_S160_d1 h_S_) : (⟨S160x32, .i32⟩ : BufTy).Contents (Elt F) → (⟨S_, .i32⟩ : BufTy).Contents (Elt F) → (⟨S160, .i32⟩ : BufTy).Contents (Elt F)) rfl (by decide +kernel) (by decide +kernel) (by decide +kernel)
theorem e_main_c_24 (V : Valuation τ sig (Elt F)) : E V main_c_24 = ((constantI S_ 32 31#32) : main_c_24.ty.Contents (Elt F))  :=
  line0 V 194 _ _ rfl (by decide +kernel)
theorem e_main_v81 (V : Valuation τ sig (Elt F)) : E V main_v81 = (broadcastInDim S160 ![] bcast_S_S160 : (⟨S_, .i32⟩ : BufTy).Contents (Elt F) → (⟨S160, .i32⟩ : BufTy).Contents (Elt F)) (E V main_c_24) :=
  line1 V 195 _ _ _ rfl (by decide +kernel) (by decide +kernel)
theorem e_main_v82 (V : Valuation τ sig (Elt F)) : E V main_v82 = (minsi : (⟨S160, .i32⟩ : BufTy).Contents (Elt F) → (⟨S160, .i32⟩ : BufTy).Contents (Elt F) → (⟨S160, .i32⟩ : BufTy).Contents (Elt F)) (E V main_v80) (E V main_v81) :=
  line2 V 196 _ _ _ _ rfl (by decide +kernel) (by decide +kernel) (by decide +kernel)
end Cert.Kernel.Moe

end
-- ==== Proof.KI.Lists.lean ====
/- What the host lines around the experts' call write, list by list. -/
module

public import proofs.«01_k».proof.Proof.Gen.KernelIdeal.Launch
public import Idealize.ShloMosaic.Lib.StableHlo.RunRead

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What each line of `hostOps0` writes, in order. -/
abbrev hostOps0_W : List (Ref sig .tc) := [main_v0, main_v1, main_v2, main_v3, main_v4, main_v5, main_v6, main_v7, main_c, main_v8, main_c_0, main_v9, main_v10, main_c_1, main_v11, main_v12, main_c_2]
theorem hostOps0_writes : (hostOps0 : List (HloOp τ sig (Elt F))).Forall fun op => op.writes ⊆ (hostOps0_W.map (Proc.devRef (τ := τ) .tc)).toFinset :=
  StableHlo.forall_writes_sub_of_map rfl
theorem hostOps0_fresh : (hostOps0 : List (HloOp τ sig (Elt F))).Forall fun op => op.fresh = ∅ :=
  StableHlo.forall_fresh_of_map rfl

/-- What each line of `hostOps0_1` writes, in order. -/
abbrev hostOps0_1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v13]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_fresh : (hostOps0_1 : List (HloOp τ sig (Elt F))).Forall fun op => op.fresh = ∅ :=
  StableHlo.forall_fresh_of_map rfl

/-- What each line of `hostOps0_2` writes, in order. -/
abbrev hostOps0_2_W : List (Ref sig .tc) := [main_c_3, main_v14, main_v15]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_fresh : (hostOps0_2 : List (HloOp τ sig (Elt F))).Forall fun op => op.fresh = ∅ :=
  StableHlo.forall_fresh_of_map rfl

/-- What each line of `hostOps0_3` writes, in order. -/
abbrev hostOps0_3_W : List (Ref sig .tc) := [main_call1_call0_c, main_call1_call0_v0, main_v16]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_fresh : (hostOps0_3 : List (HloOp τ sig (Elt F))).Forall fun op => op.fresh = ∅ :=
  StableHlo.forall_fresh_of_map rfl

/-- What each line of `hostOps0_4` writes, in order. -/
abbrev hostOps0_4_W : List (Ref sig .tc) := [main_v17]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_fresh : (hostOps0_4 : List (HloOp τ sig (Elt F))).Forall fun op => op.fresh = ∅ :=
  StableHlo.forall_fresh_of_map rfl

/-- What each line of `hostOps0_5` writes, in order. -/
abbrev hostOps0_5_W : List (Ref sig .tc) := [main_call2_call0_c, main_call2_call0_v0, main_v18]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_5_fresh : (hostOps0_5 : List (HloOp τ sig (Elt F))).Forall fun op => op.fresh = ∅ :=
  StableHlo.forall_fresh_of_map rfl

/-- What each line of `hostOps0_6` writes, in order. -/
abbrev hostOps0_6_W : List (Ref sig .tc) := [main_v19]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_6_fresh : (hostOps0_6 : List (HloOp τ sig (Elt F))).Forall fun op => op.fresh = ∅ :=
  StableHlo.forall_fresh_of_map rfl

/-- What each line of `hostOps0_7` writes, in order. -/
abbrev hostOps0_7_W : List (Ref sig .tc) := [main_call3_v0, main_call3_v1_0, main_v20]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_7_fresh : (hostOps0_7 : List (HloOp τ sig (Elt F))).Forall fun op => op.fresh = ∅ :=
  StableHlo.forall_fresh_of_map rfl

/-- What each line of `hostOps0_8` writes, in order. -/
abbrev hostOps0_8_W : List (Ref sig .tc) := [main_call4_v0, main_call4_v1_0, main_v21]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_8_fresh : (hostOps0_8 : List (HloOp τ sig (Elt F))).Forall fun op => op.fresh = ∅ :=
  StableHlo.forall_fresh_of_map rfl

/-- What each line of `hostOps0_9` writes, in order. -/
abbrev hostOps0_9_W : List (Ref sig .tc) := [main_v22, main_v23, main_c_4]
theorem hostOps0_9_writes : (hostOps0_9 : List (HloOp τ sig (Elt F))).Forall fun op => op.writes ⊆ (hostOps0_9_W.map (Proc.devRef (τ := τ) .tc)).toFinset :=
  StableHlo.forall_writes_sub_of_map rfl
theorem hostOps0_9_fresh : (hostOps0_9 : List (HloOp τ sig (Elt F))).Forall fun op => op.fresh = ∅ :=
  StableHlo.forall_fresh_of_map rfl

/-- What each line of `hostOps0_10` writes, in order. -/
abbrev hostOps0_10_W : List (Ref sig .tc) := [main_call5_v0, main_call5_v1, main_call5_v2, main_v24]
theorem hostOps0_10_writes : (hostOps0_10 : List (HloOp τ sig (Elt F))).Forall fun op => op.writes ⊆ (hostOps0_10_W.map (Proc.devRef (τ := τ) .tc)).toFinset :=
  StableHlo.forall_writes_sub_of_map rfl
theorem hostOps0_10_fresh : (hostOps0_10 : List (HloOp τ sig (Elt F))).Forall fun op => op.fresh = ∅ :=
  StableHlo.forall_fresh_of_map rfl

/-- What each line of `hostOps0_11` writes, in order. -/
abbrev hostOps0_11_W : List (Ref sig .tc) := [main_c_5, main_v25, main_v26, main_v27, main_v28, main_v29, main_v30, main_v31, main_v32, main_v33, main_c_6, main_v34, main_c_7, main_v35, main_v36, main_v37, main_v38, main_v39, main_v40, main_v41, main_v42, main_c_8]
theorem hostOps0_11_writes : (hostOps0_11 : List (HloOp τ sig (Elt F))).Forall fun op => op.writes ⊆ (hostOps0_11_W.map (Proc.devRef (τ := τ) .tc)).toFinset :=
  StableHlo.forall_writes_sub_of_map rfl
theorem hostOps0_11_fresh : (hostOps0_11 : List (HloOp τ sig (Elt F))).Forall fun op => op.fresh = ∅ :=
  StableHlo.forall_fresh_of_map rfl

/-- What each line of `hostOps0_12` writes, in order. -/
abbrev hostOps0_12_W : List (Ref sig .tc) := [main_call6_v0, main_call6_v1, main_call6_v2, main_v43]
theorem hostOps0_12_writes : (hostOps0_12 : List (HloOp τ sig (Elt F))).Forall fun op => op.writes ⊆ (hostOps0_12_W.map (Proc.devRef (τ := τ) .tc)).toFinset :=
  StableHlo.forall_writes_sub_of_map rfl
theorem hostOps0_12_fresh : (hostOps0_12 : List (HloOp τ sig (Elt F))).Forall fun op => op.fresh = ∅ :=
  StableHlo.forall_fresh_of_map rfl

/-- What each line of `hostOps0_13` writes, in order. -/
abbrev hostOps0_13_W : List (Ref sig .tc) := [main_c_9, main_v44, main_v45, main_v46, main_c_10]
theorem hostOps0_13_writes : (hostOps0_13 : List (HloOp τ sig (Elt F))).Forall fun op => op.writes ⊆ (hostOps0_13_W.map (Proc.devRef (τ := τ) .tc)).toFinset :=
  StableHlo.forall_writes_sub_of_map rfl
theorem hostOps0_13_fresh : (hostOps0_13 : List (HloOp τ sig (Elt F))).Forall fun op => op.fresh = ∅ :=
  StableHlo.forall_fresh_of_map rfl

/-- What each line of `hostOps0_14` writes, in order. -/
abbrev hostOps0_14_W : List (Ref sig .tc) := [main_call7_v0, main_call7_v1, main_call7_v2, main_v47]
theorem hostOps0_14_writes : (hostOps0_14 : List (HloOp τ sig (Elt F))).Forall fun op => op.writes ⊆ (hostOps0_14_W.map (Proc.devRef (τ := τ) .tc)).toFinset :=
  StableHlo.forall_writes_sub_of_map rfl
theorem hostOps0_14_fresh : (hostOps0_14 : List (HloOp τ sig (Elt F))).Forall fun op => op.fresh = ∅ :=
  StableHlo.forall_fresh_of_map rfl

/-- What each line of `hostOps0_15` writes, in order. -/
abbrev hostOps0_15_W : List (Ref sig .tc) := [main_c_11, main_v48, main_v49, main_c_12, main_c_13]
theorem hostOps0_15_writes : (hostOps0_15 : List (HloOp τ sig (Elt F))).Forall fun op => op.writes ⊆ (hostOps0_15_W.map (Proc.devRef (τ := τ) .tc)).toFinset :=
  StableHlo.forall_writes_sub_of_map rfl
theorem hostOps0_15_fresh : (hostOps0_15 : List (HloOp τ sig (Elt F))).Forall fun op => op.fresh = ∅ :=
  StableHlo.forall_fresh_of_map rfl

/-- What each line of `hostOps0_16` writes, in order. -/
abbrev hostOps0_16_W : List (Ref sig .tc) := [main_call8_v0, main_call8_v1, main_call8_v2, main_call8_v3, main_call8_v4, main_v50]
theorem hostOps0_16_writes : (hostOps0_16 : List (HloOp τ sig (Elt F))).Forall fun op => op.writes ⊆ (hostOps0_16_W.map (Proc.devRef (τ := τ) .tc)).toFinset :=
  StableHlo.forall_writes_sub_of_map rfl
theorem hostOps0_16_fresh : (hostOps0_16 : List (HloOp τ sig (Elt F))).Forall fun op => op.fresh = ∅ :=
  StableHlo.forall_fresh_of_map rfl

/-- What each line of `hostOps0_17` writes, in order. -/
abbrev hostOps0_17_W : List (Ref sig .tc) := [main_v51, main_c_14]
theorem hostOps0_17_writes : (hostOps0_17 : List (HloOp τ sig (Elt F))).Forall fun op => op.writes ⊆ (hostOps0_17_W.map (Proc.devRef (τ := τ) .tc)).toFinset :=
  StableHlo.forall_writes_sub_of_map rfl
theorem hostOps0_17_fresh : (hostOps0_17 : List (HloOp τ sig (Elt F))).Forall fun op => op.fresh = ∅ :=
  StableHlo.forall_fresh_of_map rfl

/-- What each line of `hostOps0_18` writes, in order. -/
abbrev hostOps0_18_W : List (Ref sig .tc) := [main_call9_v0, main_call9_v1, main_call9_v2, main_v52]
theorem hostOps0_18_writes : (hostOps0_18 : List (HloOp τ sig (Elt F))).Forall fun op => op.writes ⊆ (hostOps0_18_W.map (Proc.devRef (τ := τ) .tc)).toFinset :=
  StableHlo.forall_writes_sub_of_map rfl
theorem hostOps0_18_fresh : (hostOps0_18 : List (HloOp τ sig (Elt F))).Forall fun op => op.fresh = ∅ :=
  StableHlo.forall_fresh_of_map rfl

/-- What each line of `hostOps0_19` writes, in order. -/
abbrev hostOps0_19_W : List (Ref sig .tc) := [main_c_15, main_v53, main_v54, main_c_16, main_v55, main_v56, main_c_17, main_v57, main_v58, main_v59, main_v60, main_v61, main_c_18]
theorem hostOps0_19_writes : (hostOps0_19 : List (HloOp τ sig (Elt F))).Forall fun op => op.writes ⊆ (hostOps0_19_W.map (Proc.devRef (τ := τ) .tc)).toFinset :=
  StableHlo.forall_writes_sub_of_map rfl
theorem hostOps0_19_fresh : (hostOps0_19 : List (HloOp τ sig (Elt F))).Forall fun op => op.fresh = ∅ :=
  StableHlo.forall_fresh_of_map rfl

/-- What each line of `hostOps0_20` writes, in order. -/
abbrev hostOps0_20_W : List (Ref sig .tc) := [main_call10_v0, main_call10_v1, main_call10_v2, main_call10_v3, main_call10_v4, main_call10_v5, main_call10_v6, main_call10_v7, main_call10_v8, main_call10_c, main_call10_v9, main_call10_v10, main_call10_v11, main_call10_c_0, main_call10_v12, main_call10_v13, main_v62]
theorem hostOps0_20_writes : (hostOps0_20 : List (HloOp τ sig (Elt F))).Forall fun op => op.writes ⊆ (hostOps0_20_W.map (Proc.devRef (τ := τ) .tc)).toFinset :=
  StableHlo.forall_writes_sub_of_map rfl
theorem hostOps0_20_fresh : (hostOps0_20 : List (HloOp τ sig (Elt F))).Forall fun op => op.fresh = ∅ :=
  StableHlo.forall_fresh_of_map rfl

/-- What each line of `hostOps0_21` writes, in order. -/
abbrev hostOps0_21_W : List (Ref sig .tc) := [main_c_19]
theorem hostOps0_21_writes : (hostOps0_21 : List (HloOp τ sig (Elt F))).Forall fun op => op.writes ⊆ (hostOps0_21_W.map (Proc.devRef (τ := τ) .tc)).toFinset :=
  StableHlo.forall_writes_sub_of_map rfl
theorem hostOps0_21_fresh : (hostOps0_21 : List (HloOp τ sig (Elt F))).Forall fun op => op.fresh = ∅ :=
  StableHlo.forall_fresh_of_map rfl

/-- What each line of `hostOps0_22` writes, in order. -/
abbrev hostOps0_22_W : List (Ref sig .tc) := [main_call11_v0, main_call11_c, main_call11_v1, main_call11_c_0, main_call11_v2, main_call11_v3, main_call11_v4, main_call11_c_1, main_call11_v5, main_call11_v6, main_call11_c_2, main_call11_v7, main_call11_v8, main_call11_c_3, main_call11_v9, main_call11_v10, main_call11_v11, main_call11_v12, main_call11_v13, main_call11_v14, main_v63]
theorem hostOps0_22_writes : (hostOps0_22 : List (HloOp τ sig (Elt F))).Forall fun op => op.writes ⊆ (hostOps0_22_W.map (Proc.devRef (τ := τ) .tc)).toFinset :=
  StableHlo.forall_writes_sub_of_map rfl
theorem hostOps0_22_fresh : (hostOps0_22 : List (HloOp τ sig (Elt F))).Forall fun op => op.fresh = ∅ :=
  StableHlo.forall_fresh_of_map rfl

/-- What each line of `hostOps0_23` writes, in order. -/
abbrev hostOps0_23_W : List (Ref sig .tc) := [main_v64]
theorem hostOps0_23_writes : (hostOps0_23 : List (HloOp τ sig (Elt F))).Forall fun op => op.writes ⊆ (hostOps0_23_W.map (Proc.devRef (τ := τ) .tc)).toFinset :=
  StableHlo.forall_writes_sub_of_map rfl
theorem hostOps0_23_fresh : (hostOps0_23 : List (HloOp τ sig (Elt F))).Forall fun op => op.fresh = ∅ :=
  StableHlo.forall_fresh_of_map rfl

/-- What each line of `hostOps0_24` writes, in order. -/
abbrev hostOps0_24_W : List (Ref sig .tc) := [main_v65, main_v66, main_v67, main_c_20]
theorem hostOps0_24_writes : (hostOps0_24 : List (HloOp τ sig (Elt F))).Forall fun op => op.writes ⊆ (hostOps0_24_W.map (Proc.devRef (τ := τ) .tc)).toFinset :=
  StableHlo.forall_writes_sub_of_map rfl
theorem hostOps0_24_fresh : (hostOps0_24 : List (HloOp τ sig (Elt F))).Forall fun op => op.fresh = ∅ :=
  StableHlo.forall_fresh_of_map rfl

/-- What each line of `hostOps0_25` writes, in order. -/
abbrev hostOps0_25_W : List (Ref sig .tc) := [main_call13_v0, main_call13_v1, main_call13_v2, main_call13_v3, main_call13_v4, main_call13_v5, main_call13_c, main_call13_v6, main_call13_v7, main_call13_c_0, main_call13_v8, main_v68]
theorem hostOps0_25_writes : (hostOps0_25 : List (HloOp τ sig (Elt F))).Forall fun op => op.writes ⊆ (hostOps0_25_W.map (Proc.devRef (τ := τ) .tc)).toFinset :=
  StableHlo.forall_writes_sub_of_map rfl
theorem hostOps0_25_fresh : (hostOps0_25 : List (HloOp τ sig (Elt F))).Forall fun op => op.fresh = ∅ :=
  StableHlo.forall_fresh_of_map rfl

/-- What each line of `hostOps0_26` writes, in order. -/
abbrev hostOps0_26_W : List (Ref sig .tc) := [main_c_21, main_v69, main_v70, main_v71, main_c_22, main_v72, main_v73, main_v74, main_v75, main_v76, main_v77, main_v78, main_v79, main_c_23, main_v80, main_c_24, main_v81, main_v82, main_v83, main_v84, main_v85, main_v86, main_v87, main_v88, main_v89, main_v90, main_c_25]
theorem hostOps0_26_writes : (hostOps0_26 : List (HloOp τ sig (Elt F))).Forall fun op => op.writes ⊆ (hostOps0_26_W.map (Proc.devRef (τ := τ) .tc)).toFinset :=
  StableHlo.forall_writes_sub_of_map rfl
theorem hostOps0_26_fresh : (hostOps0_26 : List (HloOp τ sig (Elt F))).Forall fun op => op.fresh = ∅ :=
  StableHlo.forall_fresh_of_map rfl

/-- What each line of `hostOps0_27` writes, in order. -/
abbrev hostOps0_27_W : List (Ref sig .tc) := [main_call14_v0, main_call14_v1, main_call14_v2, main_v91]
theorem hostOps0_27_writes : (hostOps0_27 : List (HloOp τ sig (Elt F))).Forall fun op => op.writes ⊆ (hostOps0_27_W.map (Proc.devRef (τ := τ) .tc)).toFinset :=
  StableHlo.forall_writes_sub_of_map rfl
theorem hostOps0_27_fresh : (hostOps0_27 : List (HloOp τ sig (Elt F))).Forall fun op => op.fresh = ∅ :=
  StableHlo.forall_fresh_of_map rfl

/-- What each line of `hostOps0_28` writes, in order. -/
abbrev hostOps0_28_W : List (Ref sig .tc) := [main_c_26, main_v92, main_c_27, main_v93, main_v94, main_v95, main_c_28]
theorem hostOps0_28_writes : (hostOps0_28 : List (HloOp τ sig (Elt F))).Forall fun op => op.writes ⊆ (hostOps0_28_W.map (Proc.devRef (τ := τ) .tc)).toFinset :=
  StableHlo.forall_writes_sub_of_map rfl
theorem hostOps0_28_fresh : (hostOps0_28 : List (HloOp τ sig (Elt F))).Forall fun op => op.fresh = ∅ :=
  StableHlo.forall_fresh_of_map rfl

/-- What each line of `hostOps0_29` writes, in order. -/
abbrev hostOps0_29_W : List (Ref sig .tc) := [main_call15_v0, main_call15_v1, main_call15_v2, main_v96]
theorem hostOps0_29_writes : (hostOps0_29 : List (HloOp τ sig (Elt F))).Forall fun op => op.writes ⊆ (hostOps0_29_W.map (Proc.devRef (τ := τ) .tc)).toFinset :=
  StableHlo.forall_writes_sub_of_map rfl
theorem hostOps0_29_fresh : (hostOps0_29 : List (HloOp τ sig (Elt F))).Forall fun op => op.fresh = ∅ :=
  StableHlo.forall_fresh_of_map rfl

/-- What each line of `hostOps0_30` writes, in order. -/
abbrev hostOps0_30_W : List (Ref sig .tc) := [main_c_29, main_v97, main_v98, main_v99, main_c_30, main_c_31]
theorem hostOps0_30_writes : (hostOps0_30 : List (HloOp τ sig (Elt F))).Forall fun op => op.writes ⊆ (hostOps0_30_W.map (Proc.devRef (τ := τ) .tc)).toFinset :=
  StableHlo.forall_writes_sub_of_map rfl
theorem hostOps0_30_fresh : (hostOps0_30 : List (HloOp τ sig (Elt F))).Forall fun op => op.fresh = ∅ :=
  StableHlo.forall_fresh_of_map rfl

/-- What each line of `hostOps0_31` writes, in order. -/
abbrev hostOps0_31_W : List (Ref sig .tc) := [main_call16_v0, main_call16_v1, main_call16_v2, main_call16_v3, main_call16_v4, main_v100]
theorem hostOps0_31_writes : (hostOps0_31 : List (HloOp τ sig (Elt F))).Forall fun op => op.writes ⊆ (hostOps0_31_W.map (Proc.devRef (τ := τ) .tc)).toFinset :=
  StableHlo.forall_writes_sub_of_map rfl
theorem hostOps0_31_fresh : (hostOps0_31 : List (HloOp τ sig (Elt F))).Forall fun op => op.fresh = ∅ :=
  StableHlo.forall_fresh_of_map rfl

/-- What each line of `hostOps0_32` writes, in order. -/
abbrev hostOps0_32_W : List (Ref sig .tc) := [main_c_32]
theorem hostOps0_32_writes : (hostOps0_32 : List (HloOp τ sig (Elt F))).Forall fun op => op.writes ⊆ (hostOps0_32_W.map (Proc.devRef (τ := τ) .tc)).toFinset :=
  StableHlo.forall_writes_sub_of_map rfl
theorem hostOps0_32_fresh : (hostOps0_32 : List (HloOp τ sig (Elt F))).Forall fun op => op.fresh = ∅ :=
  StableHlo.forall_fresh_of_map rfl

/-- What each line of `hostOps0_33` writes, in order. -/
abbrev hostOps0_33_W : List (Ref sig .tc) := [main_call17_v0, main_call17_v1, main_v101]
theorem hostOps0_33_writes : (hostOps0_33 : List (HloOp τ sig (Elt F))).Forall fun op => op.writes ⊆ (hostOps0_33_W.map (Proc.devRef (τ := τ) .tc)).toFinset :=
  StableHlo.forall_writes_sub_of_map rfl
theorem hostOps0_33_fresh : (hostOps0_33 : List (HloOp τ sig (Elt F))).Forall fun op => op.fresh = ∅ :=
  StableHlo.forall_fresh_of_map rfl

/-- What each line of `hostOps0_34` writes, in order. -/
abbrev hostOps0_34_W : List (Ref sig .tc) := [main_v102, main_c_33, main_v103, main_v104, main_c_34, main_v105, main_v106, main_v107, main_v108, main_v109, main_v110, main_v111, main_v112]
theorem hostOps0_34_writes : (hostOps0_34 : List (HloOp τ sig (Elt F))).Forall fun op => op.writes ⊆ (hostOps0_34_W.map (Proc.devRef (τ := τ) .tc)).toFinset :=
  StableHlo.forall_writes_sub_of_map rfl
theorem hostOps0_34_fresh : (hostOps0_34 : List (HloOp τ sig (Elt F))).Forall fun op => op.fresh = ∅ :=
  StableHlo.forall_fresh_of_map rfl

/-- What each line of `hostOps1` writes, in order. -/
abbrev hostOps1_W : List (Ref sig .tc) := [main_v114, main_v115, main_v116, main_v117, main_c_35, main_v118, main_v119, main_c_36, main_v120, main_v121, main_v122, main_v123, main_v124, main_v125, main_v126]
theorem hostOps1_writes : (hostOps1 : List (HloOp τ sig (Elt F))).Forall fun op => op.writes ⊆ (hostOps1_W.map (Proc.devRef (τ := τ) .tc)).toFinset :=
  StableHlo.forall_writes_sub_of_map rfl
theorem hostOps1_fresh : (hostOps1 : List (HloOp τ sig (Elt F))).Forall fun op => op.fresh = ∅ :=
  StableHlo.forall_fresh_of_map rfl

/-- The lists before the call, -/
abbrev before : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34]
/-- what they write, -/
abbrev beforeW : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W, hostOps0_17_W, hostOps0_18_W, hostOps0_19_W, hostOps0_20_W, hostOps0_21_W, hostOps0_22_W, hostOps0_23_W, hostOps0_24_W, hostOps0_25_W, hostOps0_26_W, hostOps0_27_W, hostOps0_28_W, hostOps0_29_W, hostOps0_30_W, hostOps0_31_W, hostOps0_32_W, hostOps0_33_W, hostOps0_34_W]
/-- and the list after it. -/
abbrev behind : List (List (HloOp τ sig (Elt F))) := [hostOps1]

theorem before_sub : (before (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub⟩
theorem before_fresh : (before (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh⟩

theorem before_writes : List.Forall₂ (fun (ops : List (HloOp τ sig (Elt F))) W => ops.Forall fun op => op.writes ⊆ (W.map (Proc.devRef (τ := τ) .tc)).toFinset) before beforeW :=
  .cons hostOps0_writes (.cons hostOps0_1_writes (.cons hostOps0_2_writes (.cons hostOps0_3_writes (.cons hostOps0_4_writes (.cons hostOps0_5_writes (.cons hostOps0_6_writes (.cons hostOps0_7_writes (.cons hostOps0_8_writes (.cons hostOps0_9_writes (.cons hostOps0_10_writes (.cons hostOps0_11_writes (.cons hostOps0_12_writes (.cons hostOps0_13_writes (.cons hostOps0_14_writes (.cons hostOps0_15_writes (.cons hostOps0_16_writes (.cons hostOps0_17_writes (.cons hostOps0_18_writes (.cons hostOps0_19_writes (.cons hostOps0_20_writes (.cons hostOps0_21_writes (.cons hostOps0_22_writes (.cons hostOps0_23_writes (.cons hostOps0_24_writes (.cons hostOps0_25_writes (.cons hostOps0_26_writes (.cons hostOps0_27_writes (.cons hostOps0_28_writes (.cons hostOps0_29_writes (.cons hostOps0_30_writes (.cons hostOps0_31_writes (.cons hostOps0_32_writes (.cons hostOps0_33_writes (.cons hostOps0_34_writes (.nil)))))))))))))))))))))))))))))))))))

/-- A reference none of the lists writes is, after all of them, what it was. -/
theorem after_flatten_of_not_mem (r : Ref sig .tc) (opss : List (List (HloOp τ sig (Elt F)))) (Ws : List (List (Ref sig .tc)))
    (hw : List.Forall₂ (fun (ops : List (HloOp τ sig (Elt F))) W => ops.Forall fun op => op.writes ⊆ (W.map (Proc.devRef (τ := τ) .tc)).toFinset) opss Ws)
    (h : ∀ W ∈ Ws, r ∉ W) (V : Valuation τ sig (Elt F)) :
    StableHlo.after opss.flatten V (Proc.devRef .tc r) = V (Proc.devRef .tc r) := by
  refine StableHlo.after_of_forall_not_mem _ _ fun op hop hb => ?_
  obtain ⟨ops, hops, hop'⟩ := List.mem_flatten.mp hop
  obtain ⟨W, hW, hall⟩ : ∃ W ∈ Ws, ops.Forall fun op => op.writes ⊆ (W.map (Proc.devRef (τ := τ) .tc)).toFinset := by
    clear h hb hop' hop
    induction hw with
    | nil => cases hops
    | cons hd _ ih =>
      rcases List.mem_cons.mp hops with rfl | hops
      · exact ⟨_, List.mem_cons_self, hd⟩
      · obtain ⟨W, hW, q⟩ := ih hops
        exact ⟨W, List.mem_cons_of_mem _ hW, q⟩
  obtain ⟨y, hy, he⟩ := List.mem_map.mp (List.mem_toFinset.mp ((List.forall_iff_forall_mem.mp hall) op hop' hb))
  exact h W hW (Proc.devRef_injective _ he ▸ hy)

end Cert.KernelIdeal.Moe

end
-- ==== Proof.KI.Lines.lean ====
/- The host lines before the experts' call, each as an equation about what the buffers hold when the call begins. -/
module

public import proofs.«01_k».proof.Proof.KI.Lists

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the lines write, in order. -/
abbrev lineW : List (Ref sig .tc) := beforeW.flatten

theorem line_writes : (before (F := F)).flatten.map HloOp.writes = lineW.map fun w => {Proc.devRef (τ := τ) .tc w} := rfl

/-- What a buffer holds when the call begins, from the launch contents `V`. -/
abbrev E (V : Valuation τ sig (Elt F)) (r : Ref sig .tc) : r.ty.Contents (Elt F) := StableHlo.after (before (F := F)).flatten V (Proc.devRef .tc r)

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- A reference that no line from position `i` on writes holds at the end what it holds before position `i`. -/
theorem kept (V : Valuation τ sig (Elt F)) (i : ℕ) (r : Ref sig .tc) (h : r ∉ lineW.drop i) :
    StableHlo.upto (before (F := F)).flatten V i (Proc.devRef .tc r) = E V r := by
  have e : StableHlo.after ((before (F := F)).flatten.take i ++ (before (F := F)).flatten.drop i) V (Proc.devRef .tc r) = E V r := by rw [List.take_append_drop]
  rw [after_app] at e
  rw [← e, StableHlo.upto]
  exact (StableHlo.after_of_writes_sub _ _ (StableHlo.forall_writes_sub_of_map (W := lineW.drop i) (by rw [List.map_drop, line_writes, List.map_drop])) h).symm

/-- The line at position `i` read at the reference it writes, when no later line writes it. -/
theorem at_line (V : Valuation τ sig (Elt F)) (i : ℕ) (r : Ref sig .tc) {op : HloOp τ sig (Elt F)} {rest : List (HloOp τ sig (Elt F))}
    (hseg : (before (F := F)).flatten.drop i = op :: rest) (hr : r ∉ lineW.drop (i + 1)) :
    E V r = op.result (StableHlo.upto (before (F := F)).flatten V i) (Proc.devRef .tc r) := by
  refine StableHlo.after_last_write (lineW.drop (i + 1)) hseg ?_ hr V
  have e : (before (F := F)).flatten.drop (i + 1) = rest := by
    rw [← List.drop_drop, hseg]; rfl
  rw [← e, List.map_drop, line_writes, List.map_drop]

theorem line0 (V : Valuation τ sig (Elt F)) (i : ℕ) (y : Ref sig .tc) (v : y.ty.Contents (Elt F)) {hy} {rest : List (HloOp τ sig (Elt F))}
    (hseg : (before (F := F)).flatten.drop i = StableHlo.nullary y v hy :: rest) (h : y ∉ lineW.drop (i + 1)) : E V y = v :=
  (at_line V i y hseg h).trans (StableHlo.nullary_result' v hy _)

theorem line1 (V : Valuation τ sig (Elt F)) (i : ℕ) (x y : Ref sig .tc) (f : x.ty.Contents (Elt F) → y.ty.Contents (Elt F)) {hx hy} {rest : List (HloOp τ sig (Elt F))}
    (hseg : (before (F := F)).flatten.drop i = StableHlo.unary x y f hx hy :: rest) (h : y ∉ lineW.drop (i + 1)) (h1 : x ∉ lineW.drop i) : E V y = f (E V x) := by
  rw [at_line V i y hseg h, StableHlo.unary_result', kept V i x h1]

theorem line2 (V : Valuation τ sig (Elt F)) (i : ℕ) (a b y : Ref sig .tc) (f : a.ty.Contents (Elt F) → b.ty.Contents (Elt F) → y.ty.Contents (Elt F)) {ha hb hy} {rest : List (HloOp τ sig (Elt F))}
    (hseg : (before (F := F)).flatten.drop i = StableHlo.binary a b y f ha hb hy :: rest) (h : y ∉ lineW.drop (i + 1)) (h1 : a ∉ lineW.drop i) (h2 : b ∉ lineW.drop i) : E V y = f (E V a) (E V b) := by
  rw [at_line V i y hseg h, StableHlo.binary_result', kept V i a h1, kept V i b h2]

theorem line3 (V : Valuation τ sig (Elt F)) (i : ℕ) (c a b y : Ref sig .tc) (f : c.ty.Contents (Elt F) → a.ty.Contents (Elt F) → b.ty.Contents (Elt F) → y.ty.Contents (Elt F)) {hc ha hb hy} {rest : List (HloOp τ sig (Elt F))}
    (hseg : (before (F := F)).flatten.drop i = StableHlo.ternary c a b y f hc ha hb hy :: rest) (h : y ∉ lineW.drop (i + 1)) (h0 : c ∉ lineW.drop i) (h1 : a ∉ lineW.drop i) (h2 : b ∉ lineW.drop i) : E V y = f (E V c) (E V a) (E V b) := by
  rw [at_line V i y hseg h, StableHlo.ternary_result', kept V i c h0, kept V i a h1, kept V i b h2]

theorem lineR (V : Valuation τ sig (Elt F)) (i : ℕ) (x y : Ref sig .tc) {he hn hx hy} {rest : List (HloOp τ sig (Elt F))}
    (hseg : (before (F := F)).flatten.drop i = StableHlo.reshape x y he hn hx hy :: rest) (h : y ∉ lineW.drop (i + 1)) (h1 : x ∉ lineW.drop i) :
    E V y = fun j => he ▸ shapeCast y.ty.shape (E V x) hn j := by
  rw [at_line V i y hseg h, StableHlo.reshape_result', kept V i x h1]

end Cert.KernelIdeal.Moe

end
-- ==== Proof.KI.Eqs1.lean ====
/- The host lines before the experts' call, each as an equation about what the buffers hold when the call begins. -/
module

public import proofs.«01_k».proof.Proof.KI.Lines

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] Host.reduceWindow extractStridedSlice

theorem e_main_v0 (V : Valuation τ sig (Elt F)) : E V main_v0 = shapeCast S131072 (E V main_arg1) shapeCasts_S32768x4_S131072 := lineR V 0 main_arg1 main_v0 rfl (by decide +kernel) (by decide +kernel)
theorem e_main_v1 (V : Valuation τ sig (Elt F)) : E V main_v1 = ((iotaInDim S32 32 0) : main_v1.ty.Contents (Elt F))  :=
  line0 V 1 _ _ rfl (by decide +kernel)
theorem e_main_v2 (V : Valuation τ sig (Elt F)) : E V main_v2 = (broadcastInDim S131072x1 ![0] bcast_S131072_S131072x1_0 : (⟨S131072, .i32⟩ : BufTy).Contents (Elt F) → (⟨S131072x1, .i32⟩ : BufTy).Contents (Elt F)) (E V main_v0) :=
  line1 V 2 _ _ _ rfl (by decide +kernel) (by decide +kernel)
theorem e_main_v3 (V : Valuation τ sig (Elt F)) : E V main_v3 = (broadcastInDim S1x32 ![1] bcast_S32_S1x32_1 : (⟨S32, .i32⟩ : BufTy).Contents (Elt F) → (⟨S1x32, .i32⟩ : BufTy).Contents (Elt F)) (E V main_v1) :=
  line1 V 3 _ _ _ rfl (by decide +kernel) (by decide +kernel)
theorem e_main_v4 (V : Valuation τ sig (Elt F)) : E V main_v4 = (broadcastInDim S131072x32 ![0, 1] bcast_S131072x1_S131072x32_0_1 : (⟨S131072x1, .i32⟩ : BufTy).Contents (Elt F) → (⟨S131072x32, .i32⟩ : BufTy).Contents (Elt F)) (E V main_v2) :=
  line1 V 4 _ _ _ rfl (by decide +kernel) (by decide +kernel)
theorem e_main_v5 (V : Valuation τ sig (Elt F)) : E V main_v5 = (broadcastInDim S131072x32 ![0, 1] bcast_S1x32_S131072x32_0_1 : (⟨S1x32, .i32⟩ : BufTy).Contents (Elt F) → (⟨S131072x32, .i32⟩ : BufTy).Contents (Elt F)) (E V main_v3) :=
  line1 V 5 _ _ _ rfl (by decide +kernel) (by decide +kernel)
theorem e_main_v6 (V : Valuation τ sig (Elt F)) : E V main_v6 = (cmpi .eq : (⟨S131072x32, .i32⟩ : BufTy).Contents (Elt F) → (⟨S131072x32, .i32⟩ : BufTy).Contents (Elt F) → (⟨S131072x32, .i1⟩ : BufTy).Contents (Elt F)) (E V main_v4) (E V main_v5) :=
  line2 V 6 _ _ _ _ rfl (by decide +kernel) (by decide +kernel) (by decide +kernel)
theorem e_main_v7 (V : Valuation τ sig (Elt F)) : E V main_v7 = ((extui 32 · natLt_1_32) : (⟨S131072x32, .i1⟩ : BufTy).Contents (Elt F) → (⟨S131072x32, .i32⟩ : BufTy).Contents (Elt F)) (E V main_v6) :=
  line1 V 7 _ _ _ rfl (by decide +kernel) (by decide +kernel)
theorem e_main_c (V : Valuation τ sig (Elt F)) : E V main_c = ((constantI S_ 32 0#32) : main_c.ty.Contents (Elt F))  :=
  line0 V 8 _ _ rfl (by decide +kernel)
theorem e_main_v8 (V : Valuation τ sig (Elt F)) : E V main_v8 = ((fun x v => Host.reduce IntOp.addi x v reducesTo_S131072x32_S32_d0 h_S_) : (⟨S131072x32, .i32⟩ : BufTy).Contents (Elt F) → (⟨S_, .i32⟩ : BufTy).Contents (Elt F) → (⟨S32, .i32⟩ : BufTy).Contents (Elt F)) (E V main_v7) (E V main_c) :=
  line2 V 9 main_v7 main_c main_v8 ((fun x v => Host.reduce IntOp.addi x v reducesTo_S131072x32_S32_d0 h_S_) : (⟨S131072x32, .i32⟩ : BufTy).Contents (Elt F) → (⟨S_, .i32⟩ : BufTy).Contents (Elt F) → (⟨S32, .i32⟩ : BufTy).Contents (Elt F)) rfl (by decide +kernel) (by decide +kernel) (by decide +kernel)
theorem e_main_c_0 (V : Valuation τ sig (Elt F)) : E V main_c_0 = ((constantI S_ 32 1024#32) : main_c_0.ty.Contents (Elt F))  :=
  line0 V 10 _ _ rfl (by decide +kernel)
theorem e_main_v9 (V : Valuation τ sig (Elt F)) : E V main_v9 = (broadcastInDim S32 ![] bcast_S_S32 : (⟨S_, .i32⟩ : BufTy).Contents (Elt F) → (⟨S32, .i32⟩ : BufTy).Contents (Elt F)) (E V main_c_0) :=
  line1 V 11 _ _ _ rfl (by decide +kernel) (by decide +kernel)
theorem e_main_v10 (V : Valuation τ sig (Elt F)) : E V main_v10 = (addi : (⟨S32, .i32⟩ : BufTy).Contents (Elt F) → (⟨S32, .i32⟩ : BufTy).Contents (Elt F) → (⟨S32, .i32⟩ : BufTy).Contents (Elt F)) (E V main_v8) (E V main_v9) :=
  line2 V 12 _ _ _ _ rfl (by decide +kernel) (by decide +kernel) (by decide +kernel)
theorem e_main_c_1 (V : Valuation τ sig (Elt F)) : E V main_c_1 = ((constantI S_ 32 1#32) : main_c_1.ty.Contents (Elt F))  :=
  line0 V 13 _ _ rfl (by decide +kernel)
theorem e_main_v11 (V : Valuation τ sig (Elt F)) : E V main_v11 = (broadcastInDim S32 ![] bcast_S_S32 : (⟨S_, .i32⟩ : BufTy).Contents (Elt F) → (⟨S32, .i32⟩ : BufTy).Contents (Elt F)) (E V main_c_1) :=
  line1 V 14 _ _ _ rfl (by decide +kernel) (by decide +kernel)
theorem e_main_v12 (V : Valuation τ sig (Elt F)) : E V main_v12 = (subi : (⟨S32, .i32⟩ : BufTy).Contents (Elt F) → (⟨S32, .i32⟩ : BufTy).Contents (Elt F) → (⟨S32, .i32⟩ : BufTy).Contents (Elt F)) (E V main_v10) (E V main_v11) :=
  line2 V 15 _ _ _ _ rfl (by decide +kernel) (by decide +kernel) (by decide +kernel)
theorem e_main_c_2 (V : Valuation τ sig (Elt F)) : E V main_c_2 = ((constantI S_ 32 1024#32) : main_c_2.ty.Contents (Elt F))  :=
  line0 V 16 _ _ rfl (by decide +kernel)
theorem e_main_call0_v0 (V : Valuation τ sig (Elt F)) : E V main_call0_v0 = (id : (⟨S_, .i32⟩ : BufTy).Contents (Elt F) → (⟨S_, .i32⟩ : BufTy).Contents (Elt F)) (E V main_c_2) :=
  line1 V 17 _ _ _ rfl (by decide +kernel) (by decide +kernel)
theorem e_main_call0_v1 (V : Valuation τ sig (Elt F)) : E V main_call0_v1 = ((broadcastInDim S32 ![] bcast_S_S32) : (⟨S_, .i32⟩ : BufTy).Contents (Elt F) → (⟨S32, .i32⟩ : BufTy).Contents (Elt F)) (E V main_call0_v0) :=
  line1 V 18 _ _ _ rfl (by decide +kernel) (by decide +kernel)
theorem e_main_call0_v2 (V : Valuation τ sig (Elt F)) : E V main_call0_v2 = (Host.divsi : (⟨S32, .i32⟩ : BufTy).Contents (Elt F) → (⟨S32, .i32⟩ : BufTy).Contents (Elt F) → (⟨S32, .i32⟩ : BufTy).Contents (Elt F)) (E V main_v12) (E V main_call0_v1) :=
  line2 V 19 _ _ _ _ rfl (by decide +kernel) (by decide +kernel) (by decide +kernel)
theorem e_main_call0_v3 (V : Valuation τ sig (Elt F)) : E V main_call0_v3 = (signi : (⟨S32, .i32⟩ : BufTy).Contents (Elt F) → (⟨S32, .i32⟩ : BufTy).Contents (Elt F)) (E V main_v12) :=
  line1 V 20 _ _ _ rfl (by decide +kernel) (by decide +kernel)
theorem e_main_call0_v4 (V : Valuation τ sig (Elt F)) : E V main_call0_v4 = (signi : (⟨S_, .i32⟩ : BufTy).Contents (Elt F) → (⟨S_, .i32⟩ : BufTy).Contents (Elt F)) (E V main_call0_v0) :=
  line1 V 21 _ _ _ rfl (by decide +kernel) (by decide +kernel)
theorem e_main_call0_v5 (V : Valuation τ sig (Elt F)) : E V main_call0_v5 = ((broadcastInDim S32 ![] bcast_S_S32) : (⟨S_, .i32⟩ : BufTy).Contents (Elt F) → (⟨S32, .i32⟩ : BufTy).Contents (Elt F)) (E V main_call0_v4) :=
  line1 V 22 _ _ _ rfl (by decide +kernel) (by decide +kernel)
theorem e_main_call0_v6 (V : Valuation τ sig (Elt F)) : E V main_call0_v6 = ((cmpi .ne) : (⟨S32, .i32⟩ : BufTy).Contents (Elt F) → (⟨S32, .i32⟩ : BufTy).Contents (Elt F) → (⟨S32, .i1⟩ : BufTy).Contents (Elt F)) (E V main_call0_v3) (E V main_call0_v5) :=
  line2 V 23 _ _ _ _ rfl (by decide +kernel) (by decide +kernel) (by decide +kernel)
theorem e_main_call0_v7 (V : Valuation τ sig (Elt F)) : E V main_call0_v7 = ((broadcastInDim S32 ![] bcast_S_S32) : (⟨S_, .i32⟩ : BufTy).Contents (Elt F) → (⟨S32, .i32⟩ : BufTy).Contents (Elt F)) (E V main_call0_v0) :=
  line1 V 24 _ _ _ rfl (by decide +kernel) (by decide +kernel)
theorem e_main_call0_v8 (V : Valuation τ sig (Elt F)) : E V main_call0_v8 = (Host.remsi : (⟨S32, .i32⟩ : BufTy).Contents (Elt F) → (⟨S32, .i32⟩ : BufTy).Contents (Elt F) → (⟨S32, .i32⟩ : BufTy).Contents (Elt F)) (E V main_v12) (E V main_call0_v7) :=
  line2 V 25 _ _ _ _ rfl (by decide +kernel) (by decide +kernel) (by decide +kernel)
theorem e_main_call0_c (V : Valuation τ sig (Elt F)) : E V main_call0_c = ((constantI S_ 32 0#32) : (⟨S_, .i32⟩ : BufTy).Contents (Elt F))  :=
  line0 V 26 _ _ rfl (by decide +kernel)
theorem e_main_call0_v9 (V : Valuation τ sig (Elt F)) : E V main_call0_v9 = ((broadcastInDim S32 ![] bcast_S_S32) : (⟨S_, .i32⟩ : BufTy).Contents (Elt F) → (⟨S32, .i32⟩ : BufTy).Contents (Elt F)) (E V main_call0_c) :=
  line1 V 27 _ _ _ rfl (by decide +kernel) (by decide +kernel)
theorem e_main_call0_v10 (V : Valuation τ sig (Elt F)) : E V main_call0_v10 = ((cmpi .ne) : (⟨S32, .i32⟩ : BufTy).Contents (Elt F) → (⟨S32, .i32⟩ : BufTy).Contents (Elt F) → (⟨S32, .i1⟩ : BufTy).Contents (Elt F)) (E V main_call0_v8) (E V main_call0_v9) :=
  line2 V 28 _ _ _ _ rfl (by decide +kernel) (by decide +kernel) (by decide +kernel)
theorem e_main_call0_v11 (V : Valuation τ sig (Elt F)) : E V main_call0_v11 = (andi : (⟨S32, .i1⟩ : BufTy).Contents (Elt F) → (⟨S32, .i1⟩ : BufTy).Contents (Elt F) → (⟨S32, .i1⟩ : BufTy).Contents (Elt F)) (E V main_call0_v6) (E V main_call0_v10) :=
  line2 V 29 _ _ _ _ rfl (by decide +kernel) (by decide +kernel) (by decide +kernel)
theorem e_main_call0_c_0 (V : Valuation τ sig (Elt F)) : E V main_call0_c_0 = ((constantI S_ 32 1#32) : (⟨S_, .i32⟩ : BufTy).Contents (Elt F))  :=
  line0 V 30 _ _ rfl (by decide +kernel)
theorem e_main_call0_v12 (V : Valuation τ sig (Elt F)) : E V main_call0_v12 = ((broadcastInDim S32 ![] bcast_S_S32) : (⟨S_, .i32⟩ : BufTy).Contents (Elt F) → (⟨S32, .i32⟩ : BufTy).Contents (Elt F)) (E V main_call0_c_0) :=
  line1 V 31 _ _ _ rfl (by decide +kernel) (by decide +kernel)
theorem e_main_call0_v13 (V : Valuation τ sig (Elt F)) : E V main_call0_v13 = (subi : (⟨S32, .i32⟩ : BufTy).Contents (Elt F) → (⟨S32, .i32⟩ : BufTy).Contents (Elt F) → (⟨S32, .i32⟩ : BufTy).Contents (Elt F)) (E V main_call0_v2) (E V main_call0_v12) :=
  line2 V 32 _ _ _ _ rfl (by decide +kernel) (by decide +kernel) (by decide +kernel)
theorem e_main_v13 (V : Valuation τ sig (Elt F)) : E V main_v13 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (E V main_call0_v11) (E V main_call0_v13) (E V main_call0_v2) :=
  line3 V 33 _ _ _ _ _ rfl (by decide +kernel) (by decide +kernel) (by decide +kernel) (by decide +kernel)
theorem e_main_c_3 (V : Valuation τ sig (Elt F)) : E V main_c_3 = ((constantI S_ 32 1024#32) : main_c_3.ty.Contents (Elt F))  :=
  line0 V 34 _ _ rfl (by decide +kernel)
theorem e_main_v14 (V : Valuation τ sig (Elt F)) : E V main_v14 = (broadcastInDim S32 ![] bcast_S_S32 : (⟨S_, .i32⟩ : BufTy).Contents (Elt F) → (⟨S32, .i32⟩ : BufTy).Contents (Elt F)) (E V main_c_3) :=
  line1 V 35 _ _ _ rfl (by decide +kernel) (by decide +kernel)
theorem e_main_v15 (V : Valuation τ sig (Elt F)) : E V main_v15 = (muli : (⟨S32, .i32⟩ : BufTy).Contents (Elt F) → (⟨S32, .i32⟩ : BufTy).Contents (Elt F) → (⟨S32, .i32⟩ : BufTy).Contents (Elt F)) (E V main_v13) (E V main_v14) :=
  line2 V 36 _ _ _ _ rfl (by decide +kernel) (by decide +kernel) (by decide +kernel)
theorem e_main_call1_call0_c (V : Valuation τ sig (Elt F)) : E V main_call1_call0_c = ((constantI S_ 32 0#32) : (⟨S_, .i32⟩ : BufTy).Contents (Elt F))  :=
  line0 V 37 _ _ rfl (by decide +kernel)
theorem e_main_call1_call0_v0 (V : Valuation τ sig (Elt F)) : E V main_call1_call0_v0 = ((broadcastInDim S_ ![] bcast_S_S_) : (⟨S_, .i32⟩ : BufTy).Contents (Elt F) → (⟨S_, .i32⟩ : BufTy).Contents (Elt F)) (E V main_call1_call0_c) :=
  line1 V 38 _ _ _ rfl (by decide +kernel) (by decide +kernel)
theorem e_main_v16 (V : Valuation τ sig (Elt F)) : E V main_v16 = ((fun x v => Host.reduceWindow IntOp.addi ![32] ![1] ![31] ![0] x v reduceWindows_S32_S32_w32s1p31_0 h_S_) : (⟨S32, .i32⟩ : BufTy).Contents (Elt F) → (⟨S_, .i32⟩ : BufTy).Contents (Elt F) → (⟨S32, .i32⟩ : BufTy).Contents (Elt F)) (E V main_v15) (E V main_call1_call0_v0) :=
  line2 V 39 main_v15 main_call1_call0_v0 main_v16 ((fun x v => Host.reduceWindow IntOp.addi ![32] ![1] ![31] ![0] x v reduceWindows_S32_S32_w32s1p31_0 h_S_) : (⟨S32, .i32⟩ : BufTy).Contents (Elt F) → (⟨S_, .i32⟩ : BufTy).Contents (Elt F) → (⟨S32, .i32⟩ : BufTy).Contents (Elt F)) rfl (by decide +kernel) (by decide +kernel) (by decide +kernel)
theorem e_main_v17 (V : Valuation τ sig (Elt F)) : E V main_v17 = (subi : (⟨S32, .i32⟩ : BufTy).Contents (Elt F) → (⟨S32, .i32⟩ : BufTy).Contents (Elt F) → (⟨S32, .i32⟩ : BufTy).Contents (Elt F)) (E V main_v16) (E V main_v15) :=
  line2 V 40 _ _ _ _ rfl (by decide +kernel) (by decide +kernel) (by decide +kernel)
theorem e_main_call2_call0_c (V : Valuation τ sig (Elt F)) : E V main_call2_call0_c = ((constantI S_ 32 0#32) : (⟨S_, .i32⟩ : BufTy).Contents (Elt F))  :=
  line0 V 41 _ _ rfl (by decide +kernel)
theorem e_main_call2_call0_v0 (V : Valuation τ sig (Elt F)) : E V main_call2_call0_v0 = ((broadcastInDim S_ ![] bcast_S_S_) : (⟨S_, .i32⟩ : BufTy).Contents (Elt F) → (⟨S_, .i32⟩ : BufTy).Contents (Elt F)) (E V main_call2_call0_c) :=
  line1 V 42 _ _ _ rfl (by decide +kernel) (by decide +kernel)
theorem e_main_v18 (V : Valuation τ sig (Elt F)) : E V main_v18 = ((fun x v => Host.reduceWindow IntOp.addi ![32] ![1] ![31] ![0] x v reduceWindows_S32_S32_w32s1p31_0 h_S_) : (⟨S32, .i32⟩ : BufTy).Contents (Elt F) → (⟨S_, .i32⟩ : BufTy).Contents (Elt F) → (⟨S32, .i32⟩ : BufTy).Contents (Elt F)) (E V main_v8) (E V main_call2_call0_v0) :=
  line2 V 43 main_v8 main_call2_call0_v0 main_v18 ((fun x v => Host.reduceWindow IntOp.addi ![32] ![1] ![31] ![0] x v reduceWindows_S32_S32_w32s1p31_0 h_S_) : (⟨S32, .i32⟩ : BufTy).Contents (Elt F) → (⟨S_, .i32⟩ : BufTy).Contents (Elt F) → (⟨S32, .i32⟩ : BufTy).Contents (Elt F)) rfl (by decide +kernel) (by decide +kernel) (by decide +kernel)
theorem e_main_v19 (V : Valuation τ sig (Elt F)) : E V main_v19 = (subi : (⟨S32, .i32⟩ : BufTy).Contents (Elt F) → (⟨S32, .i32⟩ : BufTy).Contents (Elt F) → (⟨S32, .i32⟩ : BufTy).Contents (Elt F)) (E V main_v18) (E V main_v8) :=
  line2 V 44 _ _ _ _ rfl (by decide +kernel) (by decide +kernel) (by decide +kernel)
theorem e_main_call3_v0 (V : Valuation τ sig (Elt F)) : E V main_call3_v0 = ((iotaInDim S131072 32 0) : (⟨S131072, .i32⟩ : BufTy).Contents (Elt F))  :=
  line0 V 45 _ _ rfl (by decide +kernel)
theorem e_main_call3_v1_0 (V : Valuation τ sig (Elt F)) : E V main_call3_v1_0 = ((fun x y => (Host.sort2 S131072 0 comparator_i32_i32_d0 x y).1) : (⟨S131072, .i32⟩ : BufTy).Contents (Elt F) → (⟨S131072, .i32⟩ : BufTy).Contents (Elt F) → (⟨S131072, .i32⟩ : BufTy).Contents (Elt F)) (E V main_v0) (E V main_call3_v0) :=
  line2 V 46 main_v0 main_call3_v0 main_call3_v1_0 ((fun x y => (Host.sort2 S131072 0 comparator_i32_i32_d0 x y).1) : (⟨S131072, .i32⟩ : BufTy).Contents (Elt F) → (⟨S131072, .i32⟩ : BufTy).Contents (Elt F) → (⟨S131072, .i32⟩ : BufTy).Contents (Elt F)) rfl (by decide +kernel) (by decide +kernel) (by decide +kernel)
theorem e_main_v20 (V : Valuation τ sig (Elt F)) : E V main_v20 = ((fun x y => (Host.sort2 S131072 0 comparator_i32_i32_d0 x y).2) : (⟨S131072, .i32⟩ : BufTy).Contents (Elt F) → (⟨S131072, .i32⟩ : BufTy).Contents (Elt F) → (⟨S131072, .i32⟩ : BufTy).Contents (Elt F)) (E V main_v0) (E V main_call3_v0) :=
  line2 V 47 main_v0 main_call3_v0 main_v20 ((fun x y => (Host.sort2 S131072 0 comparator_i32_i32_d0 x y).2) : (⟨S131072, .i32⟩ : BufTy).Contents (Elt F) → (⟨S131072, .i32⟩ : BufTy).Contents (Elt F) → (⟨S131072, .i32⟩ : BufTy).Contents (Elt F)) rfl (by decide +kernel) (by decide +kernel) (by decide +kernel)
theorem e_main_call4_v0 (V : Valuation τ sig (Elt F)) : E V main_call4_v0 = ((iotaInDim S131072 32 0) : (⟨S131072, .i32⟩ : BufTy).Contents (Elt F))  :=
  line0 V 48 _ _ rfl (by decide +kernel)
theorem e_main_call4_v1_0 (V : Valuation τ sig (Elt F)) : E V main_call4_v1_0 = ((fun x y => (Host.sort2 S131072 0 comparator_i32_i32_d0 x y).1) : (⟨S131072, .i32⟩ : BufTy).Contents (Elt F) → (⟨S131072, .i32⟩ : BufTy).Contents (Elt F) → (⟨S131072, .i32⟩ : BufTy).Contents (Elt F)) (E V main_v20) (E V main_call4_v0) :=
  line2 V 49 main_v20 main_call4_v0 main_call4_v1_0 ((fun x y => (Host.sort2 S131072 0 comparator_i32_i32_d0 x y).1) : (⟨S131072, .i32⟩ : BufTy).Contents (Elt F) → (⟨S131072, .i32⟩ : BufTy).Contents (Elt F) → (⟨S131072, .i32⟩ : BufTy).Contents (Elt F)) rfl (by decide +kernel) (by decide +kernel) (by decide +kernel)

end Cert.KernelIdeal.Moe

end
-- ==== Proof.KI.Eqs2.lean ====
/- The host lines before the experts' call, each as an equation about what the buffers hold when the call begins. -/
module

public import proofs.«01_k».proof.Proof.KI.Lines

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem e_main_v21 (V : Valuation τ sig (Elt F)) : E V main_v21 = ((fun x y => (Host.sort2 S131072 0 comparator_i32_i32_d0 x y).2) : (⟨S131072, .i32⟩ : BufTy).Contents (Elt F) → (⟨S131072, .i32⟩ : BufTy).Contents (Elt F) → (⟨S131072, .i32⟩ : BufTy).Contents (Elt F)) (E V main_v20) (E V main_call4_v0) :=
  line2 V 50 main_v20 main_call4_v0 main_v21 ((fun x y => (Host.sort2 S131072 0 comparator_i32_i32_d0 x y).2) : (⟨S131072, .i32⟩ : BufTy).Contents (Elt F) → (⟨S131072, .i32⟩ : BufTy).Contents (Elt F) → (⟨S131072, .i32⟩ : BufTy).Contents (Elt F)) rfl (by decide +kernel) (by decide +kernel) (by decide +kernel)
theorem e_main_v22 (V : Valuation τ sig (Elt F)) : E V main_v22 = (subi : (⟨S32, .i32⟩ : BufTy).Contents (Elt F) → (⟨S32, .i32⟩ : BufTy).Contents (Elt F) → (⟨S32, .i32⟩ : BufTy).Contents (Elt F)) (E V main_v17) (E V main_v19) :=
  line2 V 51 _ _ _ _ rfl (by decide +kernel) (by decide +kernel) (by decide +kernel)
theorem e_main_v23 (V : Valuation τ sig (Elt F)) : E V main_v23 = (broadcastInDim S1x32 ![1] bcast_S32_S1x32_1 : (⟨S32, .i32⟩ : BufTy).Contents (Elt F) → (⟨S1x32, .i32⟩ : BufTy).Contents (Elt F)) (E V main_v22) :=
  line1 V 52 _ _ _ rfl (by decide +kernel) (by decide +kernel)
theorem e_main_c_4 (V : Valuation τ sig (Elt F)) : E V main_c_4 = ((constantI S_ 32 0#32) : main_c_4.ty.Contents (Elt F))  :=
  line0 V 53 _ _ rfl (by decide +kernel)
theorem e_main_call5_v0 (V : Valuation τ sig (Elt F)) : E V main_call5_v0 = (id : (⟨S_, .i32⟩ : BufTy).Contents (Elt F) → (⟨S_, .i32⟩ : BufTy).Contents (Elt F)) (E V main_c_4) :=
  line1 V 54 _ _ _ rfl (by decide +kernel) (by decide +kernel)
theorem e_main_call5_v1 (V : Valuation τ sig (Elt F)) : E V main_call5_v1 = ((broadcastInDim S131072x32 ![0, 1] bcast_S1x32_S131072x32_0_1) : (⟨S1x32, .i32⟩ : BufTy).Contents (Elt F) → (⟨S131072x32, .i32⟩ : BufTy).Contents (Elt F)) (E V main_v23) :=
  line1 V 55 _ _ _ rfl (by decide +kernel) (by decide +kernel)
theorem e_main_call5_v2 (V : Valuation τ sig (Elt F)) : E V main_call5_v2 = ((broadcastInDim S131072x32 ![] bcast_S_S131072x32) : (⟨S_, .i32⟩ : BufTy).Contents (Elt F) → (⟨S131072x32, .i32⟩ : BufTy).Contents (Elt F)) (E V main_call5_v0) :=
  line1 V 56 _ _ _ rfl (by decide +kernel) (by decide +kernel)
theorem e_main_v24 (V : Valuation τ sig (Elt F)) : E V main_v24 = (select : (⟨S131072x32, .i1⟩ : BufTy).Contents (Elt F) → (⟨S131072x32, .i32⟩ : BufTy).Contents (Elt F) → (⟨S131072x32, .i32⟩ : BufTy).Contents (Elt F) → (⟨S131072x32, .i32⟩ : BufTy).Contents (Elt F)) (E V main_v6) (E V main_call5_v1) (E V main_call5_v2) :=
  line3 V 57 _ _ _ _ _ rfl (by decide +kernel) (by decide +kernel) (by decide +kernel) (by decide +kernel)
theorem e_main_c_5 (V : Valuation τ sig (Elt F)) : E V main_c_5 = ((constantI S_ 32 0#32) : main_c_5.ty.Contents (Elt F))  :=
  line0 V 58 _ _ rfl (by decide +kernel)
theorem e_main_v25 (V : Valuation τ sig (Elt F)) : E V main_v25 = ((fun x v => Host.reduce IntOp.addi x v reducesTo_S131072x32_S131072_d1 h_S_) : (⟨S131072x32, .i32⟩ : BufTy).Contents (Elt F) → (⟨S_, .i32⟩ : BufTy).Contents (Elt F) → (⟨S131072, .i32⟩ : BufTy).Contents (Elt F)) (E V main_v24) (E V main_c_5) :=
  line2 V 59 main_v24 main_c_5 main_v25 ((fun x v => Host.reduce IntOp.addi x v reducesTo_S131072x32_S131072_d1 h_S_) : (⟨S131072x32, .i32⟩ : BufTy).Contents (Elt F) → (⟨S_, .i32⟩ : BufTy).Contents (Elt F) → (⟨S131072, .i32⟩ : BufTy).Contents (Elt F)) rfl (by decide +kernel) (by decide +kernel) (by decide +kernel)
theorem e_main_v26 (V : Valuation τ sig (Elt F)) : E V main_v26 = (addi : (⟨S131072, .i32⟩ : BufTy).Contents (Elt F) → (⟨S131072, .i32⟩ : BufTy).Contents (Elt F) → (⟨S131072, .i32⟩ : BufTy).Contents (Elt F)) (E V main_v21) (E V main_v25) :=
  line2 V 60 _ _ _ _ rfl (by decide +kernel) (by decide +kernel) (by decide +kernel)
theorem e_main_v27 (V : Valuation τ sig (Elt F)) : E V main_v27 = ((iotaInDim S163840 32 0) : main_v27.ty.Contents (Elt F))  :=
  line0 V 61 _ _ rfl (by decide +kernel)
theorem e_main_v28 (V : Valuation τ sig (Elt F)) : E V main_v28 = (broadcastInDim S163840x1 ![0] bcast_S163840_S163840x1_0 : (⟨S163840, .i32⟩ : BufTy).Contents (Elt F) → (⟨S163840x1, .i32⟩ : BufTy).Contents (Elt F)) (E V main_v27) :=
  line1 V 62 _ _ _ rfl (by decide +kernel) (by decide +kernel)
theorem e_main_v29 (V : Valuation τ sig (Elt F)) : E V main_v29 = (broadcastInDim S1x32 ![1] bcast_S32_S1x32_1 : (⟨S32, .i32⟩ : BufTy).Contents (Elt F) → (⟨S1x32, .i32⟩ : BufTy).Contents (Elt F)) (E V main_v16) :=
  line1 V 63 _ _ _ rfl (by decide +kernel) (by decide +kernel)
theorem e_main_v30 (V : Valuation τ sig (Elt F)) : E V main_v30 = (broadcastInDim S163840x32 ![0, 1] bcast_S163840x1_S163840x32_0_1 : (⟨S163840x1, .i32⟩ : BufTy).Contents (Elt F) → (⟨S163840x32, .i32⟩ : BufTy).Contents (Elt F)) (E V main_v28) :=
  line1 V 64 _ _ _ rfl (by decide +kernel) (by decide +kernel)
theorem e_main_v31 (V : Valuation τ sig (Elt F)) : E V main_v31 = (broadcastInDim S163840x32 ![0, 1] bcast_S1x32_S163840x32_0_1 : (⟨S1x32, .i32⟩ : BufTy).Contents (Elt F) → (⟨S163840x32, .i32⟩ : BufTy).Contents (Elt F)) (E V main_v29) :=
  line1 V 65 _ _ _ rfl (by decide +kernel) (by decide +kernel)
theorem e_main_v32 (V : Valuation τ sig (Elt F)) : E V main_v32 = (cmpi .sge : (⟨S163840x32, .i32⟩ : BufTy).Contents (Elt F) → (⟨S163840x32, .i32⟩ : BufTy).Contents (Elt F) → (⟨S163840x32, .i1⟩ : BufTy).Contents (Elt F)) (E V main_v30) (E V main_v31) :=
  line2 V 66 _ _ _ _ rfl (by decide +kernel) (by decide +kernel) (by decide +kernel)
theorem e_main_v33 (V : Valuation τ sig (Elt F)) : E V main_v33 = ((extui 32 · natLt_1_32) : (⟨S163840x32, .i1⟩ : BufTy).Contents (Elt F) → (⟨S163840x32, .i32⟩ : BufTy).Contents (Elt F)) (E V main_v32) :=
  line1 V 67 _ _ _ rfl (by decide +kernel) (by decide +kernel)
theorem e_main_c_6 (V : Valuation τ sig (Elt F)) : E V main_c_6 = ((constantI S_ 32 0#32) : main_c_6.ty.Contents (Elt F))  :=
  line0 V 68 _ _ rfl (by decide +kernel)
theorem e_main_v34 (V : Valuation τ sig (Elt F)) : E V main_v34 = ((fun x v => Host.reduce IntOp.addi x v reducesTo_S163840x32_S163840_d1 h_S_) : (⟨S163840x32, .i32⟩ : BufTy).Contents (Elt F) → (⟨S_, .i32⟩ : BufTy).Contents (Elt F) → (⟨S163840, .i32⟩ : BufTy).Contents (Elt F)) (E V main_v33) (E V main_c_6) :=
  line2 V 69 main_v33 main_c_6 main_v34 ((fun x v => Host.reduce IntOp.addi x v reducesTo_S163840x32_S163840_d1 h_S_) : (⟨S163840x32, .i32⟩ : BufTy).Contents (Elt F) → (⟨S_, .i32⟩ : BufTy).Contents (Elt F) → (⟨S163840, .i32⟩ : BufTy).Contents (Elt F)) rfl (by decide +kernel) (by decide +kernel) (by decide +kernel)
theorem e_main_c_7 (V : Valuation τ sig (Elt F)) : E V main_c_7 = ((constantI S_ 32 31#32) : main_c_7.ty.Contents (Elt F))  :=
  line0 V 70 _ _ rfl (by decide +kernel)
theorem e_main_v35 (V : Valuation τ sig (Elt F)) : E V main_v35 = (broadcastInDim S163840 ![] bcast_S_S163840 : (⟨S_, .i32⟩ : BufTy).Contents (Elt F) → (⟨S163840, .i32⟩ : BufTy).Contents (Elt F)) (E V main_c_7) :=
  line1 V 71 _ _ _ rfl (by decide +kernel) (by decide +kernel)
theorem e_main_v36 (V : Valuation τ sig (Elt F)) : E V main_v36 = (minsi : (⟨S163840, .i32⟩ : BufTy).Contents (Elt F) → (⟨S163840, .i32⟩ : BufTy).Contents (Elt F) → (⟨S163840, .i32⟩ : BufTy).Contents (Elt F)) (E V main_v34) (E V main_v35) :=
  line2 V 72 _ _ _ _ rfl (by decide +kernel) (by decide +kernel) (by decide +kernel)
theorem e_main_v37 (V : Valuation τ sig (Elt F)) : E V main_v37 = (broadcastInDim S163840x1 ![0] bcast_S163840_S163840x1_0 : (⟨S163840, .i32⟩ : BufTy).Contents (Elt F) → (⟨S163840x1, .i32⟩ : BufTy).Contents (Elt F)) (E V main_v36) :=
  line1 V 73 _ _ _ rfl (by decide +kernel) (by decide +kernel)
theorem e_main_v38 (V : Valuation τ sig (Elt F)) : E V main_v38 = (broadcastInDim S1x32 ![1] bcast_S32_S1x32_1 : (⟨S32, .i32⟩ : BufTy).Contents (Elt F) → (⟨S1x32, .i32⟩ : BufTy).Contents (Elt F)) (E V main_v1) :=
  line1 V 74 _ _ _ rfl (by decide +kernel) (by decide +kernel)
theorem e_main_v39 (V : Valuation τ sig (Elt F)) : E V main_v39 = (broadcastInDim S163840x32 ![0, 1] bcast_S163840x1_S163840x32_0_1 : (⟨S163840x1, .i32⟩ : BufTy).Contents (Elt F) → (⟨S163840x32, .i32⟩ : BufTy).Contents (Elt F)) (E V main_v37) :=
  line1 V 75 _ _ _ rfl (by decide +kernel) (by decide +kernel)
theorem e_main_v40 (V : Valuation τ sig (Elt F)) : E V main_v40 = (broadcastInDim S163840x32 ![0, 1] bcast_S1x32_S163840x32_0_1 : (⟨S1x32, .i32⟩ : BufTy).Contents (Elt F) → (⟨S163840x32, .i32⟩ : BufTy).Contents (Elt F)) (E V main_v38) :=
  line1 V 76 _ _ _ rfl (by decide +kernel) (by decide +kernel)
theorem e_main_v41 (V : Valuation τ sig (Elt F)) : E V main_v41 = (cmpi .eq : (⟨S163840x32, .i32⟩ : BufTy).Contents (Elt F) → (⟨S163840x32, .i32⟩ : BufTy).Contents (Elt F) → (⟨S163840x32, .i1⟩ : BufTy).Contents (Elt F)) (E V main_v39) (E V main_v40) :=
  line2 V 77 _ _ _ _ rfl (by decide +kernel) (by decide +kernel) (by decide +kernel)
theorem e_main_v42 (V : Valuation τ sig (Elt F)) : E V main_v42 = (broadcastInDim S1x32 ![1] bcast_S32_S1x32_1 : (⟨S32, .i32⟩ : BufTy).Contents (Elt F) → (⟨S1x32, .i32⟩ : BufTy).Contents (Elt F)) (E V main_v17) :=
  line1 V 78 _ _ _ rfl (by decide +kernel) (by decide +kernel)
theorem e_main_c_8 (V : Valuation τ sig (Elt F)) : E V main_c_8 = ((constantI S_ 32 0#32) : main_c_8.ty.Contents (Elt F))  :=
  line0 V 79 _ _ rfl (by decide +kernel)
theorem e_main_call6_v0 (V : Valuation τ sig (Elt F)) : E V main_call6_v0 = (id : (⟨S_, .i32⟩ : BufTy).Contents (Elt F) → (⟨S_, .i32⟩ : BufTy).Contents (Elt F)) (E V main_c_8) :=
  line1 V 80 _ _ _ rfl (by decide +kernel) (by decide +kernel)
theorem e_main_call6_v1 (V : Valuation τ sig (Elt F)) : E V main_call6_v1 = ((broadcastInDim S163840x32 ![0, 1] bcast_S1x32_S163840x32_0_1) : (⟨S1x32, .i32⟩ : BufTy).Contents (Elt F) → (⟨S163840x32, .i32⟩ : BufTy).Contents (Elt F)) (E V main_v42) :=
  line1 V 81 _ _ _ rfl (by decide +kernel) (by decide +kernel)
theorem e_main_call6_v2 (V : Valuation τ sig (Elt F)) : E V main_call6_v2 = ((broadcastInDim S163840x32 ![] bcast_S_S163840x32) : (⟨S_, .i32⟩ : BufTy).Contents (Elt F) → (⟨S163840x32, .i32⟩ : BufTy).Contents (Elt F)) (E V main_call6_v0) :=
  line1 V 82 _ _ _ rfl (by decide +kernel) (by decide +kernel)
theorem e_main_v43 (V : Valuation τ sig (Elt F)) : E V main_v43 = (select : (⟨S163840x32, .i1⟩ : BufTy).Contents (Elt F) → (⟨S163840x32, .i32⟩ : BufTy).Contents (Elt F) → (⟨S163840x32, .i32⟩ : BufTy).Contents (Elt F) → (⟨S163840x32, .i32⟩ : BufTy).Contents (Elt F)) (E V main_v41) (E V main_call6_v1) (E V main_call6_v2) :=
  line3 V 83 _ _ _ _ _ rfl (by decide +kernel) (by decide +kernel) (by decide +kernel) (by decide +kernel)
theorem e_main_c_9 (V : Valuation τ sig (Elt F)) : E V main_c_9 = ((constantI S_ 32 0#32) : main_c_9.ty.Contents (Elt F))  :=
  line0 V 84 _ _ rfl (by decide +kernel)
theorem e_main_v44 (V : Valuation τ sig (Elt F)) : E V main_v44 = ((fun x v => Host.reduce IntOp.addi x v reducesTo_S163840x32_S163840_d1 h_S_) : (⟨S163840x32, .i32⟩ : BufTy).Contents (Elt F) → (⟨S_, .i32⟩ : BufTy).Contents (Elt F) → (⟨S163840, .i32⟩ : BufTy).Contents (Elt F)) (E V main_v43) (E V main_c_9) :=
  line2 V 85 main_v43 main_c_9 main_v44 ((fun x v => Host.reduce IntOp.addi x v reducesTo_S163840x32_S163840_d1 h_S_) : (⟨S163840x32, .i32⟩ : BufTy).Contents (Elt F) → (⟨S_, .i32⟩ : BufTy).Contents (Elt F) → (⟨S163840, .i32⟩ : BufTy).Contents (Elt F)) rfl (by decide +kernel) (by decide +kernel) (by decide +kernel)
theorem e_main_v45 (V : Valuation τ sig (Elt F)) : E V main_v45 = (subi : (⟨S163840, .i32⟩ : BufTy).Contents (Elt F) → (⟨S163840, .i32⟩ : BufTy).Contents (Elt F) → (⟨S163840, .i32⟩ : BufTy).Contents (Elt F)) (E V main_v27) (E V main_v44) :=
  line2 V 86 _ _ _ _ rfl (by decide +kernel) (by decide +kernel) (by decide +kernel)
theorem e_main_v46 (V : Valuation τ sig (Elt F)) : E V main_v46 = (broadcastInDim S1x32 ![1] bcast_S32_S1x32_1 : (⟨S32, .i32⟩ : BufTy).Contents (Elt F) → (⟨S1x32, .i32⟩ : BufTy).Contents (Elt F)) (E V main_v19) :=
  line1 V 87 _ _ _ rfl (by decide +kernel) (by decide +kernel)
theorem e_main_c_10 (V : Valuation τ sig (Elt F)) : E V main_c_10 = ((constantI S_ 32 0#32) : main_c_10.ty.Contents (Elt F))  :=
  line0 V 88 _ _ rfl (by decide +kernel)
theorem e_main_call7_v0 (V : Valuation τ sig (Elt F)) : E V main_call7_v0 = (id : (⟨S_, .i32⟩ : BufTy).Contents (Elt F) → (⟨S_, .i32⟩ : BufTy).Contents (Elt F)) (E V main_c_10) :=
  line1 V 89 _ _ _ rfl (by decide +kernel) (by decide +kernel)
theorem e_main_call7_v1 (V : Valuation τ sig (Elt F)) : E V main_call7_v1 = ((broadcastInDim S163840x32 ![0, 1] bcast_S1x32_S163840x32_0_1) : (⟨S1x32, .i32⟩ : BufTy).Contents (Elt F) → (⟨S163840x32, .i32⟩ : BufTy).Contents (Elt F)) (E V main_v46) :=
  line1 V 90 _ _ _ rfl (by decide +kernel) (by decide +kernel)
theorem e_main_call7_v2 (V : Valuation τ sig (Elt F)) : E V main_call7_v2 = ((broadcastInDim S163840x32 ![] bcast_S_S163840x32) : (⟨S_, .i32⟩ : BufTy).Contents (Elt F) → (⟨S163840x32, .i32⟩ : BufTy).Contents (Elt F)) (E V main_call7_v0) :=
  line1 V 91 _ _ _ rfl (by decide +kernel) (by decide +kernel)
theorem e_main_v47 (V : Valuation τ sig (Elt F)) : E V main_v47 = (select : (⟨S163840x32, .i1⟩ : BufTy).Contents (Elt F) → (⟨S163840x32, .i32⟩ : BufTy).Contents (Elt F) → (⟨S163840x32, .i32⟩ : BufTy).Contents (Elt F) → (⟨S163840x32, .i32⟩ : BufTy).Contents (Elt F)) (E V main_v41) (E V main_call7_v1) (E V main_call7_v2) :=
  line3 V 92 _ _ _ _ _ rfl (by decide +kernel) (by decide +kernel) (by decide +kernel) (by decide +kernel)
theorem e_main_c_11 (V : Valuation τ sig (Elt F)) : E V main_c_11 = ((constantI S_ 32 0#32) : main_c_11.ty.Contents (Elt F))  :=
  line0 V 93 _ _ rfl (by decide +kernel)
theorem e_main_v48 (V : Valuation τ sig (Elt F)) : E V main_v48 = ((fun x v => Host.reduce IntOp.addi x v reducesTo_S163840x32_S163840_d1 h_S_) : (⟨S163840x32, .i32⟩ : BufTy).Contents (Elt F) → (⟨S_, .i32⟩ : BufTy).Contents (Elt F) → (⟨S163840, .i32⟩ : BufTy).Contents (Elt F)) (E V main_v47) (E V main_c_11) :=
  line2 V 94 main_v47 main_c_11 main_v48 ((fun x v => Host.reduce IntOp.addi x v reducesTo_S163840x32_S163840_d1 h_S_) : (⟨S163840x32, .i32⟩ : BufTy).Contents (Elt F) → (⟨S_, .i32⟩ : BufTy).Contents (Elt F) → (⟨S163840, .i32⟩ : BufTy).Contents (Elt F)) rfl (by decide +kernel) (by decide +kernel) (by decide +kernel)
theorem e_main_v49 (V : Valuation τ sig (Elt F)) : E V main_v49 = (addi : (⟨S163840, .i32⟩ : BufTy).Contents (Elt F) → (⟨S163840, .i32⟩ : BufTy).Contents (Elt F) → (⟨S163840, .i32⟩ : BufTy).Contents (Elt F)) (E V main_v48) (E V main_v45) :=
  line2 V 95 _ _ _ _ rfl (by decide +kernel) (by decide +kernel) (by decide +kernel)
theorem e_main_c_12 (V : Valuation τ sig (Elt F)) : E V main_c_12 = ((constantI S_ 32 0#32) : main_c_12.ty.Contents (Elt F))  :=
  line0 V 96 _ _ rfl (by decide +kernel)
theorem e_main_c_13 (V : Valuation τ sig (Elt F)) : E V main_c_13 = ((constantI S_ 32 131071#32) : main_c_13.ty.Contents (Elt F))  :=
  line0 V 97 _ _ rfl (by decide +kernel)
theorem e_main_call8_v0 (V : Valuation τ sig (Elt F)) : E V main_call8_v0 = (id : (⟨S_, .i32⟩ : BufTy).Contents (Elt F) → (⟨S_, .i32⟩ : BufTy).Contents (Elt F)) (E V main_c_12) :=
  line1 V 98 _ _ _ rfl (by decide +kernel) (by decide +kernel)
theorem e_main_call8_v1 (V : Valuation τ sig (Elt F)) : E V main_call8_v1 = ((broadcastInDim S163840 ![] bcast_S_S163840) : (⟨S_, .i32⟩ : BufTy).Contents (Elt F) → (⟨S163840, .i32⟩ : BufTy).Contents (Elt F)) (E V main_call8_v0) :=
  line1 V 99 _ _ _ rfl (by decide +kernel) (by decide +kernel)

end Cert.KernelIdeal.Moe

end
-- ==== Proof.KI.Eqs3.lean ====
/- The host lines before the experts' call, each as an equation about what the buffers hold when the call begins. -/
module

public import proofs.«01_k».proof.Proof.KI.Lines

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem e_main_call8_v2 (V : Valuation τ sig (Elt F)) : E V main_call8_v2 = (maxsi : (⟨S163840, .i32⟩ : BufTy).Contents (Elt F) → (⟨S163840, .i32⟩ : BufTy).Contents (Elt F) → (⟨S163840, .i32⟩ : BufTy).Contents (Elt F)) (E V main_call8_v1) (E V main_v49) :=
  line2 V 100 _ _ _ _ rfl (by decide +kernel) (by decide +kernel) (by decide +kernel)
theorem e_main_call8_v3 (V : Valuation τ sig (Elt F)) : E V main_call8_v3 = (id : (⟨S_, .i32⟩ : BufTy).Contents (Elt F) → (⟨S_, .i32⟩ : BufTy).Contents (Elt F)) (E V main_c_13) :=
  line1 V 101 _ _ _ rfl (by decide +kernel) (by decide +kernel)
theorem e_main_call8_v4 (V : Valuation τ sig (Elt F)) : E V main_call8_v4 = ((broadcastInDim S163840 ![] bcast_S_S163840) : (⟨S_, .i32⟩ : BufTy).Contents (Elt F) → (⟨S163840, .i32⟩ : BufTy).Contents (Elt F)) (E V main_call8_v3) :=
  line1 V 102 _ _ _ rfl (by decide +kernel) (by decide +kernel)
theorem e_main_v50 (V : Valuation τ sig (Elt F)) : E V main_v50 = (minsi : (⟨S163840, .i32⟩ : BufTy).Contents (Elt F) → (⟨S163840, .i32⟩ : BufTy).Contents (Elt F) → (⟨S163840, .i32⟩ : BufTy).Contents (Elt F)) (E V main_call8_v4) (E V main_call8_v2) :=
  line2 V 103 _ _ _ _ rfl (by decide +kernel) (by decide +kernel) (by decide +kernel)
theorem e_main_v51 (V : Valuation τ sig (Elt F)) : E V main_v51 = (broadcastInDim S1x32 ![1] bcast_S32_S1x32_1 : (⟨S32, .i32⟩ : BufTy).Contents (Elt F) → (⟨S1x32, .i32⟩ : BufTy).Contents (Elt F)) (E V main_v8) :=
  line1 V 104 _ _ _ rfl (by decide +kernel) (by decide +kernel)
theorem e_main_c_14 (V : Valuation τ sig (Elt F)) : E V main_c_14 = ((constantI S_ 32 0#32) : main_c_14.ty.Contents (Elt F))  :=
  line0 V 105 _ _ rfl (by decide +kernel)
theorem e_main_call9_v0 (V : Valuation τ sig (Elt F)) : E V main_call9_v0 = (id : (⟨S_, .i32⟩ : BufTy).Contents (Elt F) → (⟨S_, .i32⟩ : BufTy).Contents (Elt F)) (E V main_c_14) :=
  line1 V 106 _ _ _ rfl (by decide +kernel) (by decide +kernel)
theorem e_main_call9_v1 (V : Valuation τ sig (Elt F)) : E V main_call9_v1 = ((broadcastInDim S163840x32 ![0, 1] bcast_S1x32_S163840x32_0_1) : (⟨S1x32, .i32⟩ : BufTy).Contents (Elt F) → (⟨S163840x32, .i32⟩ : BufTy).Contents (Elt F)) (E V main_v51) :=
  line1 V 107 _ _ _ rfl (by decide +kernel) (by decide +kernel)
theorem e_main_call9_v2 (V : Valuation τ sig (Elt F)) : E V main_call9_v2 = ((broadcastInDim S163840x32 ![] bcast_S_S163840x32) : (⟨S_, .i32⟩ : BufTy).Contents (Elt F) → (⟨S163840x32, .i32⟩ : BufTy).Contents (Elt F)) (E V main_call9_v0) :=
  line1 V 108 _ _ _ rfl (by decide +kernel) (by decide +kernel)
theorem e_main_v52 (V : Valuation τ sig (Elt F)) : E V main_v52 = (select : (⟨S163840x32, .i1⟩ : BufTy).Contents (Elt F) → (⟨S163840x32, .i32⟩ : BufTy).Contents (Elt F) → (⟨S163840x32, .i32⟩ : BufTy).Contents (Elt F) → (⟨S163840x32, .i32⟩ : BufTy).Contents (Elt F)) (E V main_v41) (E V main_call9_v1) (E V main_call9_v2) :=
  line3 V 109 _ _ _ _ _ rfl (by decide +kernel) (by decide +kernel) (by decide +kernel) (by decide +kernel)
theorem e_main_c_15 (V : Valuation τ sig (Elt F)) : E V main_c_15 = ((constantI S_ 32 0#32) : main_c_15.ty.Contents (Elt F))  :=
  line0 V 110 _ _ rfl (by decide +kernel)
theorem e_main_v53 (V : Valuation τ sig (Elt F)) : E V main_v53 = ((fun x v => Host.reduce IntOp.addi x v reducesTo_S163840x32_S163840_d1 h_S_) : (⟨S163840x32, .i32⟩ : BufTy).Contents (Elt F) → (⟨S_, .i32⟩ : BufTy).Contents (Elt F) → (⟨S163840, .i32⟩ : BufTy).Contents (Elt F)) (E V main_v52) (E V main_c_15) :=
  line2 V 111 main_v52 main_c_15 main_v53 ((fun x v => Host.reduce IntOp.addi x v reducesTo_S163840x32_S163840_d1 h_S_) : (⟨S163840x32, .i32⟩ : BufTy).Contents (Elt F) → (⟨S_, .i32⟩ : BufTy).Contents (Elt F) → (⟨S163840, .i32⟩ : BufTy).Contents (Elt F)) rfl (by decide +kernel) (by decide +kernel) (by decide +kernel)
theorem e_main_v54 (V : Valuation τ sig (Elt F)) : E V main_v54 = (cmpi .slt : (⟨S163840, .i32⟩ : BufTy).Contents (Elt F) → (⟨S163840, .i32⟩ : BufTy).Contents (Elt F) → (⟨S163840, .i1⟩ : BufTy).Contents (Elt F)) (E V main_v45) (E V main_v53) :=
  line2 V 112 _ _ _ _ rfl (by decide +kernel) (by decide +kernel) (by decide +kernel)
theorem e_main_c_16 (V : Valuation τ sig (Elt F)) : E V main_c_16 = ((constantI S_ 32 0#32) : main_c_16.ty.Contents (Elt F))  :=
  line0 V 113 _ _ rfl (by decide +kernel)
theorem e_main_v55 (V : Valuation τ sig (Elt F)) : E V main_v55 = (broadcastInDim S163840 ![] bcast_S_S163840 : (⟨S_, .i32⟩ : BufTy).Contents (Elt F) → (⟨S163840, .i32⟩ : BufTy).Contents (Elt F)) (E V main_c_16) :=
  line1 V 114 _ _ _ rfl (by decide +kernel) (by decide +kernel)
theorem e_main_v56 (V : Valuation τ sig (Elt F)) : E V main_v56 = (cmpi .slt : (⟨S163840, .i32⟩ : BufTy).Contents (Elt F) → (⟨S163840, .i32⟩ : BufTy).Contents (Elt F) → (⟨S163840, .i1⟩ : BufTy).Contents (Elt F)) (E V main_v50) (E V main_v55) :=
  line2 V 115 _ _ _ _ rfl (by decide +kernel) (by decide +kernel) (by decide +kernel)
theorem e_main_c_17 (V : Valuation τ sig (Elt F)) : E V main_c_17 = ((constantI S_ 32 131072#32) : main_c_17.ty.Contents (Elt F))  :=
  line0 V 116 _ _ rfl (by decide +kernel)
theorem e_main_v57 (V : Valuation τ sig (Elt F)) : E V main_v57 = (broadcastInDim S163840 ![] bcast_S_S163840 : (⟨S_, .i32⟩ : BufTy).Contents (Elt F) → (⟨S163840, .i32⟩ : BufTy).Contents (Elt F)) (E V main_c_17) :=
  line1 V 117 _ _ _ rfl (by decide +kernel) (by decide +kernel)
theorem e_main_v58 (V : Valuation τ sig (Elt F)) : E V main_v58 = (addi : (⟨S163840, .i32⟩ : BufTy).Contents (Elt F) → (⟨S163840, .i32⟩ : BufTy).Contents (Elt F) → (⟨S163840, .i32⟩ : BufTy).Contents (Elt F)) (E V main_v50) (E V main_v57) :=
  line2 V 118 _ _ _ _ rfl (by decide +kernel) (by decide +kernel) (by decide +kernel)
theorem e_main_v59 (V : Valuation τ sig (Elt F)) : E V main_v59 = (select : (⟨S163840, .i1⟩ : BufTy).Contents (Elt F) → (⟨S163840, .i32⟩ : BufTy).Contents (Elt F) → (⟨S163840, .i32⟩ : BufTy).Contents (Elt F) → (⟨S163840, .i32⟩ : BufTy).Contents (Elt F)) (E V main_v56) (E V main_v58) (E V main_v50) :=
  line3 V 119 _ _ _ _ _ rfl (by decide +kernel) (by decide +kernel) (by decide +kernel) (by decide +kernel)
theorem e_main_v60 (V : Valuation τ sig (Elt F)) : E V main_v60 = (broadcastInDim S163840x1 ![0] bcast_S163840_S163840x1_0 : (⟨S163840, .i32⟩ : BufTy).Contents (Elt F) → (⟨S163840x1, .i32⟩ : BufTy).Contents (Elt F)) (E V main_v59) :=
  line1 V 120 _ _ _ rfl (by decide +kernel) (by decide +kernel)
theorem e_main_v61 (V : Valuation τ sig (Elt F)) : E V main_v61 = ((fun x i => Host.gather gather_S131072_S163840x1_S163840_n_0_n_n_0_1_1 x i) : (⟨S131072, .i32⟩ : BufTy).Contents (Elt F) → (⟨S163840x1, .i32⟩ : BufTy).Contents (Elt F) → (⟨S163840, .i32⟩ : BufTy).Contents (Elt F)) (E V main_v20) (E V main_v60) :=
  line2 V 121 main_v20 main_v60 main_v61 ((fun x i => Host.gather gather_S131072_S163840x1_S163840_n_0_n_n_0_1_1 x i) : (⟨S131072, .i32⟩ : BufTy).Contents (Elt F) → (⟨S163840x1, .i32⟩ : BufTy).Contents (Elt F) → (⟨S163840, .i32⟩ : BufTy).Contents (Elt F)) rfl (by decide +kernel) (by decide +kernel) (by decide +kernel)
theorem e_main_c_18 (V : Valuation τ sig (Elt F)) : E V main_c_18 = ((constantI S_ 32 4#32) : main_c_18.ty.Contents (Elt F))  :=
  line0 V 122 _ _ rfl (by decide +kernel)
theorem e_main_call10_v0 (V : Valuation τ sig (Elt F)) : E V main_call10_v0 = (id : (⟨S_, .i32⟩ : BufTy).Contents (Elt F) → (⟨S_, .i32⟩ : BufTy).Contents (Elt F)) (E V main_c_18) :=
  line1 V 123 _ _ _ rfl (by decide +kernel) (by decide +kernel)
theorem e_main_call10_v1 (V : Valuation τ sig (Elt F)) : E V main_call10_v1 = ((broadcastInDim S163840 ![] bcast_S_S163840) : (⟨S_, .i32⟩ : BufTy).Contents (Elt F) → (⟨S163840, .i32⟩ : BufTy).Contents (Elt F)) (E V main_call10_v0) :=
  line1 V 124 _ _ _ rfl (by decide +kernel) (by decide +kernel)
theorem e_main_call10_v2 (V : Valuation τ sig (Elt F)) : E V main_call10_v2 = (Host.divsi : (⟨S163840, .i32⟩ : BufTy).Contents (Elt F) → (⟨S163840, .i32⟩ : BufTy).Contents (Elt F) → (⟨S163840, .i32⟩ : BufTy).Contents (Elt F)) (E V main_v61) (E V main_call10_v1) :=
  line2 V 125 _ _ _ _ rfl (by decide +kernel) (by decide +kernel) (by decide +kernel)
theorem e_main_call10_v3 (V : Valuation τ sig (Elt F)) : E V main_call10_v3 = (signi : (⟨S163840, .i32⟩ : BufTy).Contents (Elt F) → (⟨S163840, .i32⟩ : BufTy).Contents (Elt F)) (E V main_v61) :=
  line1 V 126 _ _ _ rfl (by decide +kernel) (by decide +kernel)
theorem e_main_call10_v4 (V : Valuation τ sig (Elt F)) : E V main_call10_v4 = (signi : (⟨S_, .i32⟩ : BufTy).Contents (Elt F) → (⟨S_, .i32⟩ : BufTy).Contents (Elt F)) (E V main_call10_v0) :=
  line1 V 127 _ _ _ rfl (by decide +kernel) (by decide +kernel)
theorem e_main_call10_v5 (V : Valuation τ sig (Elt F)) : E V main_call10_v5 = ((broadcastInDim S163840 ![] bcast_S_S163840) : (⟨S_, .i32⟩ : BufTy).Contents (Elt F) → (⟨S163840, .i32⟩ : BufTy).Contents (Elt F)) (E V main_call10_v4) :=
  line1 V 128 _ _ _ rfl (by decide +kernel) (by decide +kernel)
theorem e_main_call10_v6 (V : Valuation τ sig (Elt F)) : E V main_call10_v6 = ((cmpi .ne) : (⟨S163840, .i32⟩ : BufTy).Contents (Elt F) → (⟨S163840, .i32⟩ : BufTy).Contents (Elt F) → (⟨S163840, .i1⟩ : BufTy).Contents (Elt F)) (E V main_call10_v3) (E V main_call10_v5) :=
  line2 V 129 _ _ _ _ rfl (by decide +kernel) (by decide +kernel) (by decide +kernel)
theorem e_main_call10_v7 (V : Valuation τ sig (Elt F)) : E V main_call10_v7 = ((broadcastInDim S163840 ![] bcast_S_S163840) : (⟨S_, .i32⟩ : BufTy).Contents (Elt F) → (⟨S163840, .i32⟩ : BufTy).Contents (Elt F)) (E V main_call10_v0) :=
  line1 V 130 _ _ _ rfl (by decide +kernel) (by decide +kernel)
theorem e_main_call10_v8 (V : Valuation τ sig (Elt F)) : E V main_call10_v8 = (Host.remsi : (⟨S163840, .i32⟩ : BufTy).Contents (Elt F) → (⟨S163840, .i32⟩ : BufTy).Contents (Elt F) → (⟨S163840, .i32⟩ : BufTy).Contents (Elt F)) (E V main_v61) (E V main_call10_v7) :=
  line2 V 131 _ _ _ _ rfl (by decide +kernel) (by decide +kernel) (by decide +kernel)
theorem e_main_call10_c (V : Valuation τ sig (Elt F)) : E V main_call10_c = ((constantI S_ 32 0#32) : (⟨S_, .i32⟩ : BufTy).Contents (Elt F))  :=
  line0 V 132 _ _ rfl (by decide +kernel)
theorem e_main_call10_v9 (V : Valuation τ sig (Elt F)) : E V main_call10_v9 = ((broadcastInDim S163840 ![] bcast_S_S163840) : (⟨S_, .i32⟩ : BufTy).Contents (Elt F) → (⟨S163840, .i32⟩ : BufTy).Contents (Elt F)) (E V main_call10_c) :=
  line1 V 133 _ _ _ rfl (by decide +kernel) (by decide +kernel)
theorem e_main_call10_v10 (V : Valuation τ sig (Elt F)) : E V main_call10_v10 = ((cmpi .ne) : (⟨S163840, .i32⟩ : BufTy).Contents (Elt F) → (⟨S163840, .i32⟩ : BufTy).Contents (Elt F) → (⟨S163840, .i1⟩ : BufTy).Contents (Elt F)) (E V main_call10_v8) (E V main_call10_v9) :=
  line2 V 134 _ _ _ _ rfl (by decide +kernel) (by decide +kernel) (by decide +kernel)
theorem e_main_call10_v11 (V : Valuation τ sig (Elt F)) : E V main_call10_v11 = (andi : (⟨S163840, .i1⟩ : BufTy).Contents (Elt F) → (⟨S163840, .i1⟩ : BufTy).Contents (Elt F) → (⟨S163840, .i1⟩ : BufTy).Contents (Elt F)) (E V main_call10_v6) (E V main_call10_v10) :=
  line2 V 135 _ _ _ _ rfl (by decide +kernel) (by decide +kernel) (by decide +kernel)
theorem e_main_call10_c_0 (V : Valuation τ sig (Elt F)) : E V main_call10_c_0 = ((constantI S_ 32 1#32) : (⟨S_, .i32⟩ : BufTy).Contents (Elt F))  :=
  line0 V 136 _ _ rfl (by decide +kernel)
theorem e_main_call10_v12 (V : Valuation τ sig (Elt F)) : E V main_call10_v12 = ((broadcastInDim S163840 ![] bcast_S_S163840) : (⟨S_, .i32⟩ : BufTy).Contents (Elt F) → (⟨S163840, .i32⟩ : BufTy).Contents (Elt F)) (E V main_call10_c_0) :=
  line1 V 137 _ _ _ rfl (by decide +kernel) (by decide +kernel)
theorem e_main_call10_v13 (V : Valuation τ sig (Elt F)) : E V main_call10_v13 = (subi : (⟨S163840, .i32⟩ : BufTy).Contents (Elt F) → (⟨S163840, .i32⟩ : BufTy).Contents (Elt F) → (⟨S163840, .i32⟩ : BufTy).Contents (Elt F)) (E V main_call10_v2) (E V main_call10_v12) :=
  line2 V 138 _ _ _ _ rfl (by decide +kernel) (by decide +kernel) (by decide +kernel)
theorem e_main_v62 (V : Valuation τ sig (Elt F)) : E V main_v62 = (select : (⟨S163840, .i1⟩ : BufTy).Contents (Elt F) → (⟨S163840, .i32⟩ : BufTy).Contents (Elt F) → (⟨S163840, .i32⟩ : BufTy).Contents (Elt F) → (⟨S163840, .i32⟩ : BufTy).Contents (Elt F)) (E V main_call10_v11) (E V main_call10_v13) (E V main_call10_v2) :=
  line3 V 139 _ _ _ _ _ rfl (by decide +kernel) (by decide +kernel) (by decide +kernel) (by decide +kernel)
theorem e_main_c_19 (V : Valuation τ sig (Elt F)) : E V main_c_19 = ((constantI S_ 32 32768#32) : main_c_19.ty.Contents (Elt F))  :=
  line0 V 140 _ _ rfl (by decide +kernel)
theorem e_main_call11_v0 (V : Valuation τ sig (Elt F)) : E V main_call11_v0 = (id : (⟨S_, .i32⟩ : BufTy).Contents (Elt F) → (⟨S_, .i32⟩ : BufTy).Contents (Elt F)) (E V main_c_19) :=
  line1 V 141 _ _ _ rfl (by decide +kernel) (by decide +kernel)
theorem e_main_call11_c (V : Valuation τ sig (Elt F)) : E V main_call11_c = ((constantI S_ 32 0#32) : (⟨S_, .i32⟩ : BufTy).Contents (Elt F))  :=
  line0 V 142 _ _ rfl (by decide +kernel)
theorem e_main_call11_v1 (V : Valuation τ sig (Elt F)) : E V main_call11_v1 = ((cmpi .eq) : (⟨S_, .i32⟩ : BufTy).Contents (Elt F) → (⟨S_, .i32⟩ : BufTy).Contents (Elt F) → (⟨S_, .i1⟩ : BufTy).Contents (Elt F)) (E V main_call11_v0) (E V main_call11_c) :=
  line2 V 143 _ _ _ _ rfl (by decide +kernel) (by decide +kernel) (by decide +kernel)
theorem e_main_call11_c_0 (V : Valuation τ sig (Elt F)) : E V main_call11_c_0 = ((constantI S_ 32 1#32) : (⟨S_, .i32⟩ : BufTy).Contents (Elt F))  :=
  line0 V 144 _ _ rfl (by decide +kernel)
theorem e_main_call11_v2 (V : Valuation τ sig (Elt F)) : E V main_call11_v2 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (E V main_call11_v1) (E V main_call11_c_0) (E V main_call11_v0) :=
  line3 V 145 _ _ _ _ _ rfl (by decide +kernel) (by decide +kernel) (by decide +kernel) (by decide +kernel)
theorem e_main_call11_v3 (V : Valuation τ sig (Elt F)) : E V main_call11_v3 = ((broadcastInDim S163840 ![] bcast_S_S163840) : (⟨S_, .i32⟩ : BufTy).Contents (Elt F) → (⟨S163840, .i32⟩ : BufTy).Contents (Elt F)) (E V main_call11_v2) :=
  line1 V 146 _ _ _ rfl (by decide +kernel) (by decide +kernel)
theorem e_main_call11_v4 (V : Valuation τ sig (Elt F)) : E V main_call11_v4 = (Host.remsi : (⟨S163840, .i32⟩ : BufTy).Contents (Elt F) → (⟨S163840, .i32⟩ : BufTy).Contents (Elt F) → (⟨S163840, .i32⟩ : BufTy).Contents (Elt F)) (E V main_v27) (E V main_call11_v3) :=
  line2 V 147 _ _ _ _ rfl (by decide +kernel) (by decide +kernel) (by decide +kernel)
theorem e_main_call11_c_1 (V : Valuation τ sig (Elt F)) : E V main_call11_c_1 = ((constantI S_ 32 0#32) : (⟨S_, .i32⟩ : BufTy).Contents (Elt F))  :=
  line0 V 148 _ _ rfl (by decide +kernel)
theorem e_main_call11_v5 (V : Valuation τ sig (Elt F)) : E V main_call11_v5 = ((broadcastInDim S163840 ![] bcast_S_S163840) : (⟨S_, .i32⟩ : BufTy).Contents (Elt F) → (⟨S163840, .i32⟩ : BufTy).Contents (Elt F)) (E V main_call11_c_1) :=
  line1 V 149 _ _ _ rfl (by decide +kernel) (by decide +kernel)

end Cert.KernelIdeal.Moe

end
-- ==== Proof.KI.Eqs4.lean ====
/- The host lines before the experts' call, each as an equation about what the buffers hold when the call begins. -/
module

public import proofs.«01_k».proof.Proof.KI.Lines

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] Host.reduceWindow extractStridedSlice

theorem e_main_call11_v6 (V : Valuation τ sig (Elt F)) : E V main_call11_v6 = ((cmpi .ne) : (⟨S163840, .i32⟩ : BufTy).Contents (Elt F) → (⟨S163840, .i32⟩ : BufTy).Contents (Elt F) → (⟨S163840, .i1⟩ : BufTy).Contents (Elt F)) (E V main_call11_v4) (E V main_call11_v5) :=
  line2 V 150 _ _ _ _ rfl (by decide +kernel) (by decide +kernel) (by decide +kernel)
theorem e_main_call11_c_2 (V : Valuation τ sig (Elt F)) : E V main_call11_c_2 = ((constantI S_ 32 0#32) : (⟨S_, .i32⟩ : BufTy).Contents (Elt F))  :=
  line0 V 151 _ _ rfl (by decide +kernel)
theorem e_main_call11_v7 (V : Valuation τ sig (Elt F)) : E V main_call11_v7 = ((broadcastInDim S163840 ![] bcast_S_S163840) : (⟨S_, .i32⟩ : BufTy).Contents (Elt F) → (⟨S163840, .i32⟩ : BufTy).Contents (Elt F)) (E V main_call11_c_2) :=
  line1 V 152 _ _ _ rfl (by decide +kernel) (by decide +kernel)
theorem e_main_call11_v8 (V : Valuation τ sig (Elt F)) : E V main_call11_v8 = ((cmpi .slt) : (⟨S163840, .i32⟩ : BufTy).Contents (Elt F) → (⟨S163840, .i32⟩ : BufTy).Contents (Elt F) → (⟨S163840, .i1⟩ : BufTy).Contents (Elt F)) (E V main_call11_v4) (E V main_call11_v7) :=
  line2 V 153 _ _ _ _ rfl (by decide +kernel) (by decide +kernel) (by decide +kernel)
theorem e_main_call11_c_3 (V : Valuation τ sig (Elt F)) : E V main_call11_c_3 = ((constantI S_ 32 0#32) : (⟨S_, .i32⟩ : BufTy).Contents (Elt F))  :=
  line0 V 154 _ _ rfl (by decide +kernel)
theorem e_main_call11_v9 (V : Valuation τ sig (Elt F)) : E V main_call11_v9 = ((cmpi .slt) : (⟨S_, .i32⟩ : BufTy).Contents (Elt F) → (⟨S_, .i32⟩ : BufTy).Contents (Elt F) → (⟨S_, .i1⟩ : BufTy).Contents (Elt F)) (E V main_call11_v2) (E V main_call11_c_3) :=
  line2 V 155 _ _ _ _ rfl (by decide +kernel) (by decide +kernel) (by decide +kernel)
theorem e_main_call11_v10 (V : Valuation τ sig (Elt F)) : E V main_call11_v10 = ((broadcastInDim S163840 ![] bcast_S_S163840) : (⟨S_, .i1⟩ : BufTy).Contents (Elt F) → (⟨S163840, .i1⟩ : BufTy).Contents (Elt F)) (E V main_call11_v9) :=
  line1 V 156 _ _ _ rfl (by decide +kernel) (by decide +kernel)
theorem e_main_call11_v11 (V : Valuation τ sig (Elt F)) : E V main_call11_v11 = ((cmpi .ne) : (⟨S163840, .i1⟩ : BufTy).Contents (Elt F) → (⟨S163840, .i1⟩ : BufTy).Contents (Elt F) → (⟨S163840, .i1⟩ : BufTy).Contents (Elt F)) (E V main_call11_v8) (E V main_call11_v10) :=
  line2 V 157 _ _ _ _ rfl (by decide +kernel) (by decide +kernel) (by decide +kernel)
theorem e_main_call11_v12 (V : Valuation τ sig (Elt F)) : E V main_call11_v12 = (andi : (⟨S163840, .i1⟩ : BufTy).Contents (Elt F) → (⟨S163840, .i1⟩ : BufTy).Contents (Elt F) → (⟨S163840, .i1⟩ : BufTy).Contents (Elt F)) (E V main_call11_v11) (E V main_call11_v6) :=
  line2 V 158 _ _ _ _ rfl (by decide +kernel) (by decide +kernel) (by decide +kernel)
theorem e_main_call11_v13 (V : Valuation τ sig (Elt F)) : E V main_call11_v13 = ((broadcastInDim S163840 ![] bcast_S_S163840) : (⟨S_, .i32⟩ : BufTy).Contents (Elt F) → (⟨S163840, .i32⟩ : BufTy).Contents (Elt F)) (E V main_call11_v2) :=
  line1 V 159 _ _ _ rfl (by decide +kernel) (by decide +kernel)
theorem e_main_call11_v14 (V : Valuation τ sig (Elt F)) : E V main_call11_v14 = (addi : (⟨S163840, .i32⟩ : BufTy).Contents (Elt F) → (⟨S163840, .i32⟩ : BufTy).Contents (Elt F) → (⟨S163840, .i32⟩ : BufTy).Contents (Elt F)) (E V main_call11_v4) (E V main_call11_v13) :=
  line2 V 160 _ _ _ _ rfl (by decide +kernel) (by decide +kernel) (by decide +kernel)
theorem e_main_v63 (V : Valuation τ sig (Elt F)) : E V main_v63 = (select : (⟨S163840, .i1⟩ : BufTy).Contents (Elt F) → (⟨S163840, .i32⟩ : BufTy).Contents (Elt F) → (⟨S163840, .i32⟩ : BufTy).Contents (Elt F) → (⟨S163840, .i32⟩ : BufTy).Contents (Elt F)) (E V main_call11_v12) (E V main_call11_v14) (E V main_call11_v4) :=
  line3 V 161 _ _ _ _ _ rfl (by decide +kernel) (by decide +kernel) (by decide +kernel) (by decide +kernel)
theorem e_main_v64 (V : Valuation τ sig (Elt F)) : E V main_v64 = (select : (⟨S163840, .i1⟩ : BufTy).Contents (Elt F) → (⟨S163840, .i32⟩ : BufTy).Contents (Elt F) → (⟨S163840, .i32⟩ : BufTy).Contents (Elt F) → (⟨S163840, .i32⟩ : BufTy).Contents (Elt F)) (E V main_v54) (E V main_v62) (E V main_v63) :=
  line3 V 162 _ _ _ _ _ rfl (by decide +kernel) (by decide +kernel) (by decide +kernel) (by decide +kernel)
theorem e_main_v65 (V : Valuation τ sig (Elt F)) : E V main_v65 = ((iotaInDim S160 32 0) : main_v65.ty.Contents (Elt F))  :=
  line0 V 163 _ _ rfl (by decide +kernel)
theorem e_main_v66 (V : Valuation τ sig (Elt F)) : E V main_v66 = ((extractStridedSlice S1 ![31] · slices_S32_S1_31) : (⟨S32, .i32⟩ : BufTy).Contents (Elt F) → (⟨S1, .i32⟩ : BufTy).Contents (Elt F)) (E V main_v16) :=
  line1 V 164 _ _ _ rfl (by decide +kernel) (by decide +kernel)
theorem e_main_v67 (V : Valuation τ sig (Elt F)) : E V main_v67 = shapeCast S_ (E V main_v66) shapeCasts_S1_S_ := lineR V 165 main_v66 main_v67 rfl (by decide +kernel) (by decide +kernel)
theorem e_main_c_20 (V : Valuation τ sig (Elt F)) : E V main_c_20 = ((constantI S_ 32 1024#32) : main_c_20.ty.Contents (Elt F))  :=
  line0 V 166 _ _ rfl (by decide +kernel)
theorem e_main_call13_v0 (V : Valuation τ sig (Elt F)) : E V main_call13_v0 = (id : (⟨S_, .i32⟩ : BufTy).Contents (Elt F) → (⟨S_, .i32⟩ : BufTy).Contents (Elt F)) (E V main_c_20) :=
  line1 V 167 _ _ _ rfl (by decide +kernel) (by decide +kernel)
theorem e_main_call13_v1 (V : Valuation τ sig (Elt F)) : E V main_call13_v1 = (Host.divsi : (⟨S_, .i32⟩ : BufTy).Contents (Elt F) → (⟨S_, .i32⟩ : BufTy).Contents (Elt F) → (⟨S_, .i32⟩ : BufTy).Contents (Elt F)) (E V main_v67) (E V main_call13_v0) :=
  line2 V 168 _ _ _ _ rfl (by decide +kernel) (by decide +kernel) (by decide +kernel)
theorem e_main_call13_v2 (V : Valuation τ sig (Elt F)) : E V main_call13_v2 = (signi : (⟨S_, .i32⟩ : BufTy).Contents (Elt F) → (⟨S_, .i32⟩ : BufTy).Contents (Elt F)) (E V main_v67) :=
  line1 V 169 _ _ _ rfl (by decide +kernel) (by decide +kernel)
theorem e_main_call13_v3 (V : Valuation τ sig (Elt F)) : E V main_call13_v3 = (signi : (⟨S_, .i32⟩ : BufTy).Contents (Elt F) → (⟨S_, .i32⟩ : BufTy).Contents (Elt F)) (E V main_call13_v0) :=
  line1 V 170 _ _ _ rfl (by decide +kernel) (by decide +kernel)
theorem e_main_call13_v4 (V : Valuation τ sig (Elt F)) : E V main_call13_v4 = ((cmpi .ne) : (⟨S_, .i32⟩ : BufTy).Contents (Elt F) → (⟨S_, .i32⟩ : BufTy).Contents (Elt F) → (⟨S_, .i1⟩ : BufTy).Contents (Elt F)) (E V main_call13_v2) (E V main_call13_v3) :=
  line2 V 171 _ _ _ _ rfl (by decide +kernel) (by decide +kernel) (by decide +kernel)
theorem e_main_call13_v5 (V : Valuation τ sig (Elt F)) : E V main_call13_v5 = (Host.remsi : (⟨S_, .i32⟩ : BufTy).Contents (Elt F) → (⟨S_, .i32⟩ : BufTy).Contents (Elt F) → (⟨S_, .i32⟩ : BufTy).Contents (Elt F)) (E V main_v67) (E V main_call13_v0) :=
  line2 V 172 _ _ _ _ rfl (by decide +kernel) (by decide +kernel) (by decide +kernel)
theorem e_main_call13_c (V : Valuation τ sig (Elt F)) : E V main_call13_c = ((constantI S_ 32 0#32) : (⟨S_, .i32⟩ : BufTy).Contents (Elt F))  :=
  line0 V 173 _ _ rfl (by decide +kernel)
theorem e_main_call13_v6 (V : Valuation τ sig (Elt F)) : E V main_call13_v6 = ((cmpi .ne) : (⟨S_, .i32⟩ : BufTy).Contents (Elt F) → (⟨S_, .i32⟩ : BufTy).Contents (Elt F) → (⟨S_, .i1⟩ : BufTy).Contents (Elt F)) (E V main_call13_v5) (E V main_call13_c) :=
  line2 V 174 _ _ _ _ rfl (by decide +kernel) (by decide +kernel) (by decide +kernel)
theorem e_main_call13_v7 (V : Valuation τ sig (Elt F)) : E V main_call13_v7 = (andi : (⟨S_, .i1⟩ : BufTy).Contents (Elt F) → (⟨S_, .i1⟩ : BufTy).Contents (Elt F) → (⟨S_, .i1⟩ : BufTy).Contents (Elt F)) (E V main_call13_v4) (E V main_call13_v6) :=
  line2 V 175 _ _ _ _ rfl (by decide +kernel) (by decide +kernel) (by decide +kernel)
theorem e_main_call13_c_0 (V : Valuation τ sig (Elt F)) : E V main_call13_c_0 = ((constantI S_ 32 1#32) : (⟨S_, .i32⟩ : BufTy).Contents (Elt F))  :=
  line0 V 176 _ _ rfl (by decide +kernel)
theorem e_main_call13_v8 (V : Valuation τ sig (Elt F)) : E V main_call13_v8 = (subi : (⟨S_, .i32⟩ : BufTy).Contents (Elt F) → (⟨S_, .i32⟩ : BufTy).Contents (Elt F) → (⟨S_, .i32⟩ : BufTy).Contents (Elt F)) (E V main_call13_v1) (E V main_call13_c_0) :=
  line2 V 177 _ _ _ _ rfl (by decide +kernel) (by decide +kernel) (by decide +kernel)
theorem e_main_v68 (V : Valuation τ sig (Elt F)) : E V main_v68 = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (E V main_call13_v7) (E V main_call13_v8) (E V main_call13_v1) :=
  line3 V 178 _ _ _ _ _ rfl (by decide +kernel) (by decide +kernel) (by decide +kernel) (by decide +kernel)
theorem e_main_c_21 (V : Valuation τ sig (Elt F)) : E V main_c_21 = ((constantI S_ 32 1#32) : main_c_21.ty.Contents (Elt F))  :=
  line0 V 179 _ _ rfl (by decide +kernel)
theorem e_main_v69 (V : Valuation τ sig (Elt F)) : E V main_v69 = (subi : (⟨S_, .i32⟩ : BufTy).Contents (Elt F) → (⟨S_, .i32⟩ : BufTy).Contents (Elt F) → (⟨S_, .i32⟩ : BufTy).Contents (Elt F)) (E V main_v68) (E V main_c_21) :=
  line2 V 180 _ _ _ _ rfl (by decide +kernel) (by decide +kernel) (by decide +kernel)
theorem e_main_v70 (V : Valuation τ sig (Elt F)) : E V main_v70 = (broadcastInDim S160 ![] bcast_S_S160 : (⟨S_, .i32⟩ : BufTy).Contents (Elt F) → (⟨S160, .i32⟩ : BufTy).Contents (Elt F)) (E V main_v69) :=
  line1 V 181 _ _ _ rfl (by decide +kernel) (by decide +kernel)
theorem e_main_v71 (V : Valuation τ sig (Elt F)) : E V main_v71 = (minsi : (⟨S160, .i32⟩ : BufTy).Contents (Elt F) → (⟨S160, .i32⟩ : BufTy).Contents (Elt F) → (⟨S160, .i32⟩ : BufTy).Contents (Elt F)) (E V main_v65) (E V main_v70) :=
  line2 V 182 _ _ _ _ rfl (by decide +kernel) (by decide +kernel) (by decide +kernel)
theorem e_main_c_22 (V : Valuation τ sig (Elt F)) : E V main_c_22 = ((constantI S_ 32 1024#32) : main_c_22.ty.Contents (Elt F))  :=
  line0 V 183 _ _ rfl (by decide +kernel)
theorem e_main_v72 (V : Valuation τ sig (Elt F)) : E V main_v72 = (broadcastInDim S160 ![] bcast_S_S160 : (⟨S_, .i32⟩ : BufTy).Contents (Elt F) → (⟨S160, .i32⟩ : BufTy).Contents (Elt F)) (E V main_c_22) :=
  line1 V 184 _ _ _ rfl (by decide +kernel) (by decide +kernel)
theorem e_main_v73 (V : Valuation τ sig (Elt F)) : E V main_v73 = (muli : (⟨S160, .i32⟩ : BufTy).Contents (Elt F) → (⟨S160, .i32⟩ : BufTy).Contents (Elt F) → (⟨S160, .i32⟩ : BufTy).Contents (Elt F)) (E V main_v71) (E V main_v72) :=
  line2 V 185 _ _ _ _ rfl (by decide +kernel) (by decide +kernel) (by decide +kernel)
theorem e_main_v74 (V : Valuation τ sig (Elt F)) : E V main_v74 = (broadcastInDim S160x1 ![0] bcast_S160_S160x1_0 : (⟨S160, .i32⟩ : BufTy).Contents (Elt F) → (⟨S160x1, .i32⟩ : BufTy).Contents (Elt F)) (E V main_v73) :=
  line1 V 186 _ _ _ rfl (by decide +kernel) (by decide +kernel)
theorem e_main_v75 (V : Valuation τ sig (Elt F)) : E V main_v75 = (broadcastInDim S1x32 ![1] bcast_S32_S1x32_1 : (⟨S32, .i32⟩ : BufTy).Contents (Elt F) → (⟨S1x32, .i32⟩ : BufTy).Contents (Elt F)) (E V main_v16) :=
  line1 V 187 _ _ _ rfl (by decide +kernel) (by decide +kernel)
theorem e_main_v76 (V : Valuation τ sig (Elt F)) : E V main_v76 = (broadcastInDim S160x32 ![0, 1] bcast_S160x1_S160x32_0_1 : (⟨S160x1, .i32⟩ : BufTy).Contents (Elt F) → (⟨S160x32, .i32⟩ : BufTy).Contents (Elt F)) (E V main_v74) :=
  line1 V 188 _ _ _ rfl (by decide +kernel) (by decide +kernel)
theorem e_main_v77 (V : Valuation τ sig (Elt F)) : E V main_v77 = (broadcastInDim S160x32 ![0, 1] bcast_S1x32_S160x32_0_1 : (⟨S1x32, .i32⟩ : BufTy).Contents (Elt F) → (⟨S160x32, .i32⟩ : BufTy).Contents (Elt F)) (E V main_v75) :=
  line1 V 189 _ _ _ rfl (by decide +kernel) (by decide +kernel)
theorem e_main_v78 (V : Valuation τ sig (Elt F)) : E V main_v78 = (cmpi .sge : (⟨S160x32, .i32⟩ : BufTy).Contents (Elt F) → (⟨S160x32, .i32⟩ : BufTy).Contents (Elt F) → (⟨S160x32, .i1⟩ : BufTy).Contents (Elt F)) (E V main_v76) (E V main_v77) :=
  line2 V 190 _ _ _ _ rfl (by decide +kernel) (by decide +kernel) (by decide +kernel)
theorem e_main_v79 (V : Valuation τ sig (Elt F)) : E V main_v79 = ((extui 32 · natLt_1_32) : (⟨S160x32, .i1⟩ : BufTy).Contents (Elt F) → (⟨S160x32, .i32⟩ : BufTy).Contents (Elt F)) (E V main_v78) :=
  line1 V 191 _ _ _ rfl (by decide +kernel) (by decide +kernel)
theorem e_main_c_23 (V : Valuation τ sig (Elt F)) : E V main_c_23 = ((constantI S_ 32 0#32) : main_c_23.ty.Contents (Elt F))  :=
  line0 V 192 _ _ rfl (by decide +kernel)
theorem e_main_v80 (V : Valuation τ sig (Elt F)) : E V main_v80 = ((fun x v => Host.reduce IntOp.addi x v reducesTo_S160x32_S160_d1 h_S_) : (⟨S160x32, .i32⟩ : BufTy).Contents (Elt F) → (⟨S_, .i32⟩ : BufTy).Contents (Elt F) → (⟨S160, .i32⟩ : BufTy).Contents (Elt F)) (E V main_v79) (E V main_c_23) :=
  line2 V 193 main_v79 main_c_23 main_v80 ((fun x v => Host.reduce IntOp.addi x v reducesTo_S160x32_S160_d1 h_S_) : (⟨S160x32, .i32⟩ : BufTy).Contents (Elt F) → (⟨S_, .i32⟩ : BufTy).Contents (Elt F) → (⟨S160, .i32⟩ : BufTy).Contents (Elt F)) rfl (by decide +kernel) (by decide +kernel) (by decide +kernel)
theorem e_main_c_24 (V : Valuation τ sig (Elt F)) : E V main_c_24 = ((constantI S_ 32 31#32) : main_c_24.ty.Contents (Elt F))  :=
  line0 V 194 _ _ rfl (by decide +kernel)
theorem e_main_v81 (V : Valuation τ sig (Elt F)) : E V main_v81 = (broadcastInDim S160 ![] bcast_S_S160 : (⟨S_, .i32⟩ : BufTy).Contents (Elt F) → (⟨S160, .i32⟩ : BufTy).Contents (Elt F)) (E V main_c_24) :=
  line1 V 195 _ _ _ rfl (by decide +kernel) (by decide +kernel)
theorem e_main_v82 (V : Valuation τ sig (Elt F)) : E V main_v82 = (minsi : (⟨S160, .i32⟩ : BufTy).Contents (Elt F) → (⟨S160, .i32⟩ : BufTy).Contents (Elt F) → (⟨S160, .i32⟩ : BufTy).Contents (Elt F)) (E V main_v80) (E V main_v81) :=
  line2 V 196 _ _ _ _ rfl (by decide +kernel) (by decide +kernel) (by decide +kernel)
theorem e_main_v83 (V : Valuation τ sig (Elt F)) : E V main_v83 = (broadcastInDim S160x1 ![0] bcast_S160_S160x1_0 : (⟨S160, .i32⟩ : BufTy).Contents (Elt F) → (⟨S160x1, .i32⟩ : BufTy).Contents (Elt F)) (E V main_v82) :=
  line1 V 197 _ _ _ rfl (by decide +kernel) (by decide +kernel)
theorem e_main_v84 (V : Valuation τ sig (Elt F)) : E V main_v84 = (broadcastInDim S1x32 ![1] bcast_S32_S1x32_1 : (⟨S32, .i32⟩ : BufTy).Contents (Elt F) → (⟨S1x32, .i32⟩ : BufTy).Contents (Elt F)) (E V main_v1) :=
  line1 V 198 _ _ _ rfl (by decide +kernel) (by decide +kernel)
theorem e_main_v85 (V : Valuation τ sig (Elt F)) : E V main_v85 = (broadcastInDim S160x32 ![0, 1] bcast_S160x1_S160x32_0_1 : (⟨S160x1, .i32⟩ : BufTy).Contents (Elt F) → (⟨S160x32, .i32⟩ : BufTy).Contents (Elt F)) (E V main_v83) :=
  line1 V 199 _ _ _ rfl (by decide +kernel) (by decide +kernel)

end Cert.KernelIdeal.Moe

end
-- ==== Proof.KI.Eqs5.lean ====
/- The host lines before the experts' call, each as an equation about what the buffers hold when the call begins. -/
module

public import proofs.«01_k».proof.Proof.KI.Lines

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem e_main_v86 (V : Valuation τ sig (Elt F)) : E V main_v86 = (broadcastInDim S160x32 ![0, 1] bcast_S1x32_S160x32_0_1 : (⟨S1x32, .i32⟩ : BufTy).Contents (Elt F) → (⟨S160x32, .i32⟩ : BufTy).Contents (Elt F)) (E V main_v84) :=
  line1 V 200 _ _ _ rfl (by decide +kernel) (by decide +kernel)
theorem e_main_v87 (V : Valuation τ sig (Elt F)) : E V main_v87 = (cmpi .eq : (⟨S160x32, .i32⟩ : BufTy).Contents (Elt F) → (⟨S160x32, .i32⟩ : BufTy).Contents (Elt F) → (⟨S160x32, .i1⟩ : BufTy).Contents (Elt F)) (E V main_v85) (E V main_v86) :=
  line2 V 201 _ _ _ _ rfl (by decide +kernel) (by decide +kernel) (by decide +kernel)
theorem e_main_v88 (V : Valuation τ sig (Elt F)) : E V main_v88 = (broadcastInDim S160 ![] bcast_S_S160 : (⟨S_, .i32⟩ : BufTy).Contents (Elt F) → (⟨S160, .i32⟩ : BufTy).Contents (Elt F)) (E V main_v68) :=
  line1 V 202 _ _ _ rfl (by decide +kernel) (by decide +kernel)
theorem e_main_v89 (V : Valuation τ sig (Elt F)) : E V main_v89 = (cmpi .slt : (⟨S160, .i32⟩ : BufTy).Contents (Elt F) → (⟨S160, .i32⟩ : BufTy).Contents (Elt F) → (⟨S160, .i1⟩ : BufTy).Contents (Elt F)) (E V main_v65) (E V main_v88) :=
  line2 V 203 _ _ _ _ rfl (by decide +kernel) (by decide +kernel) (by decide +kernel)
theorem e_main_v90 (V : Valuation τ sig (Elt F)) : E V main_v90 = (broadcastInDim S1x32 ![1] bcast_S32_S1x32_1 : (⟨S32, .i32⟩ : BufTy).Contents (Elt F) → (⟨S1x32, .i32⟩ : BufTy).Contents (Elt F)) (E V main_v8) :=
  line1 V 204 _ _ _ rfl (by decide +kernel) (by decide +kernel)
theorem e_main_c_25 (V : Valuation τ sig (Elt F)) : E V main_c_25 = ((constantI S_ 32 0#32) : main_c_25.ty.Contents (Elt F))  :=
  line0 V 205 _ _ rfl (by decide +kernel)
theorem e_main_call14_v0 (V : Valuation τ sig (Elt F)) : E V main_call14_v0 = (id : (⟨S_, .i32⟩ : BufTy).Contents (Elt F) → (⟨S_, .i32⟩ : BufTy).Contents (Elt F)) (E V main_c_25) :=
  line1 V 206 _ _ _ rfl (by decide +kernel) (by decide +kernel)
theorem e_main_call14_v1 (V : Valuation τ sig (Elt F)) : E V main_call14_v1 = ((broadcastInDim S160x32 ![0, 1] bcast_S1x32_S160x32_0_1) : (⟨S1x32, .i32⟩ : BufTy).Contents (Elt F) → (⟨S160x32, .i32⟩ : BufTy).Contents (Elt F)) (E V main_v90) :=
  line1 V 207 _ _ _ rfl (by decide +kernel) (by decide +kernel)
theorem e_main_call14_v2 (V : Valuation τ sig (Elt F)) : E V main_call14_v2 = ((broadcastInDim S160x32 ![] bcast_S_S160x32) : (⟨S_, .i32⟩ : BufTy).Contents (Elt F) → (⟨S160x32, .i32⟩ : BufTy).Contents (Elt F)) (E V main_call14_v0) :=
  line1 V 208 _ _ _ rfl (by decide +kernel) (by decide +kernel)
theorem e_main_v91 (V : Valuation τ sig (Elt F)) : E V main_v91 = (select : (⟨S160x32, .i1⟩ : BufTy).Contents (Elt F) → (⟨S160x32, .i32⟩ : BufTy).Contents (Elt F) → (⟨S160x32, .i32⟩ : BufTy).Contents (Elt F) → (⟨S160x32, .i32⟩ : BufTy).Contents (Elt F)) (E V main_v87) (E V main_call14_v1) (E V main_call14_v2) :=
  line3 V 209 _ _ _ _ _ rfl (by decide +kernel) (by decide +kernel) (by decide +kernel) (by decide +kernel)
theorem e_main_c_26 (V : Valuation τ sig (Elt F)) : E V main_c_26 = ((constantI S_ 32 0#32) : main_c_26.ty.Contents (Elt F))  :=
  line0 V 210 _ _ rfl (by decide +kernel)
theorem e_main_v92 (V : Valuation τ sig (Elt F)) : E V main_v92 = ((fun x v => Host.reduce IntOp.addi x v reducesTo_S160x32_S160_d1 h_S_) : (⟨S160x32, .i32⟩ : BufTy).Contents (Elt F) → (⟨S_, .i32⟩ : BufTy).Contents (Elt F) → (⟨S160, .i32⟩ : BufTy).Contents (Elt F)) (E V main_v91) (E V main_c_26) :=
  line2 V 211 main_v91 main_c_26 main_v92 ((fun x v => Host.reduce IntOp.addi x v reducesTo_S160x32_S160_d1 h_S_) : (⟨S160x32, .i32⟩ : BufTy).Contents (Elt F) → (⟨S_, .i32⟩ : BufTy).Contents (Elt F) → (⟨S160, .i32⟩ : BufTy).Contents (Elt F)) rfl (by decide +kernel) (by decide +kernel) (by decide +kernel)
theorem e_main_c_27 (V : Valuation τ sig (Elt F)) : E V main_c_27 = ((constantI S_ 32 1024#32) : main_c_27.ty.Contents (Elt F))  :=
  line0 V 212 _ _ rfl (by decide +kernel)
theorem e_main_v93 (V : Valuation τ sig (Elt F)) : E V main_v93 = (broadcastInDim S160 ![] bcast_S_S160 : (⟨S_, .i32⟩ : BufTy).Contents (Elt F) → (⟨S160, .i32⟩ : BufTy).Contents (Elt F)) (E V main_c_27) :=
  line1 V 213 _ _ _ rfl (by decide +kernel) (by decide +kernel)
theorem e_main_v94 (V : Valuation τ sig (Elt F)) : E V main_v94 = (muli : (⟨S160, .i32⟩ : BufTy).Contents (Elt F) → (⟨S160, .i32⟩ : BufTy).Contents (Elt F) → (⟨S160, .i32⟩ : BufTy).Contents (Elt F)) (E V main_v65) (E V main_v93) :=
  line2 V 214 _ _ _ _ rfl (by decide +kernel) (by decide +kernel) (by decide +kernel)
theorem e_main_v95 (V : Valuation τ sig (Elt F)) : E V main_v95 = (broadcastInDim S1x32 ![1] bcast_S32_S1x32_1 : (⟨S32, .i32⟩ : BufTy).Contents (Elt F) → (⟨S1x32, .i32⟩ : BufTy).Contents (Elt F)) (E V main_v17) :=
  line1 V 215 _ _ _ rfl (by decide +kernel) (by decide +kernel)
theorem e_main_c_28 (V : Valuation τ sig (Elt F)) : E V main_c_28 = ((constantI S_ 32 0#32) : main_c_28.ty.Contents (Elt F))  :=
  line0 V 216 _ _ rfl (by decide +kernel)
theorem e_main_call15_v0 (V : Valuation τ sig (Elt F)) : E V main_call15_v0 = (id : (⟨S_, .i32⟩ : BufTy).Contents (Elt F) → (⟨S_, .i32⟩ : BufTy).Contents (Elt F)) (E V main_c_28) :=
  line1 V 217 _ _ _ rfl (by decide +kernel) (by decide +kernel)
theorem e_main_call15_v1 (V : Valuation τ sig (Elt F)) : E V main_call15_v1 = ((broadcastInDim S160x32 ![0, 1] bcast_S1x32_S160x32_0_1) : (⟨S1x32, .i32⟩ : BufTy).Contents (Elt F) → (⟨S160x32, .i32⟩ : BufTy).Contents (Elt F)) (E V main_v95) :=
  line1 V 218 _ _ _ rfl (by decide +kernel) (by decide +kernel)
theorem e_main_call15_v2 (V : Valuation τ sig (Elt F)) : E V main_call15_v2 = ((broadcastInDim S160x32 ![] bcast_S_S160x32) : (⟨S_, .i32⟩ : BufTy).Contents (Elt F) → (⟨S160x32, .i32⟩ : BufTy).Contents (Elt F)) (E V main_call15_v0) :=
  line1 V 219 _ _ _ rfl (by decide +kernel) (by decide +kernel)
theorem e_main_v96 (V : Valuation τ sig (Elt F)) : E V main_v96 = (select : (⟨S160x32, .i1⟩ : BufTy).Contents (Elt F) → (⟨S160x32, .i32⟩ : BufTy).Contents (Elt F) → (⟨S160x32, .i32⟩ : BufTy).Contents (Elt F) → (⟨S160x32, .i32⟩ : BufTy).Contents (Elt F)) (E V main_v87) (E V main_call15_v1) (E V main_call15_v2) :=
  line3 V 220 _ _ _ _ _ rfl (by decide +kernel) (by decide +kernel) (by decide +kernel) (by decide +kernel)
theorem e_main_c_29 (V : Valuation τ sig (Elt F)) : E V main_c_29 = ((constantI S_ 32 0#32) : main_c_29.ty.Contents (Elt F))  :=
  line0 V 221 _ _ rfl (by decide +kernel)
theorem e_main_v97 (V : Valuation τ sig (Elt F)) : E V main_v97 = ((fun x v => Host.reduce IntOp.addi x v reducesTo_S160x32_S160_d1 h_S_) : (⟨S160x32, .i32⟩ : BufTy).Contents (Elt F) → (⟨S_, .i32⟩ : BufTy).Contents (Elt F) → (⟨S160, .i32⟩ : BufTy).Contents (Elt F)) (E V main_v96) (E V main_c_29) :=
  line2 V 222 main_v96 main_c_29 main_v97 ((fun x v => Host.reduce IntOp.addi x v reducesTo_S160x32_S160_d1 h_S_) : (⟨S160x32, .i32⟩ : BufTy).Contents (Elt F) → (⟨S_, .i32⟩ : BufTy).Contents (Elt F) → (⟨S160, .i32⟩ : BufTy).Contents (Elt F)) rfl (by decide +kernel) (by decide +kernel) (by decide +kernel)
theorem e_main_v98 (V : Valuation τ sig (Elt F)) : E V main_v98 = (subi : (⟨S160, .i32⟩ : BufTy).Contents (Elt F) → (⟨S160, .i32⟩ : BufTy).Contents (Elt F) → (⟨S160, .i32⟩ : BufTy).Contents (Elt F)) (E V main_v94) (E V main_v97) :=
  line2 V 223 _ _ _ _ rfl (by decide +kernel) (by decide +kernel) (by decide +kernel)
theorem e_main_v99 (V : Valuation τ sig (Elt F)) : E V main_v99 = (subi : (⟨S160, .i32⟩ : BufTy).Contents (Elt F) → (⟨S160, .i32⟩ : BufTy).Contents (Elt F) → (⟨S160, .i32⟩ : BufTy).Contents (Elt F)) (E V main_v92) (E V main_v98) :=
  line2 V 224 _ _ _ _ rfl (by decide +kernel) (by decide +kernel) (by decide +kernel)
theorem e_main_c_30 (V : Valuation τ sig (Elt F)) : E V main_c_30 = ((constantI S_ 32 0#32) : main_c_30.ty.Contents (Elt F))  :=
  line0 V 225 _ _ rfl (by decide +kernel)
theorem e_main_c_31 (V : Valuation τ sig (Elt F)) : E V main_c_31 = ((constantI S_ 32 1024#32) : main_c_31.ty.Contents (Elt F))  :=
  line0 V 226 _ _ rfl (by decide +kernel)
theorem e_main_call16_v0 (V : Valuation τ sig (Elt F)) : E V main_call16_v0 = (id : (⟨S_, .i32⟩ : BufTy).Contents (Elt F) → (⟨S_, .i32⟩ : BufTy).Contents (Elt F)) (E V main_c_30) :=
  line1 V 227 _ _ _ rfl (by decide +kernel) (by decide +kernel)
theorem e_main_call16_v1 (V : Valuation τ sig (Elt F)) : E V main_call16_v1 = ((broadcastInDim S160 ![] bcast_S_S160) : (⟨S_, .i32⟩ : BufTy).Contents (Elt F) → (⟨S160, .i32⟩ : BufTy).Contents (Elt F)) (E V main_call16_v0) :=
  line1 V 228 _ _ _ rfl (by decide +kernel) (by decide +kernel)
theorem e_main_call16_v2 (V : Valuation τ sig (Elt F)) : E V main_call16_v2 = (maxsi : (⟨S160, .i32⟩ : BufTy).Contents (Elt F) → (⟨S160, .i32⟩ : BufTy).Contents (Elt F) → (⟨S160, .i32⟩ : BufTy).Contents (Elt F)) (E V main_call16_v1) (E V main_v99) :=
  line2 V 229 _ _ _ _ rfl (by decide +kernel) (by decide +kernel) (by decide +kernel)
theorem e_main_call16_v3 (V : Valuation τ sig (Elt F)) : E V main_call16_v3 = (id : (⟨S_, .i32⟩ : BufTy).Contents (Elt F) → (⟨S_, .i32⟩ : BufTy).Contents (Elt F)) (E V main_c_31) :=
  line1 V 230 _ _ _ rfl (by decide +kernel) (by decide +kernel)
theorem e_main_call16_v4 (V : Valuation τ sig (Elt F)) : E V main_call16_v4 = ((broadcastInDim S160 ![] bcast_S_S160) : (⟨S_, .i32⟩ : BufTy).Contents (Elt F) → (⟨S160, .i32⟩ : BufTy).Contents (Elt F)) (E V main_call16_v3) :=
  line1 V 231 _ _ _ rfl (by decide +kernel) (by decide +kernel)
theorem e_main_v100 (V : Valuation τ sig (Elt F)) : E V main_v100 = (minsi : (⟨S160, .i32⟩ : BufTy).Contents (Elt F) → (⟨S160, .i32⟩ : BufTy).Contents (Elt F) → (⟨S160, .i32⟩ : BufTy).Contents (Elt F)) (E V main_call16_v4) (E V main_call16_v2) :=
  line2 V 232 _ _ _ _ rfl (by decide +kernel) (by decide +kernel) (by decide +kernel)
theorem e_main_c_32 (V : Valuation τ sig (Elt F)) : E V main_c_32 = ((constantI S_ 32 0#32) : main_c_32.ty.Contents (Elt F))  :=
  line0 V 233 _ _ rfl (by decide +kernel)
theorem e_main_call17_v0 (V : Valuation τ sig (Elt F)) : E V main_call17_v0 = (id : (⟨S_, .i32⟩ : BufTy).Contents (Elt F) → (⟨S_, .i32⟩ : BufTy).Contents (Elt F)) (E V main_c_32) :=
  line1 V 234 _ _ _ rfl (by decide +kernel) (by decide +kernel)
theorem e_main_call17_v1 (V : Valuation τ sig (Elt F)) : E V main_call17_v1 = ((broadcastInDim S160 ![] bcast_S_S160) : (⟨S_, .i32⟩ : BufTy).Contents (Elt F) → (⟨S160, .i32⟩ : BufTy).Contents (Elt F)) (E V main_call17_v0) :=
  line1 V 235 _ _ _ rfl (by decide +kernel) (by decide +kernel)
theorem e_main_v101 (V : Valuation τ sig (Elt F)) : E V main_v101 = (select : (⟨S160, .i1⟩ : BufTy).Contents (Elt F) → (⟨S160, .i32⟩ : BufTy).Contents (Elt F) → (⟨S160, .i32⟩ : BufTy).Contents (Elt F) → (⟨S160, .i32⟩ : BufTy).Contents (Elt F)) (E V main_v89) (E V main_v100) (E V main_call17_v1) :=
  line3 V 236 _ _ _ _ _ rfl (by decide +kernel) (by decide +kernel) (by decide +kernel) (by decide +kernel)
theorem e_main_v102 (V : Valuation τ sig (Elt F)) : E V main_v102 = ((truncf .bf16 · bitsLt_bf16_f32) : (⟨S32768x2048, .f32⟩ : BufTy).Contents (Elt F) → (⟨S32768x2048, .bf16⟩ : BufTy).Contents (Elt F)) (E V main_arg0) :=
  line1 V 237 _ _ _ rfl (by decide +kernel) (by decide +kernel)
theorem e_main_c_33 (V : Valuation τ sig (Elt F)) : E V main_c_33 = ((constantI S_ 32 0#32) : main_c_33.ty.Contents (Elt F))  :=
  line0 V 238 _ _ rfl (by decide +kernel)
theorem e_main_v103 (V : Valuation τ sig (Elt F)) : E V main_v103 = (broadcastInDim S163840 ![] bcast_S_S163840 : (⟨S_, .i32⟩ : BufTy).Contents (Elt F) → (⟨S163840, .i32⟩ : BufTy).Contents (Elt F)) (E V main_c_33) :=
  line1 V 239 _ _ _ rfl (by decide +kernel) (by decide +kernel)
theorem e_main_v104 (V : Valuation τ sig (Elt F)) : E V main_v104 = (cmpi .slt : (⟨S163840, .i32⟩ : BufTy).Contents (Elt F) → (⟨S163840, .i32⟩ : BufTy).Contents (Elt F) → (⟨S163840, .i1⟩ : BufTy).Contents (Elt F)) (E V main_v64) (E V main_v103) :=
  line2 V 240 _ _ _ _ rfl (by decide +kernel) (by decide +kernel) (by decide +kernel)
theorem e_main_c_34 (V : Valuation τ sig (Elt F)) : E V main_c_34 = ((constantI S_ 32 32768#32) : main_c_34.ty.Contents (Elt F))  :=
  line0 V 241 _ _ rfl (by decide +kernel)
theorem e_main_v105 (V : Valuation τ sig (Elt F)) : E V main_v105 = (broadcastInDim S163840 ![] bcast_S_S163840 : (⟨S_, .i32⟩ : BufTy).Contents (Elt F) → (⟨S163840, .i32⟩ : BufTy).Contents (Elt F)) (E V main_c_34) :=
  line1 V 242 _ _ _ rfl (by decide +kernel) (by decide +kernel)
theorem e_main_v106 (V : Valuation τ sig (Elt F)) : E V main_v106 = (addi : (⟨S163840, .i32⟩ : BufTy).Contents (Elt F) → (⟨S163840, .i32⟩ : BufTy).Contents (Elt F) → (⟨S163840, .i32⟩ : BufTy).Contents (Elt F)) (E V main_v64) (E V main_v105) :=
  line2 V 243 _ _ _ _ rfl (by decide +kernel) (by decide +kernel) (by decide +kernel)
theorem e_main_v107 (V : Valuation τ sig (Elt F)) : E V main_v107 = (select : (⟨S163840, .i1⟩ : BufTy).Contents (Elt F) → (⟨S163840, .i32⟩ : BufTy).Contents (Elt F) → (⟨S163840, .i32⟩ : BufTy).Contents (Elt F) → (⟨S163840, .i32⟩ : BufTy).Contents (Elt F)) (E V main_v104) (E V main_v106) (E V main_v64) :=
  line3 V 244 _ _ _ _ _ rfl (by decide +kernel) (by decide +kernel) (by decide +kernel) (by decide +kernel)
theorem e_main_v108 (V : Valuation τ sig (Elt F)) : E V main_v108 = (broadcastInDim S163840x1 ![0] bcast_S163840_S163840x1_0 : (⟨S163840, .i32⟩ : BufTy).Contents (Elt F) → (⟨S163840x1, .i32⟩ : BufTy).Contents (Elt F)) (E V main_v107) :=
  line1 V 245 _ _ _ rfl (by decide +kernel) (by decide +kernel)
theorem e_main_v109 (V : Valuation τ sig (Elt F)) : E V main_v109 = ((fun x i => Host.gather gather_S32768x2048_S163840x1_S163840x2048_1_0_n_n_0_1_12048 x i) : (⟨S32768x2048, .bf16⟩ : BufTy).Contents (Elt F) → (⟨S163840x1, .i32⟩ : BufTy).Contents (Elt F) → (⟨S163840x2048, .bf16⟩ : BufTy).Contents (Elt F)) (E V main_v102) (E V main_v108) :=
  line2 V 246 main_v102 main_v108 main_v109 ((fun x i => Host.gather gather_S32768x2048_S163840x1_S163840x2048_1_0_n_n_0_1_12048 x i) : (⟨S32768x2048, .bf16⟩ : BufTy).Contents (Elt F) → (⟨S163840x1, .i32⟩ : BufTy).Contents (Elt F) → (⟨S163840x2048, .bf16⟩ : BufTy).Contents (Elt F)) rfl (by decide +kernel) (by decide +kernel) (by decide +kernel)
theorem e_main_v110 (V : Valuation τ sig (Elt F)) : E V main_v110 = shapeCast S327680x1024 (E V main_v109) shapeCasts_S163840x2048_S327680x1024 := lineR V 247 main_v109 main_v110 rfl (by decide +kernel) (by decide +kernel)
theorem e_main_v111 (V : Valuation τ sig (Elt F)) : E V main_v111 = shapeCast S2x32x1x4096 (E V main_arg3) shapeCasts_S2x32x4096_S2x32x1x4096 := lineR V 248 main_arg3 main_v111 rfl (by decide +kernel) (by decide +kernel)
theorem e_main_v112 (V : Valuation τ sig (Elt F)) : E V main_v112 = shapeCast S2x32x1x2048 (E V main_arg5) shapeCasts_S2x32x2048_S2x32x1x2048 := lineR V 249 main_arg5 main_v112 rfl (by decide +kernel) (by decide +kernel)

end Cert.KernelIdeal.Moe

end
-- ==== Proof.KI.Counts.lean ====
/- The routing at the call: the counts of the experts, where their runs end, and the ranges of the tables the kernel is launched with. -/
module

public import proofs.«01_k».proof.Proof.Nums
public import proofs.«01_k».proof.Proof.KI.Eqs1
public import proofs.«01_k».proof.Proof.KI.Eqs2
public import proofs.«01_k».proof.Proof.KI.Eqs3
public import proofs.«01_k».proof.Proof.KI.Eqs4
public import proofs.«01_k».proof.Proof.KI.Eqs5
public import Idealize.ShloMosaic.Lib.Routing.Words
public import Idealize.ShloMosaic.Lib.Routing.OpsSearch
public import Idealize.ShloMosaic.Lib.Routing.OpsPair
@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Routing Idealize.ShloMosaic.WordCmp Idealize.ShloMosaic.ValueIdx
open Cert.Moe

/-- The expert of pair `a`, from the launch contents `V`. -/
def gV (V : Valuation τ sig (Elt F)) (a : ℕ) : ℕ :=
  if h : a < NP then ((E V main_v0 : IVec S131072 32) (ix1 ⟨a, h⟩)).toNat else 0

/-- The experts named are among the 32. -/
def InRange (V : Valuation τ sig (Elt F)) : Prop := ∀ a : Fin NP, ((E V main_v0 : IVec S131072 32) (ix1 a)).toNat < 32

variable (V : Valuation τ sig (Elt F))

theorem g_lt {V : Valuation τ sig (Elt F)} (hV : InRange V) (a : ℕ) (ha : a < NP) : gV V a < 32 := by
  unfold gV; rw [dif_pos ha]; exact hV ⟨a, ha⟩

theorem v0_at (a : Fin NP) : (E V main_v0 : IVec S131072 32) (ix1 a) = BitVec.ofNat 32 (gV V a.val) := by
  unfold gV; rw [dif_pos a.isLt, BitVec.ofNat_toNat, BitVec.setWidth_eq]

theorem g_lt32 (a : Fin NP) : gV V a.val < 2 ^ 32 := by
  unfold gV; rw [dif_pos a.isLt]; exact BitVec.isLt _

theorem v1_at (x : Fin 32) : (E V main_v1 : IVec S32 32) (ix1 x) = BitVec.ofNat 32 x.val := by
  rw [e_main_v1]; rfl

/-- The mask of pair `a` and expert `x`. -/
theorem v6_at (a : Fin NP) (x : Fin 32) : (E V main_v6 : IVec S131072x32 1) (ix2 a x) = 1#1 ↔ gV V a.val = x.val := by
  have h4 : (E V main_v4 : IVec S131072x32 32) (ix2 a x) = BitVec.ofNat 32 (gV V a.val) := by
    rw [e_main_v4, e_main_v2]
    exact (bcRows bcast_S131072_S131072x1_0 bcast_S131072x1_S131072x32_0_1 (E V main_v0 : IVec S131072 32) a x).trans (v0_at V a)
  have h5 : (E V main_v5 : IVec S131072x32 32) (ix2 a x) = BitVec.ofNat 32 x.val := by
    rw [e_main_v5, e_main_v3]
    exact (bcCols bcast_S32_S1x32_1 bcast_S1x32_S131072x32_0_1 (E V main_v1 : IVec S32 32) a x).trans (v1_at V x)
  rw [e_main_v6]
  show IntOp.cmpi .eq ((E V main_v4 : IVec S131072x32 32) (ix2 a x)) ((E V main_v5 : IVec S131072x32 32) (ix2 a x)) = 1#1 ↔ _
  rw [h4, h5, StableHlo.Predicate.cmpi_eq_iff]
  constructor
  · intro h
    have := congrArg BitVec.toNat h
    rw [BitVec.toNat_ofNat, BitVec.toNat_ofNat, Nat.mod_eq_of_lt (g_lt32 V a), Nat.mod_eq_of_lt (by have := x.isLt; omega)] at this
    exact this
  · intro h; rw [h]

/-- The count of each expert. -/
theorem v8_at (x : Fin 32) : (E V main_v8 : IVec S32 32) (ix1 x) = BitVec.ofNat 32 (cnt (gV V) x.val) := by
  rw [e_main_v8, e_main_v7, e_main_c]
  apply BitVec.eq_of_toNat_eq
  refine (StableHlo.Predicate.toNat_reduce_count_rows (n := 131072) (m := 32) (by decide) (E V main_v6 : IVec S131072x32 1) natLt_1_32
    reducesTo_S131072x32_S32_d0 h_S_ (ix1 x)).trans ?_
  rw [BitVec.toNat_ofNat, Nat.mod_eq_of_lt (by have := cnt_le (gV V) x.val; have e : NP = 131072 := rfl; omega)]
  unfold cnt
  rw [← card_filter_fin NP (fun a => gV V a = x.val)]
  exact congrArg Finset.card (Finset.filter_congr fun a _ => v6_at V a x)

theorem v12_at (x : Fin 32) : (E V main_v12 : IVec S32 32) (ix1 x) = BitVec.ofNat 32 (cnt (gV V) x.val + 1023) := by
  have h9 : (E V main_v9 : IVec S32 32) (ix1 x) = BitVec.ofNat 32 1024 := by rw [e_main_v9, e_main_c_0]; exact bc0 _ _ _
  have h11 : (E V main_v11 : IVec S32 32) (ix1 x) = BitVec.ofNat 32 1 := by rw [e_main_v11, e_main_c_1]; exact bc0 _ _ _
  have h10 : (E V main_v10 : IVec S32 32) (ix1 x) = BitVec.ofNat 32 (cnt (gV V) x.val + 1024) := by
    rw [e_main_v10]
    show IntOp.addi ((E V main_v8 : IVec S32 32) (ix1 x)) ((E V main_v9 : IVec S32 32) (ix1 x)) = _
    rw [v8_at, h9]
    exact BitVec.ofNat_add_ofNat ..
  rw [e_main_v12]
  show IntOp.subi ((E V main_v10 : IVec S32 32) (ix1 x)) ((E V main_v11 : IVec S32 32) (ix1 x)) = _
  rw [h10, h11]
  exact ofNat32_sub (by omega)

theorem v13_at (x : Fin 32) : (E V main_v13 : IVec S32 32) (ix1 x) = BitVec.ofNat 32 ((cnt (gV V) x.val + 1023) / 1024) := by
  rw [e_main_v13, e_main_call0_v11, e_main_call0_v13, e_main_call0_v12, e_main_call0_v10, e_main_call0_v9, e_main_call0_v8, e_main_call0_v7, e_main_call0_v6,
    e_main_call0_v5, e_main_call0_v4, e_main_call0_v3, e_main_call0_v2, e_main_call0_v1, e_main_call0_v0, e_main_call0_c, e_main_call0_c_0]
  refine pyDiv_ap bcast_S_S32 (E V main_v12 : IVec S32 32) (E V main_c_2 : IVec S_ 32) (ix1 x) (v12_at V x) ?_ ?_ (by decide) (by decide)
  · rw [e_main_c_2]; rfl
  · have := cnt_le (gV V) x.val; have e : NP = 131072 := rfl; omega

/-- The room for each expert. -/
theorem v15_at (x : Fin 32) : (E V main_v15 : IVec S32 32) (ix1 x) = BitVec.ofNat 32 (pad (gV V) x.val) := by
  have h14 : (E V main_v14 : IVec S32 32) (ix1 x) = BitVec.ofNat 32 1024 := by rw [e_main_v14, e_main_c_3]; exact bc0 _ _ _
  rw [e_main_v15]
  show IntOp.muli ((E V main_v13 : IVec S32 32) (ix1 x)) ((E V main_v14 : IVec S32 32) (ix1 x)) = _
  rw [v13_at, h14]; unfold Cert.Moe.pad
  exact (BitVec.ofNat_mul ..).symm

/-- Where the run of each expert ends. -/
theorem v16_at (x : Fin 32) : (E V main_v16 : IVec S32 32) (ix1 x) = BitVec.ofNat 32 (pend (gV V) x.val) := by
  rw [e_main_v16, e_main_call1_call0_v0, e_main_call1_call0_c]
  exact cumsum1 (N := 32) (Nm1 := 31) rfl (E V main_v15 : IVec S32 32) (pad (gV V)) (fun i => v15_at V i) _ (bc0 _ _ _) _ _ x

theorem v67_at : (E V main_v67 : IVec S_ 32) ValueIdx.ix0 = BitVec.ofNat 32 (pend (gV V) 31) := by
  rw [e_main_v67]
  refine (shapeCast_apply (E V main_v66 : IVec S1 32) shapeCasts_S1_S_ ValueIdx.ix0 (ix1 (0 : Fin 1)) ?_).trans ?_
  · decide
  · rw [e_main_v66]; exact (slice1 (m := 32) (n := 1) 31 (E V main_v16 : IVec S32 32) slices_S32_S1_31 0 (by decide)).trans (v16_at V 31)

/-- The number of blocks in use. -/
theorem v68_at : (E V main_v68 : IVec S_ 32) ValueIdx.ix0 = BitVec.ofNat 32 (used (gV V)) := by
  rw [e_main_v68, e_main_call13_v7, e_main_call13_v8, e_main_call13_v6, e_main_call13_v5, e_main_call13_v4, e_main_call13_v3, e_main_call13_v2, e_main_call13_v1,
    e_main_call13_v0, e_main_call13_c, e_main_call13_c_0]
  refine pyDiv0_ap (E V main_v67 : IVec S_ 32) (E V main_c_20 : IVec S_ 32) (v67_at V) ?_ ?_ (by decide) (by decide)
  · rw [e_main_c_20]; rfl
  · have := pend_lt (gV V) 31 (by omega); omega

theorem minsi_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left h.le]
  · rw [if_neg (by simpa using h), Nat.min_eq_right (by omega)]

theorem v65_at (i : Fin 160) : (E V main_v65 : IVec S160 32) (ix1 i) = BitVec.ofNat 32 i.val := by
  rw [e_main_v65]; rfl

/-- The block of rows that block `i` takes. -/
theorem v71_at {V : Valuation τ sig (Elt F)} (hV : InRange V) (i : Fin 160) :
    (E V main_v71 : IVec S160 32) (ix1 i) = BitVec.ofNat 32 (min i.val (used (gV V) - 1)) := by
  have h1 := used_pos (gV V) (g_lt hV)
  have h2 := used_le (gV V)
  have h69 : (E V main_v69 : IVec S_ 32) ValueIdx.ix0 = BitVec.ofNat 32 (used (gV V) - 1) := by
    rw [e_main_v69, e_main_c_21]
    show IntOp.subi ((E V main_v68 : IVec S_ 32) ValueIdx.ix0) 1#32 = _
    rw [v68_at]; exact ofNat32_sub h1
  have h70 : (E V main_v70 : IVec S160 32) (ix1 i) = BitVec.ofNat 32 (used (gV V) - 1) := by
    rw [e_main_v70]; exact (bc0 _ _ _).trans h69
  rw [e_main_v71]
  show IntOp.minsi ((E V main_v65 : IVec S160 32) (ix1 i)) ((E V main_v70 : IVec S160 32) (ix1 i)) = _
  rw [v65_at, h70]
  exact minsi_word (by have := i.isLt; omega) (by omega)

/-- The expert of block `i`. -/
theorem v82_at {V : Valuation τ sig (Elt F)} (hV : InRange V) (i : Fin 160) :
    (E V main_v82 : IVec S160 32) (ix1 i)
      = BitVec.ofNat 32 (min (Nat.count (fun y => pend (gV V) y ≤ min i.val (used (gV V) - 1) * 1024) 32) 31) := by
  have h2 := used_le (gV V)
  have h73 : (E V main_v73 : IVec S160 32) (ix1 i) = BitVec.ofNat 32 (min i.val (used (gV V) - 1) * 1024) := by
    have h72 : (E V main_v72 : IVec S160 32) (ix1 i) = BitVec.ofNat 32 1024 := by rw [e_main_v72, e_main_c_22]; exact bc0 _ _ _
    rw [e_main_v73]
    show IntOp.muli ((E V main_v71 : IVec S160 32) (ix1 i)) ((E V main_v72 : IVec S160 32) (ix1 i)) = _
    rw [v71_at hV, h72]; exact (BitVec.ofNat_mul ..).symm
  have h81 : (E V main_v81 : IVec S160 32) (ix1 i) = BitVec.ofNat 32 31 := by rw [e_main_v81, e_main_c_24]; exact bc0 _ _ _
  have h80 : (E V main_v80 : IVec S160 32) (ix1 i) = BitVec.ofNat 32 (Nat.count (fun y => pend (gV V) y ≤ min i.val (used (gV V) - 1) * 1024) 32) := by
    rw [e_main_v80, e_main_v79, e_main_c_23]
    refine reduce_count (n := 160) (m := 32) (by decide) (E V main_v78 : IVec S160x32 1) natLt_1_32 reducesTo_S160x32_S160_d1 h_S_ i
      (fun y => pend (gV V) y ≤ min i.val (used (gV V) - 1) * 1024) fun y => ?_
    have h76 : (E V main_v76 : IVec S160x32 32) (ix2 i y) = BitVec.ofNat 32 (min i.val (used (gV V) - 1) * 1024) := by
      rw [e_main_v76, e_main_v74]
      exact (bcRows bcast_S160_S160x1_0 bcast_S160x1_S160x32_0_1 (E V main_v73 : IVec S160 32) i y).trans h73
    have h77 : (E V main_v77 : IVec S160x32 32) (ix2 i y) = BitVec.ofNat 32 (pend (gV V) y.val) := by
      rw [e_main_v77, e_main_v75]
      exact (bcCols bcast_S32_S1x32_1 bcast_S1x32_S160x32_0_1 (E V main_v16 : IVec S32 32) i y).trans (v16_at V y)
    rw [e_main_v78]
    show IntOp.cmpi .sge ((E V main_v76 : IVec S160x32 32) (ix2 i y)) ((E V main_v77 : IVec S160x32 32) (ix2 i y)) = 1#1 ↔ _
    rw [h76, h77]
    have hp := pend_lt (gV V) y.val y.isLt
    have hi := i.isLt
    refine (StableHlo.Predicate.sge_iff_toNat ?_ ?_).trans ?_
    · rw [BitVec.toNat_ofNat]; omega
    · rw [BitVec.toNat_ofNat]; omega
    · rw [BitVec.toNat_ofNat, BitVec.toNat_ofNat, Nat.mod_eq_of_lt (by omega), Nat.mod_eq_of_lt (by omega)]
  rw [e_main_v82]
  show IntOp.minsi ((E V main_v80 : IVec S160 32) (ix1 i)) ((E V main_v81 : IVec S160 32) (ix1 i)) = _
  rw [h80, h81]
  exact minsi_word (by have := Nat.count_le (p := fun y => pend (gV V) y ≤ min i.val (used (gV V) - 1) * 1024) (n := 32); omega) (by decide)

end Cert.KernelIdeal.Moe

end
-- ==== Proof.KI.BodyDefs.lean ====
/- The grid step of the experts' kernel, path by path: what one run of the body leaves in the two scratch buffers and in the output window. -/
module

public import proofs.«01_k».proof.Proof.Gen.KernelIdeal.Skeleton
public import proofs.«01_k».proof.Proof.Gen.KernelIdeal.Launch
public import Idealize.ShloMosaic.Lib.ValueIdxCore
public import Idealize.ShloMosaic.Lib.VecWindow
public import Idealize.ShloMosaic.Lib.WritesUnit
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra's parameters of this program. -/
abbrev Mo (F : FTy → Type) [FloatOps F] := MT nD τ sig Unit (Elt F) ℕ (UR sig nD τ) ℕ

abbrev tb0 : Memref sig .tc .smem S160 .i32 := Memref.whole main_v82
abbrev tb1 : Memref sig .tc .smem S160 .i32 := Memref.whole main_v71
abbrev tb2 : Memref sig .tc .smem S160 .i32 := Memref.whole main_v101
abbrev scX : Memref sig .tc .vmem S1024x2048 .bf16 := Memref.whole cc0_scratch0
abbrev scA : Memref sig .tc .vmem S1024x2048 .f32 := Memref.whole cc0_scratch1

/-- The word of the third table that a grid point reads: how many rows of its block are used. -/
abbrev wordAt (T2 : S160.Idx → Elt F .i32) (i : grid0.Coords) : BitVec 32 :=
  View.readAt (Elt F) tb2.view (Rect.unit (s := S160) (k0_off1 i) S1.size (k0_off1_inb i)).toLoadRect T2 (Shape.Idx.first (numel1_S1.symm ▸ Nat.one_pos))

abbrev cond0 (i : grid0.Coords) (w : BitVec 32) : Prop := Scalar.cmpi .ne (Scalar.extui (Scalar.andi (Scalar.cmpi .sgt w 0#32) (Scalar.cmpi .eq (BitVec.ofNat 32 (i 1).val) 0#32))) 0#32 = 1#1
abbrev cond1 (w : BitVec 32) : Prop := Scalar.cmpi .ne (Scalar.extui (Scalar.cmpi .sgt w 0#32)) 0#32 = 1#1

/-- The block of activations as the body holds it: the even rows of the packed block to the left, the odd rows to the right. -/
def xbOf (x0 : S2048x1024.Idx → Elt F .bf16) : S1024x2048.Idx → Elt F .bf16 := fun j =>
  if h : (j 1).val < 1024 then k0_pay1 x0 (ValueIdx.ix2 (j 0) ⟨(j 1).val, h⟩) else k0_pay2 x0 (ValueIdx.ix2 (j 0) ⟨(j 1).val - 1024, by have := (j 1).isLt; change (j 1).val < 2048 at this; omega⟩)

/-- One inner step: the running sum plus the contribution of one slice of the hidden width. -/
def accStep (a : S1024x2048.Idx → Elt F .bf16) (b : S1024x2048.Idx → Elt F .f32) (x1 x2 : S1x1x2048x256.Idx → Elt F .f32) (x3 x4 : S1x1x1x256.Idx → Elt F .f32)
    (x5 : S1x1x256x2048.Idx → Elt F .f32) : S1024x2048.Idx → Elt F .f32 :=
  k0_pay4 b (k0_pay7 a x1 x3 x2 x4) x5

/-- Two stores of half the columns each, read back: the left half from the first, the right half from the second. -/
theorem read_halves (f : scX.view.ty.Contents (Elt F)) (p q : S1024x1024.Idx → Elt F .bf16)
    (j : S1024x2048.Idx) :
    View.read (Elt F) scX.view (scX.view.writes (Elt F) f
      [⟨Rect.unit ![0, 1024] S1024x1024.size inb_S1024x2048_S1024x1024_0_1024, q⟩, ⟨Rect.unit ![0, 0] S1024x1024.size inb_S1024x2048_S1024x1024_0_0, p⟩]) j
      = if h : (j 1).val < 1024 then p (ValueIdx.ix2 (j 0) ⟨(j 1).val, h⟩)
        else q (ValueIdx.ix2 (j 0) ⟨(j 1).val - 1024, by have := (j 1).isLt; change (j 1).val < 2048 at this; omega⟩) := by
  have h1 := (j 1).isLt
  change (j 1).val < 2048 at h1
  split
  · next h =>
    rw [View.read_writes_cons_unit_of_not_mem _ _ _ _ _ j rfl 1 (Or.inl (by show (j 1).val < 1024; exact h))]
    refine View.read_writes_cons_unit_of_mem _ _ _ _ _ j (show S1024x1024.Idx from ValueIdx.ix2 (j 0) ⟨(j 1).val, h⟩) rfl fun a => ?_
    match a with
    | ⟨0, _⟩ => show (j 0).val = 0 + (j 0).val; omega
    | ⟨1, _⟩ => show (j 1).val = 0 + (j 1).val; omega
  · next h =>
    refine View.read_writes_cons_unit_of_mem _ _ _ _ _ j (show S1024x1024.Idx from ValueIdx.ix2 (j 0) ⟨(j 1).val - 1024, by omega⟩) rfl fun a => ?_
    match a with
    | ⟨0, _⟩ => show (j 0).val = 0 + (j 0).val; omega
    | ⟨1, _⟩ => show (j 1).val = 1024 + ((j 1).val - 1024); omega

/-- The payload of the running sum's store, read off the loads it is made of. -/
theorem accRead (arg6 : Memref sig .tc .vmem S1x1x2048x256 .f32) (arg7 : Memref sig .tc .vmem S1x1x2048x256 .f32) (arg8 : Memref sig .tc .vmem S1x1x1x256 .f32)
    (arg9 : Memref sig .tc .vmem S1x1x1x256 .f32) (arg10 : Memref sig .tc .vmem S1x1x256x2048 .f32) (x1 x2 : S1x1x2048x256.Idx → Elt F .f32) (x3 x4 : S1x1x1x256.Idx → Elt F .f32)
    (x5 : S1x1x256x2048.Idx → Elt F .f32) (fX : scX.view.ty.Contents (Elt F)) (fA : scA.view.ty.Contents (Elt F)) :
    k0_pay4 (View.readAt (Elt F) scA.view (Rect.unit ![0, 0] S1024x2048.size inb_S1024x2048_S1024x2048_0_0).toLoadRect fA)
      (k0_pay7 (View.readAt (Elt F) scX.view (Rect.unit ![0, 0] S1024x2048.size inb_S1024x2048_S1024x2048_0_0).toLoadRect fX)
        (View.readAt (Elt F) arg6.view (Rect.unit ![0, 0, 0, 0] S1x1x2048x256.size inb_S1x1x2048x256_S1x1x2048x256_0_0_0_0).toLoadRect (arg6.view.rep x1))
        (View.readAt (Elt F) arg8.view (Rect.unit ![0, 0, 0, 0] S1x1x1x256.size inb_S1x1x1x256_S1x1x1x256_0_0_0_0).toLoadRect (arg8.view.rep x3))
        (View.readAt (Elt F) arg7.view (Rect.unit ![0, 0, 0, 0] S1x1x2048x256.size inb_S1x1x2048x256_S1x1x2048x256_0_0_0_0).toLoadRect (arg7.view.rep x2))
        (View.readAt (Elt F) arg9.view (Rect.unit ![0, 0, 0, 0] S1x1x1x256.size inb_S1x1x1x256_S1x1x1x256_0_0_0_0).toLoadRect (arg9.view.rep x4)))
      (View.readAt (Elt F) arg10.view (Rect.unit ![0, 0, 0, 0] S1x1x256x2048.size inb_S1x1x256x2048_S1x1x256x2048_0_0_0_0).toLoadRect (arg10.view.rep x5))
      = accStep (View.read (Elt F) scX.view fX) (View.read (Elt F) scA.view fA) x1 x2 x3 x4 x5 := by
  unfold accStep
  rw [View.readAt_full, View.readAt_full, View.readAt_rep_full, View.readAt_rep_full, View.readAt_rep_full, View.readAt_rep_full, View.readAt_rep_full]

end Cert.KernelIdeal.Moe

end
-- ==== Proof.KI.Points.lean ====
/- The grid of the experts' kernel: coordinates of a point, the word each table holds for it, and which branch of the body runs there. -/
module

public import proofs.«01_k».proof.Proof.KI.BodyDefs

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A point's block number and its slice of the hidden width. -/
theorem crd0 (t : Fin grid0.N) : (grid0.coords t 0).val = t.val / 8 := by
  have h := Pipeline.Grid.coords_val (G := grid0) t (0 : Fin 2) (S := 8) (B := 160) (by decide) (by decide)
  have ht : t.val < 1280 := lt_of_lt_of_eq t.isLt N_0
  refine h.trans ?_; omega

theorem crd1 (t : Fin grid0.N) : (grid0.coords t 1).val = t.val % 8 := by
  have h := Pipeline.Grid.coords_val (G := grid0) t (1 : Fin 2) (S := 1) (B := 8) (by decide) (by decide)
  refine h.trans ?_; omega

/-- The point of block `i` and slice `f`. -/
def pt (i : Fin 160) (f : Fin 8) : Fin grid0.N := ⟨8 * i.val + f.val, by rw [N_0]; omega⟩

theorem off1_eq (i : grid0.Coords) : k0_off1 i = ![(i 0).val] := by
  have h : (i 0).val < 160 := (i 0).isLt
  unfold k0_off1
  show ![(Scalar.indexCast (BitVec.ofNat 32 (i 0).val)).toNat] = _
  congr 1
  simp only [Scalar.indexCast, BitVec.toNat_ofNat]
  omega

/-- The word of a table that a point reads is the table's element at the point's block number. -/
theorem wordAt_eq (T : S160.Idx → Elt F .i32) (i : grid0.Coords) : wordAt T i = T (ValueIdx.ix1 (i 0)) := by
  refine congrArg T (funext fun (a : Fin 1) => Fin.ext ?_)
  match a with
  | ⟨0, _⟩ =>
  show k0_off1 i 0 + 1 * (Shape.Idx.first (s := S1) (numel1_S1.symm ▸ Nat.one_pos) 0).val = (i 0).val
  have h1 := (Shape.Idx.first (s := S1) (numel1_S1.symm ▸ Nat.one_pos) 0).isLt
  change _ < 1 at h1
  have h2 : k0_off1 i 0 = (i 0).val := by rw [off1_eq]; rfl
  omega

section Conds

variable (i : grid0.Coords) (w : BitVec 32)

/-- A block runs when its word is positive. -/
abbrev valid (w : BitVec 32) : Prop := Scalar.cmpi .sgt w 0#32 = 1#1

theorem fEq (n : Nat) (hn : n < 8) : Scalar.cmpi .eq (BitVec.ofNat 32 (i 1).val) (BitVec.ofNat 32 n) = if (i 1).val = n then 1#1 else 0#1 := by
  have h : (i 1).val < 8 := (i 1).isLt
  split
  · next e => rw [e]; simp [Scalar.cmpi, IntOp.cmpi]
  · next e =>
    have : BitVec.ofNat 32 (i 1).val ≠ BitVec.ofNat 32 n := fun q => e (by
      have := congrArg BitVec.toNat q
      simp only [BitVec.toNat_ofNat] at this
      omega)
    show BitVec.ofBool (_ == _) = 0#1
    rw [beq_false_of_ne this]; rfl

theorem bit_cases (b : BitVec 1) : b = 0#1 ∨ b = 1#1 := by
  revert b; decide

theorem cond0_iff : cond0 i w ↔ valid w ∧ (i 1).val = 0 := by
  unfold cond0 valid
  rw [show (0#32 : BitVec 32) = BitVec.ofNat 32 0 from rfl, fEq i 0 (by decide)]
  rcases bit_cases (Scalar.cmpi .sgt w (BitVec.ofNat 32 0)) with h | h <;> rw [h] <;> split <;> rename_i e <;> simp only [e] <;> decide

theorem cond1_iff : cond1 w ↔ valid w := by
  unfold cond1 valid
  rcases bit_cases (Scalar.cmpi .sgt w 0#32) with h | h <;> rw [h] <;> decide

theorem cond3_iff : k0_cond3 i w = 1#1 ↔ valid w ∧ (i 1).val = 7 := by
  unfold k0_cond3 valid
  show Scalar.cmpi .ne (Scalar.extui (Scalar.andi (Scalar.cmpi .sgt w 0#32) (Scalar.cmpi .eq (BitVec.ofNat 32 (i 1).val) (BitVec.ofNat 32 7)))) 0#32 = 1#1 ↔ _
  rw [fEq i 7 (by decide)]
  rcases bit_cases (Scalar.cmpi .sgt w 0#32) with h | h <;> rw [h] <;> split <;> rename_i e <;> simp only [e] <;> decide

theorem cond4_iff : k0_cond4 i w = 1#1 ↔ ¬ valid w ∧ (i 1).val = 7 := by
  unfold k0_cond4 valid
  show Scalar.cmpi .ne (Scalar.extui (Scalar.andi (Scalar.xori (Scalar.cmpi .sgt w 0#32) 1#1) (Scalar.cmpi .eq (BitVec.ofNat 32 (i 1).val) (BitVec.ofNat 32 7)))) 0#32 = 1#1 ↔ _
  rw [fEq i 7 (by decide)]
  rcases bit_cases (Scalar.cmpi .sgt w 0#32) with h | h <;> rw [h] <;> split <;> rename_i e <;> simp only [e] <;> decide

end Conds

/-- The table's element as the idle conditions name it. -/
theorem atD_eq (pf : pre0.Contents (Elt F)) (i : grid0.Coords) : (pf.atD 2 (k0_off1 i) : BitVec 32) = wordAt (pf 2) i := by
  have h0 : k0_off1 i 0 = (i 0).val := by rw [off1_eq]; rfl
  have h : (i 0).val < 160 := (i 0).isLt
  have hb : ∀ a : Fin 1, k0_off1 i a + 1 ≤ S160.size a := fun a => by
    obtain rfl : a = 0 := Subsingleton.elim _ _
    show k0_off1 i 0 + 1 ≤ 160; omega
  have e : (pf.atD 2 (k0_off1 i) : BitVec 32) = (pf 2 : S160.Idx → BitVec 32) (fun a => ⟨k0_off1 i a, hb a⟩) := dif_pos hb
  refine e.trans (Eq.trans ?_ (wordAt_eq (F := F) (pf 2) i).symm)
  refine congrArg (pf 2 : S160.Idx → BitVec 32) (funext fun (a : Fin 1) => Fin.ext ?_)
  match a with
  | ⟨0, _⟩ => exact h0

/-- The slice a block's weights are fetched at: its own while the block runs, the last one otherwise. -/
def fsel (w : BitVec 32) (f : Nat) : Nat := if valid w then f else 7

section Maps

variable (pf : pre0.Contents (Elt F)) (i : grid0.Coords)

/-- The three tables' words at a point. -/
abbrev eW : BitVec 32 := (pf 0 : S160.Idx → BitVec 32) (ValueIdx.ix1 (i 0))
abbrev xW : BitVec 32 := (pf 1 : S160.Idx → BitVec 32) (ValueIdx.ix1 (i 0))
abbrev vW : BitVec 32 := (pf 2 : S160.Idx → BitVec 32) (ValueIdx.ix1 (i 0))

theorem sel_toNat : (Scalar.select (Scalar.cmpi .sgt (vW pf i) 0#32) (BitVec.ofNat 32 (i 1).val) 7#32 : BitVec 32).toNat = fsel (vW pf i) (i 1).val := by
  have h : (i 1).val < 8 := (i 1).isLt
  unfold fsel valid
  rcases bit_cases (Scalar.cmpi .sgt (vW pf i) 0#32) with e | e <;> rw [e]
  · rfl
  · show (BitVec.ofNat 32 (i 1).val).toNat = _
    rw [if_pos rfl, BitVec.toNat_ofNat]; omega

theorem fsel_lt : fsel (vW pf i) (i 1).val < 8 := by
  have h : (i 1).val < 8 := (i 1).isLt
  unfold fsel; split <;> omega

theorem sel8_toNat : (Scalar.addi (Scalar.select (Scalar.cmpi .sgt (vW pf i) 0#32) (BitVec.ofNat 32 (i 1).val) 7#32 : BitVec 32) 8#32).toNat = fsel (vW pf i) (i 1).val + 8 := by
  have h := fsel_lt pf i
  show (_ + _ : BitVec 32).toNat = _
  rw [BitVec.toNat_add, sel_toNat]
  show (_ + 8) % 2 ^ 32 = _
  omega

theorem tr0_eq : cc0_transform_0 k0_off1_inb numel1_S1 pf i = ![(xW pf i).toNat, 0] := by
  have h := wordAt_eq (F := F) (pf 1) i
  unfold cc0_transform_0
  exact congrArg (fun w : BitVec 32 => ![w.toNat, 0]) h

theorem tr1_eq : cc0_transform_1 k0_off1_inb numel1_S1 pf i = ![0, (eW pf i).toNat, 0, fsel (vW pf i) (i 1).val] := by
  rw [← sel_toNat]
  unfold cc0_transform_1
  exact congrArg₂ (fun w v : BitVec 32 => ![0, w.toNat, 0, (Scalar.select (Scalar.cmpi .sgt v 0#32) (BitVec.ofNat 32 (i 1).val) 7#32 : BitVec 32).toNat])
    (wordAt_eq (F := F) (pf 0) i) (wordAt_eq (F := F) (pf 2) i)

theorem tr2_eq : cc0_transform_2 k0_off1_inb numel1_S1 pf i = ![0, (eW pf i).toNat, 0, fsel (vW pf i) (i 1).val + 8] := by
  rw [← sel8_toNat]
  unfold cc0_transform_2
  exact congrArg₂ (fun w v : BitVec 32 => ![0, w.toNat, 0, (Scalar.addi (Scalar.select (Scalar.cmpi .sgt v 0#32) (BitVec.ofNat 32 (i 1).val) 7#32 : BitVec 32) 8#32).toNat])
    (wordAt_eq (F := F) (pf 0) i) (wordAt_eq (F := F) (pf 2) i)

theorem tr3_eq : cc0_transform_3 k0_off1_inb numel1_S1 pf i = ![0, (eW pf i).toNat, 0, fsel (vW pf i) (i 1).val] := by
  rw [← sel_toNat]
  unfold cc0_transform_3
  exact congrArg₂ (fun w v : BitVec 32 => ![0, w.toNat, 0, (Scalar.select (Scalar.cmpi .sgt v 0#32) (BitVec.ofNat 32 (i 1).val) 7#32 : BitVec 32).toNat])
    (wordAt_eq (F := F) (pf 0) i) (wordAt_eq (F := F) (pf 2) i)

theorem tr4_eq : cc0_transform_4 k0_off1_inb numel1_S1 pf i = ![0, (eW pf i).toNat, 0, fsel (vW pf i) (i 1).val + 8] := by
  rw [← sel8_toNat]
  unfold cc0_transform_4
  exact congrArg₂ (fun w v : BitVec 32 => ![0, w.toNat, 0, (Scalar.addi (Scalar.select (Scalar.cmpi .sgt v 0#32) (BitVec.ofNat 32 (i 1).val) 7#32 : BitVec 32) 8#32).toNat])
    (wordAt_eq (F := F) (pf 0) i) (wordAt_eq (F := F) (pf 2) i)

theorem tr5_eq : cc0_transform_5 k0_off1_inb numel1_S1 pf i = ![0, (eW pf i).toNat, fsel (vW pf i) (i 1).val, 0] := by
  rw [← sel_toNat]
  unfold cc0_transform_5
  exact congrArg₂ (fun w v : BitVec 32 => ![0, w.toNat, (Scalar.select (Scalar.cmpi .sgt v 0#32) (BitVec.ofNat 32 (i 1).val) 7#32 : BitVec 32).toNat, 0])
    (wordAt_eq (F := F) (pf 0) i) (wordAt_eq (F := F) (pf 2) i)

theorem tr6_eq : cc0_transform_6 k0_off1_inb numel1_S1 pf i = ![0, (eW pf i).toNat, 0, 0] := by
  unfold cc0_transform_6
  exact congrArg (fun w : BitVec 32 => ![0, w.toNat, 0, 0]) (wordAt_eq (F := F) (pf 0) i)

theorem tr7_eq : cc0_transform_7 i = ![(i 0).val, 0] := by
  have h : (i 0).val < 160 := (i 0).isLt
  unfold cc0_transform_7
  refine congrArg (fun n : Nat => ![n, 0]) ?_
  show (BitVec.ofNat 32 (i 0).val).toNat = _
  rw [BitVec.toNat_ofNat]; omega

end Maps

/-- The side condition of the call: the expert words lie below 32 and the block words below 160. -/
theorem ok_of (pf : pre0.Contents (Elt F)) (he : ∀ i : grid0.Coords, (eW pf i).toNat < 32) (hx : ∀ i : grid0.Coords, (xW pf i).toNat < 160) : ok0 pf := by
  refine ⟨fun i => ?_, fun i => ?_, fun i => ?_, fun i => ?_, fun i => ?_, fun i => ?_, fun i => ?_⟩
  · have h := hx i
    refine ⟨fun a => ?_, Or.inr ?_⟩
    · rw [tr0_eq]
      match a with
      | ⟨0, _⟩ => show ((xW pf i).toNat + 1) * 2048 ≤ 327680; omega
      | ⟨1, _⟩ => show (0 + 1) * 1024 ≤ 1024; omega
    · exact Affine.block_words_dvd (of_decide_eq_true rfl) (by decide)
  · have h := he i
    have h' := fsel_lt pf i
    refine ⟨fun a => ?_, Or.inl rfl⟩
    rw [tr1_eq]
    match a with
    | ⟨0, _⟩ => show (0 + 1) * 1 ≤ 2; omega
    | ⟨1, _⟩ => show ((eW pf i).toNat + 1) * 1 ≤ 32; omega
    | ⟨2, _⟩ => show (0 + 1) * 2048 ≤ 2048; omega
    | ⟨3, _⟩ => show (fsel (vW pf i) (i 1).val + 1) * 256 ≤ 4096; omega
  · have h := he i
    have h' := fsel_lt pf i
    refine ⟨fun a => ?_, Or.inl rfl⟩
    rw [tr2_eq]
    match a with
    | ⟨0, _⟩ => show (0 + 1) * 1 ≤ 2; omega
    | ⟨1, _⟩ => show ((eW pf i).toNat + 1) * 1 ≤ 32; omega
    | ⟨2, _⟩ => show (0 + 1) * 2048 ≤ 2048; omega
    | ⟨3, _⟩ => show (fsel (vW pf i) (i 1).val + 8 + 1) * 256 ≤ 4096; omega
  · have h := he i
    have h' := fsel_lt pf i
    refine ⟨fun a => ?_, Or.inl rfl⟩
    rw [tr3_eq]
    match a with
    | ⟨0, _⟩ => show (0 + 1) * 1 ≤ 2; omega
    | ⟨1, _⟩ => show ((eW pf i).toNat + 1) * 1 ≤ 32; omega
    | ⟨2, _⟩ => show (0 + 1) * 1 ≤ 1; omega
    | ⟨3, _⟩ => show (fsel (vW pf i) (i 1).val + 1) * 256 ≤ 4096; omega
  · have h := he i
    have h' := fsel_lt pf i
    refine ⟨fun a => ?_, Or.inl rfl⟩
    rw [tr4_eq]
    match a with
    | ⟨0, _⟩ => show (0 + 1) * 1 ≤ 2; omega
    | ⟨1, _⟩ => show ((eW pf i).toNat + 1) * 1 ≤ 32; omega
    | ⟨2, _⟩ => show (0 + 1) * 1 ≤ 1; omega
    | ⟨3, _⟩ => show (fsel (vW pf i) (i 1).val + 8 + 1) * 256 ≤ 4096; omega
  · have h := he i
    have h' := fsel_lt pf i
    refine ⟨fun a => ?_, Or.inl rfl⟩
    rw [tr5_eq]
    match a with
    | ⟨0, _⟩ => show (0 + 1) * 1 ≤ 2; omega
    | ⟨1, _⟩ => show ((eW pf i).toNat + 1) * 1 ≤ 32; omega
    | ⟨2, _⟩ => show (fsel (vW pf i) (i 1).val + 1) * 256 ≤ 2048; omega
    | ⟨3, _⟩ => show (0 + 1) * 2048 ≤ 2048; omega
  · have h := he i
    have h' := fsel_lt pf i
    refine ⟨fun a => ?_, Or.inl rfl⟩
    rw [tr6_eq]
    match a with
    | ⟨0, _⟩ => show (0 + 1) * 1 ≤ 2; omega
    | ⟨1, _⟩ => show ((eW pf i).toNat + 1) * 1 ≤ 32; omega
    | ⟨2, _⟩ => show (0 + 1) * 1 ≤ 1; omega
    | ⟨3, _⟩ => show (0 + 1) * 2048 ≤ 2048; omega

theorem idle7_eq (pf : pre0.Contents (Elt F)) (i : grid0.Coords) : idle0 pf 7 i = decide ((i 1).val ≠ 7) := by
  show (!(k0_cond3 i (pf.atD 2 (k0_off1 i)) == 1#1) && !(k0_cond4 i (pf.atD 2 (k0_off1 i)) == 1#1)) = _
  generalize (pf.atD 2 (k0_off1 i) : BitVec 32) = w
  by_cases hv : valid w <;> by_cases hf : (i 1).val = 7
  · have := (cond3_iff i w).mpr ⟨hv, hf⟩; simp [this, hf]
  · have h3 : ¬ k0_cond3 i w = 1#1 := fun h => hf ((cond3_iff i w).mp h).2
    have h4 : ¬ k0_cond4 i w = 1#1 := fun h => hf ((cond4_iff i w).mp h).2
    simp [h3, h4, hf]
  · have := (cond4_iff i w).mpr ⟨hv, hf⟩; simp [this, hf]
  · have h3 : ¬ k0_cond3 i w = 1#1 := fun h => hf ((cond3_iff i w).mp h).2
    have h4 : ¬ k0_cond4 i w = 1#1 := fun h => hf ((cond4_iff i w).mp h).2
    simp [h3, h4, hf]

end Cert.KernelIdeal.Moe

end
-- ==== Proof.KI.Body.lean ====
/- The grid step of the experts' kernel, path by path: what one run of the body leaves in the two scratch buffers and in the output window. -/
module

public import proofs.«01_k».proof.Proof.KI.BodyDefs
public import proofs.«01_k».proof.Proof.Gen.KernelIdeal.Launch
public import Idealize.ShloMosaic.Lib.ValueIdxCore
public import Idealize.ShloMosaic.Lib.VecWindow
public import Idealize.ShloMosaic.Lib.WritesUnit
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option backward.proofsInPublic true in
set_option maxHeartbeats 8000000 in
/-- An unused block before its last slice. -/
theorem runC (c : Dev nD) (i : grid0.Coords) (arg5 : Memref sig .tc .vmem S2048x1024 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x1x256 .f32) (harg8 : arg8.IsWhole) (arg9 : Memref sig .tc .vmem S1x1x1x256 .f32) (harg9 : arg9.IsWhole) (arg10 : Memref sig .tc .vmem S1x1x256x2048 .f32) (harg10 : arg10.IsWhole) (arg11 : Memref sig .tc .vmem S1x1x1x2048 .f32) (harg11 : arg11.IsWhole) (arg12 : Memref sig .tc .vmem S2048x1024 .bf16) (harg12 : arg12.IsWhole)
    (T0 T1 T2 : S160.Idx → Elt F .i32) (x0 : S2048x1024.Idx → Elt F .bf16) (x1 : S1x1x2048x256.Idx → Elt F .f32) (x2 : S1x1x2048x256.Idx → Elt F .f32) (x3 : S1x1x1x256.Idx → Elt F .f32) (x4 : S1x1x1x256.Idx → Elt F .f32) (x5 : S1x1x256x2048.Idx → Elt F .f32) (x6 : S1x1x1x2048.Idx → Elt F .f32) (y : S2048x1024.Idx → Elt F .bf16) (a : S1024x2048.Idx → Elt F .bf16) (b : S1024x2048.Idx → Elt F .f32)
    (hc0 : (¬ cond0 i (wordAt T2 i))) (hc1 : (¬ cond1 (wordAt T2 i))) (k0_h3 : (¬ k0_cond3 i (wordAt T2 i) = 1#1)) (k0_h4 : (¬ k0_cond4 i (wordAt T2 i) = 1#1))
    (K : PUnit → sProp (Mo F)) :
    iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (arg9.view.loc (c : Thread nD τ) ↦[arg9.view.set]{fullShare} arg9.view.rep x4)
      ∗ (arg10.view.loc (c : Thread nD τ) ↦[arg10.view.set]{fullShare} arg10.view.rep x5)
      ∗ (arg11.view.loc (c : Thread nD τ) ↦[arg11.view.set]{fullShare} arg11.view.rep x6)
      ∗ (tb0.view.loc (c : Thread nD τ) ↦{fullShare.right} T0)
      ∗ (tb1.view.loc (c : Thread nD τ) ↦{fullShare.right} T1)
      ∗ (tb2.view.loc (c : Thread nD τ) ↦{fullShare.right} T2)
      ∗ owns (c : Thread nD τ) arg12 fullShare y
      ∗ owns (c : Thread nD τ) scX fullShare a
      ∗ owns (c : Thread nD τ) scA fullShare b
      ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (arg11.view.loc (c : Thread nD τ) ↦[arg11.view.set]{fullShare} arg11.view.rep x6)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg12 fullShare (y)
          ∗ owns (c : Thread nD τ) scX fullShare (a)
          ∗ owns (c : Thread nD τ) scA fullShare (b)) -∗ K ⟨⟩))
      ⊢ wp frame (wpE (defs₀ (F := F)) Variants.none c none) Set.univ (cc0_moe_experts i tb0 (Memref.isWhole_whole _) tb1 (Memref.isWhole_whole _) tb2 (Memref.isWhole_whole _) arg5 harg5 arg6 harg6 arg7 harg7 arg8 harg8 arg9 harg9 arg10 harg10 arg11 harg11 arg12 harg12 scX (Memref.isWhole_whole _) scA (Memref.isWhole_whole _)) K := by
  have hS0 : scX.IsWhole := Memref.isWhole_whole _
  have hS1 : scA.IsWhole := Memref.isWhole_whole _
  have hT0 : tb0.IsWhole := Memref.isWhole_whole _
  have hT1 : tb1.IsWhole := Memref.isWhole_whole _
  have hT2 : tb2.IsWhole := Memref.isWhole_whole _
  unfold owns
  rw [cc0_moe_experts_eq_skeleton]; unfold cc0_moe_experts_skel
  iintro ⟨H0, H1, H2, H3, H4, H5, H6, HT0, HT1, HT2, ⟨%f7, %hf7, HO7⟩, ⟨%fX, %hfX, HS0⟩, ⟨%fA, %hfA, HS1⟩, Hk⟩
  obtain rfl := harg12.eq_unread hf7
  sl_exec! (disch := first | with_reducible exact hc0 | with_reducible exact hc1 | with_reducible exact k0_h3 | with_reducible exact k0_h4)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  isplitl [HO7]
  · iexists _; isplitr; swap
    · iexact HO7
    · ipureintro; exact harg12.read_unread _
  isplitl [HS0]
  · iexists _; isplitr; swap
    · iexact HS0
    · ipureintro; exact hfX
  iexists _; isplitr; swap
  · iexact HS1
  · ipureintro; exact hfA

set_option backward.proofsInPublic true in
set_option maxHeartbeats 8000000 in
/-- An unused block at its last slice. -/
theorem runD (c : Dev nD) (i : grid0.Coords) (arg5 : Memref sig .tc .vmem S2048x1024 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x1x256 .f32) (harg8 : arg8.IsWhole) (arg9 : Memref sig .tc .vmem S1x1x1x256 .f32) (harg9 : arg9.IsWhole) (arg10 : Memref sig .tc .vmem S1x1x256x2048 .f32) (harg10 : arg10.IsWhole) (arg11 : Memref sig .tc .vmem S1x1x1x2048 .f32) (harg11 : arg11.IsWhole) (arg12 : Memref sig .tc .vmem S2048x1024 .bf16) (harg12 : arg12.IsWhole)
    (T0 T1 T2 : S160.Idx → Elt F .i32) (x0 : S2048x1024.Idx → Elt F .bf16) (x1 : S1x1x2048x256.Idx → Elt F .f32) (x2 : S1x1x2048x256.Idx → Elt F .f32) (x3 : S1x1x1x256.Idx → Elt F .f32) (x4 : S1x1x1x256.Idx → Elt F .f32) (x5 : S1x1x256x2048.Idx → Elt F .f32) (x6 : S1x1x1x2048.Idx → Elt F .f32) (y : S2048x1024.Idx → Elt F .bf16) (a : S1024x2048.Idx → Elt F .bf16) (b : S1024x2048.Idx → Elt F .f32)
    (hc0 : (¬ cond0 i (wordAt T2 i))) (hc1 : (¬ cond1 (wordAt T2 i))) (k0_h3 : (¬ k0_cond3 i (wordAt T2 i) = 1#1)) (k0_h4 : (k0_cond4 i (wordAt T2 i) = 1#1))
    (K : PUnit → sProp (Mo F)) :
    iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (arg9.view.loc (c : Thread nD τ) ↦[arg9.view.set]{fullShare} arg9.view.rep x4)
      ∗ (arg10.view.loc (c : Thread nD τ) ↦[arg10.view.set]{fullShare} arg10.view.rep x5)
      ∗ (arg11.view.loc (c : Thread nD τ) ↦[arg11.view.set]{fullShare} arg11.view.rep x6)
      ∗ (tb0.view.loc (c : Thread nD τ) ↦{fullShare.right} T0)
      ∗ (tb1.view.loc (c : Thread nD τ) ↦{fullShare.right} T1)
      ∗ (tb2.view.loc (c : Thread nD τ) ↦{fullShare.right} T2)
      ∗ owns (c : Thread nD τ) arg12 fullShare y
      ∗ owns (c : Thread nD τ) scX fullShare a
      ∗ owns (c : Thread nD τ) scA fullShare b
      ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (arg11.view.loc (c : Thread nD τ) ↦[arg11.view.set]{fullShare} arg11.view.rep x6)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg12 fullShare (k0_pay6)
          ∗ owns (c : Thread nD τ) scX fullShare (a)
          ∗ owns (c : Thread nD τ) scA fullShare (b)) -∗ K ⟨⟩))
      ⊢ wp frame (wpE (defs₀ (F := F)) Variants.none c none) Set.univ (cc0_moe_experts i tb0 (Memref.isWhole_whole _) tb1 (Memref.isWhole_whole _) tb2 (Memref.isWhole_whole _) arg5 harg5 arg6 harg6 arg7 harg7 arg8 harg8 arg9 harg9 arg10 harg10 arg11 harg11 arg12 harg12 scX (Memref.isWhole_whole _) scA (Memref.isWhole_whole _)) K := by
  have hS0 : scX.IsWhole := Memref.isWhole_whole _
  have hS1 : scA.IsWhole := Memref.isWhole_whole _
  have hT0 : tb0.IsWhole := Memref.isWhole_whole _
  have hT1 : tb1.IsWhole := Memref.isWhole_whole _
  have hT2 : tb2.IsWhole := Memref.isWhole_whole _
  unfold owns
  rw [cc0_moe_experts_eq_skeleton]; unfold cc0_moe_experts_skel
  iintro ⟨H0, H1, H2, H3, H4, H5, H6, HT0, HT1, HT2, ⟨%f7, %hf7, HO7⟩, ⟨%fX, %hfX, HS0⟩, ⟨%fA, %hfA, HS1⟩, Hk⟩
  obtain rfl := harg12.eq_unread hf7
  sl_exec! (disch := first | with_reducible exact hc0 | with_reducible exact hc1 | with_reducible exact k0_h3 | with_reducible exact k0_h4)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  isplitl [HO7]
  · iexists _; isplitr; swap
    · iexact HO7
    · ipureintro; exact View.read_writes_full _ _ _ _ _
  isplitl [HS0]
  · iexists _; isplitr; swap
    · iexact HS0
    · ipureintro; exact hfX
  iexists _; isplitr; swap
  · iexact HS1
  · ipureintro; exact hfA

set_option backward.proofsInPublic true in
set_option maxHeartbeats 8000000 in
/-- A used block at an inner slice. -/
theorem runE (c : Dev nD) (i : grid0.Coords) (arg5 : Memref sig .tc .vmem S2048x1024 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x1x256 .f32) (harg8 : arg8.IsWhole) (arg9 : Memref sig .tc .vmem S1x1x1x256 .f32) (harg9 : arg9.IsWhole) (arg10 : Memref sig .tc .vmem S1x1x256x2048 .f32) (harg10 : arg10.IsWhole) (arg11 : Memref sig .tc .vmem S1x1x1x2048 .f32) (harg11 : arg11.IsWhole) (arg12 : Memref sig .tc .vmem S2048x1024 .bf16) (harg12 : arg12.IsWhole)
    (T0 T1 T2 : S160.Idx → Elt F .i32) (x0 : S2048x1024.Idx → Elt F .bf16) (x1 : S1x1x2048x256.Idx → Elt F .f32) (x2 : S1x1x2048x256.Idx → Elt F .f32) (x3 : S1x1x1x256.Idx → Elt F .f32) (x4 : S1x1x1x256.Idx → Elt F .f32) (x5 : S1x1x256x2048.Idx → Elt F .f32) (x6 : S1x1x1x2048.Idx → Elt F .f32) (y : S2048x1024.Idx → Elt F .bf16) (a : S1024x2048.Idx → Elt F .bf16) (b : S1024x2048.Idx → Elt F .f32)
    (hc0 : (¬ cond0 i (wordAt T2 i))) (hc1 : (cond1 (wordAt T2 i))) (k0_h3 : (¬ k0_cond3 i (wordAt T2 i) = 1#1)) (k0_h4 : (¬ k0_cond4 i (wordAt T2 i) = 1#1))
    (K : PUnit → sProp (Mo F)) :
    iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (arg9.view.loc (c : Thread nD τ) ↦[arg9.view.set]{fullShare} arg9.view.rep x4)
      ∗ (arg10.view.loc (c : Thread nD τ) ↦[arg10.view.set]{fullShare} arg10.view.rep x5)
      ∗ (arg11.view.loc (c : Thread nD τ) ↦[arg11.view.set]{fullShare} arg11.view.rep x6)
      ∗ (tb0.view.loc (c : Thread nD τ) ↦{fullShare.right} T0)
      ∗ (tb1.view.loc (c : Thread nD τ) ↦{fullShare.right} T1)
      ∗ (tb2.view.loc (c : Thread nD τ) ↦{fullShare.right} T2)
      ∗ owns (c : Thread nD τ) arg12 fullShare y
      ∗ owns (c : Thread nD τ) scX fullShare a
      ∗ owns (c : Thread nD τ) scA fullShare b
      ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (arg11.view.loc (c : Thread nD τ) ↦[arg11.view.set]{fullShare} arg11.view.rep x6)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg12 fullShare (y)
          ∗ owns (c : Thread nD τ) scX fullShare (a)
          ∗ owns (c : Thread nD τ) scA fullShare (accStep a b x1 x2 x3 x4 x5)) -∗ K ⟨⟩))
      ⊢ wp frame (wpE (defs₀ (F := F)) Variants.none c none) Set.univ (cc0_moe_experts i tb0 (Memref.isWhole_whole _) tb1 (Memref.isWhole_whole _) tb2 (Memref.isWhole_whole _) arg5 harg5 arg6 harg6 arg7 harg7 arg8 harg8 arg9 harg9 arg10 harg10 arg11 harg11 arg12 harg12 scX (Memref.isWhole_whole _) scA (Memref.isWhole_whole _)) K := by
  have hS0 : scX.IsWhole := Memref.isWhole_whole _
  have hS1 : scA.IsWhole := Memref.isWhole_whole _
  have hT0 : tb0.IsWhole := Memref.isWhole_whole _
  have hT1 : tb1.IsWhole := Memref.isWhole_whole _
  have hT2 : tb2.IsWhole := Memref.isWhole_whole _
  unfold owns
  rw [cc0_moe_experts_eq_skeleton]; unfold cc0_moe_experts_skel
  iintro ⟨H0, H1, H2, H3, H4, H5, H6, HT0, HT1, HT2, ⟨%f7, %hf7, HO7⟩, ⟨%fX, %hfX, HS0⟩, ⟨%fA, %hfA, HS1⟩, Hk⟩
  obtain rfl := harg12.eq_unread hf7
  sl_exec! (disch := first | with_reducible exact hc0 | with_reducible exact hc1 | with_reducible exact k0_h3 | with_reducible exact k0_h4)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  isplitl [HO7]
  · iexists _; isplitr; swap
    · iexact HO7
    · ipureintro; exact harg12.read_unread _
  isplitl [HS0]
  · iexists _; isplitr; swap
    · iexact HS0
    · ipureintro; exact hfX
  iexists _; isplitr; swap
  · iexact HS1
  · ipureintro; exact (View.read_writes_full _ _ _ _ _).trans ((accRead arg6 arg7 arg8 arg9 arg10 x1 x2 x3 x4 x5 fX fA).trans (by rw [hfX, hfA]))

end Cert.KernelIdeal.Moe

end
-- ==== Proof.KI.BodyA.lean ====
/- The grid step of the experts' kernel, path by path: what one run of the body leaves in the two scratch buffers and in the output window. -/
module

public import proofs.«01_k».proof.Proof.KI.BodyDefs
public import proofs.«01_k».proof.Proof.Gen.KernelIdeal.Launch
public import Idealize.ShloMosaic.Lib.ValueIdxCore
public import Idealize.ShloMosaic.Lib.VecWindow
public import Idealize.ShloMosaic.Lib.WritesUnit
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option backward.proofsInPublic true in
set_option maxHeartbeats 8000000 in
/-- A used block at its first slice. -/
theorem runA (c : Dev nD) (i : grid0.Coords) (arg5 : Memref sig .tc .vmem S2048x1024 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x1x256 .f32) (harg8 : arg8.IsWhole) (arg9 : Memref sig .tc .vmem S1x1x1x256 .f32) (harg9 : arg9.IsWhole) (arg10 : Memref sig .tc .vmem S1x1x256x2048 .f32) (harg10 : arg10.IsWhole) (arg11 : Memref sig .tc .vmem S1x1x1x2048 .f32) (harg11 : arg11.IsWhole) (arg12 : Memref sig .tc .vmem S2048x1024 .bf16) (harg12 : arg12.IsWhole)
    (T0 T1 T2 : S160.Idx → Elt F .i32) (x0 : S2048x1024.Idx → Elt F .bf16) (x1 : S1x1x2048x256.Idx → Elt F .f32) (x2 : S1x1x2048x256.Idx → Elt F .f32) (x3 : S1x1x1x256.Idx → Elt F .f32) (x4 : S1x1x1x256.Idx → Elt F .f32) (x5 : S1x1x256x2048.Idx → Elt F .f32) (x6 : S1x1x1x2048.Idx → Elt F .f32) (y : S2048x1024.Idx → Elt F .bf16) (a : S1024x2048.Idx → Elt F .bf16) (b : S1024x2048.Idx → Elt F .f32)
    (hc0 : (cond0 i (wordAt T2 i))) (hc1 : (cond1 (wordAt T2 i))) (k0_h3 : (¬ k0_cond3 i (wordAt T2 i) = 1#1)) (k0_h4 : (¬ k0_cond4 i (wordAt T2 i) = 1#1))
    (K : PUnit → sProp (Mo F)) :
    iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (arg9.view.loc (c : Thread nD τ) ↦[arg9.view.set]{fullShare} arg9.view.rep x4)
      ∗ (arg10.view.loc (c : Thread nD τ) ↦[arg10.view.set]{fullShare} arg10.view.rep x5)
      ∗ (arg11.view.loc (c : Thread nD τ) ↦[arg11.view.set]{fullShare} arg11.view.rep x6)
      ∗ (tb0.view.loc (c : Thread nD τ) ↦{fullShare.right} T0)
      ∗ (tb1.view.loc (c : Thread nD τ) ↦{fullShare.right} T1)
      ∗ (tb2.view.loc (c : Thread nD τ) ↦{fullShare.right} T2)
      ∗ owns (c : Thread nD τ) arg12 fullShare y
      ∗ owns (c : Thread nD τ) scX fullShare a
      ∗ owns (c : Thread nD τ) scA fullShare b
      ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (arg11.view.loc (c : Thread nD τ) ↦[arg11.view.set]{fullShare} arg11.view.rep x6)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg12 fullShare (y)
          ∗ owns (c : Thread nD τ) scX fullShare (xbOf x0)
          ∗ owns (c : Thread nD τ) scA fullShare (accStep (xbOf x0) (k0_pay3 x6) x1 x2 x3 x4 x5)) -∗ K ⟨⟩))
      ⊢ wp frame (wpE (defs₀ (F := F)) Variants.none c none) Set.univ (cc0_moe_experts i tb0 (Memref.isWhole_whole _) tb1 (Memref.isWhole_whole _) tb2 (Memref.isWhole_whole _) arg5 harg5 arg6 harg6 arg7 harg7 arg8 harg8 arg9 harg9 arg10 harg10 arg11 harg11 arg12 harg12 scX (Memref.isWhole_whole _) scA (Memref.isWhole_whole _)) K := by
  have hS0 : scX.IsWhole := Memref.isWhole_whole _
  have hS1 : scA.IsWhole := Memref.isWhole_whole _
  have hT0 : tb0.IsWhole := Memref.isWhole_whole _
  have hT1 : tb1.IsWhole := Memref.isWhole_whole _
  have hT2 : tb2.IsWhole := Memref.isWhole_whole _
  unfold owns
  rw [cc0_moe_experts_eq_skeleton]; unfold cc0_moe_experts_skel
  iintro ⟨H0, H1, H2, H3, H4, H5, H6, HT0, HT1, HT2, ⟨%f7, %hf7, HO7⟩, ⟨%fX, %hfX, HS0⟩, ⟨%fA, %hfA, HS1⟩, Hk⟩
  obtain rfl := harg12.eq_unread hf7
  sl_exec! (disch := first | with_reducible exact hc0 | with_reducible exact hc1 | with_reducible exact k0_h3 | with_reducible exact k0_h4)
  sl_step
  iapply Hk
  have hX : View.read (Elt F) scX.view (scX.view.writes (Elt F) scX.view.junk (runA.sl.HS0_2 arg5 x0)) = xbOf x0 := by
    funext j
    refine (read_halves scX.view.junk (k0_pay1 _) (k0_pay2 _) j).trans ?_
    rw [View.readAt_rep_full]
    rfl
  have hA : View.read (Elt F) scA.view (scA.view.writes (Elt F) scA.view.junk (runA.sl.HS1_1 arg11 x6)) = k0_pay3 x6 :=
    (View.read_writes_full _ _ _ _ _).trans (congrArg k0_pay3 (View.readAt_rep_full _ _ _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  isplitl [HO7]
  · iexists _; isplitr; swap
    · iexact HO7
    · ipureintro; exact harg12.read_unread _
  isplitl [HS0]
  · iexists _; isplitr; swap
    · iexact HS0
    · ipureintro; exact hX
  iexists _; isplitr; swap
  · iexact HS1
  · ipureintro; exact (View.read_writes_full _ _ _ _ _).trans ((accRead arg6 arg7 arg8 arg9 arg10 x1 x2 x3 x4 x5 (scX.view.writes (Elt F) scX.view.junk (runA.sl.HS0_2 arg5 x0)) (scA.view.writes (Elt F) scA.view.junk (runA.sl.HS1_1 arg11 x6))).trans (by rw [hX, hA]))

end Cert.KernelIdeal.Moe

end
-- ==== Proof.KI.BodyB.lean ====
/- The grid step of the experts' kernel, path by path: what one run of the body leaves in the two scratch buffers and in the output window. -/
module

public import proofs.«01_k».proof.Proof.KI.BodyDefs
public import proofs.«01_k».proof.Proof.Gen.KernelIdeal.Launch
public import Idealize.ShloMosaic.Lib.ValueIdxCore
public import Idealize.ShloMosaic.Lib.VecWindow
public import Idealize.ShloMosaic.Lib.WritesUnit
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option backward.proofsInPublic true in
set_option maxHeartbeats 8000000 in
/-- A used block at its last slice. -/
theorem runB (c : Dev nD) (i : grid0.Coords) (arg5 : Memref sig .tc .vmem S2048x1024 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x1x256 .f32) (harg8 : arg8.IsWhole) (arg9 : Memref sig .tc .vmem S1x1x1x256 .f32) (harg9 : arg9.IsWhole) (arg10 : Memref sig .tc .vmem S1x1x256x2048 .f32) (harg10 : arg10.IsWhole) (arg11 : Memref sig .tc .vmem S1x1x1x2048 .f32) (harg11 : arg11.IsWhole) (arg12 : Memref sig .tc .vmem S2048x1024 .bf16) (harg12 : arg12.IsWhole)
    (T0 T1 T2 : S160.Idx → Elt F .i32) (x0 : S2048x1024.Idx → Elt F .bf16) (x1 : S1x1x2048x256.Idx → Elt F .f32) (x2 : S1x1x2048x256.Idx → Elt F .f32) (x3 : S1x1x1x256.Idx → Elt F .f32) (x4 : S1x1x1x256.Idx → Elt F .f32) (x5 : S1x1x256x2048.Idx → Elt F .f32) (x6 : S1x1x1x2048.Idx → Elt F .f32) (y : S2048x1024.Idx → Elt F .bf16) (a : S1024x2048.Idx → Elt F .bf16) (b : S1024x2048.Idx → Elt F .f32)
    (hc0 : (¬ cond0 i (wordAt T2 i))) (hc1 : (cond1 (wordAt T2 i))) (k0_h3 : (k0_cond3 i (wordAt T2 i) = 1#1)) (k0_h4 : (¬ k0_cond4 i (wordAt T2 i) = 1#1))
    (K : PUnit → sProp (Mo F)) :
    iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (arg9.view.loc (c : Thread nD τ) ↦[arg9.view.set]{fullShare} arg9.view.rep x4)
      ∗ (arg10.view.loc (c : Thread nD τ) ↦[arg10.view.set]{fullShare} arg10.view.rep x5)
      ∗ (arg11.view.loc (c : Thread nD τ) ↦[arg11.view.set]{fullShare} arg11.view.rep x6)
      ∗ (tb0.view.loc (c : Thread nD τ) ↦{fullShare.right} T0)
      ∗ (tb1.view.loc (c : Thread nD τ) ↦{fullShare.right} T1)
      ∗ (tb2.view.loc (c : Thread nD τ) ↦{fullShare.right} T2)
      ∗ owns (c : Thread nD τ) arg12 fullShare y
      ∗ owns (c : Thread nD τ) scX fullShare a
      ∗ owns (c : Thread nD τ) scA fullShare b
      ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (arg10.view.loc (c : Thread nD τ) ↦[arg10.view.set]{fullShare} arg10.view.rep x5)
          ∗ (arg11.view.loc (c : Thread nD τ) ↦[arg11.view.set]{fullShare} arg11.view.rep x6)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg12 fullShare (k0_pay5 (accStep a b x1 x2 x3 x4 x5))
          ∗ owns (c : Thread nD τ) scX fullShare (a)
          ∗ owns (c : Thread nD τ) scA fullShare (accStep a b x1 x2 x3 x4 x5)) -∗ K ⟨⟩))
      ⊢ wp frame (wpE (defs₀ (F := F)) Variants.none c none) Set.univ (cc0_moe_experts i tb0 (Memref.isWhole_whole _) tb1 (Memref.isWhole_whole _) tb2 (Memref.isWhole_whole _) arg5 harg5 arg6 harg6 arg7 harg7 arg8 harg8 arg9 harg9 arg10 harg10 arg11 harg11 arg12 harg12 scX (Memref.isWhole_whole _) scA (Memref.isWhole_whole _)) K := by
  have hS0 : scX.IsWhole := Memref.isWhole_whole _
  have hS1 : scA.IsWhole := Memref.isWhole_whole _
  have hT0 : tb0.IsWhole := Memref.isWhole_whole _
  have hT1 : tb1.IsWhole := Memref.isWhole_whole _
  have hT2 : tb2.IsWhole := Memref.isWhole_whole _
  unfold owns
  rw [cc0_moe_experts_eq_skeleton]; unfold cc0_moe_experts_skel
  iintro ⟨H0, H1, H2, H3, H4, H5, H6, HT0, HT1, HT2, ⟨%f7, %hf7, HO7⟩, ⟨%fX, %hfX, HS0⟩, ⟨%fA, %hfA, HS1⟩, Hk⟩
  obtain rfl := harg12.eq_unread hf7
  sl_exec! (disch := first | with_reducible exact hc0 | with_reducible exact hc1 | with_reducible exact k0_h3 | with_reducible exact k0_h4)
  sl_step
  iapply Hk
  have hA : View.read (Elt F) scA.view (scA.view.writes (Elt F) scA.view.junk (runB.sl.HS1_1 c arg6 arg7 arg8 arg9 arg10 x1 x2 x3 x4 x5 fX fA)) = accStep a b x1 x2 x3 x4 x5 := by
    exact (View.read_writes_full _ _ _ _ _).trans ((accRead arg6 arg7 arg8 arg9 arg10 x1 x2 x3 x4 x5 fX fA).trans (by rw [hfX, hfA]))
  have hV : runB.sl.v18 c arg6 arg7 arg8 arg9 arg10 x1 x2 x3 x4 x5 fX fA = accStep a b x1 x2 x3 x4 x5 :=
    (View.readAt_full scA.view (scA.view.writes (Elt F) scA.view.junk (runB.sl.HS1_1 c arg6 arg7 arg8 arg9 arg10 x1 x2 x3 x4 x5 fX fA)) inb_S1024x2048_S1024x2048_0_0).trans hA
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  isplitl [HO7]
  · iexists _; isplitr; swap
    · iexact HO7
    · ipureintro; exact (View.read_writes_full _ _ _ _ _).trans (congrArg k0_pay5 hV)
  isplitl [HS0]
  · iexists _; isplitr; swap
    · iexact HS0
    · ipureintro; exact hfX
  iexists _; isplitr; swap
  · iexact HS1
  · ipureintro; exact hA

end Cert.KernelIdeal.Moe

end
-- ==== Proof.KI.Region.lean ====
/- The experts' call as a pipeline: what its scratch buffers hold before each grid point, what each point leaves, and the obligation of one point. -/
module

public import proofs.«01_k».proof.Proof.KI.Points
public import proofs.«01_k».proof.Proof.KI.Body
public import proofs.«01_k».proof.Proof.KI.BodyA
public import proofs.«01_k».proof.Proof.KI.BodyB
public import Idealize.ShloMosaic.Lib.Pipeline.FrameSuffix

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V₀ : Dev nD → Valuation τ sig (Elt F)) (ad : (pcfg0 (F := F)).Adm)

/-- The pipeline at admissible contents of the three tables. -/
abbrev cfgA : Pipeline.Cfg sig Λ₀ := cfg0 (F := F) ad
abbrev pcs : Fin 1 → Pipeline.Cfg sig Λ₀ := Pipeline.pin (pcfgs (F := F)) fun _ => ad

abbrev crd (t : Fin (cfgA (F := F) ad).N) : (cfgA (F := F) ad).grid.Coords := (cfgA (F := F) ad).grid.coords t

abbrev ms0 (t : Fin (cfgA (F := F) ad).N) : Memref sig .tc .vmem S2048x1024 .bf16 := spec0_0.stage ((cfgA (F := F) ad).slots t (0 : Fin 8))
abbrev hs0 (t : Fin (cfgA (F := F) ad).N) : (ms0 ad t).IsWhole := hstage0_0 (((cfgA (F := F) ad).slots t (0 : Fin 8)).cast nbuf0_0)
abbrev ms1 (t : Fin (cfgA (F := F) ad).N) : Memref sig .tc .vmem S1x1x2048x256 .f32 := spec0_1.stage ((cfgA (F := F) ad).slots t (1 : Fin 8))
abbrev hs1 (t : Fin (cfgA (F := F) ad).N) : (ms1 ad t).IsWhole := hstage0_1 (((cfgA (F := F) ad).slots t (1 : Fin 8)).cast nbuf0_1)
abbrev ms2 (t : Fin (cfgA (F := F) ad).N) : Memref sig .tc .vmem S1x1x2048x256 .f32 := spec0_2.stage ((cfgA (F := F) ad).slots t (2 : Fin 8))
abbrev hs2 (t : Fin (cfgA (F := F) ad).N) : (ms2 ad t).IsWhole := hstage0_2 (((cfgA (F := F) ad).slots t (2 : Fin 8)).cast nbuf0_2)
abbrev ms3 (t : Fin (cfgA (F := F) ad).N) : Memref sig .tc .vmem S1x1x1x256 .f32 := spec0_3.stage ((cfgA (F := F) ad).slots t (3 : Fin 8))
abbrev hs3 (t : Fin (cfgA (F := F) ad).N) : (ms3 ad t).IsWhole := hstage0_3 (((cfgA (F := F) ad).slots t (3 : Fin 8)).cast nbuf0_3)
abbrev ms4 (t : Fin (cfgA (F := F) ad).N) : Memref sig .tc .vmem S1x1x1x256 .f32 := spec0_4.stage ((cfgA (F := F) ad).slots t (4 : Fin 8))
abbrev hs4 (t : Fin (cfgA (F := F) ad).N) : (ms4 ad t).IsWhole := hstage0_4 (((cfgA (F := F) ad).slots t (4 : Fin 8)).cast nbuf0_4)
abbrev ms5 (t : Fin (cfgA (F := F) ad).N) : Memref sig .tc .vmem S1x1x256x2048 .f32 := spec0_5.stage ((cfgA (F := F) ad).slots t (5 : Fin 8))
abbrev hs5 (t : Fin (cfgA (F := F) ad).N) : (ms5 ad t).IsWhole := hstage0_5 (((cfgA (F := F) ad).slots t (5 : Fin 8)).cast nbuf0_5)
abbrev ms6 (t : Fin (cfgA (F := F) ad).N) : Memref sig .tc .vmem S1x1x1x2048 .f32 := spec0_6.stage ((cfgA (F := F) ad).slots t (6 : Fin 8))
abbrev hs6 (t : Fin (cfgA (F := F) ad).N) : (ms6 ad t).IsWhole := hstage0_6 (((cfgA (F := F) ad).slots t (6 : Fin 8)).cast nbuf0_6)
abbrev ms7 (t : Fin (cfgA (F := F) ad).N) : Memref sig .tc .vmem S2048x1024 .bf16 := spec0_7.stage ((cfgA (F := F) ad).slots t (7 : Fin 8))
abbrev hs7 (t : Fin (cfgA (F := F) ad).N) : (ms7 ad t).IsWhole := hstage0_7 (((cfgA (F := F) ad).slots t (7 : Fin 8)).cast nbuf0_7)

/-- Window `w`'s block at point `t`, read off its array. -/
def iblk (c : Dev nD) (w : Fin (cfgA (F := F) ad).W) (t : Fin (cfgA (F := F) ad).N) : (((cfgA (F := F) ad).win w).xblock (crd (F := F) ad t)).Idx → Elt F ((cfgA (F := F) ad).win w).elt :=
  (((cfgA (F := F) ad).win w).blk t).view.read (Elt F) (V₀ c (Proc.devRef .tc (Pipeline.arrRef (cfgA (F := F) ad).spec w)))

abbrev ib0 (c : Dev nD) (t : Fin (cfgA (F := F) ad).N) : S2048x1024.Idx → Elt F .bf16 := iblk (F := F) V₀ ad c (0 : Fin 8) t
abbrev ib1 (c : Dev nD) (t : Fin (cfgA (F := F) ad).N) : S1x1x2048x256.Idx → Elt F .f32 := iblk (F := F) V₀ ad c (1 : Fin 8) t
abbrev ib2 (c : Dev nD) (t : Fin (cfgA (F := F) ad).N) : S1x1x2048x256.Idx → Elt F .f32 := iblk (F := F) V₀ ad c (2 : Fin 8) t
abbrev ib3 (c : Dev nD) (t : Fin (cfgA (F := F) ad).N) : S1x1x1x256.Idx → Elt F .f32 := iblk (F := F) V₀ ad c (3 : Fin 8) t
abbrev ib4 (c : Dev nD) (t : Fin (cfgA (F := F) ad).N) : S1x1x1x256.Idx → Elt F .f32 := iblk (F := F) V₀ ad c (4 : Fin 8) t
abbrev ib5 (c : Dev nD) (t : Fin (cfgA (F := F) ad).N) : S1x1x256x2048.Idx → Elt F .f32 := iblk (F := F) V₀ ad c (5 : Fin 8) t
abbrev ib6 (c : Dev nD) (t : Fin (cfgA (F := F) ad).N) : S1x1x1x2048.Idx → Elt F .f32 := iblk (F := F) V₀ ad c (6 : Fin 8) t

/-- The third table's word at a point. -/
abbrev wd (t : Fin (cfgA (F := F) ad).N) : BitVec 32 := wordAt (F := F) (ad.1 2) (crd (F := F) ad t)

/-- What the two scratch buffers hold before position `n` while the point's block runs: at a block's first slice the
    activations are loaded and the sum starts at the bias; every slice adds its contribution. -/
def traj (c : Dev nD) : ℕ → (S1024x2048.Idx → Elt F .bf16) × (S1024x2048.Idx → Elt F .f32)
  | 0 => (View.read (Elt F) scX.view scX.view.junk, View.read (Elt F) scA.view scA.view.junk)
  | n + 1 => if h : n < (cfgA (F := F) ad).N then
      let t : Fin (cfgA (F := F) ad).N := ⟨n, h⟩
      if (crd (F := F) ad t 1).val = 0 then
        (xbOf (ib0 V₀ ad c t), accStep (xbOf (ib0 V₀ ad c t)) (k0_pay3 (ib6 V₀ ad c t)) (ib1 V₀ ad c t) (ib2 V₀ ad c t) (ib3 V₀ ad c t) (ib4 V₀ ad c t) (ib5 V₀ ad c t))
      else ((traj c n).1, accStep (traj c n).1 (traj c n).2 (ib1 V₀ ad c t) (ib2 V₀ ad c t) (ib3 V₀ ad c t) (ib4 V₀ ad c t) (ib5 V₀ ad c t))
    else (View.read (Elt F) scX.view scX.view.junk, View.read (Elt F) scA.view scA.view.junk)

theorem traj_first (c : Dev nD) (t : Fin (cfgA (F := F) ad).N) (h : (crd (F := F) ad t 1).val = 0) :
    traj (F := F) V₀ ad c (t.val + 1) = (xbOf (ib0 V₀ ad c t), accStep (xbOf (ib0 V₀ ad c t)) (k0_pay3 (ib6 V₀ ad c t)) (ib1 V₀ ad c t) (ib2 V₀ ad c t) (ib3 V₀ ad c t) (ib4 V₀ ad c t) (ib5 V₀ ad c t)) := by
  rw [traj, dif_pos t.isLt]; exact if_pos h

theorem traj_next (c : Dev nD) (t : Fin (cfgA (F := F) ad).N) (h : (crd (F := F) ad t 1).val ≠ 0) :
    traj (F := F) V₀ ad c (t.val + 1) = ((traj (F := F) V₀ ad c t.val).1, accStep (traj (F := F) V₀ ad c t.val).1 (traj (F := F) V₀ ad c t.val).2 (ib1 V₀ ad c t) (ib2 V₀ ad c t) (ib3 V₀ ad c t) (ib4 V₀ ad c t) (ib5 V₀ ad c t)) := by
  rw [traj, dif_pos t.isLt]; exact if_neg h

/-- What is known of the scratch buffers before position `n`: within a running block they hold what `traj` says. -/
def Known (c : Dev nD) (n : ℕ) (a : S1024x2048.Idx → Elt F .bf16) (b : S1024x2048.Idx → Elt F .f32) : Prop :=
  ∀ h : n < (cfgA (F := F) ad).N, (crd (F := F) ad ⟨n, h⟩ 1).val ≠ 0 → valid (wd (F := F) ad ⟨n, h⟩) → a = (traj (F := F) V₀ ad c n).1 ∧ b = (traj (F := F) V₀ ad c n).2

theorem N_A : (cfgA (F := F) ad).N = 1280 := N_0

theorem crdA0 (t : Fin (cfgA (F := F) ad).N) : (crd (F := F) ad t 0).val = t.val / 8 := crd0 t
theorem crdA1 (t : Fin (cfgA (F := F) ad).N) : (crd (F := F) ad t 1).val = t.val % 8 := crd1 t

/-- A point and the next one inside the same block read the same word. -/
theorem wd_succ (n : ℕ) (h : n < (cfgA (F := F) ad).N) (h' : n + 1 < (cfgA (F := F) ad).N) (hf : (crd (F := F) ad ⟨n + 1, h'⟩ 1).val ≠ 0) : wd (F := F) ad ⟨n + 1, h'⟩ = wd (F := F) ad ⟨n, h⟩ := by
  refine (wordAt_eq (F := F) (ad.1 2) (crd (F := F) ad ⟨n + 1, h'⟩)).trans (Eq.trans ?_ (wordAt_eq (F := F) (ad.1 2) (crd (F := F) ad ⟨n, h⟩)).symm)
  have e : crd (F := F) ad ⟨n + 1, h'⟩ 0 = crd (F := F) ad ⟨n, h⟩ 0 := Fin.ext (by
    rw [crdA1] at hf
    rw [crdA0, crdA0]
    change (n + 1) % 8 ≠ 0 at hf
    show (n + 1) / 8 = n / 8
    omega)
  rw [e]

theorem known_valid (c : Dev nD) (t : Fin (cfgA (F := F) ad).N) (a b) (h : a = (traj (F := F) V₀ ad c (t.val + 1)).1 ∧ b = (traj (F := F) V₀ ad c (t.val + 1)).2) : Known (F := F) V₀ ad c (t.val + 1) a b :=
  fun _ _ _ => h

theorem known_invalid (c : Dev nD) (t : Fin (cfgA (F := F) ad).N) (a b) (hv : ¬ valid (wd (F := F) ad t)) : Known (F := F) V₀ ad c (t.val + 1) a b :=
  fun h hf hv' => absurd (wd_succ ad t.val t.isLt h hf ▸ hv') hv

/-- What the output window holds after a point that stores it. -/
def outAt (c : Dev nD) (t : Fin (cfgA (F := F) ad).N) : S2048x1024.Idx → Elt F .bf16 :=
  open Classical in if valid (wd (F := F) ad t) then k0_pay5 (traj (F := F) V₀ ad c (t.val + 1)).2 else k0_pay6

/-- The invariant before position `n`: the two scratch buffers at contents of which `Known` holds, the body's halves of the tables, the generator's register. -/
def Phi (c : Dev nD) (n : ℕ) : sProp 𝕄 :=
  iprop((∃ a b, ⌜Known (F := F) V₀ ad c n a b⌝ ∗ owns (c : Thread nD τ) scX fullShare a ∗ owns (c : Thread nD τ) scA fullShare b)
    ∗ (tb0.view.loc (c : Thread nD τ) ↦{fullShare.right} (ad.1 0)) ∗ (tb1.view.loc (c : Thread nD τ) ↦{fullShare.right} (ad.1 1)) ∗ (tb2.view.loc (c : Thread nD τ) ↦{fullShare.right} (ad.1 2)) ∗ (∃ r, prngReg c r))

/-- The proof data of the pipeline on core `c`. -/
def dats (_ : Fin 1) (c : Dev nD) : Dat τ (Elt F) Unit ℕ (UR sig nD τ) ℕ (cfgA (F := F) ad) c where
  A w := V₀ c (Proc.devRef .tc (Pipeline.arrRef (cfgA (F := F) ad).spec w))
  after w t := match w with
    | ⟨0, _⟩ => iblk (F := F) V₀ ad c (0 : Fin 8) t
    | ⟨1, _⟩ => iblk (F := F) V₀ ad c (1 : Fin 8) t
    | ⟨2, _⟩ => iblk (F := F) V₀ ad c (2 : Fin 8) t
    | ⟨3, _⟩ => iblk (F := F) V₀ ad c (3 : Fin 8) t
    | ⟨4, _⟩ => iblk (F := F) V₀ ad c (4 : Fin 8) t
    | ⟨5, _⟩ => iblk (F := F) V₀ ad c (5 : Fin 8) t
    | ⟨6, _⟩ => iblk (F := F) V₀ ad c (6 : Fin 8) t
    | ⟨7, _⟩ => outAt (F := F) V₀ ad c t
  Φ t := Phi V₀ ad c t.val
  q := Pipeline.shareOf (cfgA (F := F) ad).spec
  owed _ := 0

theorem after_0 (c : Dev nD) (t : Fin (cfgA (F := F) ad).N) : (dats (F := F) V₀ ad 0 c).after (0 : Fin 8) t = iblk (F := F) V₀ ad c (0 : Fin 8) t := rfl
theorem after_1 (c : Dev nD) (t : Fin (cfgA (F := F) ad).N) : (dats (F := F) V₀ ad 0 c).after (1 : Fin 8) t = iblk (F := F) V₀ ad c (1 : Fin 8) t := rfl
theorem after_2 (c : Dev nD) (t : Fin (cfgA (F := F) ad).N) : (dats (F := F) V₀ ad 0 c).after (2 : Fin 8) t = iblk (F := F) V₀ ad c (2 : Fin 8) t := rfl
theorem after_3 (c : Dev nD) (t : Fin (cfgA (F := F) ad).N) : (dats (F := F) V₀ ad 0 c).after (3 : Fin 8) t = iblk (F := F) V₀ ad c (3 : Fin 8) t := rfl
theorem after_4 (c : Dev nD) (t : Fin (cfgA (F := F) ad).N) : (dats (F := F) V₀ ad 0 c).after (4 : Fin 8) t = iblk (F := F) V₀ ad c (4 : Fin 8) t := rfl
theorem after_5 (c : Dev nD) (t : Fin (cfgA (F := F) ad).N) : (dats (F := F) V₀ ad 0 c).after (5 : Fin 8) t = iblk (F := F) V₀ ad c (5 : Fin 8) t := rfl
theorem after_6 (c : Dev nD) (t : Fin (cfgA (F := F) ad).N) : (dats (F := F) V₀ ad 0 c).after (6 : Fin 8) t = iblk (F := F) V₀ ad c (6 : Fin 8) t := rfl
theorem after_7 (c : Dev nD) (t : Fin (cfgA (F := F) ad).N) : (dats (F := F) V₀ ad 0 c).after (7 : Fin 8) t = outAt (F := F) V₀ ad c t := rfl

theorem before_0 (c : Dev nD) (t : Fin (cfgA (F := F) ad).N) (d) : (dats (F := F) V₀ ad 0 c).before (0 : Fin 8) t d = iblk (F := F) V₀ ad c (0 : Fin 8) t :=
  ((dats (F := F) V₀ ad 0 c).before_in_eq_fetched (0 : Fin 8) rfl (fun _ => rfl) (fun _ _ _ => rfl) (fun t => by rw [after_0]; unfold Dat.blockOf iblk; rfl) t d).trans
    (by unfold Dat.fetched Dat.blockOf iblk; rfl)
theorem before_1 (c : Dev nD) (t : Fin (cfgA (F := F) ad).N) (d) : (dats (F := F) V₀ ad 0 c).before (1 : Fin 8) t d = iblk (F := F) V₀ ad c (1 : Fin 8) t :=
  ((dats (F := F) V₀ ad 0 c).before_in_eq_fetched (1 : Fin 8) rfl (fun _ => rfl) (fun _ _ _ => rfl) (fun t => by rw [after_1]; unfold Dat.blockOf iblk; rfl) t d).trans
    (by unfold Dat.fetched Dat.blockOf iblk; rfl)
theorem before_2 (c : Dev nD) (t : Fin (cfgA (F := F) ad).N) (d) : (dats (F := F) V₀ ad 0 c).before (2 : Fin 8) t d = iblk (F := F) V₀ ad c (2 : Fin 8) t :=
  ((dats (F := F) V₀ ad 0 c).before_in_eq_fetched (2 : Fin 8) rfl (fun _ => rfl) (fun _ _ _ => rfl) (fun t => by rw [after_2]; unfold Dat.blockOf iblk; rfl) t d).trans
    (by unfold Dat.fetched Dat.blockOf iblk; rfl)
theorem before_3 (c : Dev nD) (t : Fin (cfgA (F := F) ad).N) (d) : (dats (F := F) V₀ ad 0 c).before (3 : Fin 8) t d = iblk (F := F) V₀ ad c (3 : Fin 8) t :=
  ((dats (F := F) V₀ ad 0 c).before_in_eq_fetched (3 : Fin 8) rfl (fun _ => rfl) (fun _ _ _ => rfl) (fun t => by rw [after_3]; unfold Dat.blockOf iblk; rfl) t d).trans
    (by unfold Dat.fetched Dat.blockOf iblk; rfl)
theorem before_4 (c : Dev nD) (t : Fin (cfgA (F := F) ad).N) (d) : (dats (F := F) V₀ ad 0 c).before (4 : Fin 8) t d = iblk (F := F) V₀ ad c (4 : Fin 8) t :=
  ((dats (F := F) V₀ ad 0 c).before_in_eq_fetched (4 : Fin 8) rfl (fun _ => rfl) (fun _ _ _ => rfl) (fun t => by rw [after_4]; unfold Dat.blockOf iblk; rfl) t d).trans
    (by unfold Dat.fetched Dat.blockOf iblk; rfl)
theorem before_5 (c : Dev nD) (t : Fin (cfgA (F := F) ad).N) (d) : (dats (F := F) V₀ ad 0 c).before (5 : Fin 8) t d = iblk (F := F) V₀ ad c (5 : Fin 8) t :=
  ((dats (F := F) V₀ ad 0 c).before_in_eq_fetched (5 : Fin 8) rfl (fun _ => rfl) (fun _ _ _ => rfl) (fun t => by rw [after_5]; unfold Dat.blockOf iblk; rfl) t d).trans
    (by unfold Dat.fetched Dat.blockOf iblk; rfl)
theorem before_6 (c : Dev nD) (t : Fin (cfgA (F := F) ad).N) (d) : (dats (F := F) V₀ ad 0 c).before (6 : Fin 8) t d = iblk (F := F) V₀ ad c (6 : Fin 8) t :=
  ((dats (F := F) V₀ ad 0 c).before_in_eq_fetched (6 : Fin 8) rfl (fun _ => rfl) (fun _ _ _ => rfl) (fun t => by rw [after_6]; unfold Dat.blockOf iblk; rfl) t d).trans
    (by unfold Dat.fetched Dat.blockOf iblk; rfl)

/-- The output window is idle except at a block's last slice, -/
theorem idle_7 (t : Fin (cfgA (F := F) ad).N) : (cfgA (F := F) ad).idle (7 : Fin 8) (crd (F := F) ad t) = decide ((crd (F := F) ad t 1).val ≠ 7) := idle7_eq (F := F) ad.1 (crd (F := F) ad t)

/-- and is not written back while it is idle. -/
theorem flush_7 (t : Fin (cfgA (F := F) ad).N) (h : (crd (F := F) ad t 1).val ≠ 7) : ((cfgA (F := F) ad).win (7 : Fin 8)).flush t = false := by
  have hN := N_A ad
  have ht : t.val < 1280 := lt_of_lt_of_eq t.isLt hN
  rw [crdA1] at h
  rw [Window.flush_eq_flushOf]
  unfold Window.flushOf
  have h1 : ¬ (t.val + 1 = (cfgA (F := F) ad).grid.N) := fun q => by
    have q' : t.val + 1 = 1280 := q.trans hN
    omega
  have h2 : ¬ ∃ h : t.val + 1 < (cfgA (F := F) ad).grid.N, ((cfgA (F := F) ad).win (7 : Fin 8)).indexMap ((cfgA (F := F) ad).grid.coords ⟨t.val + 1, h⟩) ≠ ((cfgA (F := F) ad).win (7 : Fin 8)).indexMap ((cfgA (F := F) ad).grid.coords t) := by
    rintro ⟨h', q⟩
    refine q ?_
    refine (tr7_eq (crd (F := F) ad ⟨t.val + 1, h'⟩)).trans (Eq.trans ?_ (tr7_eq (crd (F := F) ad t)).symm)
    have e : (crd (F := F) ad ⟨t.val + 1, h'⟩ 0).val = (crd (F := F) ad t 0).val := by
      rw [crdA0, crdA0]; show (t.val + 1) / 8 = t.val / 8; omega
    exact congrArg (fun n : ℕ => ![n, 0]) e
  rw [decide_eq_false h1, decide_eq_false h2]
  simp

/-- The body at point `t` on its staging buffers, as the pipeline calls it. -/
abbrev bodyAt (t : Fin (cfgA (F := F) ad).N) : Prog (TpuEff nD τ sig (Elt F) Λ₀ .tc) PUnit :=
  cc0_moe_experts (crd (F := F) ad t) tb0 (Memref.isWhole_whole _) tb1 (Memref.isWhole_whole _) tb2 (Memref.isWhole_whole _) (ms0 ad t) (hs0 ad t) (ms1 ad t) (hs1 ad t) (ms2 ad t) (hs2 ad t) (ms3 ad t) (hs3 ad t) (ms4 ad t) (hs4 ad t) (ms5 ad t) (hs5 ad t) (ms6 ad t) (hs6 ad t) (ms7 ad t) (hs7 ad t) scX (Memref.isWhole_whole _) scA (Memref.isWhole_whole _)

end Cert.KernelIdeal.Moe

end
-- ==== Proof.KI.StepA.lean ====
/- The obligation of one grid point, branch by branch. -/
module

public import proofs.«01_k».proof.Proof.KI.Region

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V₀ : Dev nD → Valuation τ sig (Elt F)) (ad : (pcfg0 (F := F)).Adm)

set_option maxHeartbeats 6400000 in
theorem stepA (c : Dev nD) (t : Fin (cfgA (F := F) ad).N) (hv : valid (wd (F := F) ad t)) (h0 : (crd (F := F) ad t 1).val = 0) :
    iprop((dats (F := F) V₀ ad 0 c).Φ t.castSucc ∗ (dats (F := F) V₀ ad 0 c).owesAt () t.castSucc
        ∗ (∃ d, owns (c : Thread nD τ) (ms0 ad t) fullShare ((dats (F := F) V₀ ad 0 c).before (0 : Fin 8) t d))
        ∗ (∃ d, owns (c : Thread nD τ) (ms1 ad t) fullShare ((dats (F := F) V₀ ad 0 c).before (1 : Fin 8) t d))
        ∗ (∃ d, owns (c : Thread nD τ) (ms2 ad t) fullShare ((dats (F := F) V₀ ad 0 c).before (2 : Fin 8) t d))
        ∗ (∃ d, owns (c : Thread nD τ) (ms3 ad t) fullShare ((dats (F := F) V₀ ad 0 c).before (3 : Fin 8) t d))
        ∗ (∃ d, owns (c : Thread nD τ) (ms4 ad t) fullShare ((dats (F := F) V₀ ad 0 c).before (4 : Fin 8) t d))
        ∗ (∃ d, owns (c : Thread nD τ) (ms5 ad t) fullShare ((dats (F := F) V₀ ad 0 c).before (5 : Fin 8) t d))
        ∗ (∃ d, owns (c : Thread nD τ) (ms6 ad t) fullShare ((dats (F := F) V₀ ad 0 c).before (6 : Fin 8) t d))
        ∗ (∃ d, owns (c : Thread nD τ) (ms7 ad t) fullShare ((dats (F := F) V₀ ad 0 c).before (7 : Fin 8) t d)))
      ⊢ wp frame (wpE (defs₀ (F := F)) Variants.none c none) Set.univ (bodyAt ad t) fun _ =>
          iprop((dats (F := F) V₀ ad 0 c).Φ t.succ ∗ (dats (F := F) V₀ ad 0 c).owesAt () t.succ
            ∗ bigSep Finset.univ fun w : Fin (cfgA (F := F) ad).W =>
                match (cfgA (F := F) ad).idle w ((cfgA (F := F) ad).grid.coords t) with
                | true =>
                  match ((cfgA (F := F) ad).win w).flush t with
                  | false => iprop(∃ d, owns (c : Thread nD τ) (((cfgA (F := F) ad).win w).stage ((cfgA (F := F) ad).slots t w)) fullShare ((dats (F := F) V₀ ad 0 c).before w t d))
                  | true => owns (c : Thread nD τ) (((cfgA (F := F) ad).win w).stage ((cfgA (F := F) ad).slots t w)) fullShare ((dats (F := F) V₀ ad 0 c).after w t)
                | false => owns (c : Thread nD τ) (((cfgA (F := F) ad).win w).stage ((cfgA (F := F) ad).slots t w)) fullShare ((dats (F := F) V₀ ad 0 c).after w t)) := by
  rw [bigSep_W0]
  have h7 : (crd (F := F) ad t 1).val ≠ 7 := by omega
  have i7 : (cfgA (F := F) ad).idle (7 : Fin 8) ((cfgA (F := F) ad).grid.coords t) = true := (idle_7 ad t).trans (decide_eq_true h7)
  have f7 := flush_7 ad t h7
  rewrite [i7]
  simp only [f7, before_0, before_1, before_2, before_3, before_4, before_5, before_6, after_0, after_1, after_2, after_3, after_4, after_5, after_6, after_7]
  rewrite [show (dats (F := F) V₀ ad 0 c).Φ t.succ = Phi V₀ ad c (t.val + 1) from rfl, show (dats (F := F) V₀ ad 0 c).Φ t.castSucc = Phi V₀ ad c t.val from rfl,
    show (dats (F := F) V₀ ad 0 c).owesAt () t.succ = (dats (F := F) V₀ ad 0 c).owesAt () t.castSucc from rfl]
  unfold Phi
  iintro ⟨⟨⟨%a, %b, %hk, HX, HA⟩, HT0, HT1, HT2, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have g0 : cond0 (crd (F := F) ad t) (wd (F := F) ad t) := ((cond0_iff _ _).mpr ⟨hv, h0⟩)
  have g1 : cond1 (wd (F := F) ad t) := ((cond1_iff _).mpr hv)
  have g2 : ¬ k0_cond3 (crd (F := F) ad t) (wd (F := F) ad t) = 1#1 := (fun h => h7 ((cond3_iff _ _).mp h).2)
  have g3 : ¬ k0_cond4 (crd (F := F) ad t) (wd (F := F) ad t) = 1#1 := (fun h => h7 ((cond4_iff _ _).mp h).2)
  have hkn : Known (F := F) V₀ ad c (t.val + 1) (xbOf (ib0 V₀ ad c t)) (accStep (xbOf (ib0 V₀ ad c t)) (k0_pay3 (ib6 V₀ ad c t)) (ib1 V₀ ad c t) (ib2 V₀ ad c t) (ib3 V₀ ad c t) (ib4 V₀ ad c t) (ib5 V₀ ad c t)) := known_valid V₀ ad c t _ _ (by rw [traj_first V₀ ad c t h0]; exact ⟨rfl, rfl⟩)
  iapply (runA c (crd (F := F) ad t) (ms0 ad t) (hs0 ad t) (ms1 ad t) (hs1 ad t) (ms2 ad t) (hs2 ad t) (ms3 ad t) (hs3 ad t) (ms4 ad t) (hs4 ad t) (ms5 ad t) (hs5 ad t) (ms6 ad t) (hs6 ad t) (ms7 ad t) (hs7 ad t) (ad.1 0) (ad.1 1) (ad.1 2) (ib0 V₀ ad c t) (ib1 V₀ ad c t) (ib2 V₀ ad c t) (ib3 V₀ ad c t) (ib4 V₀ ad c t) (ib5 V₀ ad c t) (ib6 V₀ ad c t) _ a b g0 g1 g2 g3 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexact H7
  isplitl [HX]; · iexact HX
  isplitl [HA]; · iexact HA
  iintro ⟨H0, H1, H2, H3, H4, H5, H6, HT0, HT1, HT2, H7, HX, HA⟩
  isplitl [HX HA HT0 HT1 HT2 HP]
  · isplitl [HX HA]
    · iexists _; iexists _; isplitr
      · ipureintro; exact hkn
      isplitl [HX]; · iexact HX
      iexact HA
    isplitl [HT0]; · iexact HT0
    isplitl [HT1]; · iexact HT1
    isplitl [HT2]; · iexact HT2
    iexact HP
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexists d7; iexact H7

set_option maxHeartbeats 6400000 in
theorem stepC (c : Dev nD) (t : Fin (cfgA (F := F) ad).N) (hv : ¬ valid (wd (F := F) ad t)) (h7 : (crd (F := F) ad t 1).val ≠ 7) :
    iprop((dats (F := F) V₀ ad 0 c).Φ t.castSucc ∗ (dats (F := F) V₀ ad 0 c).owesAt () t.castSucc
        ∗ (∃ d, owns (c : Thread nD τ) (ms0 ad t) fullShare ((dats (F := F) V₀ ad 0 c).before (0 : Fin 8) t d))
        ∗ (∃ d, owns (c : Thread nD τ) (ms1 ad t) fullShare ((dats (F := F) V₀ ad 0 c).before (1 : Fin 8) t d))
        ∗ (∃ d, owns (c : Thread nD τ) (ms2 ad t) fullShare ((dats (F := F) V₀ ad 0 c).before (2 : Fin 8) t d))
        ∗ (∃ d, owns (c : Thread nD τ) (ms3 ad t) fullShare ((dats (F := F) V₀ ad 0 c).before (3 : Fin 8) t d))
        ∗ (∃ d, owns (c : Thread nD τ) (ms4 ad t) fullShare ((dats (F := F) V₀ ad 0 c).before (4 : Fin 8) t d))
        ∗ (∃ d, owns (c : Thread nD τ) (ms5 ad t) fullShare ((dats (F := F) V₀ ad 0 c).before (5 : Fin 8) t d))
        ∗ (∃ d, owns (c : Thread nD τ) (ms6 ad t) fullShare ((dats (F := F) V₀ ad 0 c).before (6 : Fin 8) t d))
        ∗ (∃ d, owns (c : Thread nD τ) (ms7 ad t) fullShare ((dats (F := F) V₀ ad 0 c).before (7 : Fin 8) t d)))
      ⊢ wp frame (wpE (defs₀ (F := F)) Variants.none c none) Set.univ (bodyAt ad t) fun _ =>
          iprop((dats (F := F) V₀ ad 0 c).Φ t.succ ∗ (dats (F := F) V₀ ad 0 c).owesAt () t.succ
            ∗ bigSep Finset.univ fun w : Fin (cfgA (F := F) ad).W =>
                match (cfgA (F := F) ad).idle w ((cfgA (F := F) ad).grid.coords t) with
                | true =>
                  match ((cfgA (F := F) ad).win w).flush t with
                  | false => iprop(∃ d, owns (c : Thread nD τ) (((cfgA (F := F) ad).win w).stage ((cfgA (F := F) ad).slots t w)) fullShare ((dats (F := F) V₀ ad 0 c).before w t d))
                  | true => owns (c : Thread nD τ) (((cfgA (F := F) ad).win w).stage ((cfgA (F := F) ad).slots t w)) fullShare ((dats (F := F) V₀ ad 0 c).after w t)
                | false => owns (c : Thread nD τ) (((cfgA (F := F) ad).win w).stage ((cfgA (F := F) ad).slots t w)) fullShare ((dats (F := F) V₀ ad 0 c).after w t)) := by
  rw [bigSep_W0]
  have i7 : (cfgA (F := F) ad).idle (7 : Fin 8) ((cfgA (F := F) ad).grid.coords t) = true := (idle_7 ad t).trans (decide_eq_true h7)
  have f7 := flush_7 ad t h7
  rewrite [i7]
  simp only [f7, before_0, before_1, before_2, before_3, before_4, before_5, before_6, after_0, after_1, after_2, after_3, after_4, after_5, after_6, after_7]
  rewrite [show (dats (F := F) V₀ ad 0 c).Φ t.succ = Phi V₀ ad c (t.val + 1) from rfl, show (dats (F := F) V₀ ad 0 c).Φ t.castSucc = Phi V₀ ad c t.val from rfl,
    show (dats (F := F) V₀ ad 0 c).owesAt () t.succ = (dats (F := F) V₀ ad 0 c).owesAt () t.castSucc from rfl]
  unfold Phi
  iintro ⟨⟨⟨%a, %b, %hk, HX, HA⟩, HT0, HT1, HT2, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have g0 : ¬ cond0 (crd (F := F) ad t) (wd (F := F) ad t) := (fun h => hv ((cond0_iff _ _).mp h).1)
  have g1 : ¬ cond1 (wd (F := F) ad t) := (fun h => hv ((cond1_iff _).mp h))
  have g2 : ¬ k0_cond3 (crd (F := F) ad t) (wd (F := F) ad t) = 1#1 := (fun h => h7 ((cond3_iff _ _).mp h).2)
  have g3 : ¬ k0_cond4 (crd (F := F) ad t) (wd (F := F) ad t) = 1#1 := (fun h => h7 ((cond4_iff _ _).mp h).2)
  have hkn : Known (F := F) V₀ ad c (t.val + 1) a b := known_invalid V₀ ad c t _ _ hv
  iapply (runC c (crd (F := F) ad t) (ms0 ad t) (hs0 ad t) (ms1 ad t) (hs1 ad t) (ms2 ad t) (hs2 ad t) (ms3 ad t) (hs3 ad t) (ms4 ad t) (hs4 ad t) (ms5 ad t) (hs5 ad t) (ms6 ad t) (hs6 ad t) (ms7 ad t) (hs7 ad t) (ad.1 0) (ad.1 1) (ad.1 2) (ib0 V₀ ad c t) (ib1 V₀ ad c t) (ib2 V₀ ad c t) (ib3 V₀ ad c t) (ib4 V₀ ad c t) (ib5 V₀ ad c t) (ib6 V₀ ad c t) _ a b g0 g1 g2 g3 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexact H7
  isplitl [HX]; · iexact HX
  isplitl [HA]; · iexact HA
  iintro ⟨H0, H1, H2, H3, H4, H5, H6, HT0, HT1, HT2, H7, HX, HA⟩
  isplitl [HX HA HT0 HT1 HT2 HP]
  · isplitl [HX HA]
    · iexists _; iexists _; isplitr
      · ipureintro; exact hkn
      isplitl [HX]; · iexact HX
      iexact HA
    isplitl [HT0]; · iexact HT0
    isplitl [HT1]; · iexact HT1
    isplitl [HT2]; · iexact HT2
    iexact HP
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexists d7; iexact H7

end Cert.KernelIdeal.Moe

end
-- ==== Proof.KI.StepE.lean ====
/- The obligation of one grid point, branch by branch. -/
module

public import proofs.«01_k».proof.Proof.KI.Region

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V₀ : Dev nD → Valuation τ sig (Elt F)) (ad : (pcfg0 (F := F)).Adm)

set_option maxHeartbeats 6400000 in
theorem stepE (c : Dev nD) (t : Fin (cfgA (F := F) ad).N) (hv : valid (wd (F := F) ad t)) (h0 : (crd (F := F) ad t 1).val ≠ 0) (h7 : (crd (F := F) ad t 1).val ≠ 7) :
    iprop((dats (F := F) V₀ ad 0 c).Φ t.castSucc ∗ (dats (F := F) V₀ ad 0 c).owesAt () t.castSucc
        ∗ (∃ d, owns (c : Thread nD τ) (ms0 ad t) fullShare ((dats (F := F) V₀ ad 0 c).before (0 : Fin 8) t d))
        ∗ (∃ d, owns (c : Thread nD τ) (ms1 ad t) fullShare ((dats (F := F) V₀ ad 0 c).before (1 : Fin 8) t d))
        ∗ (∃ d, owns (c : Thread nD τ) (ms2 ad t) fullShare ((dats (F := F) V₀ ad 0 c).before (2 : Fin 8) t d))
        ∗ (∃ d, owns (c : Thread nD τ) (ms3 ad t) fullShare ((dats (F := F) V₀ ad 0 c).before (3 : Fin 8) t d))
        ∗ (∃ d, owns (c : Thread nD τ) (ms4 ad t) fullShare ((dats (F := F) V₀ ad 0 c).before (4 : Fin 8) t d))
        ∗ (∃ d, owns (c : Thread nD τ) (ms5 ad t) fullShare ((dats (F := F) V₀ ad 0 c).before (5 : Fin 8) t d))
        ∗ (∃ d, owns (c : Thread nD τ) (ms6 ad t) fullShare ((dats (F := F) V₀ ad 0 c).before (6 : Fin 8) t d))
        ∗ (∃ d, owns (c : Thread nD τ) (ms7 ad t) fullShare ((dats (F := F) V₀ ad 0 c).before (7 : Fin 8) t d)))
      ⊢ wp frame (wpE (defs₀ (F := F)) Variants.none c none) Set.univ (bodyAt ad t) fun _ =>
          iprop((dats (F := F) V₀ ad 0 c).Φ t.succ ∗ (dats (F := F) V₀ ad 0 c).owesAt () t.succ
            ∗ bigSep Finset.univ fun w : Fin (cfgA (F := F) ad).W =>
                match (cfgA (F := F) ad).idle w ((cfgA (F := F) ad).grid.coords t) with
                | true =>
                  match ((cfgA (F := F) ad).win w).flush t with
                  | false => iprop(∃ d, owns (c : Thread nD τ) (((cfgA (F := F) ad).win w).stage ((cfgA (F := F) ad).slots t w)) fullShare ((dats (F := F) V₀ ad 0 c).before w t d))
                  | true => owns (c : Thread nD τ) (((cfgA (F := F) ad).win w).stage ((cfgA (F := F) ad).slots t w)) fullShare ((dats (F := F) V₀ ad 0 c).after w t)
                | false => owns (c : Thread nD τ) (((cfgA (F := F) ad).win w).stage ((cfgA (F := F) ad).slots t w)) fullShare ((dats (F := F) V₀ ad 0 c).after w t)) := by
  rw [bigSep_W0]
  have i7 : (cfgA (F := F) ad).idle (7 : Fin 8) ((cfgA (F := F) ad).grid.coords t) = true := (idle_7 ad t).trans (decide_eq_true h7)
  have f7 := flush_7 ad t h7
  rewrite [i7]
  simp only [f7, before_0, before_1, before_2, before_3, before_4, before_5, before_6, after_0, after_1, after_2, after_3, after_4, after_5, after_6, after_7]
  rewrite [show (dats (F := F) V₀ ad 0 c).Φ t.succ = Phi V₀ ad c (t.val + 1) from rfl, show (dats (F := F) V₀ ad 0 c).Φ t.castSucc = Phi V₀ ad c t.val from rfl,
    show (dats (F := F) V₀ ad 0 c).owesAt () t.succ = (dats (F := F) V₀ ad 0 c).owesAt () t.castSucc from rfl]
  unfold Phi
  iintro ⟨⟨⟨%a, %b, %hk, HX, HA⟩, HT0, HT1, HT2, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨rfl, rfl⟩ := hk t.isLt h0 hv
  have g0 : ¬ cond0 (crd (F := F) ad t) (wd (F := F) ad t) := (fun h => h0 ((cond0_iff _ _).mp h).2)
  have g1 : cond1 (wd (F := F) ad t) := ((cond1_iff _).mpr hv)
  have g2 : ¬ k0_cond3 (crd (F := F) ad t) (wd (F := F) ad t) = 1#1 := (fun h => h7 ((cond3_iff _ _).mp h).2)
  have g3 : ¬ k0_cond4 (crd (F := F) ad t) (wd (F := F) ad t) = 1#1 := (fun h => h7 ((cond4_iff _ _).mp h).2)
  have hkn : Known (F := F) V₀ ad c (t.val + 1) (traj (F := F) V₀ ad c t.val).1 (accStep (traj (F := F) V₀ ad c t.val).1 (traj (F := F) V₀ ad c t.val).2 (ib1 V₀ ad c t) (ib2 V₀ ad c t) (ib3 V₀ ad c t) (ib4 V₀ ad c t) (ib5 V₀ ad c t)) := known_valid V₀ ad c t _ _ (by rw [traj_next V₀ ad c t h0]; exact ⟨rfl, rfl⟩)
  iapply (runE c (crd (F := F) ad t) (ms0 ad t) (hs0 ad t) (ms1 ad t) (hs1 ad t) (ms2 ad t) (hs2 ad t) (ms3 ad t) (hs3 ad t) (ms4 ad t) (hs4 ad t) (ms5 ad t) (hs5 ad t) (ms6 ad t) (hs6 ad t) (ms7 ad t) (hs7 ad t) (ad.1 0) (ad.1 1) (ad.1 2) (ib0 V₀ ad c t) (ib1 V₀ ad c t) (ib2 V₀ ad c t) (ib3 V₀ ad c t) (ib4 V₀ ad c t) (ib5 V₀ ad c t) (ib6 V₀ ad c t) _ _ _ g0 g1 g2 g3 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexact H7
  isplitl [HX]; · iexact HX
  isplitl [HA]; · iexact HA
  iintro ⟨H0, H1, H2, H3, H4, H5, H6, HT0, HT1, HT2, H7, HX, HA⟩
  isplitl [HX HA HT0 HT1 HT2 HP]
  · isplitl [HX HA]
    · iexists _; iexists _; isplitr
      · ipureintro; exact hkn
      isplitl [HX]; · iexact HX
      iexact HA
    isplitl [HT0]; · iexact HT0
    isplitl [HT1]; · iexact HT1
    isplitl [HT2]; · iexact HT2
    iexact HP
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexists d7; iexact H7

set_option maxHeartbeats 6400000 in
theorem stepD (c : Dev nD) (t : Fin (cfgA (F := F) ad).N) (hv : ¬ valid (wd (F := F) ad t)) (h7 : (crd (F := F) ad t 1).val = 7) :
    iprop((dats (F := F) V₀ ad 0 c).Φ t.castSucc ∗ (dats (F := F) V₀ ad 0 c).owesAt () t.castSucc
        ∗ (∃ d, owns (c : Thread nD τ) (ms0 ad t) fullShare ((dats (F := F) V₀ ad 0 c).before (0 : Fin 8) t d))
        ∗ (∃ d, owns (c : Thread nD τ) (ms1 ad t) fullShare ((dats (F := F) V₀ ad 0 c).before (1 : Fin 8) t d))
        ∗ (∃ d, owns (c : Thread nD τ) (ms2 ad t) fullShare ((dats (F := F) V₀ ad 0 c).before (2 : Fin 8) t d))
        ∗ (∃ d, owns (c : Thread nD τ) (ms3 ad t) fullShare ((dats (F := F) V₀ ad 0 c).before (3 : Fin 8) t d))
        ∗ (∃ d, owns (c : Thread nD τ) (ms4 ad t) fullShare ((dats (F := F) V₀ ad 0 c).before (4 : Fin 8) t d))
        ∗ (∃ d, owns (c : Thread nD τ) (ms5 ad t) fullShare ((dats (F := F) V₀ ad 0 c).before (5 : Fin 8) t d))
        ∗ (∃ d, owns (c : Thread nD τ) (ms6 ad t) fullShare ((dats (F := F) V₀ ad 0 c).before (6 : Fin 8) t d))
        ∗ (∃ d, owns (c : Thread nD τ) (ms7 ad t) fullShare ((dats (F := F) V₀ ad 0 c).before (7 : Fin 8) t d)))
      ⊢ wp frame (wpE (defs₀ (F := F)) Variants.none c none) Set.univ (bodyAt ad t) fun _ =>
          iprop((dats (F := F) V₀ ad 0 c).Φ t.succ ∗ (dats (F := F) V₀ ad 0 c).owesAt () t.succ
            ∗ bigSep Finset.univ fun w : Fin (cfgA (F := F) ad).W =>
                match (cfgA (F := F) ad).idle w ((cfgA (F := F) ad).grid.coords t) with
                | true =>
                  match ((cfgA (F := F) ad).win w).flush t with
                  | false => iprop(∃ d, owns (c : Thread nD τ) (((cfgA (F := F) ad).win w).stage ((cfgA (F := F) ad).slots t w)) fullShare ((dats (F := F) V₀ ad 0 c).before w t d))
                  | true => owns (c : Thread nD τ) (((cfgA (F := F) ad).win w).stage ((cfgA (F := F) ad).slots t w)) fullShare ((dats (F := F) V₀ ad 0 c).after w t)
                | false => owns (c : Thread nD τ) (((cfgA (F := F) ad).win w).stage ((cfgA (F := F) ad).slots t w)) fullShare ((dats (F := F) V₀ ad 0 c).after w t)) := by
  rw [bigSep_W0]
  have e7 : outAt (F := F) V₀ ad c t = k0_pay6 := if_neg hv
  have i7 : (cfgA (F := F) ad).idle (7 : Fin 8) ((cfgA (F := F) ad).grid.coords t) = false := (idle_7 ad t).trans (decide_eq_false fun h => h h7)
  rewrite [i7]
  simp only [before_0, before_1, before_2, before_3, before_4, before_5, before_6, after_0, after_1, after_2, after_3, after_4, after_5, after_6, after_7]
  rewrite [show (dats (F := F) V₀ ad 0 c).Φ t.succ = Phi V₀ ad c (t.val + 1) from rfl, show (dats (F := F) V₀ ad 0 c).Φ t.castSucc = Phi V₀ ad c t.val from rfl,
    show (dats (F := F) V₀ ad 0 c).owesAt () t.succ = (dats (F := F) V₀ ad 0 c).owesAt () t.castSucc from rfl]
  unfold Phi
  iintro ⟨⟨⟨%a, %b, %hk, HX, HA⟩, HT0, HT1, HT2, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rewrite [e7]
  have g0 : ¬ cond0 (crd (F := F) ad t) (wd (F := F) ad t) := (fun h => hv ((cond0_iff _ _).mp h).1)
  have g1 : ¬ cond1 (wd (F := F) ad t) := (fun h => hv ((cond1_iff _).mp h))
  have g2 : ¬ k0_cond3 (crd (F := F) ad t) (wd (F := F) ad t) = 1#1 := (fun h => hv ((cond3_iff _ _).mp h).1)
  have g3 : k0_cond4 (crd (F := F) ad t) (wd (F := F) ad t) = 1#1 := ((cond4_iff _ _).mpr ⟨hv, h7⟩)
  have hkn : Known (F := F) V₀ ad c (t.val + 1) a b := known_invalid V₀ ad c t _ _ hv
  iapply (runD c (crd (F := F) ad t) (ms0 ad t) (hs0 ad t) (ms1 ad t) (hs1 ad t) (ms2 ad t) (hs2 ad t) (ms3 ad t) (hs3 ad t) (ms4 ad t) (hs4 ad t) (ms5 ad t) (hs5 ad t) (ms6 ad t) (hs6 ad t) (ms7 ad t) (hs7 ad t) (ad.1 0) (ad.1 1) (ad.1 2) (ib0 V₀ ad c t) (ib1 V₀ ad c t) (ib2 V₀ ad c t) (ib3 V₀ ad c t) (ib4 V₀ ad c t) (ib5 V₀ ad c t) (ib6 V₀ ad c t) _ a b g0 g1 g2 g3 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexact H7
  isplitl [HX]; · iexact HX
  isplitl [HA]; · iexact HA
  iintro ⟨H0, H1, H2, H3, H4, H5, H6, HT0, HT1, HT2, H7, HX, HA⟩
  isplitl [HX HA HT0 HT1 HT2 HP]
  · isplitl [HX HA]
    · iexists _; iexists _; isplitr
      · ipureintro; exact hkn
      isplitl [HX]; · iexact HX
      iexact HA
    isplitl [HT0]; · iexact HT0
    isplitl [HT1]; · iexact HT1
    isplitl [HT2]; · iexact HT2
    iexact HP
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexact H7

end Cert.KernelIdeal.Moe

end
-- ==== Proof.KI.StepB.lean ====
/- The obligation of one grid point, branch by branch. -/
module

public import proofs.«01_k».proof.Proof.KI.Region

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V₀ : Dev nD → Valuation τ sig (Elt F)) (ad : (pcfg0 (F := F)).Adm)

set_option maxHeartbeats 6400000 in
theorem stepB (c : Dev nD) (t : Fin (cfgA (F := F) ad).N) (hv : valid (wd (F := F) ad t)) (h7 : (crd (F := F) ad t 1).val = 7) :
    iprop((dats (F := F) V₀ ad 0 c).Φ t.castSucc ∗ (dats (F := F) V₀ ad 0 c).owesAt () t.castSucc
        ∗ (∃ d, owns (c : Thread nD τ) (ms0 ad t) fullShare ((dats (F := F) V₀ ad 0 c).before (0 : Fin 8) t d))
        ∗ (∃ d, owns (c : Thread nD τ) (ms1 ad t) fullShare ((dats (F := F) V₀ ad 0 c).before (1 : Fin 8) t d))
        ∗ (∃ d, owns (c : Thread nD τ) (ms2 ad t) fullShare ((dats (F := F) V₀ ad 0 c).before (2 : Fin 8) t d))
        ∗ (∃ d, owns (c : Thread nD τ) (ms3 ad t) fullShare ((dats (F := F) V₀ ad 0 c).before (3 : Fin 8) t d))
        ∗ (∃ d, owns (c : Thread nD τ) (ms4 ad t) fullShare ((dats (F := F) V₀ ad 0 c).before (4 : Fin 8) t d))
        ∗ (∃ d, owns (c : Thread nD τ) (ms5 ad t) fullShare ((dats (F := F) V₀ ad 0 c).before (5 : Fin 8) t d))
        ∗ (∃ d, owns (c : Thread nD τ) (ms6 ad t) fullShare ((dats (F := F) V₀ ad 0 c).before (6 : Fin 8) t d))
        ∗ (∃ d, owns (c : Thread nD τ) (ms7 ad t) fullShare ((dats (F := F) V₀ ad 0 c).before (7 : Fin 8) t d)))
      ⊢ wp frame (wpE (defs₀ (F := F)) Variants.none c none) Set.univ (bodyAt ad t) fun _ =>
          iprop((dats (F := F) V₀ ad 0 c).Φ t.succ ∗ (dats (F := F) V₀ ad 0 c).owesAt () t.succ
            ∗ bigSep Finset.univ fun w : Fin (cfgA (F := F) ad).W =>
                match (cfgA (F := F) ad).idle w ((cfgA (F := F) ad).grid.coords t) with
                | true =>
                  match ((cfgA (F := F) ad).win w).flush t with
                  | false => iprop(∃ d, owns (c : Thread nD τ) (((cfgA (F := F) ad).win w).stage ((cfgA (F := F) ad).slots t w)) fullShare ((dats (F := F) V₀ ad 0 c).before w t d))
                  | true => owns (c : Thread nD τ) (((cfgA (F := F) ad).win w).stage ((cfgA (F := F) ad).slots t w)) fullShare ((dats (F := F) V₀ ad 0 c).after w t)
                | false => owns (c : Thread nD τ) (((cfgA (F := F) ad).win w).stage ((cfgA (F := F) ad).slots t w)) fullShare ((dats (F := F) V₀ ad 0 c).after w t)) := by
  rw [bigSep_W0]
  have h0 : (crd (F := F) ad t 1).val ≠ 0 := by omega
  have e7 : outAt (F := F) V₀ ad c t = k0_pay5 (traj (F := F) V₀ ad c (t.val + 1)).2 := if_pos hv
  rewrite [traj_next V₀ ad c t h0] at e7
  have i7 : (cfgA (F := F) ad).idle (7 : Fin 8) ((cfgA (F := F) ad).grid.coords t) = false := (idle_7 ad t).trans (decide_eq_false fun h => h h7)
  rewrite [i7]
  simp only [before_0, before_1, before_2, before_3, before_4, before_5, before_6, after_0, after_1, after_2, after_3, after_4, after_5, after_6, after_7]
  rewrite [show (dats (F := F) V₀ ad 0 c).Φ t.succ = Phi V₀ ad c (t.val + 1) from rfl, show (dats (F := F) V₀ ad 0 c).Φ t.castSucc = Phi V₀ ad c t.val from rfl,
    show (dats (F := F) V₀ ad 0 c).owesAt () t.succ = (dats (F := F) V₀ ad 0 c).owesAt () t.castSucc from rfl]
  unfold Phi
  iintro ⟨⟨⟨%a, %b, %hk, HX, HA⟩, HT0, HT1, HT2, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rewrite [e7]
  obtain ⟨rfl, rfl⟩ := hk t.isLt h0 hv
  have g0 : ¬ cond0 (crd (F := F) ad t) (wd (F := F) ad t) := (fun h => h0 ((cond0_iff _ _).mp h).2)
  have g1 : cond1 (wd (F := F) ad t) := ((cond1_iff _).mpr hv)
  have g2 : k0_cond3 (crd (F := F) ad t) (wd (F := F) ad t) = 1#1 := ((cond3_iff _ _).mpr ⟨hv, h7⟩)
  have g3 : ¬ k0_cond4 (crd (F := F) ad t) (wd (F := F) ad t) = 1#1 := (fun h => ((cond4_iff _ _).mp h).1 hv)
  have hkn : Known (F := F) V₀ ad c (t.val + 1) (traj (F := F) V₀ ad c t.val).1 (accStep (traj (F := F) V₀ ad c t.val).1 (traj (F := F) V₀ ad c t.val).2 (ib1 V₀ ad c t) (ib2 V₀ ad c t) (ib3 V₀ ad c t) (ib4 V₀ ad c t) (ib5 V₀ ad c t)) := known_valid V₀ ad c t _ _ (by rw [traj_next V₀ ad c t h0]; exact ⟨rfl, rfl⟩)
  iapply (runB c (crd (F := F) ad t) (ms0 ad t) (hs0 ad t) (ms1 ad t) (hs1 ad t) (ms2 ad t) (hs2 ad t) (ms3 ad t) (hs3 ad t) (ms4 ad t) (hs4 ad t) (ms5 ad t) (hs5 ad t) (ms6 ad t) (hs6 ad t) (ms7 ad t) (hs7 ad t) (ad.1 0) (ad.1 1) (ad.1 2) (ib0 V₀ ad c t) (ib1 V₀ ad c t) (ib2 V₀ ad c t) (ib3 V₀ ad c t) (ib4 V₀ ad c t) (ib5 V₀ ad c t) (ib6 V₀ ad c t) _ _ _ g0 g1 g2 g3 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexact H7
  isplitl [HX]; · iexact HX
  isplitl [HA]; · iexact HA
  iintro ⟨H0, H1, H2, H3, H4, H5, H6, HT0, HT1, HT2, H7, HX, HA⟩
  isplitl [HX HA HT0 HT1 HT2 HP]
  · isplitl [HX HA]
    · iexists _; iexists _; isplitr
      · ipureintro; exact hkn
      isplitl [HX]; · iexact HX
      iexact HA
    isplitl [HT0]; · iexact HT0
    isplitl [HT1]; · iexact HT1
    isplitl [HT2]; · iexact HT2
    iexact HP
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexact H7

end Cert.KernelIdeal.Moe

end
-- ==== Proof.KI.Launch.lean ====
/- The experts' call started from the program's launch: its invariant set up and taken down, the lines around it, and the whole run. -/
module

public import proofs.«01_k».proof.Proof.KI.Lists
public import proofs.«01_k».proof.Proof.KI.StepA
public import proofs.«01_k».proof.Proof.KI.StepE
public import proofs.«01_k».proof.Proof.KI.StepB
public import Idealize.ShloMosaic.Lib.Pipeline.Quiescent
public import Idealize.ShloMosaic.Lib.Pipeline.FrameSuffix

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation BodyObligationLoose cellOf)

local notation "𝕄" => MT nD τ sig Unit (Elt F) ℕ (UR sig nD τ) ℕ

section Obligation

variable (V₀ : Dev nD → Valuation τ sig (Elt F)) (ad : (pcfg0 (F := F)).Adm)

set_option maxHeartbeats 1600000 in
/-- The body's obligation at every point: the five kinds of points. -/
theorem body_obligation (c : Dev nD) : BodyObligation (dats (F := F) V₀ ad 0 c) (defs₀ (F := F)) Variants.none () Set.univ := fun t => by
  rw [bigSep_W0]
  by_cases hv : valid (wd (F := F) ad t)
  · by_cases h0 : (crd (F := F) ad t 1).val = 0
    · exact stepA V₀ ad c t hv h0
    · by_cases h7 : (crd (F := F) ad t 1).val = 7
      · exact stepB V₀ ad c t hv h7
      · exact stepE V₀ ad c t hv h0 h7
  · by_cases h7 : (crd (F := F) ad t 1).val = 7
    · exact stepD V₀ ad c t hv h7
    · exact stepC V₀ ad c t hv h7

/-- The tables as the launch hands them to the call, one by one. -/
theorem tables_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v82) ↦{q 0} v 0) ∗ (((c : Thread nD τ).loc main_v71) ↦{q 1} v 1) ∗ (((c : Thread nD τ).loc main_v101) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Nothing is known of the scratch buffers before the first point. -/
theorem known_zero (c : Dev nD) (a b) : Known (F := F) V₀ ad c 0 a b := fun h hf _ => absurd ((crdA1 ad ⟨0, h⟩).trans rfl) hf

/-- The invariant before the first point, -/
theorem phi_intro (c : Dev nD) :
    iprop(Pipeline.ΦA (cfgA (F := F) ad).spec c ∗ Pipeline.ΦT (pcfgs (F := F) 0).pre ad.1 c) ⊢ (dats (F := F) V₀ ad 0 c).Φ 0 := by
  rw [show (dats (F := F) V₀ ad 0 c).Φ 0 = Phi V₀ ad c 0 from rfl,
    show Pipeline.ΦT (pcfgs (F := F) 0).pre ad.1 c = (Pipeline.prefHeld (Ix := Unit) (Name := ℕ) (U := UR sig nD τ) (Lvl := ℕ) pre0 c (fun _ => fullShare.right) ad.1 : sProp 𝕄) from rfl,
    tables_eq]
  unfold Pipeline.ΦA
  rw [show Pipeline.scopedRest (Ix := Unit) (Name := ℕ) (U := UR sig nD τ) (Lvl := ℕ) (Val := Elt F) (cfgA (F := F) ad).spec c = Pipeline.scopedRest spec0 c from rfl, scopedRest0_eq]
  unfold Phi
  iintro ⟨⟨⟨⟨%a, HA⟩, ⟨%b, HB⟩⟩, Hp⟩, H0, H1, H2⟩
  isplitl [HA HB]
  · iexists a; iexists b
    isplitr; · ipureintro; exact known_zero V₀ ad c a b
    isplitl [HA]
    · iapply (show ((c : Thread nD τ).loc cc0_scratch0 ↦{fullShare} a : sProp 𝕄) ⊢ owns (c : Thread nD τ) scX fullShare a from by rw [owns_whole])
      iexact HA
    · iapply (show ((c : Thread nD τ).loc cc0_scratch1 ↦{fullShare} b : sProp 𝕄) ⊢ owns (c : Thread nD τ) scA fullShare b from by rw [owns_whole])
      iexact HB
  isplitl [H0]; · iexact H0
  isplitl [H1]; · iexact H1
  isplitl [H2]; · iexact H2
  iexact Hp

/-- and what the one after the last point gives back. -/
theorem phi_exit (c : Dev nD) :
    (dats (F := F) V₀ ad 0 c).Φ (Fin.last (cfgA (F := F) ad).N) ⊢ Pipeline.ΦA (cfgA (F := F) ad).spec c := by
  rw [show (dats (F := F) V₀ ad 0 c).Φ (Fin.last (cfgA (F := F) ad).N) = Phi V₀ ad c (cfgA (F := F) ad).N from rfl]
  unfold Pipeline.ΦA
  rw [show Pipeline.scopedRest (Ix := Unit) (Name := ℕ) (U := UR sig nD τ) (Lvl := ℕ) (Val := Elt F) (cfgA (F := F) ad).spec c = Pipeline.scopedRest spec0 c from rfl, scopedRest0_eq]
  unfold Phi
  iintro ⟨⟨%a, %b, -, HA, HB⟩, -, -, -, Hp⟩
  isplitr [Hp]; swap
  · iexact Hp
  isplitl [HA]
  · iexists a
    iapply (show (owns (c : Thread nD τ) scX fullShare a : sProp 𝕄) ⊢ ((c : Thread nD τ).loc cc0_scratch0 ↦{fullShare} a : sProp 𝕄) from by rw [owns_whole])
    iexact HA
  · iexists b
    iapply (show (owns (c : Thread nD τ) scA fullShare b : sProp 𝕄) ⊢ ((c : Thread nD τ).loc cc0_scratch1 ↦{fullShare} b : sProp 𝕄) from by rw [owns_whole])
    iexact HB

end Obligation

/-! ## The lines after the call -/

/-- They touch the call's arrays and the buffers that bypass it, none of the tables, -/
theorem behind_sub : ∀ ops ∈ behind (F := F), ∀ op ∈ ops, op.bufs ⊆ Pipeline.tailRefs sig pre0 spec0 := by
  intro ops hops op hop
  simp only [behind, List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl | rfl | rfl | rfl | rfl | rfl | rfl
  all_goals
    intro j
    fin_cases j <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)

/-- allocate nothing, -/
theorem behind_fresh : ∀ ops ∈ behind (F := F), ∀ op ∈ ops, op.fresh = ∅ := by
  intro ops hops op hop
  simp only [behind, List.mem_cons, List.mem_nil_iff, or_false] at hops
  subst hops
  exact (List.forall_iff_forall_mem.mp hostOps1_fresh) op hop

/-- and write none of the call's arrays. -/
theorem behind_keeps : ∀ ops ∈ behind (F := F), ∀ op ∈ ops, ∀ w, Proc.devRef .tc (Pipeline.arrRef spec0 w) ∉ op.writes := by
  intro ops hops op hop
  simp only [behind, List.mem_cons, List.mem_nil_iff, or_false] at hops
  subst hops
  intro w hb
  obtain ⟨y, hy, he⟩ := List.mem_map.mp (List.mem_toFinset.mp ((List.forall_iff_forall_mem.mp hostOps1_writes) op hop hb))
  exact (by decide +kernel : ∀ w, Pipeline.arrRef spec0 w ∉ hostOps1_W) w (Proc.devRef_injective _ he ▸ hy)

/-! ## The run -/

variable (m : (ℓ : Loc nD τ sig) → Buf (Elt F) ℓ) (g : Dev nD → PrngReg)

/-- What every buffer holds when the call begins. -/
abbrev atCall (c : Dev nD) : Valuation τ sig (Elt F) := StableHlo.after (before (F := F)).flatten (fun b => m (c, b))

/-- The tables there. -/
def tables (c : Dev nD) : pre0.Contents (Elt F) := fun k => atCall m c (Proc.devRef .tc (pre0.ref k))

/-- What every buffer holds at the end. -/
abbrev atEnd (ad : (pcfg0 (F := F)).Adm) : (c : Dev nD) → (b : Ref sig .tc) → Buf (Elt F) ((c.tc : Thread nD τ).loc b) :=
  Pipeline.afterTail (nD := nD) (τ := τ) (pcfgs (F := F)) (fun _ => ad) (dats (F := F) (atCall m) ad) (0 : Fin 1) (atCall m) (behind (F := F))

set_option backward.isDefEq.respectTransparency.types false in
set_option maxHeartbeats 4000000 in
/-- From any launch memory whose tables come out admissible: every weakly fair execution terminates, every array of the call
    ends as the proof data say, every other buffer as the lines after the call leave it, every counter at zero. -/
theorem run (ad : (pcfg0 (F := F)).Adm) (had : ∀ c, tables m c = ad.1) :
    θ_run (defs (F := F)) (onTc (τ := τ) (main (F := F))) (s₀ m g) (fun r =>
      Pipeline.FramePost (Pipeline.pin (pcfgs (F := F)) fun _ => ad) (dats (F := F) (atCall m) ad) (0 : Fin 1) (atEnd m ad) r ∧ r.2.sem = fun _ => 0) :=
  Pipeline.θ_run_frameP_around_track_shared (pcfgs (F := F)) (fun _ => ad) (dats (F := F) (atCall m) ad) (0 : Fin 1) launch₀0
    (defs₀ (F := F)) Variants.none m g (main (F := F))
    (hbody := fun c => (body_obligation (atCall m) ad c).loose)
    (hq := fun _ _ _ => rfl) (howed := fun _ _ => rfl)
    (V₀ := atCall m) (opss := behind (F := F)) (hsub := behind_sub) (hfresh := behind_fresh) (hkeep := behind_keeps)
    (hmain := Pipeline.hmainP_around (pcfgs (F := F)) (0 : Fin 1) (defs₀ (F := F)) Variants.none m (main (F := F)) (before (F := F)) (behind (F := F)) before_sub before_fresh main_chain)
    (hA := fun _ _ => rfl)
    (hpf := fun c k => congrFun (had c) k)
    (hin := phi_intro (atCall m) ad) (hout := phi_exit (atCall m) ad)
    (Q' := _) (hQ' := fun _ h => h)

end Cert.KernelIdeal.Moe

end
-- ==== Proof.KI.Frame.lean ====
/- The whole program from a memory whose experts are in range: the call is launched with admissible tables, and every argument ends as it began. -/
module

public import proofs.«01_k».proof.Proof.KI.Counts
public import proofs.«01_k».proof.Proof.KI.Launch
@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Routing Idealize.ShloMosaic.WordCmp Idealize.ShloMosaic.ValueIdx
open Cert.Moe

/-- The experts named are in range when the argument's words are. -/
theorem inRange_of (V : Valuation τ sig (Elt F)) (h : ∀ i : S32768x4.Idx, ((V (Proc.devRef .tc main_arg1) : IVec S32768x4 32) i).toNat < 32) : InRange V := by
  intro a
  have e : E V main_arg1 = V (Proc.devRef .tc main_arg1) := after_flatten_of_not_mem main_arg1 _ _ before_writes (by decide +kernel) V
  rw [e_main_v0, e]
  exact h _

variable (m : (ℓ : Loc nD τ sig) → Buf (Elt F) ℓ) (g : Dev nD → PrngReg)

/-- The tables the kernel is launched with are admissible. -/
theorem ok_tables (c : Dev nD) (hV : InRange (fun b => m (c, b))) : ok0 (tables m c) := by
  refine ok_of (tables m c) (fun i => ?_) fun i => ?_
  · have h : eW (tables m c) i = _ := v82_at hV (i 0)
    rw [h, BitVec.toNat_ofNat]
    omega
  · have h : xW (tables m c) i = _ := v71_at hV (i 0)
    have hi : (i 0).val < 160 := (i 0).isLt
    rw [h, BitVec.toNat_ofNat]
    omega

/-- The tables, as the call's admissible choice. -/
def theAdm (hV : ∀ c : Dev nD, InRange (fun b => m (c, b))) : (pcfg0 (F := F)).Adm := ⟨tables m (0 : Fin 1), ok_tables m (0 : Fin 1) (hV (0 : Fin 1))⟩

theorem theAdm_eq (hV : ∀ c : Dev nD, InRange (fun b => m (c, b))) (c : Dev nD) : tables m c = (theAdm m hV).1 := by
  have e : c = (0 : Fin 1) := Subsingleton.elim (α := Fin 1) _ _
  rw [e]; rfl

theorem run_all (hV : ∀ c : Dev nD, InRange (fun b => m (c, b))) :
    θ_run (defs (F := F)) (onTc (τ := τ) (main (F := F))) (s₀ m g) (fun r =>
      Pipeline.FramePost (Pipeline.pin (pcfgs (F := F)) fun _ => theAdm m hV) (dats (F := F) (atCall m) (theAdm m hV)) (0 : Fin 1) (atEnd m (theAdm m hV)) r
        ∧ r.2.sem = fun _ => 0) :=
  run m g (theAdm m hV) (theAdm_eq m hV)

/-- An argument that no line writes and that is no array of the call ends as it began. -/
theorem rest_kept (ad : (pcfg0 (F := F)).Adm) (c : Dev nD) (b : Ref sig .tc) (h0 : ∀ W ∈ beforeW, b ∉ W) (h1 : b ∉ hostOps1_W)
    (ha : ∀ w : Fin 8, Pipeline.arrRef spec0 w ≠ b) : atEnd m ad c b = m ((c.tc : Thread nD τ).loc b) := by
  refine Eq.trans ?_ (after_flatten_of_not_mem b _ _ before_writes h0 (fun b => m (c, b)))
  refine Eq.trans ?_ (Pipeline.withArrays_of_ne spec0 c (atCall m c)
    (fun w => (dats (F := F) (atCall m) ad (0 : Fin 1) c).arrAt w (Pipeline.pin (pcfgs (F := F)) (fun _ => ad) (0 : Fin 1)).N) b ha)
  exact StableHlo.after_of_writes_sub (W := hostOps1_W) _ _ (by simpa [behind] using hostOps1_writes) h1

/-- An array that the call reads ends as it began. -/
theorem arr_kept (ad : (pcfg0 (F := F)).Adm) (c : Dev nD) (w : Fin 8) (hin : ((cfgA (F := F) ad).win w).isOut = false)
    (h0 : ∀ W ∈ beforeW, Pipeline.arrRef spec0 w ∉ W) :
    (dats (F := F) (atCall m) ad (0 : Fin 1) c).arrAt w (Pipeline.pin (pcfgs (F := F)) (fun _ => ad) (0 : Fin 1)).N = m (c, Proc.devRef .tc (Pipeline.arrRef spec0 w)) :=
  ((dats (F := F) (atCall m) ad (0 : Fin 1) c).arrAt_in w hin _).trans (after_flatten_of_not_mem (Pipeline.arrRef spec0 w) _ _ before_writes h0 (fun b => m (c, b)))

/-- Every argument ends as it began. -/
theorem args_kept (ad : (pcfg0 (F := F)).Adm) (r : PUnit × MemSt nD τ sig (Elt F))
    (h : Pipeline.FramePost (Pipeline.pin (pcfgs (F := F)) fun _ => ad) (dats (F := F) (atCall m) ad) (0 : Fin 1) (atEnd m ad) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  obtain ⟨ha, hb⟩ := h c
  refine ⟨?_, ?_, ?_, ?_, ?_, ?_⟩
  · exact (hb main_arg0 (Pipeline.mem_restRefs_of _ (by decide +kernel) (show ∀ w : Fin 8, Pipeline.arrRef spec0 w ≠ _ from by decide +kernel))).trans (rest_kept m ad c main_arg0 (by decide +kernel) (by decide +kernel) (by decide +kernel))
  · exact (hb main_arg1 (Pipeline.mem_restRefs_of _ (by decide +kernel) (show ∀ w : Fin 8, Pipeline.arrRef spec0 w ≠ _ from by decide +kernel))).trans (rest_kept m ad c main_arg1 (by decide +kernel) (by decide +kernel) (by decide +kernel))
  · exact (ha (1 : Fin 8)).trans (arr_kept m ad c (1 : Fin 8) rfl (by decide +kernel))
  · exact (hb main_arg3 (Pipeline.mem_restRefs_of _ (by decide +kernel) (show ∀ w : Fin 8, Pipeline.arrRef spec0 w ≠ _ from by decide +kernel))).trans (rest_kept m ad c main_arg3 (by decide +kernel) (by decide +kernel) (by decide +kernel))
  · exact (ha (5 : Fin 8)).trans (arr_kept m ad c (5 : Fin 8) rfl (by decide +kernel))
  · exact (hb main_arg5 (Pipeline.mem_restRefs_of _ (by decide +kernel) (show ∀ w : Fin 8, Pipeline.arrRef spec0 w ≠ _ from by decide +kernel))).trans (rest_kept m ad c main_arg5 (by decide +kernel) (by decide +kernel) (by decide +kernel))

end Cert.KernelIdeal.Moe

end
-- ==== Proof.Frames.lean ====
/- The claims that are not about values: every run ends, every argument is as it began, every counter is at zero; and what the
   idealization replaced is what its rules say. -/
module

public import proofs.«01_k».proof.Defs
public import proofs.«01_k».proof.Proof.Pre
public import proofs.«01_k».proof.Proof.K.Frame
public import proofs.«01_k».proof.Proof.KI.Frame
public import proofs.«01_k».proof.Proof.Gen.ReferenceIdeal.Run
public import proofs.«01_k».proof.Proof.Gen.Pre_topi_in_range
public import Idealize.ShloMosaic.Lib.Bf16Pair
public import Idealize.ShloMosaic.Lib.Quiescent

@[expose] public section

noncomputable section

namespace Cert.Proof

open Idealize.ShloMosaic Idealize.SL.Sem

/-- The precondition puts the experts of the kernel's argument in range. -/
theorem inRange_K (m : (ℓ : Loc Cert.Kernel.nD Cert.Kernel.τ Cert.Kernel.sig) → Buf (Elt Bits) ℓ) (h : Cert.Pre_Kernel m) (c : Dev Cert.Kernel.nD) :
    Cert.Kernel.Moe.InRange (F := Bits) (fun b => m (c, b)) :=
  Cert.Kernel.Moe.inRange_of _ fun i => Cert.Moe.topi_lt (F := Bits) _ _ _ _ _ _ (h c) i

theorem inRange_KI (m : (ℓ : Loc Cert.KernelIdeal.nD Cert.KernelIdeal.τ Cert.KernelIdeal.sig) → Buf (Elt Ideal) ℓ) (h : Cert.Pre_KernelIdeal m)
    (c : Dev Cert.KernelIdeal.nD) : Cert.KernelIdeal.Moe.InRange (F := Ideal) (fun b => m (c, b)) :=
  Cert.KernelIdeal.Moe.inRange_of _ fun i => Cert.Moe.topi_lt (F := Ideal) _ _ _ _ _ _ (h c) i

theorem frame_K : Cert.quiescent_Kernel := fun m g hm =>
  (θ_run _ _ _).mono (fun r h => ⟨fun c => Cert.Kernel.Moe.args_kept m _ r h.1 c, h.2⟩) (Cert.Kernel.Moe.run_all m g (inRange_K m hm))

theorem frame_KI : Cert.quiescent_KernelIdeal := fun m g hm =>
  (θ_run _ _ _).mono (fun r h => ⟨fun c => Cert.KernelIdeal.Moe.args_kept m _ r h.1 c, h.2⟩) (Cert.KernelIdeal.Moe.run_all m g (inRange_KI m hm))

theorem frame_RI : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

theorem frame_RI_pre : Cert.quiescent_ReferenceIdeal_pre_topi_in_range := fun m g _ =>
  (θ_run Cert.ReferenceIdeal.defs _ _).mono (fun r h => ⟨fun c => (h c).2, sem_eq_zero_of_no_sems (by decide) r.2⟩) (Cert.ReferenceIdeal.Value.run (F := Ideal) m g)

theorem preserves : Cert.preserves_Kernel_KernelIdeal :=
  ⟨IdealRules.bf16_pair.statement Cert.KernelIdeal.S2048x1024 Cert.KernelIdeal.S1024x1024, IdealRules.bf16_pack.statement Cert.KernelIdeal.S1024x1024⟩

end Cert.Proof

end
-- ==== Proof.Spec.lean ====
/- The mathematics of one row of one expert's feed-forward, on the extended reals. -/
module

public import Idealize.ShloMosaic.PureOps.Ideal

@[expose] public section

noncomputable section

namespace Cert.Moe

open Idealize.ShloMosaic

/-- The clipped gated activation of one gate value and one up value. -/
def swi (g u : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) u) + 1)

/-- Hidden unit `p` of a row `X`: the gate from column `p` of the first weights, the up value from column `2048 + p`. -/
def hidden (X : Fin 2048 → EReal) (W : Fin 2048 → Fin 4096 → EReal) (B : Fin 4096 → EReal) (p : Fin 2048) : EReal :=
  swi ((∑ k, X k * W k ⟨p.val, by omega⟩) + B ⟨p.val, by omega⟩) ((∑ k, X k * W k ⟨2048 + p.val, by omega⟩) + B ⟨2048 + p.val, by omega⟩)

/-- Column `c` of an expert's answer to a row `X`. -/
def ffn (X : Fin 2048 → EReal) (W : Fin 2048 → Fin 4096 → EReal) (B : Fin 4096 → EReal) (D : Fin 2048 → Fin 2048 → EReal) (b : Fin 2048 → EReal)
    (c : Fin 2048) : EReal := (∑ p, hidden X W B p * D p c) + b c

/-- What slice `f` of 256 hidden units adds to a column of the answer. -/
def slice (X : Fin 2048 → EReal) (W : Fin 2048 → Fin 4096 → EReal) (B : Fin 4096 → EReal) (D : Fin 2048 → Fin 2048 → EReal) (c : Fin 2048) (f : Fin 8) : EReal :=
  ∑ q : Fin 256, hidden X W B ⟨256 * f.val + q.val, by omega⟩ * D ⟨256 * f.val + q.val, by omega⟩ c

/-- The hidden units taken in eight slices of 256. -/
theorem sum_slices (g : Fin 2048 → EReal) : ∑ p, g p = ∑ f : Fin 8, ∑ q : Fin 256, g ⟨256 * f.val + q.val, by omega⟩ := by
  rw [← Fintype.sum_prod_type']
  refine (Fintype.sum_equiv ((finProdFinEquiv (m := 8) (n := 256)).trans (finCongr rfl)) _ _ fun x => ?_).symm
  refine congrArg g (Fin.ext ?_)
  show 256 * x.1.val + x.2.val = x.2.val + 256 * x.1.val
  omega

/-- The bias and the eight slices, added one after the other, are the answer. -/
theorem ffn_eq (X : Fin 2048 → EReal) (W : Fin 2048 → Fin 4096 → EReal) (B : Fin 4096 → EReal) (D : Fin 2048 → Fin 2048 → EReal) (b : Fin 2048 → EReal)
    (c : Fin 2048) (a : ℕ → EReal) (h0 : a 0 = b c) (hs : ∀ f : Fin 8, a (f.val + 1) = a f.val + slice X W B D c f) : a 8 = ffn X W B D b c := by
  have h : ∀ n (hn : n ≤ 8), a n = b c + ∑ f : Fin n, slice X W B D c ⟨f.val, by omega⟩ := by
    intro n
    induction n with
    | zero => intro _; rw [h0]; simp
    | succ n ih =>
      intro hn
      rw [hs ⟨n, by omega⟩, Fin.sum_univ_castSucc]
      show a n + _ = _
      rw [ih (by omega), add_assoc]
      rfl
  rw [h 8 le_rfl, add_comm]
  unfold ffn
  rw [sum_slices]
  rfl

end Cert.Moe

end
-- ==== Proof.RefValue.lean ====
/- The reference's result, one element at a time over the extended reals. -/
module

public import proofs.«01_k».proof.Proof.Spec
public import proofs.«01_k».proof.Proof.Gen.ReferenceIdeal.Run
public import Idealize.ShloMosaic.Lib.Pointwise
public import Idealize.ShloMosaic.Lib.MatmulPlain
public import Idealize.ShloMosaic.Lib.Routing.Words
public import Idealize.ShloMosaic.Lib.StableHlo.Predicate

@[expose] public section

set_option maxRecDepth 16384
set_option Elab.async false

noncomputable section

namespace Cert.ReferenceIdeal.Moe

open Cert.ReferenceIdeal Cert.ReferenceIdeal.Gen Cert.ReferenceIdeal.Value Cert.Moe
open Idealize.ShloMosaic

variable (x0 : FVec Ideal S32768x2048 .f32) (x2 : FVec Ideal S2x32x2048x4096 .f32) (x3 : FVec Ideal S2x32x4096 .f32)
  (x4 : FVec Ideal S2x32x2048x2048 .f32) (x5 : FVec Ideal S2x32x2048 .f32)

/-- Both first products of every expert on every token, with their bias. -/
def guArr : FVec Ideal S32x32768x4096 .f32 :=
  addf (transpose S32x32768x4096 [0, 2, 1] (Host.dotGeneral dot_S32x2048x4096_S32768x2048_S32x4096x32768_1_1_02_0_n_n none (shapeCast _ (extractStridedSlice S1x32x2048x4096 ![0, 0, 0, 0] x2 slices_S2x32x2048x4096_S1x32x2048x4096_0_0_0_0) shapeCasts_S1x32x2048x4096_S32x2048x4096) x0) transposes_S32x4096x32768_S32x32768x4096_0_2_1)
    (broadcastInDim S32x32768x4096 ![0, 1, 2] bcast_S32x1x4096_S32x32768x4096_0_1_2 (broadcastInDim S32x1x4096 ![0, 2] bcast_S32x4096_S32x1x4096_0_2 (shapeCast _ (extractStridedSlice S1x32x4096 ![0, 0, 0] x3 slices_S2x32x4096_S1x32x4096_0_0_0) shapeCasts_S1x32x4096_S32x4096)))

theorem gu_at (e : Fin 32) (n : Fin 32768) (p : Fin 4096) :
    guArr x0 x2 x3 (ix3 e n p) = (∑ k : Fin 2048, x0 (ix2 n k) * x2 (ix4 0 e k p)) + x3 (ix3 0 e p) := by
  unfold guArr
  pointwise
  refine congrArg (· + _) (Finset.sum_congr rfl fun k _ => mul_comm _ _)

/-- The activations of every expert on every token. -/
def actArr (v8 : FVec Ideal S32x32768x4096 .f32) : FVec Ideal S32x32768x2048 .f32 :=
  mulf (mulf (minimumf (extractStridedSlice S32x32768x2048 ![0, 0, 0] v8 slices_S32x32768x4096_S32x32768x2048_0_0_0) (broadcastInDim S32x32768x2048 ![] bcast_S_S32x32768x2048 (constant S_ .f32 0x40E00000#32))) (Host.divf (broadcastInDim S32x32768x2048 ![] bcast_S_S32x32768x2048 (constant S_ .f32 0x3F800000#32)) (addf (broadcastInDim S32x32768x2048 ![] bcast_S_S32x32768x2048 (constant S_ .f32 0x3F800000#32)) (Host.exp (Host.negf (mulf (broadcastInDim S32x32768x2048 ![] bcast_S_S32x32768x2048 (constant S_ .f32 0x3FD9DB23#32)) (minimumf (extractStridedSlice S32x32768x2048 ![0, 0, 0] v8 slices_S32x32768x4096_S32x32768x2048_0_0_0) (broadcastInDim S32x32768x2048 ![] bcast_S_S32x32768x2048 (constant S_ .f32 0x40E00000#32))))))))) (addf (minimumf (broadcastInDim S32x32768x2048 ![] bcast_S_S32x32768x2048 (id (constant S_ .f32 0x40E00000#32))) (maximumf (broadcastInDim S32x32768x2048 ![] bcast_S_S32x32768x2048 (id (constant S_ .f32 0xC0E00000#32))) (extractStridedSlice S32x32768x2048 ![0, 0, 2048] v8 slices_S32x32768x4096_S32x32768x2048_0_0_2048))) (broadcastInDim S32x32768x2048 ![] bcast_S_S32x32768x2048 (constant S_ .f32 0x3F800000#32)))

theorem act_at (v8 : FVec Ideal S32x32768x4096 .f32) (e : Fin 32) (n : Fin 32768) (p : Fin 2048) :
    actArr v8 (ix3 e n p) = swi (v8 (ix3 e n ⟨p.val, by omega⟩)) (v8 (ix3 e n ⟨2048 + p.val, by omega⟩)) := by
  unfold actArr swi Ideal.logistic
  simp only [id_eq]
  pointwise

/-- Every expert's answer to every token. -/
def yArr (v25 : FVec Ideal S32x32768x2048 .f32) : FVec Ideal S32x32768x2048 .f32 :=
  addf (Host.dotGeneral dot_S32x32768x2048_S32x2048x2048_S32x32768x2048_2_1_1_2_0_0 none v25 (shapeCast _ (extractStridedSlice S1x32x2048x2048 ![0, 0, 0, 0] x4 slices_S2x32x2048x2048_S1x32x2048x2048_0_0_0_0) shapeCasts_S1x32x2048x2048_S32x2048x2048)) (broadcastInDim S32x32768x2048 ![0, 1, 2] bcast_S32x1x2048_S32x32768x2048_0_1_2 (broadcastInDim S32x1x2048 ![0, 2] bcast_S32x2048_S32x1x2048_0_2 (shapeCast _ (extractStridedSlice S1x32x2048 ![0, 0, 0] x5 slices_S2x32x2048_S1x32x2048_0_0_0) shapeCasts_S1x32x2048_S32x2048)))

theorem y_at (v25 : FVec Ideal S32x32768x2048 .f32) (e : Fin 32) (n : Fin 32768) (c : Fin 2048) :
    yArr x4 x5 v25 (ix3 e n c) = (∑ p : Fin 2048, v25 (ix3 e n p) * x4 (ix4 0 e p c)) + x5 (ix3 0 e c) := by
  unfold yArr
  pointwise

/-- The two index columns: the expert and the token of each pair. -/
def idxArr (x1 : IVec S32768x4 32) : IVec S4x32768x2 32 :=
  concatenate S4x32768x2 2 [⟨S4x32768x1, (broadcastInDim S4x32768x1 ![0, 1] bcast_S4x32768_S4x32768x1_0_1 (select (cmpi .slt (transpose S4x32768 [1, 0] x1 transposes_S32768x4_S4x32768_1_0) (broadcastInDim S4x32768 ![] bcast_S_S4x32768 (constantI S_ 32 0#32))) (addi (transpose S4x32768 [1, 0] x1 transposes_S32768x4_S4x32768_1_0) (broadcastInDim S4x32768 ![] bcast_S_S4x32768 (constantI S_ 32 32#32))) (transpose S4x32768 [1, 0] x1 transposes_S32768x4_S4x32768_1_0)))⟩, ⟨S4x32768x1, (broadcastInDim S4x32768x1 ![0, 1] bcast_S4x32768_S4x32768x1_0_1 (broadcastInDim S4x32768 ![0, 1] bcast_S1x32768_S4x32768_0_1 (select (cmpi .slt (broadcastInDim S1x32768 ![1] bcast_S32768_S1x32768_1 (iotaInDim S32768 32 0)) (broadcastInDim S1x32768 ![] bcast_S_S1x32768 (constantI S_ 32 0#32))) (addi (broadcastInDim S1x32768 ![1] bcast_S32768_S1x32768_1 (iotaInDim S32768 32 0)) (broadcastInDim S1x32768 ![] bcast_S_S1x32768 (constantI S_ 32 32768#32))) (broadcastInDim S1x32768 ![1] bcast_S32768_S1x32768_1 (iotaInDim S32768 32 0)))))⟩] concatenates_S4x32768x1_S4x32768x1_S4x32768x2_d2

theorem idx0_at (x1 : IVec S32768x4 32) (k : Fin 4) (n : Fin 32768) : idxArr x1 (ix3 k n 0)
    = Scalar.select (IntOp.cmpi .slt (x1 (ix2 n k)) 0#32) (IntOp.addi (x1 (ix2 n k)) 32#32) (x1 (ix2 n k)) := by
  unfold idxArr
  pointwise

theorem idx1_at (x1 : IVec S32768x4 32) (k : Fin 4) (n : Fin 32768) : idxArr x1 (ix3 k n 1)
    = Scalar.select (IntOp.cmpi .slt (BitVec.ofNat 32 n.val) 0#32) (IntOp.addi (BitVec.ofNat 32 n.val) 32768#32) (BitVec.ofNat 32 n.val) := by
  unfold idxArr
  pointwise

theorem res_eq (m : (ℓ : Loc nD τ sig) → Buf (Elt Ideal) ℓ) (c : Dev nD) : res_main_v51 (F := Ideal) m c
    = Host.gather gather_S32x32768x2048_S4x32768x2_S4x32768x2048_2_01_n_n_01_2_112048
      (yArr (m ((c.tc : Thread nD τ).loc main_arg4)) (m ((c.tc : Thread nD τ).loc main_arg5)) (actArr (guArr (m ((c.tc : Thread nD τ).loc main_arg0)) (m ((c.tc : Thread nD τ).loc main_arg2)) (m ((c.tc : Thread nD τ).loc main_arg3)))))
      (idxArr (m ((c.tc : Thread nD τ).loc main_arg1))) := by
  unfold res_main_v51 yArr actArr guArr idxArr
  rfl

/-- A gather by two index columns: entry `(k, n, c)` is the table's entry at the row the columns name. -/
theorem gather_pair {α : Type} (x : S32x32768x2048.Idx → α) (idx : IVec S4x32768x2 32) (k : Fin 4) (n : Fin 32768) (c : Fin 2048) (e : Fin 32) (n' : Fin 32768)
    (h0 : idx (ix3 k n 0) = BitVec.ofNat 32 e.val) (h1 : idx (ix3 k n 1) = BitVec.ofNat 32 n'.val) :
    Host.gather gather_S32x32768x2048_S4x32768x2_S4x32768x2048_2_01_n_n_01_2_112048 x idx (ix3 k n c) = x (ix3 e n' c) := by
  unfold Host.gather
  refine congrArg x (funext fun a => Fin.ext ?_)
  have he := e.isLt
  have hn := n'.isLt
  match a with
  | ⟨0, _⟩ =>
    show min (idx _).toInt.toNat 31 + 0 + 0 = e.val
    have hi : GatherDims.siIdx gather_S32x32768x2048_S4x32768x2_S4x32768x2048_2_01_n_n_01_2_112048 (ix3 k n c) ⟨0, by decide⟩ = ix3 k n 0 := by
      funext b
      match b with
      | ⟨0, _⟩ => rfl
      | ⟨1, _⟩ => rfl
      | ⟨2, _⟩ => rfl
    refine (congrArg (fun w : BitVec 32 => min w.toInt.toNat 31 + 0 + 0) ((congrArg idx hi).trans h0)).trans ?_
    show min (BitVec.ofNat 32 _).toInt.toNat 31 + 0 + 0 = _
    rw [StableHlo.Predicate.toInt_ofNat_small _ (by omega)]
    omega
  | ⟨1, _⟩ =>
    show min (idx _).toInt.toNat 32767 + 0 + 0 = n'.val
    have hi : GatherDims.siIdx gather_S32x32768x2048_S4x32768x2_S4x32768x2048_2_01_n_n_01_2_112048 (ix3 k n c) ⟨1, by decide⟩ = ix3 k n 1 := by
      funext b
      match b with
      | ⟨0, _⟩ => rfl
      | ⟨1, _⟩ => rfl
      | ⟨2, _⟩ => rfl
    refine (congrArg (fun w : BitVec 32 => min w.toInt.toNat 32767 + 0 + 0) ((congrArg idx hi).trans h1)).trans ?_
    show min (BitVec.ofNat 32 _).toInt.toNat 32767 + 0 + 0 = _
    rw [StableHlo.Predicate.toInt_ofNat_small _ (by omega)]
    omega
  | ⟨2, _⟩ =>
    show 0 + 0 + c.val = c.val
    omega

/-- The reference's entry for pair `(k, n)`, column `c`: the answer of the pair's expert to the token. -/
theorem res_at (m : (ℓ : Loc nD τ sig) → Buf (Elt Ideal) ℓ) (d : Dev nD) (k : Fin 4) (n : Fin 32768) (c : Fin 2048) (e : Fin 32)
    (he : (m ((d.tc : Thread nD τ).loc main_arg1) : IVec S32768x4 32) (ix2 n k) = BitVec.ofNat 32 e.val) :
    (res_main_v51 (F := Ideal) m d : FVec Ideal S4x32768x2048 .f32) (ix3 k n c)
      = ffn (fun j => (m ((d.tc : Thread nD τ).loc main_arg0) : FVec Ideal S32768x2048 .f32) (ix2 n j))
          (fun j p => (m ((d.tc : Thread nD τ).loc main_arg2) : FVec Ideal S2x32x2048x4096 .f32) (ix4 0 e j p))
          (fun p => (m ((d.tc : Thread nD τ).loc main_arg3) : FVec Ideal S2x32x4096 .f32) (ix3 0 e p))
          (fun p j => (m ((d.tc : Thread nD τ).loc main_arg4) : FVec Ideal S2x32x2048x2048 .f32) (ix4 0 e p j))
          (fun j => (m ((d.tc : Thread nD τ).loc main_arg5) : FVec Ideal S2x32x2048 .f32) (ix3 0 e j)) c := by
  have hel := e.isLt
  have hnl := n.isLt
  have wrap : ∀ (w u : BitVec 32), w.toNat < 2 ^ 31 → Scalar.select (IntOp.cmpi .slt w 0#32) u w = w := fun w u h => by
    have hc : IntOp.cmpi .slt w 0#32 = 0#1 := by
      rcases BitVec.eq_zero_or_eq_one (IntOp.cmpi .slt w 0#32) with q | q
      · exact q
      · exact absurd ((StableHlo.Predicate.slt_iff_toNat h (by decide)).1 q) (Nat.not_lt_zero _)
    rw [hc]; rfl
  rw [res_eq]
  refine (gather_pair _ _ k n c e n ?_ ?_).trans ?_
  · rw [idx0_at, wrap _ _ (by rw [he, BitVec.toNat_ofNat]; omega), he]
  · rw [idx1_at, wrap _ _ (by rw [BitVec.toNat_ofNat]; omega)]
  · rw [y_at]
    unfold ffn Cert.Moe.hidden
    simp only [act_at, gu_at]

end Cert.ReferenceIdeal.Moe

end
-- ==== Proof.KI.Value.lean ====
/- The body's arithmetic over the extended reals, one element at a time. -/
module

public import proofs.«01_k».proof.Proof.Spec
public import proofs.«01_k».proof.Proof.KI.BodyDefs
public import Idealize.ShloMosaic.Lib.Pointwise
public import Idealize.ShloMosaic.Lib.MatmulPlain

@[expose] public section

set_option maxRecDepth 16384
set_option Elab.async false

noncomputable section

namespace Cert.KernelIdeal.Moe

open Cert.KernelIdeal Cert.KernelIdeal.Gen Cert.Moe
open Idealize.ShloMosaic

theorem pay3_at (x : Vec Ideal S1x1x1x2048 .f32) (r : Fin 1024) (c : Fin 2048) : k0_pay3 (F := Ideal) x (ix2 r c) = x (ix4 0 0 0 c) := by
  unfold k0_pay3
  pointwise

theorem pay7_at (a : Vec Ideal S1024x2048 .bf16) (x1 x2 : Vec Ideal S1x1x2048x256 .f32) (x3 x4 : Vec Ideal S1x1x1x256 .f32) (r : Fin 1024) (q : Fin 256) :
    k0_pay7 (F := Ideal) a x1 x3 x2 x4 (ix2 r q)
      = swi ((∑ k : Fin 2048, a (ix2 r k) * x1 (ix4 0 0 k q)) + x3 (ix4 0 0 0 q)) ((∑ k : Fin 2048, a (ix2 r k) * x2 (ix4 0 0 k q)) + x4 (ix4 0 0 0 q)) := by
  unfold k0_pay7 swi
  pointwise

theorem pay4_at (b : Vec Ideal S1024x2048 .f32) (v : Vec Ideal S1024x256 .bf16) (x5 : Vec Ideal S1x1x256x2048 .f32) (r : Fin 1024) (c : Fin 2048) :
    k0_pay4 (F := Ideal) b v x5 (ix2 r c) = b (ix2 r c) + ∑ q : Fin 256, v (ix2 r q) * x5 (ix4 0 0 q c) := by
  unfold k0_pay4
  pointwise

theorem pay1_at (x : Vec Ideal S2048x1024 .bf16) (r : Fin 1024) (c : Fin 1024) : k0_pay1 (F := Ideal) x (ix2 r c) = x (ix2 ⟨2 * r.val, by omega⟩ c) := by
  unfold k0_pay1
  pointwise

theorem pay2_at (x : Vec Ideal S2048x1024 .bf16) (r : Fin 1024) (c : Fin 1024) : k0_pay2 (F := Ideal) x (ix2 r c) = x (ix2 ⟨2 * r.val + 1, by omega⟩ c) := by
  unfold k0_pay2
  pointwise

theorem pay5_at (x : Vec Ideal S1024x2048 .f32) (r : Fin 1024) (c : Fin 1024) : k0_pay5 (F := Ideal) x (ix2 ⟨2 * r.val, by omega⟩ c) = x (ix2 r ⟨c.val, by omega⟩) := by
  unfold k0_pay5
  pointwise
  rw [if_pos (by omega)]
  exact congrArg x (congrArg (ix2 · _) (Fin.ext (by show 2 * r.val / 2 = r.val; omega)))

theorem pay5_at' (x : Vec Ideal S1024x2048 .f32) (r : Fin 1024) (c : Fin 1024) : k0_pay5 (F := Ideal) x (ix2 ⟨2 * r.val + 1, by omega⟩ c) = x (ix2 r ⟨1024 + c.val, by omega⟩) := by
  unfold k0_pay5
  pointwise
  rw [if_neg (by omega)]
  exact congrArg x (congrArg (ix2 · _) (Fin.ext (by show (2 * r.val + 1) / 2 = r.val; omega)))

/-- The loaded block of activations: column `c` of row `r` lies in the even rows left of the middle and in the odd rows right of it. -/
theorem xb_at (x : Vec Ideal S2048x1024 .bf16) (r : Fin 1024) (c : Fin 2048) :
    xbOf (F := Ideal) x (ix2 r c) = x (ix2 ⟨2 * r.val + c.val / 1024, by omega⟩ ⟨c.val % 1024, by omega⟩) := by
  unfold xbOf
  split
  · next h =>
    change c.val < 1024 at h
    refine (pay1_at x r ⟨c.val, h⟩).trans (congrArg x (congrArg₂ ix2 (Fin.ext ?_) (Fin.ext ?_)))
    · show 2 * r.val = 2 * r.val + c.val / 1024; omega
    · show c.val = c.val % 1024; omega
  · next h =>
    change ¬ c.val < 1024 at h
    refine (pay2_at x r ⟨c.val - 1024, by omega⟩).trans (congrArg x (congrArg₂ ix2 (Fin.ext ?_) (Fin.ext ?_)))
    · show 2 * r.val + 1 = 2 * r.val + c.val / 1024; omega
    · show c.val - 1024 = c.val % 1024; omega

/-- The stored block, likewise. -/
theorem out_at (x : Vec Ideal S1024x2048 .f32) (r : Fin 1024) (c : Fin 2048) :
    k0_pay5 (F := Ideal) x (ix2 ⟨2 * r.val + c.val / 1024, by omega⟩ ⟨c.val % 1024, by omega⟩) = x (ix2 r c) := by
  by_cases h : c.val < 1024
  · refine Eq.trans (congrArg (k0_pay5 (F := Ideal) x) (congrArg₂ ix2 (Fin.ext ?_) rfl)) ((pay5_at x r ⟨c.val % 1024, by omega⟩).trans (congrArg x (congrArg (ix2 r) (Fin.ext ?_))))
    · show 2 * r.val + c.val / 1024 = 2 * r.val; omega
    · show c.val % 1024 = c.val; omega
  · refine Eq.trans (congrArg (k0_pay5 (F := Ideal) x) (congrArg₂ ix2 (Fin.ext ?_) rfl)) ((pay5_at' x r ⟨c.val % 1024, by omega⟩).trans (congrArg x (congrArg (ix2 r) (Fin.ext ?_))))
    · show 2 * r.val + c.val / 1024 = 2 * r.val + 1; omega
    · show 1024 + c.val % 1024 = c.val; omega

/-- One inner step adds its slice of hidden units. -/
theorem accStep_at (a : Vec Ideal S1024x2048 .bf16) (b : Vec Ideal S1024x2048 .f32) (x1 x2 : Vec Ideal S1x1x2048x256 .f32) (x3 x4 : Vec Ideal S1x1x1x256 .f32)
    (x5 : Vec Ideal S1x1x256x2048 .f32) (r : Fin 1024) (c : Fin 2048)
    (X : Fin 2048 → EReal) (W : Fin 2048 → Fin 4096 → EReal) (B : Fin 4096 → EReal) (D : Fin 2048 → Fin 2048 → EReal) (f : Fin 8)
    (hX : ∀ k, a (ix2 r k) = X k) (h1 : ∀ k (q : Fin 256), x1 (ix4 0 0 k q) = W k ⟨256 * f.val + q.val, by omega⟩)
    (h2 : ∀ k (q : Fin 256), x2 (ix4 0 0 k q) = W k ⟨2048 + (256 * f.val + q.val), by omega⟩)
    (h3 : ∀ q : Fin 256, x3 (ix4 0 0 0 q) = B ⟨256 * f.val + q.val, by omega⟩) (h4 : ∀ q : Fin 256, x4 (ix4 0 0 0 q) = B ⟨2048 + (256 * f.val + q.val), by omega⟩)
    (h5 : ∀ (q : Fin 256) c, x5 (ix4 0 0 q c) = D ⟨256 * f.val + q.val, by omega⟩ c) :
    accStep (F := Ideal) a b x1 x2 x3 x4 x5 (ix2 r c) = b (ix2 r c) + slice X W B D c f := by
  unfold accStep slice Cert.Moe.hidden
  rw [pay4_at]
  refine congrArg (b (ix2 r c) + ·) (Finset.sum_congr rfl fun q _ => ?_)
  rw [pay7_at, h3, h4, h5]
  simp only [hX, h1, h2]

end Cert.KernelIdeal.Moe

end
-- ==== Proof.KI.Blocks.lean ====
/- The blocks the call fetches, at coordinates of their arrays; the value a running block computes; the array the call leaves. -/
module

public import proofs.«01_k».proof.Proof.KI.Value
public import proofs.«01_k».proof.Proof.KI.Region
public import Idealize.ShloMosaic.Lib.Pipeline.ValueKit

@[expose] public section

set_option maxRecDepth 16384
set_option Elab.async false

noncomputable section

namespace Cert.KernelIdeal.Moe

open Cert.KernelIdeal Cert.KernelIdeal.Gen
open Idealize.ShloMosaic Idealize.ShloMosaic.TcCoe
open Idealize.SL Idealize.SL.RA
open Idealize.ShloMosaic.Pipeline (Dat Cfg Window)
open Cert.Moe

section reads

variable {F : FTy → Type} [FloatOps F]
variable (V₀ : Dev nD → Valuation τ sig (Elt F)) (ad : (pcfg0 (F := F)).Adm)

/-- The array at which window `w`'s block at point `t` reads its element `y`. -/
theorem emb_val (w : Fin (cfgA (F := F) ad).W) (t : Fin (cfgA (F := F) ad).N) (y : (((cfgA (F := F) ad).win w).xblock (crd (F := F) ad t)).Idx)
    (a : Fin ((cfgA (F := F) ad).win w).shape.rank) (hk : ((cfgA (F := F) ad).win w).kind = .blocked) :
    ((((cfgA (F := F) ad).win w).rect t).emb y a : Nat) = ((cfgA (F := F) ad).win w).index t a * ((cfgA (F := F) ad).win w).size a + y a :=
  Window.rect_emb_val _ t y a hk

theorem ib0_at (c' : Dev nD) (t : Fin (cfgA (F := F) ad).N) (x : Fin 160) (hx : (xW (F := F) ad.1 (crd (F := F) ad t)).toNat = x.val) (r : Fin 2048) (c : Fin 1024) :
    ib0 (F := F) V₀ ad c' t (ix2 r c) = (V₀ c' (Proc.devRef .tc main_v110) : Vec F S327680x1024 .bf16) (ix2 ⟨2048 * x.val + r.val, by omega⟩ c) := by
  have hi : ((cfgA (F := F) ad).win (0 : Fin 8)).index t = _ := tr0_eq (F := F) ad.1 (crd (F := F) ad t)
  refine congrArg (V₀ c' (Proc.devRef .tc main_v110) : Vec F S327680x1024 .bf16) (funext fun a => Fin.ext ((emb_val ad (0 : Fin 8) t _ a rfl).trans ?_))
  rw [hi]
  match a with
  | ⟨0, _⟩ => show (xW (F := F) ad.1 (crd (F := F) ad t)).toNat * 2048 + r.val = 2048 * x.val + r.val; omega
  | ⟨1, _⟩ => show 0 * 1024 + c.val = c.val; omega

theorem ib1_at (c' : Dev nD) (t : Fin (cfgA (F := F) ad).N) (e : Fin 32) (he : (eW (F := F) ad.1 (crd (F := F) ad t)).toNat = e.val) (hv : valid (vW (F := F) ad.1 (crd (F := F) ad t))) (f : Fin 8) (hf : (crd (F := F) ad t 1).val = f.val) (k : Fin 2048) (q : Fin 256) :
    ib1 (F := F) V₀ ad c' t (ix4 0 0 k q) = (V₀ c' (Proc.devRef .tc main_arg2) : Vec F S2x32x2048x4096 .f32) (ix4 0 e k ⟨256 * f.val + q.val, by omega⟩) := by
  have hs : fsel (vW (F := F) ad.1 (crd (F := F) ad t)) (crd (F := F) ad t 1).val = f.val := by unfold fsel; rw [if_pos hv, hf]
  have hi : ((cfgA (F := F) ad).win (1 : Fin 8)).index t = _ := tr1_eq (F := F) ad.1 (crd (F := F) ad t)
  refine congrArg (V₀ c' (Proc.devRef .tc main_arg2) : Vec F S2x32x2048x4096 .f32) (funext fun a => Fin.ext ((emb_val ad (1 : Fin 8) t _ a rfl).trans ?_))
  rw [hi]
  match a with
  | ⟨0, _⟩ => show 0 * 1 + 0 = 0; omega
  | ⟨1, _⟩ => show (eW (F := F) ad.1 (crd (F := F) ad t)).toNat * 1 + 0 = e.val; omega
  | ⟨2, _⟩ => show 0 * 2048 + k.val = k.val; omega
  | ⟨3, _⟩ => show (fsel (vW (F := F) ad.1 (crd (F := F) ad t)) (crd (F := F) ad t 1).val) * 256 + q.val = 256 * f.val + q.val; omega

theorem ib2_at (c' : Dev nD) (t : Fin (cfgA (F := F) ad).N) (e : Fin 32) (he : (eW (F := F) ad.1 (crd (F := F) ad t)).toNat = e.val) (hv : valid (vW (F := F) ad.1 (crd (F := F) ad t))) (f : Fin 8) (hf : (crd (F := F) ad t 1).val = f.val) (k : Fin 2048) (q : Fin 256) :
    ib2 (F := F) V₀ ad c' t (ix4 0 0 k q) = (V₀ c' (Proc.devRef .tc main_arg2) : Vec F S2x32x2048x4096 .f32) (ix4 0 e k ⟨2048 + (256 * f.val + q.val), by omega⟩) := by
  have hs : fsel (vW (F := F) ad.1 (crd (F := F) ad t)) (crd (F := F) ad t 1).val = f.val := by unfold fsel; rw [if_pos hv, hf]
  have hi : ((cfgA (F := F) ad).win (2 : Fin 8)).index t = _ := tr2_eq (F := F) ad.1 (crd (F := F) ad t)
  refine congrArg (V₀ c' (Proc.devRef .tc main_arg2) : Vec F S2x32x2048x4096 .f32) (funext fun a => Fin.ext ((emb_val ad (2 : Fin 8) t _ a rfl).trans ?_))
  rw [hi]
  match a with
  | ⟨0, _⟩ => show 0 * 1 + 0 = 0; omega
  | ⟨1, _⟩ => show (eW (F := F) ad.1 (crd (F := F) ad t)).toNat * 1 + 0 = e.val; omega
  | ⟨2, _⟩ => show 0 * 2048 + k.val = k.val; omega
  | ⟨3, _⟩ => show (fsel (vW (F := F) ad.1 (crd (F := F) ad t)) (crd (F := F) ad t 1).val + 8) * 256 + q.val = 2048 + (256 * f.val + q.val); omega

theorem ib3_at (c' : Dev nD) (t : Fin (cfgA (F := F) ad).N) (e : Fin 32) (he : (eW (F := F) ad.1 (crd (F := F) ad t)).toNat = e.val) (hv : valid (vW (F := F) ad.1 (crd (F := F) ad t))) (f : Fin 8) (hf : (crd (F := F) ad t 1).val = f.val) (q : Fin 256) :
    ib3 (F := F) V₀ ad c' t (ix4 0 0 0 q) = (V₀ c' (Proc.devRef .tc main_v111) : Vec F S2x32x1x4096 .f32) (ix4 0 e 0 ⟨256 * f.val + q.val, by omega⟩) := by
  have hs : fsel (vW (F := F) ad.1 (crd (F := F) ad t)) (crd (F := F) ad t 1).val = f.val := by unfold fsel; rw [if_pos hv, hf]
  have hi : ((cfgA (F := F) ad).win (3 : Fin 8)).index t = _ := tr3_eq (F := F) ad.1 (crd (F := F) ad t)
  refine congrArg (V₀ c' (Proc.devRef .tc main_v111) : Vec F S2x32x1x4096 .f32) (funext fun a => Fin.ext ((emb_val ad (3 : Fin 8) t _ a rfl).trans ?_))
  rw [hi]
  match a with
  | ⟨0, _⟩ => show 0 * 1 + 0 = 0; omega
  | ⟨1, _⟩ => show (eW (F := F) ad.1 (crd (F := F) ad t)).toNat * 1 + 0 = e.val; omega
  | ⟨2, _⟩ => show 0 * 1 + 0 = 0; omega
  | ⟨3, _⟩ => show (fsel (vW (F := F) ad.1 (crd (F := F) ad t)) (crd (F := F) ad t 1).val) * 256 + q.val = 256 * f.val + q.val; omega

theorem ib4_at (c' : Dev nD) (t : Fin (cfgA (F := F) ad).N) (e : Fin 32) (he : (eW (F := F) ad.1 (crd (F := F) ad t)).toNat = e.val) (hv : valid (vW (F := F) ad.1 (crd (F := F) ad t))) (f : Fin 8) (hf : (crd (F := F) ad t 1).val = f.val) (q : Fin 256) :
    ib4 (F := F) V₀ ad c' t (ix4 0 0 0 q) = (V₀ c' (Proc.devRef .tc main_v111) : Vec F S2x32x1x4096 .f32) (ix4 0 e 0 ⟨2048 + (256 * f.val + q.val), by omega⟩) := by
  have hs : fsel (vW (F := F) ad.1 (crd (F := F) ad t)) (crd (F := F) ad t 1).val = f.val := by unfold fsel; rw [if_pos hv, hf]
  have hi : ((cfgA (F := F) ad).win (4 : Fin 8)).index t = _ := tr4_eq (F := F) ad.1 (crd (F := F) ad t)
  refine congrArg (V₀ c' (Proc.devRef .tc main_v111) : Vec F S2x32x1x4096 .f32) (funext fun a => Fin.ext ((emb_val ad (4 : Fin 8) t _ a rfl).trans ?_))
  rw [hi]
  match a with
  | ⟨0, _⟩ => show 0 * 1 + 0 = 0; omega
  | ⟨1, _⟩ => show (eW (F := F) ad.1 (crd (F := F) ad t)).toNat * 1 + 0 = e.val; omega
  | ⟨2, _⟩ => show 0 * 1 + 0 = 0; omega
  | ⟨3, _⟩ => show (fsel (vW (F := F) ad.1 (crd (F := F) ad t)) (crd (F := F) ad t 1).val + 8) * 256 + q.val = 2048 + (256 * f.val + q.val); omega

theorem ib5_at (c' : Dev nD) (t : Fin (cfgA (F := F) ad).N) (e : Fin 32) (he : (eW (F := F) ad.1 (crd (F := F) ad t)).toNat = e.val) (hv : valid (vW (F := F) ad.1 (crd (F := F) ad t))) (f : Fin 8) (hf : (crd (F := F) ad t 1).val = f.val) (q : Fin 256) (k : Fin 2048) :
    ib5 (F := F) V₀ ad c' t (ix4 0 0 q k) = (V₀ c' (Proc.devRef .tc main_arg4) : Vec F S2x32x2048x2048 .f32) (ix4 0 e ⟨256 * f.val + q.val, by omega⟩ k) := by
  have hs : fsel (vW (F := F) ad.1 (crd (F := F) ad t)) (crd (F := F) ad t 1).val = f.val := by unfold fsel; rw [if_pos hv, hf]
  have hi : ((cfgA (F := F) ad).win (5 : Fin 8)).index t = _ := tr5_eq (F := F) ad.1 (crd (F := F) ad t)
  refine congrArg (V₀ c' (Proc.devRef .tc main_arg4) : Vec F S2x32x2048x2048 .f32) (funext fun a => Fin.ext ((emb_val ad (5 : Fin 8) t _ a rfl).trans ?_))
  rw [hi]
  match a with
  | ⟨0, _⟩ => show 0 * 1 + 0 = 0; omega
  | ⟨1, _⟩ => show (eW (F := F) ad.1 (crd (F := F) ad t)).toNat * 1 + 0 = e.val; omega
  | ⟨2, _⟩ => show (fsel (vW (F := F) ad.1 (crd (F := F) ad t)) (crd (F := F) ad t 1).val) * 256 + q.val = 256 * f.val + q.val; omega
  | ⟨3, _⟩ => show 0 * 2048 + k.val = k.val; omega

theorem ib6_at (c' : Dev nD) (t : Fin (cfgA (F := F) ad).N) (e : Fin 32) (he : (eW (F := F) ad.1 (crd (F := F) ad t)).toNat = e.val) (k : Fin 2048) :
    ib6 (F := F) V₀ ad c' t (ix4 0 0 0 k) = (V₀ c' (Proc.devRef .tc main_v112) : Vec F S2x32x1x2048 .f32) (ix4 0 e 0 k) := by
  have hi : ((cfgA (F := F) ad).win (6 : Fin 8)).index t = _ := tr6_eq (F := F) ad.1 (crd (F := F) ad t)
  refine congrArg (V₀ c' (Proc.devRef .tc main_v112) : Vec F S2x32x1x2048 .f32) (funext fun a => Fin.ext ((emb_val ad (6 : Fin 8) t _ a rfl).trans ?_))
  rw [hi]
  match a with
  | ⟨0, _⟩ => show 0 * 1 + 0 = 0; omega
  | ⟨1, _⟩ => show (eW (F := F) ad.1 (crd (F := F) ad t)).toNat * 1 + 0 = e.val; omega
  | ⟨2, _⟩ => show 0 * 1 + 0 = 0; omega
  | ⟨3, _⟩ => show 0 * 2048 + k.val = k.val; omega

end reads

section value

variable (V₀ : Dev nD → Valuation τ sig (Elt Ideal)) (ad : (pcfg0 (F := Ideal)).Adm)

/-- The grid point of block `i` and slice `f`. -/
abbrev pnt (i : Fin 160) (f : Fin 8) : Fin (cfgA (F := Ideal) ad).N := ⟨8 * i.val + f.val, by have := N_A (F := Ideal) ad; omega⟩

theorem pnt0 (i : Fin 160) (f : Fin 8) : crd (F := Ideal) ad (pnt ad i f) 0 = i := Fin.ext (by
  rw [crdA0]; show (8 * i.val + f.val) / 8 = i.val; omega)
theorem pnt1 (i : Fin 160) (f : Fin 8) : (crd (F := Ideal) ad (pnt ad i f) 1).val = f.val := by
  rw [crdA1]; show (8 * i.val + f.val) % 8 = f.val; omega

/-- What a running block has summed after its last slice: the answer of its expert to each of its rows. -/
theorem block_at (c' : Dev nD) (i : Fin 160) (x : Fin 160) (e : Fin 32) (hx : ((ad.1 1 : S160.Idx → BitVec 32) (ValueIdx.ix1 i)).toNat = x.val)
    (he : ((ad.1 0 : S160.Idx → BitVec 32) (ValueIdx.ix1 i)).toNat = e.val) (hv : valid ((ad.1 2 : S160.Idx → BitVec 32) (ValueIdx.ix1 i))) (r : Fin 1024) (c : Fin 2048) :
    (traj (F := Ideal) V₀ ad c' (8 * i.val + 8)).2 (ix2 r c)
      = ffn (fun k => (V₀ c' (Proc.devRef .tc main_v110) : Vec Ideal S327680x1024 .bf16) (ix2 ⟨2048 * x.val + (2 * r.val + k.val / 1024), by omega⟩ ⟨k.val % 1024, by omega⟩))
          (fun k p => (V₀ c' (Proc.devRef .tc main_arg2) : Vec Ideal S2x32x2048x4096 .f32) (ix4 0 e k p))
          (fun p => (V₀ c' (Proc.devRef .tc main_v111) : Vec Ideal S2x32x1x4096 .f32) (ix4 0 e 0 p))
          (fun p k => (V₀ c' (Proc.devRef .tc main_arg4) : Vec Ideal S2x32x2048x2048 .f32) (ix4 0 e p k))
          (fun k => (V₀ c' (Proc.devRef .tc main_v112) : Vec Ideal S2x32x1x2048 .f32) (ix4 0 e 0 k)) c := by
  have hx' : ∀ f, (xW (F := Ideal) ad.1 (crd (F := Ideal) ad (pnt ad i f))).toNat = x.val := fun f => (congrArg (fun j => BitVec.toNat ((ad.1 1 : S160.Idx → BitVec 32) (ValueIdx.ix1 j))) (pnt0 ad i f)).trans hx
  have he' : ∀ f, (eW (F := Ideal) ad.1 (crd (F := Ideal) ad (pnt ad i f))).toNat = e.val := fun f => (congrArg (fun j => BitVec.toNat ((ad.1 0 : S160.Idx → BitVec 32) (ValueIdx.ix1 j))) (pnt0 ad i f)).trans he
  have hv' : ∀ f, valid (vW (F := Ideal) ad.1 (crd (F := Ideal) ad (pnt ad i f))) := fun f => (congrArg (fun j => valid ((ad.1 2 : S160.Idx → BitVec 32) (ValueIdx.ix1 j))) (pnt0 ad i f)).mpr hv
  have hf : ∀ n (hn : n < 8), (traj (F := Ideal) V₀ ad c' (8 * i.val + (n + 1))).1 = xbOf (F := Ideal) (ib0 (F := Ideal) V₀ ad c' (pnt ad i 0)) := by
    intro n
    induction n with
    | zero => intro _; exact congrArg Prod.fst (traj_first (F := Ideal) V₀ ad c' (pnt ad i 0) (pnt1 ad i 0))
    | succ n ih =>
      intro hn
      refine (congrArg Prod.fst (traj_next (F := Ideal) V₀ ad c' (pnt ad i ⟨n + 1, hn⟩) ?_)).trans (ih (by omega))
      rw [pnt1]; exact Nat.succ_ne_zero n
  have hX : ∀ k, xbOf (F := Ideal) (ib0 (F := Ideal) V₀ ad c' (pnt ad i 0)) (ix2 r k)
      = (V₀ c' (Proc.devRef .tc main_v110) : Vec Ideal S327680x1024 .bf16) (ix2 ⟨2048 * x.val + (2 * r.val + k.val / 1024), by omega⟩ ⟨k.val % 1024, by omega⟩) := fun k =>
    (xb_at _ r k).trans (ib0_at V₀ ad c' (pnt ad i 0) x (hx' 0) _ _)
  have hstep : ∀ (f : Fin 8) (b : Vec Ideal S1024x2048 .f32),
      accStep (F := Ideal) (xbOf (F := Ideal) (ib0 (F := Ideal) V₀ ad c' (pnt ad i 0))) b (ib1 V₀ ad c' (pnt ad i f)) (ib2 V₀ ad c' (pnt ad i f))
        (ib3 V₀ ad c' (pnt ad i f)) (ib4 V₀ ad c' (pnt ad i f)) (ib5 V₀ ad c' (pnt ad i f)) (ix2 r c) = b (ix2 r c) + slice _ _ _ _ c f := fun f b =>
    accStep_at _ b _ _ _ _ _ r c _ (fun k p => (V₀ c' (Proc.devRef .tc main_arg2) : Vec Ideal S2x32x2048x4096 .f32) (ix4 0 e k p))
      (fun p => (V₀ c' (Proc.devRef .tc main_v111) : Vec Ideal S2x32x1x4096 .f32) (ix4 0 e 0 p))
      (fun p k => (V₀ c' (Proc.devRef .tc main_arg4) : Vec Ideal S2x32x2048x2048 .f32) (ix4 0 e p k)) f hX
      (fun k q => ib1_at V₀ ad c' _ e (he' f) (hv' f) f (pnt1 ad i f) k q) (fun k q => ib2_at V₀ ad c' _ e (he' f) (hv' f) f (pnt1 ad i f) k q)
      (fun q => ib3_at V₀ ad c' _ e (he' f) (hv' f) f (pnt1 ad i f) q) (fun q => ib4_at V₀ ad c' _ e (he' f) (hv' f) f (pnt1 ad i f) q)
      (fun q k => ib5_at V₀ ad c' _ e (he' f) (hv' f) f (pnt1 ad i f) q k)
  refine ffn_eq _ _ _ _ _ c (fun n => if n = 0 then _ else (traj (F := Ideal) V₀ ad c' (8 * i.val + n)).2 (ix2 r c)) (if_pos rfl) fun f => ?_
  by_cases h0 : f.val = 0
  · have h0' : f = 0 := Fin.ext h0
    subst h0'
    show (traj (F := Ideal) V₀ ad c' (8 * i.val + 0 + 1)).2 (ix2 r c) = _
    refine (congrFun (congrArg Prod.snd (traj_first (F := Ideal) V₀ ad c' (pnt ad i 0) (pnt1 ad i 0))) (ix2 r c)).trans ((hstep 0 _).trans ?_)
    refine congrArg (· + _) ((pay3_at _ r c).trans ?_)
    exact ib6_at V₀ ad c' _ e (he' 0) c
  · show (traj (F := Ideal) V₀ ad c' (8 * i.val + f.val + 1)).2 (ix2 r c) = (if f.val = 0 then _ else (traj (F := Ideal) V₀ ad c' (8 * i.val + f.val)).2 (ix2 r c)) + _
    rw [if_neg h0]
    refine (congrFun (congrArg Prod.snd (traj_next (F := Ideal) V₀ ad c' (pnt ad i f) (by rw [pnt1]; exact h0))) (ix2 r c)).trans ?_
    have h1 : (traj (F := Ideal) V₀ ad c' (8 * i.val + f.val)).1 = xbOf (F := Ideal) (ib0 (F := Ideal) V₀ ad c' (pnt ad i 0)) := by
      have := hf (f.val - 1) (by omega)
      rwa [Nat.sub_add_cancel (by omega)] at this
    show accStep (F := Ideal) (traj (F := Ideal) V₀ ad c' (8 * i.val + f.val)).1 _ _ _ _ _ _ (ix2 r c) = _
    rw [h1]
    exact hstep f _

end value

section out

variable (V₀ : Dev nD → Valuation τ sig (Elt Ideal)) (ad : (pcfg0 (F := Ideal)).Adm)

/-- The output window is written back at a block's last slice, -/
theorem flush_last (i : Fin 160) : ((cfgA (F := Ideal) ad).win (7 : Fin 8)).flush (pnt ad i 7) = true := by
  rw [Window.flush_eq_flushOf]
  unfold Window.flushOf
  refine Bool.and_eq_true_iff.2 ⟨rfl, ?_⟩
  by_cases h : i.val = 159
  · refine Bool.or_eq_true_iff.2 (Or.inl (decide_eq_true ?_))
    refine Eq.trans ?_ (N_A (F := Ideal) ad).symm
    show 8 * i.val + 7 + 1 = 1280
    omega
  · have hl : 8 * i.val + 7 + 1 < (cfgA (F := Ideal) ad).grid.N := lt_of_lt_of_eq (by omega : 8 * i.val + 7 + 1 < 1280) (N_A (F := Ideal) ad).symm
    refine Bool.or_eq_true_iff.2 (Or.inr (decide_eq_true ⟨hl, fun q => ?_⟩))
    have q' : (![_, 0] : Fin 2 → ℕ) = ![_, 0] := ((tr7_eq (crd (F := Ideal) ad ⟨8 * i.val + 7 + 1, hl⟩)).symm.trans q).trans (tr7_eq (crd (F := Ideal) ad (pnt ad i 7)))
    have q0 := congrFun q' 0
    change (crd (F := Ideal) ad ⟨8 * i.val + 7 + 1, hl⟩ 0).val = (crd (F := Ideal) ad (pnt ad i 7) 0).val at q0
    rw [crdA0, crdA0] at q0
    change (8 * i.val + 7 + 1) / 8 = (8 * i.val + 7) / 8 at q0
    omega

/-- no two write-backs meeting. -/
theorem out_disj : ∀ t t' : Fin (cfgA (F := Ideal) ad).N, ((cfgA (F := Ideal) ad).win (7 : Fin 8)).flush t = true → ((cfgA (F := Ideal) ad).win (7 : Fin 8)).flush t' = true → t ≠ t' →
    Disjoint (((cfgA (F := Ideal) ad).win (7 : Fin 8)).blk t).view.set (((cfgA (F := Ideal) ad).win (7 : Fin 8)).blk t').view.set := by
  refine Window.hdisj_of_index_inj _ fun t t' hf hf' q => ?_
  have h7 : (crd (F := Ideal) ad t 1).val = 7 := by
    by_contra h
    rw [flush_7 ad t h] at hf
    exact Bool.false_ne_true hf
  have h7' : (crd (F := Ideal) ad t' 1).val = 7 := by
    by_contra h
    rw [flush_7 ad t' h] at hf'
    exact Bool.false_ne_true hf'
  have q' : (![_, 0] : Fin 2 → ℕ) = ![_, 0] := ((tr7_eq (crd (F := Ideal) ad t)).symm.trans q).trans (tr7_eq (crd (F := Ideal) ad t'))
  have q0 := congrFun q' 0
  change (crd (F := Ideal) ad t 0).val = (crd (F := Ideal) ad t' 0).val at q0
  rw [crdA0, crdA0] at q0
  rw [crdA1] at h7 h7'
  exact Fin.ext (by omega)

/-- The array the call leaves, at a row of block `i`: what the block's last slice stored. -/
theorem arr_at (c' : Dev nD) (i : Fin 160) (r : Fin 2048) (c : Fin 1024) :
    ((dats (F := Ideal) V₀ ad 0 c').arrAt (7 : Fin 8) (cfgA (F := Ideal) ad).N : Vec Ideal S327680x1024 .bf16) (ix2 ⟨2048 * i.val + r.val, by omega⟩ c)
      = outAt (F := Ideal) V₀ ad c' (pnt ad i 7) (ix2 r c) := by
  have h := (dats (F := Ideal) V₀ ad 0 c').arrAt_emb_eq_flushed (7 : Fin 8) (out_disj ad) (pnt ad i 7) (flush_last ad i) (ix2 r c)
  have hi : ((cfgA (F := Ideal) ad).win (7 : Fin 8)).index (pnt ad i 7) = _ := tr7_eq (crd (F := Ideal) ad (pnt ad i 7))
  have he : (((cfgA (F := Ideal) ad).win (7 : Fin 8)).blk (pnt ad i 7)).view.emb (ix2 r c) = (ix2 ⟨2048 * i.val + r.val, by omega⟩ c : S327680x1024.Idx) := by
    refine funext fun a => Fin.ext ((emb_val ad (7 : Fin 8) (pnt ad i 7) _ a rfl).trans ?_)
    rw [hi, pnt0]
    match a with
    | ⟨0, _⟩ => show i.val * 2048 + r.val = 2048 * i.val + r.val; omega
    | ⟨1, _⟩ => show 0 * 1024 + c.val = c.val; omega
  refine (congrArg _ he.symm).trans (h.trans ?_)
  rfl

/-- Of a running block: row `r`, column `c` of the answer. -/
theorem arr_running (c' : Dev nD) (i : Fin 160) (hv : valid ((ad.1 2 : S160.Idx → BitVec 32) (ValueIdx.ix1 i))) (r : Fin 1024) (c : Fin 2048) :
    ((dats (F := Ideal) V₀ ad 0 c').arrAt (7 : Fin 8) (cfgA (F := Ideal) ad).N : Vec Ideal S327680x1024 .bf16)
        (ix2 ⟨2048 * i.val + (2 * r.val + c.val / 1024), by omega⟩ ⟨c.val % 1024, by omega⟩)
      = (traj (F := Ideal) V₀ ad c' (8 * i.val + 8)).2 (ix2 r c) := by
  have hw : valid (wd (F := Ideal) ad (pnt ad i 7)) := by
    have h := (wordAt_eq (ad.1 2) (crd (F := Ideal) ad (pnt ad i 7))).trans (congrArg (fun j => (ad.1 2 : S160.Idx → BitVec 32) (ValueIdx.ix1 j)) (pnt0 ad i 7))
    exact (congrArg valid h).mpr hv
  refine (arr_at V₀ ad c' i ⟨2 * r.val + c.val / 1024, by omega⟩ ⟨c.val % 1024, by omega⟩).trans ?_
  unfold outAt
  rw [if_pos hw]
  exact out_at _ r c

end out

end Cert.KernelIdeal.Moe

end
-- ==== Proof.Sort.lean ====
/- Two sorts in a row give a permutation and its inverse, and the rank of an entry lies in the run of its key. The one-hot sum reads the entry named. -/
module

public import proofs.«01_k».proof.Proof.Nums
public import Idealize.ShloMosaic.Lib.Routing.SortLink
public import Idealize.ShloMosaic.Lib.Routing.Words
public import Idealize.ShloMosaic.Lib.Routing.OpsSearch
public import Idealize.ShloMosaic.Lib.StableHlo.Predicate
public import Mathlib.Order.Interval.Finset.Fin
@[expose] public section

namespace Cert.Moe

open Idealize.ShloMosaic Idealize.ShloMosaic.Routing Idealize.ShloMosaic.WordCmp Idealize.ShloMosaic.ValueIdx

/-- The signed compare of two keys. -/
def keyBefore : BitVec 32 × BitVec 32 → BitVec 32 × BitVec 32 → BitVec 1 := fun l r => IntOp.cmpi .slt l.1 r.1

theorem keyBefore_iff {a b : ℕ} (ha : a < 2 ^ 31) (hb : b < 2 ^ 31) (p q : BitVec 32) :
    (keyBefore (BitVec.ofNat 32 a, p) (BitVec.ofNat 32 b, q) == 1#1) = decide (a < b) := by
  have h : (keyBefore (BitVec.ofNat 32 a, p) (BitVec.ofNat 32 b, q) = 1#1) ↔ a < b := by
    refine (StableHlo.Predicate.slt_iff_toNat ?_ ?_).trans ?_
    · rw [BitVec.toNat_ofNat]; omega
    · rw [BitVec.toNat_ofNat]; omega
    · rw [BitVec.toNat_ofNat, BitVec.toNat_ofNat, Nat.mod_eq_of_lt (by omega), Nat.mod_eq_of_lt (by omega)]
  by_cases hab : a < b
  · rw [decide_eq_true hab, h.2 hab]; rfl
  · rw [decide_eq_false hab]
    exact beq_eq_false_iff_ne.2 fun e => hab (h.1 e)

/-- A sort carrying the positions: what it gives is a permutation along which the keys do not descend. -/
theorem sort2_read {n : ℕ} (x : IVec (shape1 n) 32) (y : IVec (shape1 n) 32) (K : Fin n → ℕ) (hK : ∀ a, K a < 2 ^ 31)
    (hx : ∀ a, x (ix1 a) = BitVec.ofNat 32 (K a)) (hy : ∀ a : Fin n, y (ix1 a) = BitVec.ofNat 32 a.val) :
    ∃ σ : Fin n → Fin n, Function.Bijective σ ∧ Monotone (K ∘ σ) ∧
      ∀ r : Fin n, (Host.sort2 (shape1 n) 0 keyBefore x y).2 (ix1 r) = BitVec.ofNat 32 (σ r).val := by
  set T : Fin n → Fin n → Bool := fun a b => decide (K a < K b) with hT
  have hd : 0 < (shape1 n).rank := Nat.zero_lt_one
  have e : ∀ (j : (shape1 n).Idx) (c : Fin n), j.along (⟨0, hd⟩ : Fin (shape1 n).rank) c = ix1 c := fun j c =>
    (Shape.Idx.along_rank1 j c).trans (ofFin_eq_ix1 c)
  have hbefore : ∀ j : (shape1 n).Idx,
      (fun a b : Fin n => keyBefore (x (j.along ⟨0, hd⟩ a), y (j.along ⟨0, hd⟩ a)) (x (j.along ⟨0, hd⟩ b), y (j.along ⟨0, hd⟩ b)) == 1#1) = T := fun j => by
    funext a b
    have h1 : x (j.along ⟨0, hd⟩ a) = BitVec.ofNat 32 (K a) := (congrArg x (e j a)).trans (hx a)
    have h2 : x (j.along ⟨0, hd⟩ b) = BitVec.ofNat 32 (K b) := (congrArg x (e j b)).trans (hx b)
    show (keyBefore (x (j.along ⟨0, hd⟩ a), _) (x (j.along ⟨0, hd⟩ b), _) == 1#1) = _
    rw [h1, h2]
    exact keyBefore_iff (hK a) (hK b) _ _
  refine ⟨sortedFrom T, ⟨sortedFrom_injective T, sortedFrom_surjective T⟩, ?_, fun r => ?_⟩
  · intro i j hij
    rcases hij.eq_or_lt with h | h
    · rw [h]
    · have := sortedFrom_noInversion T T (fun a b h => by simp only [hT, decide_eq_true_eq, decide_eq_false_iff_not] at h ⊢; omega)
        (fun _ _ h => h) (fun a b c h₁ h₂ => by simp only [hT, decide_eq_false_iff_not] at h₁ h₂ ⊢; omega) i j h
      simp only [hT, decide_eq_false_iff_not, Nat.not_lt] at this
      exact this
  · unfold Host.sort2
    rw [dif_pos hd]
    refine (congrArg y (e (ix1 r) _)).trans ((hy _).trans ?_)
    have hs := congrArg (fun R : Fin n → Fin n → Bool => sortedFrom R r) (hbefore (ix1 r))
    exact congrArg (fun c : Fin n => BitVec.ofNat 32 c.val) hs

/-- A permutation of the positions along which they do not descend is the identity. -/
theorem eq_id_of_mono {n : ℕ} (f : Fin n → Fin n) (hb : Function.Bijective f) (hm : Monotone f) (p : Fin n) : f p = p := by
  have hs : StrictMono f := hm.strictMono_of_injective hb.1
  exact le_antisymm hs.apply_le hs.le_apply

section rank
variable {n : ℕ} (g : ℕ → ℕ) (σ : Fin n → Fin n) (hσ : Function.Bijective σ) (hm : Monotone fun r => g (σ r).val)
include hσ hm

/-- The entry at `r` comes before the end of its key's run, -/
theorem rank_lt (r : Fin n) : r.val < Nat.count (fun a => g a ≤ g (σ r).val) n := by
  rw [← card_filter_fin n (fun a => g a ≤ g (σ r).val)]
  have h1 : (Finset.univ.filter fun q : Fin n => g (σ q).val ≤ g (σ r).val).card = (Finset.univ.filter fun a : Fin n => g a.val ≤ g (σ r).val).card := by
    refine Finset.card_bij (fun q _ => σ q) (fun q hq => by simpa using hq) (fun a _ b _ h => hσ.1 h) fun b hb => ?_
    obtain ⟨q, rfl⟩ := hσ.2 b
    exact ⟨q, by simpa using hb, rfl⟩
  have h2 : Finset.Iic r ⊆ (Finset.univ.filter fun q : Fin n => g (σ q).val ≤ g (σ r).val) := fun q hq => by
    rw [Finset.mem_Iic] at hq
    simpa using hm hq
  have h3 := Finset.card_le_card h2
  rw [Fin.card_Iic, h1] at h3
  omega

/-- and not before the run begins. -/
theorem le_rank (r : Fin n) : Nat.count (fun a => g a < g (σ r).val) n ≤ r.val := by
  rw [← card_filter_fin n (fun a => g a < g (σ r).val)]
  have h1 : (Finset.univ.filter fun q : Fin n => g (σ q).val < g (σ r).val).card = (Finset.univ.filter fun a : Fin n => g a.val < g (σ r).val).card := by
    refine Finset.card_bij (fun q _ => σ q) (fun q hq => by simpa using hq) (fun a _ b _ h => hσ.1 h) fun b hb => ?_
    obtain ⟨q, rfl⟩ := hσ.2 b
    exact ⟨q, by simpa using hb, rfl⟩
  have h2 : (Finset.univ.filter fun q : Fin n => g (σ q).val < g (σ r).val) ⊆ Finset.Iio r := fun q hq => by
    rw [Finset.mem_Iio]
    by_contra hqr
    have h4 : g (σ r).val ≤ g (σ q).val := hm (not_lt.1 hqr)
    have h5 : g (σ q).val < g (σ r).val := by simpa using hq
    omega
  have h3 := Finset.card_le_card h2
  rw [Fin.card_Iio, h1] at h3
  exact h3

end rank

/-- The pairs of the experts before `x` are those before its own. -/
theorem count_lt_eq (g : ℕ → ℕ) (x : ℕ) : Nat.count (fun a => g a < x) NP = cst g x := by
  have h := cend_eq g x
  have h2 := cst_add g x
  have h3 : Nat.count (fun a => g a ≤ x) NP = Nat.count (fun a => g a < x) NP + cnt g x := by
    unfold cnt
    generalize NP = N
    induction N with
    | zero => rfl
    | succ N ih =>
      simp only [Nat.count_succ, ih]
      rcases lt_trichotomy (g N) x with h | h | h
      · rw [if_pos (by omega), if_pos h, if_neg (by omega)]; omega
      · rw [if_pos (by omega), if_neg (by omega), if_pos h]; omega
      · rw [if_neg (by omega), if_neg (by omega), if_neg (by omega)]; omega
  omega

/-- A row that holds zeros but for one entry sums to that entry. -/
theorem reduce_pick {n m : ℕ} (x : IVec (shape2 n m) 32) (h : (shape2 n m).ReducesTo [1] (shape1 n)) (hu : 0 < shape0.numel) (i : Fin n) (q : Fin m)
    (hz : ∀ p, p ≠ q → x (ix2 i p) = 0#32) : Host.reduce IntOp.addi x (constantI shape0 32 0#32) h hu (ix1 i) = x (ix2 i q) := by
  classical
  rw [Host.reduce_eq_fold]
  have hdrop : ∀ k : (shape2 n m).Idx, h.drop k = ix1 i ↔ k 0 = i := by
    intro k
    have hv : (h.drop k 0 : ℕ) = k 0 := Shape.ReducesTo.drop_apply_val h k 0
    constructor
    · intro e; rw [e] at hv; exact Fin.ext hv.symm
    · intro e; funext b; have hb : b = 0 := Subsingleton.elim _ _; subst hb; exact Fin.ext (by rw [hv, e]; rfl)
  have hzero : ∀ S : Finset (shape2 n m).Idx, (∀ k ∈ S, x k = 0#32) → S.fold IntOp.addi 0#32 x = 0#32 := by
    intro S
    induction S using Finset.induction_on with
    | empty => intro _; rfl
    | insert a S ha ih =>
      intro hS
      rw [Finset.fold_insert ha, ih fun k hk => hS k (Finset.mem_insert_of_mem hk), hS a (Finset.mem_insert_self _ _)]; rfl
  have hmem : ix2 i q ∈ Finset.univ.filter fun k : (shape2 n m).Idx => h.drop k = ix1 i := Finset.mem_filter.2 ⟨Finset.mem_univ _, (hdrop _).2 rfl⟩
  rw [← Finset.insert_erase hmem, Finset.fold_insert (Finset.notMem_erase _ _)]
  have h0 : constantI shape0 32 0#32 (Shape.Idx.first hu) = 0#32 := rfl
  rw [h0, hzero _ fun k hk => ?_]
  · show x (ix2 i q) + 0#32 = _
    exact BitVec.add_zero _
  · obtain ⟨h1, h2⟩ := Finset.mem_erase.1 hk
    have h3 := (hdrop k).1 (Finset.mem_filter.1 h2).2
    have h4 : k = ix2 i (k 1) := by rw [← h3]; exact eq_ix2 k
    rw [h4]
    exact hz _ fun e => h1 (by rw [h4, e]; rfl)

end Cert.Moe
-- ==== Proof.KI.Slots.lean ====
/- The routing of one pair: the slot it is given, and what the slot's tables say of it. -/
module

public import proofs.«01_k».proof.Proof.Sort
public import proofs.«01_k».proof.Proof.KI.Counts
@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Routing Idealize.ShloMosaic.WordCmp Idealize.ShloMosaic.ValueIdx
open Cert.Moe

variable (V : Valuation τ sig (Elt F))

theorem v17_at (x : Fin 32) : (E V main_v17 : IVec S32 32) (ix1 x) = BitVec.ofNat 32 (pst (gV V) x.val) := by
  rw [e_main_v17]
  show IntOp.subi ((E V main_v16 : IVec S32 32) (ix1 x)) ((E V main_v15 : IVec S32 32) (ix1 x)) = _
  rw [v16_at, v15_at]
  exact ofNat32_sub (pad_le_pend _ _)

theorem v18_at (x : Fin 32) : (E V main_v18 : IVec S32 32) (ix1 x) = BitVec.ofNat 32 (cend (gV V) x.val) := by
  rw [e_main_v18, e_main_call2_call0_v0, e_main_call2_call0_c]
  exact cumsum1 (N := 32) (Nm1 := 31) rfl (E V main_v8 : IVec S32 32) (cnt (gV V)) (fun i => v8_at V i) _ (bc0 _ _ _) _ _ x

theorem v19_at (x : Fin 32) : (E V main_v19 : IVec S32 32) (ix1 x) = BitVec.ofNat 32 (cst (gV V) x.val) := by
  rw [e_main_v19]
  show IntOp.subi ((E V main_v18 : IVec S32 32) (ix1 x)) ((E V main_v8 : IVec S32 32) (ix1 x)) = _
  rw [v18_at, v8_at]
  exact ofNat32_sub (cnt_le_cend _ _)

/-- The two sorts: the sorted order of the pairs, and each pair's rank in it, which lies in the run of its expert. -/
theorem ranks {V : Valuation τ sig (Elt F)} (hV : InRange V) : ∃ ρ : Fin NP → Fin NP,
    (∀ a, (E V main_v21 : IVec S131072 32) (ix1 a) = BitVec.ofNat 32 (ρ a).val)
    ∧ (∀ a, (E V main_v20 : IVec S131072 32) (ix1 (ρ a)) = BitVec.ofNat 32 a.val)
    ∧ (∀ a, cst (gV V) (gV V a.val) ≤ (ρ a).val ∧ (ρ a).val < cst (gV V) (gV V a.val) + cnt (gV V) (gV V a.val)) := by
  obtain ⟨σ, hσ, hm, h20⟩ := sort2_read (n := NP) (E V main_v0 : IVec S131072 32) (E V main_call3_v0 : IVec S131072 32) (fun a => gV V a.val)
    (fun a => by have := g_lt hV a.val a.isLt; omega) (v0_at V) (fun a => by rw [e_main_call3_v0]; rfl)
  have h20' : ∀ r : Fin NP, (E V main_v20 : IVec S131072 32) (ix1 r) = BitVec.ofNat 32 (σ r).val := fun r => by
    rw [e_main_v20]; exact h20 r
  obtain ⟨ρ, hρ, hmρ, h21⟩ := sort2_read (n := NP) (E V main_v20 : IVec S131072 32) (E V main_call4_v0 : IVec S131072 32) (fun a => (σ a).val)
    (fun a => by have := (σ a).isLt; have e : NP = 131072 := rfl; omega) h20' (fun a => by rw [e_main_call4_v0]; rfl)
  have hid : ∀ a, σ (ρ a) = a := eq_id_of_mono (σ ∘ ρ) (hσ.comp hρ) fun p q h => hmρ h
  refine ⟨ρ, fun a => by rw [e_main_v21]; exact h21 a, fun a => by rw [h20', hid], fun a => ?_⟩
  have h1 := rank_lt (gV V) σ hσ hm (ρ a)
  have h2 := le_rank (gV V) σ hσ hm (ρ a)
  rw [hid] at h1 h2
  have h3 := cend_eq (gV V) (gV V a.val)
  have h4 := count_lt_eq (gV V) (gV V a.val)
  have h5 := cst_add (gV V) (gV V a.val)
  exact ⟨by rw [← h4]; exact h2, by rw [h5, h3]; exact h1⟩

/-- The one-hot sum of a vector over the experts, at a row whose mask names expert `e`. -/
theorem pick_at {n : ℕ} (M : IVec (shape2 n 32) 1) (w : IVec (shape1 32) 32) (z : IVec shape0 32) (hz : z ValueIdx.ix0 = 0#32)
    (h₁ : (shape1 32).BroadcastsInDim (shape2 1 32) (![1] : Fin 1 → Fin (shape2 1 32).rank))
    (h₂ : (shape2 1 32).BroadcastsInDim (shape2 n 32) (![0, 1] : Fin 2 → Fin (shape2 n 32).rank))
    (h₃ : shape0.BroadcastsInDim (shape2 n 32) (![] : Fin 0 → Fin (shape2 n 32).rank))
    (h : (shape2 n 32).ReducesTo [1] (shape1 n)) (hu : 0 < shape0.numel) (i : Fin n) (e : Fin 32) (hM : ∀ x : Fin 32, M (ix2 i x) = 1#1 ↔ e.val = x.val) :
    Host.reduce IntOp.addi (select M (broadcastInDim (shape2 n 32) ![0, 1] h₂ (broadcastInDim (shape2 1 32) ![1] h₁ w)) (broadcastInDim (shape2 n 32) ![] h₃ z))
      (constantI shape0 32 0#32) h hu (ix1 i) = w (ix1 e) := by
  rw [reduce_pick _ h hu i e fun p hp => ?_]
  · show Scalar.select (M (ix2 i e)) _ _ = _
    rw [(hM e).2 rfl]
    exact bcCols h₁ h₂ w i e
  · show Scalar.select (M (ix2 i p)) _ _ = _
    have h0 : M (ix2 i p) = 0#1 := by
      rcases BitVec.eq_zero_or_eq_one (M (ix2 i p)) with h | h
      · exact h
      · exact absurd (Fin.ext ((hM p).1 h).symm) hp
    rw [h0]
    exact (bc0 h₃ z _).trans hz

/-- The slot of a pair: its rank, moved from the sorted run of its expert to the padded one. -/
theorem v26_at {V : Valuation τ sig (Elt F)} (hV : InRange V) (a : Fin NP) (r : ℕ) (hr : (E V main_v21 : IVec S131072 32) (ix1 a) = BitVec.ofNat 32 r)
    (h1 : cst (gV V) (gV V a.val) ≤ r) :
    (E V main_v26 : IVec S131072 32) (ix1 a) = BitVec.ofNat 32 (pst (gV V) (gV V a.val) + (r - cst (gV V) (gV V a.val))) := by
  have h25 : (E V main_v25 : IVec S131072 32) (ix1 a) = (E V main_v22 : IVec S32 32) (ix1 ⟨gV V a.val, g_lt hV a.val a.isLt⟩) := by
    rw [e_main_v25, e_main_v24, e_main_call5_v1, e_main_call5_v2, e_main_call5_v0, e_main_v23, e_main_c_5]
    refine pick_at (n := 131072) (E V main_v6 : IVec S131072x32 1) (E V main_v22 : IVec S32 32) (E V main_c_4 : IVec S_ 32) ?_ _ _ _ _ _ a ⟨gV V a.val, g_lt hV a.val a.isLt⟩
      fun x => v6_at V a x
    rw [e_main_c_4]; rfl
  rw [e_main_v26]
  show IntOp.addi ((E V main_v21 : IVec S131072 32) (ix1 a)) ((E V main_v25 : IVec S131072 32) (ix1 a)) = _
  rw [h25, hr, e_main_v22]
  show IntOp.addi (BitVec.ofNat 32 r) (IntOp.subi ((E V main_v17 : IVec S32 32) (ix1 _)) ((E V main_v19 : IVec S32 32) (ix1 _))) = _
  rw [v17_at, v19_at]
  show BitVec.ofNat 32 r + (BitVec.ofNat 32 (pst (gV V) (gV V a.val)) - BitVec.ofNat 32 (cst (gV V) (gV V a.val))) = _
  rw [BitVec.ofNat_add, ← ofNat32_sub h1]
  generalize BitVec.ofNat 32 r = x
  generalize BitVec.ofNat 32 (pst (gV V) (gV V a.val)) = y
  generalize BitVec.ofNat 32 (cst (gV V) (gV V a.val)) = z
  rw [BitVec.sub_eq_add_neg, BitVec.sub_eq_add_neg, ← BitVec.add_assoc, ← BitVec.add_assoc, BitVec.add_comm x y]

section slot
/- The slot `s` of a pair of expert `e` and rank `r`. -/
variable {V : Valuation τ sig (Elt F)} (e : Fin 32) (r : ℕ) (h1 : cst (gV V) e.val ≤ r) (h2 : r < cst (gV V) e.val + cnt (gV V) e.val)
  (s : Fin 163840) (hs : s.val = pst (gV V) e.val + (r - cst (gV V) e.val))
include h1 h2 hs

theorem slot_lt : s.val < pend (gV V) e.val := by
  have := pst_add (gV V) e.val
  have := pad_ge (gV V) e.val
  omega

omit h1 h2 hs in
theorem v27_at (s : Fin 163840) : (E V main_v27 : IVec S163840 32) (ix1 s) = BitVec.ofNat 32 s.val := by
  rw [e_main_v27]; rfl

theorem v36_at : (E V main_v36 : IVec S163840 32) (ix1 s) = BitVec.ofNat 32 e.val := by
  have hsl := slot_lt e r h1 h2 s hs
  have h35 : (E V main_v35 : IVec S163840 32) (ix1 s) = BitVec.ofNat 32 31 := by rw [e_main_v35, e_main_c_7]; exact bc0 _ _ _
  have h34 : (E V main_v34 : IVec S163840 32) (ix1 s) = BitVec.ofNat 32 (Nat.count (fun y => pend (gV V) y ≤ s.val) 32) := by
    rw [e_main_v34, e_main_v33, e_main_c_6]
    refine reduce_count (n := 163840) (m := 32) (by decide) (E V main_v32 : IVec S163840x32 1) natLt_1_32 reducesTo_S163840x32_S163840_d1 h_S_ s
      (fun y => pend (gV V) y ≤ s.val) fun y => ?_
    have h30 : (E V main_v30 : IVec S163840x32 32) (ix2 s y) = BitVec.ofNat 32 s.val := by
      rw [e_main_v30, e_main_v28]
      exact (bcRows bcast_S163840_S163840x1_0 bcast_S163840x1_S163840x32_0_1 (E V main_v27 : IVec S163840 32) s y).trans (v27_at s)
    have h31 : (E V main_v31 : IVec S163840x32 32) (ix2 s y) = BitVec.ofNat 32 (pend (gV V) y.val) := by
      rw [e_main_v31, e_main_v29]
      exact (bcCols bcast_S32_S1x32_1 bcast_S1x32_S163840x32_0_1 (E V main_v16 : IVec S32 32) s y).trans (v16_at V y)
    rw [e_main_v32]
    show IntOp.cmpi .sge ((E V main_v30 : IVec S163840x32 32) (ix2 s y)) ((E V main_v31 : IVec S163840x32 32) (ix2 s y)) = 1#1 ↔ _
    rw [h30, h31]
    have hp := pend_lt (gV V) y.val y.isLt
    have hi := s.isLt
    refine (StableHlo.Predicate.sge_iff_toNat ?_ ?_).trans ?_
    · rw [BitVec.toNat_ofNat]; omega
    · rw [BitVec.toNat_ofNat]; omega
    · rw [BitVec.toNat_ofNat, BitVec.toNat_ofNat, Nat.mod_eq_of_lt (by omega), Nat.mod_eq_of_lt (by omega)]
  rw [e_main_v36]
  show IntOp.minsi ((E V main_v34 : IVec S163840 32) (ix1 s)) ((E V main_v35 : IVec S163840 32) (ix1 s)) = _
  have he := e.isLt
  rw [h34, h35, count_pend (gV V) e.isLt (by omega) hsl, minsi_word (by omega) (by decide), Nat.min_eq_left (by omega)]

theorem v41_at (x : Fin 32) : (E V main_v41 : IVec S163840x32 1) (ix2 s x) = 1#1 ↔ e.val = x.val := by
  have h39 : (E V main_v39 : IVec S163840x32 32) (ix2 s x) = BitVec.ofNat 32 e.val := by
    rw [e_main_v39, e_main_v37]
    exact (bcRows bcast_S163840_S163840x1_0 bcast_S163840x1_S163840x32_0_1 (E V main_v36 : IVec S163840 32) s x).trans (v36_at e r h1 h2 s hs)
  have h40 : (E V main_v40 : IVec S163840x32 32) (ix2 s x) = BitVec.ofNat 32 x.val := by
    rw [e_main_v40, e_main_v38]
    exact (bcCols bcast_S32_S1x32_1 bcast_S1x32_S163840x32_0_1 (E V main_v1 : IVec S32 32) s x).trans (v1_at V x)
  rw [e_main_v41]
  show IntOp.cmpi .eq ((E V main_v39 : IVec S163840x32 32) (ix2 s x)) ((E V main_v40 : IVec S163840x32 32) (ix2 s x)) = 1#1 ↔ _
  rw [h39, h40, StableHlo.Predicate.cmpi_eq_iff]
  have he := e.isLt
  have hx := x.isLt
  constructor
  · intro h
    have := congrArg BitVec.toNat h
    rw [BitVec.toNat_ofNat, BitVec.toNat_ofNat, Nat.mod_eq_of_lt (by omega), Nat.mod_eq_of_lt (by omega)] at this
    exact this
  · intro h; rw [h]

theorem v44_at : (E V main_v44 : IVec S163840 32) (ix1 s) = BitVec.ofNat 32 (pst (gV V) e.val) := by
  rw [e_main_v44, e_main_v43, e_main_call6_v1, e_main_call6_v2, e_main_call6_v0, e_main_v42, e_main_c_9]
  refine (pick_at (n := 163840) (E V main_v41 : IVec S163840x32 1) (E V main_v17 : IVec S32 32) (E V main_c_8 : IVec S_ 32) ?_ _ _ _ _ _ s e
      (v41_at e r h1 h2 s hs)).trans (v17_at V e)
  rw [e_main_c_8]; rfl

theorem v48_at : (E V main_v48 : IVec S163840 32) (ix1 s) = BitVec.ofNat 32 (cst (gV V) e.val) := by
  rw [e_main_v48, e_main_v47, e_main_call7_v1, e_main_call7_v2, e_main_call7_v0, e_main_v46, e_main_c_11]
  refine (pick_at (n := 163840) (E V main_v41 : IVec S163840x32 1) (E V main_v19 : IVec S32 32) (E V main_c_10 : IVec S_ 32) ?_ _ _ _ _ _ s e
      (v41_at e r h1 h2 s hs)).trans (v19_at V e)
  rw [e_main_c_10]; rfl

theorem v53_at : (E V main_v53 : IVec S163840 32) (ix1 s) = BitVec.ofNat 32 (cnt (gV V) e.val) := by
  rw [e_main_v53, e_main_v52, e_main_call9_v1, e_main_call9_v2, e_main_call9_v0, e_main_v51, e_main_c_15]
  refine (pick_at (n := 163840) (E V main_v41 : IVec S163840x32 1) (E V main_v8 : IVec S32 32) (E V main_c_14 : IVec S_ 32) ?_ _ _ _ _ _ s e
      (v41_at e r h1 h2 s hs)).trans (v8_at V e)
  rw [e_main_c_14]; rfl

theorem v45_at : (E V main_v45 : IVec S163840 32) (ix1 s) = BitVec.ofNat 32 (r - cst (gV V) e.val) := by
  rw [e_main_v45]
  show IntOp.subi ((E V main_v27 : IVec S163840 32) (ix1 s)) ((E V main_v44 : IVec S163840 32) (ix1 s)) = _
  rw [v27_at, v44_at e r h1 h2 s hs]
  refine (ofNat32_sub (by omega)).trans ?_
  rw [hs, Nat.add_sub_cancel_left]

theorem v50_at : (E V main_v50 : IVec S163840 32) (ix1 s) = BitVec.ofNat 32 r := by
  have h49 : (E V main_v49 : IVec S163840 32) (ix1 s) = BitVec.ofNat 32 r := by
    rw [e_main_v49]
    show IntOp.addi ((E V main_v48 : IVec S163840 32) (ix1 s)) ((E V main_v45 : IVec S163840 32) (ix1 s)) = _
    rw [v48_at e r h1 h2 s hs, v45_at e r h1 h2 s hs]
    exact (BitVec.ofNat_add ..).symm.trans (congrArg (BitVec.ofNat 32) (Nat.add_sub_cancel' h1))
  have hc1 : (E V main_call8_v1 : IVec S163840 32) (ix1 s) = BitVec.ofNat 32 0 := by rw [e_main_call8_v1, e_main_call8_v0, e_main_c_12]; exact bc0 _ _ _
  have hc4 : (E V main_call8_v4 : IVec S163840 32) (ix1 s) = BitVec.ofNat 32 131071 := by rw [e_main_call8_v4, e_main_call8_v3, e_main_c_13]; exact bc0 _ _ _
  rw [e_main_v50, e_main_call8_v2]
  show IntOp.minsi ((E V main_call8_v4 : IVec S163840 32) (ix1 s)) (IntOp.maxsi ((E V main_call8_v1 : IVec S163840 32) (ix1 s)) ((E V main_v49 : IVec S163840 32) (ix1 s))) = _
  have hn := cend_le (gV V) e.val
  have hc := cst_add (gV V) e.val
  have hN : NP = 131072 := rfl
  rw [hc1, hc4, h49, clip_word (by omega) (by decide) (by decide)]
  exact congrArg (BitVec.ofNat 32) (by omega)

theorem v54_at : (E V main_v54 : IVec S163840 1) (ix1 s) = 1#1 := by
  rw [e_main_v54]
  show IntOp.cmpi .slt ((E V main_v45 : IVec S163840 32) (ix1 s)) ((E V main_v53 : IVec S163840 32) (ix1 s)) = 1#1
  rw [v45_at e r h1 h2 s hs, v53_at e r h1 h2 s hs]
  have hn := cnt_le (gV V) e.val
  have hN : NP = 131072 := rfl
  refine (StableHlo.Predicate.slt_iff_toNat ?_ ?_).2 ?_
  · rw [BitVec.toNat_ofNat]; omega
  · rw [BitVec.toNat_ofNat]; omega
  · rw [BitVec.toNat_ofNat, BitVec.toNat_ofNat, Nat.mod_eq_of_lt (by omega), Nat.mod_eq_of_lt (by omega)]; omega

theorem v59_at : (E V main_v59 : IVec S163840 32) (ix1 s) = BitVec.ofNat 32 r := by
  have h55 : (E V main_v55 : IVec S163840 32) (ix1 s) = 0#32 := by rw [e_main_v55, e_main_c_16]; exact bc0 _ _ _
  rw [e_main_v59, e_main_v56]
  show Scalar.select (IntOp.cmpi .slt ((E V main_v50 : IVec S163840 32) (ix1 s)) ((E V main_v55 : IVec S163840 32) (ix1 s))) _ ((E V main_v50 : IVec S163840 32) (ix1 s)) = _
  have hn := cend_le (gV V) e.val
  have hc := cst_add (gV V) e.val
  have hN : NP = 131072 := rfl
  rw [h55, wrap_of_lt _ _ (by rw [v50_at e r h1 h2 s hs, BitVec.toNat_ofNat]; omega)]
  exact v50_at e r h1 h2 s hs

/-- The token of the slot is the pair's. -/
theorem v107_at (a : ℕ) (ha : a < NP) (hr : r < NP) (h20 : (E V main_v20 : IVec S131072 32) (ix1 ⟨r, hr⟩) = BitVec.ofNat 32 a) :
    (E V main_v107 : IVec S163840 32) (ix1 s) = BitVec.ofNat 32 (a / 4) := by
  have hN : NP = 131072 := rfl
  have h61 : (E V main_v61 : IVec S163840 32) (ix1 s) = BitVec.ofNat 32 a := by
    rw [e_main_v61, e_main_v60]
    exact (take_ap (N := 131072) (n := 163840) gather_S131072_S163840x1_S163840_n_0_n_n_0_1_1 rfl rfl rfl rfl (E V main_v20 : IVec S131072 32) _ s hr (by omega)
      ((bcCol bcast_S163840_S163840x1_0 (E V main_v59 : IVec S163840 32) s).trans (v59_at e r h1 h2 s hs))).trans h20
  have h62 : (E V main_v62 : IVec S163840 32) (ix1 s) = BitVec.ofNat 32 (a / 4) := by
    rw [e_main_v62, e_main_call10_v11, e_main_call10_v13, e_main_call10_v12, e_main_call10_v10, e_main_call10_v9, e_main_call10_v8, e_main_call10_v7, e_main_call10_v6,
      e_main_call10_v5, e_main_call10_v4, e_main_call10_v3, e_main_call10_v2, e_main_call10_v1, e_main_call10_v0, e_main_call10_c, e_main_call10_c_0]
    refine pyDiv_ap bcast_S_S163840 (E V main_v61 : IVec S163840 32) (E V main_c_18 : IVec S_ 32) (ix1 s) h61 ?_ ?_ (by decide) (by decide)
    · rw [e_main_c_18]; rfl
    · omega
  have h64 : (E V main_v64 : IVec S163840 32) (ix1 s) = BitVec.ofNat 32 (a / 4) := by
    rw [e_main_v64]
    show Scalar.select ((E V main_v54 : IVec S163840 1) (ix1 s)) ((E V main_v62 : IVec S163840 32) (ix1 s)) _ = _
    rw [v54_at e r h1 h2 s hs, h62]
    rfl
  have h103 : (E V main_v103 : IVec S163840 32) (ix1 s) = 0#32 := by rw [e_main_v103, e_main_c_33]; exact bc0 _ _ _
  rw [e_main_v107, e_main_v104]
  show Scalar.select (IntOp.cmpi .slt ((E V main_v64 : IVec S163840 32) (ix1 s)) ((E V main_v103 : IVec S163840 32) (ix1 s))) _ ((E V main_v64 : IVec S163840 32) (ix1 s)) = _
  rw [h103, wrap_of_lt _ _ (by rw [h64, BitVec.toNat_ofNat]; omega)]
  exact h64

/-- The block of the slot reads its own rows, -/
theorem blk_x (i : Fin 160) (hi : i.val = s.val / 1024) (hV : InRange V) : (E V main_v71 : IVec S160 32) (ix1 i) = BitVec.ofNat 32 i.val := by
  have hsl := slot_lt e r h1 h2 s hs
  have hm := pend_mono (gV V) (show e.val ≤ 31 by have := e.isLt; omega)
  have hd := pend_dvd (gV V) 31
  rw [v71_at hV i]
  congr 1
  unfold used
  omega

theorem blk_used (i : Fin 160) (hi : i.val = s.val / 1024) : i.val < used (gV V) := by
  have hsl := slot_lt e r h1 h2 s hs
  have hm := pend_mono (gV V) (show e.val ≤ 31 by have := e.isLt; omega)
  have hd := pend_dvd (gV V) 31
  unfold used
  omega

/-- with the weights of the pair's expert, -/
theorem blk_e (i : Fin 160) (hi : i.val = s.val / 1024) (hV : InRange V) : (E V main_v82 : IVec S160 32) (ix1 i) = BitVec.ofNat 32 e.val := by
  have hsl := slot_lt e r h1 h2 s hs
  have hu := blk_used e r h1 h2 s hs i hi
  have hd := pst_dvd (gV V) e.val
  have he := e.isLt
  rw [v82_at hV i, Nat.min_eq_left (show i.val ≤ used (gV V) - 1 by omega), count_pend (gV V) e.isLt (by omega) (by omega)]
  congr 1
  omega

theorem v87_at (i : Fin 160) (hi : i.val = s.val / 1024) (hV : InRange V) (x : Fin 32) : (E V main_v87 : IVec S160x32 1) (ix2 i x) = 1#1 ↔ e.val = x.val := by
  have he := e.isLt
  have h85 : (E V main_v85 : IVec S160x32 32) (ix2 i x) = BitVec.ofNat 32 e.val := by
    rw [e_main_v85, e_main_v83]
    exact (bcRows bcast_S160_S160x1_0 bcast_S160x1_S160x32_0_1 (E V main_v82 : IVec S160 32) i x).trans (blk_e e r h1 h2 s hs i hi hV)
  have h86 : (E V main_v86 : IVec S160x32 32) (ix2 i x) = BitVec.ofNat 32 x.val := by
    rw [e_main_v86, e_main_v84]
    exact (bcCols bcast_S32_S1x32_1 bcast_S1x32_S160x32_0_1 (E V main_v1 : IVec S32 32) i x).trans (v1_at V x)
  rw [e_main_v87]
  show IntOp.cmpi .eq ((E V main_v85 : IVec S160x32 32) (ix2 i x)) ((E V main_v86 : IVec S160x32 32) (ix2 i x)) = 1#1 ↔ _
  rw [h85, h86, StableHlo.Predicate.cmpi_eq_iff]
  have hx := x.isLt
  constructor
  · intro h
    have := congrArg BitVec.toNat h
    rw [BitVec.toNat_ofNat, BitVec.toNat_ofNat, Nat.mod_eq_of_lt (by omega), Nat.mod_eq_of_lt (by omega)] at this
    exact this
  · intro h; rw [h]

theorem v92_at (i : Fin 160) (hi : i.val = s.val / 1024) (hV : InRange V) : (E V main_v92 : IVec S160 32) (ix1 i) = BitVec.ofNat 32 (cnt (gV V) e.val) := by
  rw [e_main_v92, e_main_v91, e_main_call14_v1, e_main_call14_v2, e_main_call14_v0, e_main_v90, e_main_c_26]
  refine (pick_at (n := 160) (E V main_v87 : IVec S160x32 1) (E V main_v8 : IVec S32 32) (E V main_c_25 : IVec S_ 32) ?_ _ _ _ _ _ i e (v87_at e r h1 h2 s hs i hi hV)).trans (v8_at V e)
  rw [e_main_c_25]; rfl

theorem v97_at (i : Fin 160) (hi : i.val = s.val / 1024) (hV : InRange V) : (E V main_v97 : IVec S160 32) (ix1 i) = BitVec.ofNat 32 (pst (gV V) e.val) := by
  rw [e_main_v97, e_main_v96, e_main_call15_v1, e_main_call15_v2, e_main_call15_v0, e_main_v95, e_main_c_29]
  refine (pick_at (n := 160) (E V main_v87 : IVec S160x32 1) (E V main_v17 : IVec S32 32) (E V main_c_28 : IVec S_ 32) ?_ _ _ _ _ _ i e (v87_at e r h1 h2 s hs i hi hV)).trans (v17_at V e)
  rw [e_main_c_28]; rfl

theorem v99_at (i : Fin 160) (hi : i.val = s.val / 1024) (hV : InRange V) : (E V main_v99 : IVec S160 32) (ix1 i) = BitVec.ofNat 32 (cnt (gV V) e.val - (i.val * 1024 - pst (gV V) e.val)) := by
  have hsl := slot_lt e r h1 h2 s hs
  have hu := blk_used e r h1 h2 s hs i hi
  have hul := used_le (gV V)
  have hd := pst_dvd (gV V) e.val
  have he := e.isLt
  have hn := cnt_le (gV V) e.val
  have hN : NP = 131072 := rfl
  have h94 : (E V main_v94 : IVec S160 32) (ix1 i) = BitVec.ofNat 32 (i.val * 1024) := by
    have h93 : (E V main_v93 : IVec S160 32) (ix1 i) = BitVec.ofNat 32 1024 := by rw [e_main_v93, e_main_c_27]; exact bc0 _ _ _
    rw [e_main_v94]
    show IntOp.muli ((E V main_v65 : IVec S160 32) (ix1 i)) ((E V main_v93 : IVec S160 32) (ix1 i)) = _
    rw [v65_at, h93]; exact (BitVec.ofNat_mul ..).symm
  rw [e_main_v99, e_main_v98]
  show IntOp.subi ((E V main_v92 : IVec S160 32) (ix1 i)) (IntOp.subi ((E V main_v94 : IVec S160 32) (ix1 i)) ((E V main_v97 : IVec S160 32) (ix1 i))) = _
  rw [v92_at e r h1 h2 s hs i hi hV, h94, v97_at e r h1 h2 s hs i hi hV]
  exact (congrArg (IntOp.subi _) (ofNat32_sub (show pst (gV V) e.val ≤ i.val * 1024 by omega))).trans (ofNat32_sub (by omega))

/-- and has a row to compute. -/
theorem blk_v (i : Fin 160) (hi : i.val = s.val / 1024) (hV : InRange V) : ∃ w : ℕ, 0 < w ∧ w ≤ 1024 ∧ (E V main_v101 : IVec S160 32) (ix1 i) = BitVec.ofNat 32 w := by
  have hsl := slot_lt e r h1 h2 s hs
  have hu := blk_used e r h1 h2 s hs i hi
  have hul := used_le (gV V)
  have hd := pst_dvd (gV V) e.val
  have he := e.isLt
  have hn := cnt_le (gV V) e.val
  have hN : NP = 131072 := rfl
  have h100 : (E V main_v100 : IVec S160 32) (ix1 i) = BitVec.ofNat 32 (min (max (cnt (gV V) e.val - (i.val * 1024 - pst (gV V) e.val)) 0) 1024) := by
    have hc1 : (E V main_call16_v1 : IVec S160 32) (ix1 i) = BitVec.ofNat 32 0 := by rw [e_main_call16_v1, e_main_call16_v0, e_main_c_30]; exact bc0 _ _ _
    have hc4 : (E V main_call16_v4 : IVec S160 32) (ix1 i) = BitVec.ofNat 32 1024 := by rw [e_main_call16_v4, e_main_call16_v3, e_main_c_31]; exact bc0 _ _ _
    rw [e_main_v100, e_main_call16_v2]
    show IntOp.minsi ((E V main_call16_v4 : IVec S160 32) (ix1 i)) (IntOp.maxsi ((E V main_call16_v1 : IVec S160 32) (ix1 i)) ((E V main_v99 : IVec S160 32) (ix1 i))) = _
    rw [hc1, hc4, v99_at e r h1 h2 s hs i hi hV, clip_word (by omega) (by decide) (by decide)]
  have h89 : (E V main_v89 : IVec S160 1) (ix1 i) = 1#1 := by
    have h88 : (E V main_v88 : IVec S160 32) (ix1 i) = BitVec.ofNat 32 (used (gV V)) := by rw [e_main_v88]; exact (bc0 _ _ _).trans (v68_at V)
    rw [e_main_v89]
    show IntOp.cmpi .slt ((E V main_v65 : IVec S160 32) (ix1 i)) ((E V main_v88 : IVec S160 32) (ix1 i)) = 1#1
    rw [v65_at, h88]
    refine (StableHlo.Predicate.slt_iff_toNat ?_ ?_).2 ?_
    · rw [BitVec.toNat_ofNat]; omega
    · rw [BitVec.toNat_ofNat]; omega
    · rw [BitVec.toNat_ofNat, BitVec.toNat_ofNat, Nat.mod_eq_of_lt (by omega), Nat.mod_eq_of_lt (by omega)]; omega
  refine ⟨min (max (cnt (gV V) e.val - (i.val * 1024 - pst (gV V) e.val)) 0) 1024, by omega, by omega, ?_⟩
  rw [e_main_v101]
  show Scalar.select ((E V main_v89 : IVec S160 1) (ix1 i)) ((E V main_v100 : IVec S160 32) (ix1 i)) _ = _
  rw [h89, h100]
  rfl

end slot

end Cert.KernelIdeal.Moe

end
-- ==== Proof.KI.Tail.lean ====
/- The host lines after the experts' call: the result as a function of the array the call leaves and of the pairs' slots. -/
module

public import proofs.«01_k».proof.Proof.KI.Lines
public import proofs.«01_k».proof.Proof.KI.Slots
public import Idealize.ShloMosaic.Lib.Pointwise

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the lines write, in order. -/
abbrev tailW : List (Ref sig .tc) := hostOps1_W

theorem t_line_writes : (behind (F := F)).flatten.map HloOp.writes = tailW.map fun w => {Proc.devRef (τ := τ) .tc w} := rfl

/-- What a buffer holds at the end, from the contents `V` the call leaves; here `V` is `V`. -/
abbrev T (V : Valuation τ sig (Elt F)) (r : Ref sig .tc) : r.ty.Contents (Elt F) := StableHlo.after (behind (F := F)).flatten V (Proc.devRef .tc r)

/-- A reference that no line from position `i` on writes holds at the end what it holds before position `i`. -/
theorem t_kept (V : Valuation τ sig (Elt F)) (i : ℕ) (r : Ref sig .tc) (h : r ∉ tailW.drop i) :
    StableHlo.upto (behind (F := F)).flatten V i (Proc.devRef .tc r) = T V r := by
  have e : StableHlo.after ((behind (F := F)).flatten.take i ++ (behind (F := F)).flatten.drop i) V (Proc.devRef .tc r) = T V r := by rw [List.take_append_drop]
  rw [after_app] at e
  rw [← e, StableHlo.upto]
  exact (StableHlo.after_of_writes_sub _ _ (StableHlo.forall_writes_sub_of_map (W := tailW.drop i) (by rw [List.map_drop, t_line_writes, List.map_drop])) h).symm

/-- The line at position `i` read at the reference it writes, when no later line writes it. -/
theorem t_at_line (V : Valuation τ sig (Elt F)) (i : ℕ) (r : Ref sig .tc) {op : HloOp τ sig (Elt F)} {rest : List (HloOp τ sig (Elt F))}
    (hseg : (behind (F := F)).flatten.drop i = op :: rest) (hr : r ∉ tailW.drop (i + 1)) :
    T V r = op.result (StableHlo.upto (behind (F := F)).flatten V i) (Proc.devRef .tc r) := by
  refine StableHlo.after_last_write (tailW.drop (i + 1)) hseg ?_ hr V
  have e : (behind (F := F)).flatten.drop (i + 1) = rest := by
    rw [← List.drop_drop, hseg]; rfl
  rw [← e, List.map_drop, t_line_writes, List.map_drop]

theorem t_line0 (V : Valuation τ sig (Elt F)) (i : ℕ) (y : Ref sig .tc) (v : y.ty.Contents (Elt F)) {hy} {rest : List (HloOp τ sig (Elt F))}
    (hseg : (behind (F := F)).flatten.drop i = StableHlo.nullary y v hy :: rest) (h : y ∉ tailW.drop (i + 1)) : T V y = v :=
  (t_at_line V i y hseg h).trans (StableHlo.nullary_result' v hy _)

theorem t_line1 (V : Valuation τ sig (Elt F)) (i : ℕ) (x y : Ref sig .tc) (f : x.ty.Contents (Elt F) → y.ty.Contents (Elt F)) {hx hy} {rest : List (HloOp τ sig (Elt F))}
    (hseg : (behind (F := F)).flatten.drop i = StableHlo.unary x y f hx hy :: rest) (h : y ∉ tailW.drop (i + 1)) (h1 : x ∉ tailW.drop i) : T V y = f (T V x) := by
  rw [t_at_line V i y hseg h, StableHlo.unary_result', t_kept V i x h1]

theorem t_line2 (V : Valuation τ sig (Elt F)) (i : ℕ) (a b y : Ref sig .tc) (f : a.ty.Contents (Elt F) → b.ty.Contents (Elt F) → y.ty.Contents (Elt F)) {ha hb hy} {rest : List (HloOp τ sig (Elt F))}
    (hseg : (behind (F := F)).flatten.drop i = StableHlo.binary a b y f ha hb hy :: rest) (h : y ∉ tailW.drop (i + 1)) (h1 : a ∉ tailW.drop i) (h2 : b ∉ tailW.drop i) : T V y = f (T V a) (T V b) := by
  rw [t_at_line V i y hseg h, StableHlo.binary_result', t_kept V i a h1, t_kept V i b h2]

theorem t_line3 (V : Valuation τ sig (Elt F)) (i : ℕ) (c a b y : Ref sig .tc) (f : c.ty.Contents (Elt F) → a.ty.Contents (Elt F) → b.ty.Contents (Elt F) → y.ty.Contents (Elt F)) {hc ha hb hy} {rest : List (HloOp τ sig (Elt F))}
    (hseg : (behind (F := F)).flatten.drop i = StableHlo.ternary c a b y f hc ha hb hy :: rest) (h : y ∉ tailW.drop (i + 1)) (h0 : c ∉ tailW.drop i) (h1 : a ∉ tailW.drop i) (h2 : b ∉ tailW.drop i) : T V y = f (T V c) (T V a) (T V b) := by
  rw [t_at_line V i y hseg h, StableHlo.ternary_result', t_kept V i c h0, t_kept V i a h1, t_kept V i b h2]

theorem t_lineR (V : Valuation τ sig (Elt F)) (i : ℕ) (x y : Ref sig .tc) {he hn hx hy} {rest : List (HloOp τ sig (Elt F))}
    (hseg : (behind (F := F)).flatten.drop i = StableHlo.reshape x y he hn hx hy :: rest) (h : y ∉ tailW.drop (i + 1)) (h1 : x ∉ tailW.drop i) :
    T V y = fun j => he ▸ shapeCast y.ty.shape (T V x) hn j := by
  rw [t_at_line V i y hseg h, StableHlo.reshape_result', t_kept V i x h1]

section lines

variable (V : Valuation τ sig (Elt F))

theorem t_main_v114 : T V main_v114 = shapeCast S163840x2048 (T V main_v113) shapeCasts_S327680x1024_S163840x2048 :=
  t_lineR V 0 main_v113 main_v114 rfl (by decide +kernel) (by decide +kernel)
theorem t_main_v115 : T V main_v115 = shapeCast S32768x4 (T V main_v26) shapeCasts_S131072_S32768x4 :=
  t_lineR V 1 main_v26 main_v115 rfl (by decide +kernel) (by decide +kernel)
theorem t_main_v116 : T V main_v116 = ((transpose S4x32768 [1, 0] · transposes_S32768x4_S4x32768_1_0) : (⟨S32768x4, .i32⟩ : BufTy).Contents (Elt F) → (⟨S4x32768, .i32⟩ : BufTy).Contents (Elt F)) (T V main_v115) :=
  t_line1 V 2 main_v115 main_v116 ((transpose S4x32768 [1, 0] · transposes_S32768x4_S4x32768_1_0) : (⟨S32768x4, .i32⟩ : BufTy).Contents (Elt F) → (⟨S4x32768, .i32⟩ : BufTy).Contents (Elt F)) rfl (by decide +kernel) (by decide +kernel)
theorem t_main_v117 : T V main_v117 = shapeCast S131072 (T V main_v116) shapeCasts_S4x32768_S131072 :=
  t_lineR V 3 main_v116 main_v117 rfl (by decide +kernel) (by decide +kernel)
theorem t_main_c_35 : T V main_c_35 = ((constantI S_ 32 0#32) : main_c_35.ty.Contents (Elt F)) :=
  t_line0 V 4 main_c_35 _ rfl (by decide +kernel)
theorem t_main_v118 : T V main_v118 = (broadcastInDim S131072 ![] bcast_S_S131072 : (⟨S_, .i32⟩ : BufTy).Contents (Elt F) → (⟨S131072, .i32⟩ : BufTy).Contents (Elt F)) (T V main_c_35) :=
  t_line1 V 5 main_c_35 main_v118 (broadcastInDim S131072 ![] bcast_S_S131072 : (⟨S_, .i32⟩ : BufTy).Contents (Elt F) → (⟨S131072, .i32⟩ : BufTy).Contents (Elt F)) rfl (by decide +kernel) (by decide +kernel)
theorem t_main_v119 : T V main_v119 = (cmpi .slt : (⟨S131072, .i32⟩ : BufTy).Contents (Elt F) → (⟨S131072, .i32⟩ : BufTy).Contents (Elt F) → (⟨S131072, .i1⟩ : BufTy).Contents (Elt F)) (T V main_v117) (T V main_v118) :=
  t_line2 V 6 main_v117 main_v118 main_v119 (cmpi .slt : (⟨S131072, .i32⟩ : BufTy).Contents (Elt F) → (⟨S131072, .i32⟩ : BufTy).Contents (Elt F) → (⟨S131072, .i1⟩ : BufTy).Contents (Elt F)) rfl (by decide +kernel) (by decide +kernel) (by decide +kernel)
theorem t_main_c_36 : T V main_c_36 = ((constantI S_ 32 163840#32) : main_c_36.ty.Contents (Elt F)) :=
  t_line0 V 7 main_c_36 _ rfl (by decide +kernel)
theorem t_main_v120 : T V main_v120 = (broadcastInDim S131072 ![] bcast_S_S131072 : (⟨S_, .i32⟩ : BufTy).Contents (Elt F) → (⟨S131072, .i32⟩ : BufTy).Contents (Elt F)) (T V main_c_36) :=
  t_line1 V 8 main_c_36 main_v120 (broadcastInDim S131072 ![] bcast_S_S131072 : (⟨S_, .i32⟩ : BufTy).Contents (Elt F) → (⟨S131072, .i32⟩ : BufTy).Contents (Elt F)) rfl (by decide +kernel) (by decide +kernel)
theorem t_main_v121 : T V main_v121 = (addi : (⟨S131072, .i32⟩ : BufTy).Contents (Elt F) → (⟨S131072, .i32⟩ : BufTy).Contents (Elt F) → (⟨S131072, .i32⟩ : BufTy).Contents (Elt F)) (T V main_v117) (T V main_v120) :=
  t_line2 V 9 main_v117 main_v120 main_v121 (addi : (⟨S131072, .i32⟩ : BufTy).Contents (Elt F) → (⟨S131072, .i32⟩ : BufTy).Contents (Elt F) → (⟨S131072, .i32⟩ : BufTy).Contents (Elt F)) rfl (by decide +kernel) (by decide +kernel) (by decide +kernel)
theorem t_main_v122 : T V main_v122 = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (T V main_v119) (T V main_v121) (T V main_v117) :=
  t_line3 V 10 main_v119 main_v121 main_v117 main_v122 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) rfl (by decide +kernel) (by decide +kernel) (by decide +kernel) (by decide +kernel)
theorem t_main_v123 : T V main_v123 = (broadcastInDim S131072x1 ![0] bcast_S131072_S131072x1_0 : (⟨S131072, .i32⟩ : BufTy).Contents (Elt F) → (⟨S131072x1, .i32⟩ : BufTy).Contents (Elt F)) (T V main_v122) :=
  t_line1 V 11 main_v122 main_v123 (broadcastInDim S131072x1 ![0] bcast_S131072_S131072x1_0 : (⟨S131072, .i32⟩ : BufTy).Contents (Elt F) → (⟨S131072x1, .i32⟩ : BufTy).Contents (Elt F)) rfl (by decide +kernel) (by decide +kernel)
theorem t_main_v124 : T V main_v124 = ((fun x i => Host.gather gather_S163840x2048_S131072x1_S131072x2048_1_0_n_n_0_1_12048 x i) : (⟨S163840x2048, .bf16⟩ : BufTy).Contents (Elt F) → (⟨S131072x1, .i32⟩ : BufTy).Contents (Elt F) → (⟨S131072x2048, .bf16⟩ : BufTy).Contents (Elt F)) (T V main_v114) (T V main_v123) :=
  t_line2 V 12 main_v114 main_v123 main_v124 ((fun x i => Host.gather gather_S163840x2048_S131072x1_S131072x2048_1_0_n_n_0_1_12048 x i) : (⟨S163840x2048, .bf16⟩ : BufTy).Contents (Elt F) → (⟨S131072x1, .i32⟩ : BufTy).Contents (Elt F) → (⟨S131072x2048, .bf16⟩ : BufTy).Contents (Elt F)) rfl (by decide +kernel) (by decide +kernel) (by decide +kernel)
theorem t_main_v125 : T V main_v125 = shapeCast S4x32768x2048 (T V main_v124) shapeCasts_S131072x2048_S4x32768x2048 :=
  t_lineR V 13 main_v124 main_v125 rfl (by decide +kernel) (by decide +kernel)
theorem t_main_v126 : T V main_v126 = ((extf .f32 · bitsLt_bf16_f32) : (⟨S4x32768x2048, .bf16⟩ : BufTy).Contents (Elt F) → (⟨S4x32768x2048, .f32⟩ : BufTy).Contents (Elt F)) (T V main_v125) :=
  t_line1 V 14 main_v125 main_v126 ((extf .f32 · bitsLt_bf16_f32) : (⟨S4x32768x2048, .bf16⟩ : BufTy).Contents (Elt F) → (⟨S4x32768x2048, .f32⟩ : BufTy).Contents (Elt F)) rfl (by decide +kernel) (by decide +kernel)

end lines

section result

open Idealize.ShloMosaic.Routing

variable (V : Valuation τ sig (Elt F))

theorem t_kept0 (r : Ref sig .tc) (h : r ∉ tailW) : T V r = V (Proc.devRef .tc r) :=
  StableHlo.after_of_writes_sub (W := tailW) _ _ (StableHlo.forall_writes_sub_of_map t_line_writes) h

/-- The slot of pair `(n, k)`, looked up by the result's row `32768 k + n`. -/
theorem t117_at (k : Fin 4) (n : Fin 32768) :
    (T V main_v117 : IVec S131072 32) (ix1 ⟨32768 * k.val + n.val, by omega⟩) = (V (Proc.devRef .tc main_v26) : IVec S131072 32) (ix1 ⟨4 * n.val + k.val, by omega⟩) := by
  rw [t_main_v117, t_main_v116, t_main_v115, t_kept0 V main_v26 (by decide +kernel)]
  generalize (V (Proc.devRef .tc main_v26) : IVec S131072 32) = w
  pointwise
  exact congrArg (fun p => w (ix1 p)) (Fin.ext (by show n.val * 4 + k.val = 4 * n.val + k.val; omega))

/-- The result's entry for pair `(k, n)`, column `c`: the array's, at the row of the pair's slot. -/
theorem t126_at (V : Valuation τ sig (Elt Ideal)) (k : Fin 4) (n : Fin 32768) (c : Fin 2048) (s : Fin 163840)
    (hs : (V (Proc.devRef .tc main_v26) : IVec S131072 32) (ix1 ⟨4 * n.val + k.val, by omega⟩) = BitVec.ofNat 32 s.val) :
    (T V main_v126 : FVec Ideal S4x32768x2048 .f32) (ix3 k n c)
      = (V (Proc.devRef .tc main_v113) : FVec Ideal S327680x1024 .bf16) (ix2 ⟨2 * s.val + c.val / 1024, by omega⟩ ⟨c.val % 1024, by omega⟩) := by
  have hsl := s.isLt
  have h117 := (t117_at V k n).trans hs
  have h122 : (T V main_v122 : IVec S131072 32) (ix1 ⟨32768 * k.val + n.val, by omega⟩) = BitVec.ofNat 32 s.val := by
    have h118 : (T V main_v118 : IVec S131072 32) (ix1 ⟨32768 * k.val + n.val, by omega⟩) = 0#32 := by rw [t_main_v118, t_main_c_35]; exact bc0 _ _ _
    rw [t_main_v122, t_main_v119]
    show Scalar.select (IntOp.cmpi .slt ((T V main_v117 : IVec S131072 32) (ix1 _)) ((T V main_v118 : IVec S131072 32) (ix1 _))) _ ((T V main_v117 : IVec S131072 32) (ix1 _)) = _
    rw [h118, wrap_of_lt _ _ (by rw [h117, BitVec.toNat_ofNat]; omega)]
    exact h117
  have h124 : (T V main_v124 : FVec Ideal S131072x2048 .bf16) (ix2 ⟨32768 * k.val + n.val, by omega⟩ c) = (T V main_v114 : FVec Ideal S163840x2048 .bf16) (ix2 s c) := by
    rw [t_main_v124, t_main_v123]
    exact gather_row (nb := 163840) (B := 2048) (n := 131072) gather_S163840x2048_S131072x1_S131072x2048_1_0_n_n_0_1_12048 rfl rfl rfl rfl rfl _ _ _ c s
      ((bcCol bcast_S131072_S131072x1_0 (T V main_v122 : IVec S131072 32) _).trans h122) (by decide)
  have h126 : (T V main_v126 : FVec Ideal S4x32768x2048 .f32) (ix3 k n c) = (T V main_v124 : FVec Ideal S131072x2048 .bf16) (ix2 ⟨32768 * k.val + n.val, by omega⟩ c) := by
    rw [t_main_v126, t_main_v125]
    generalize (T V main_v124 : FVec Ideal S131072x2048 .bf16) = w
    pointwise
    exact congrArg (fun p => w (ix2 p c)) (Fin.ext (by show k.val * 32768 + n.val = 32768 * k.val + n.val; omega))
  refine h126.trans (h124.trans ?_)
  rw [t_main_v114, t_kept0 V main_v113 (by decide +kernel)]
  generalize (V (Proc.devRef .tc main_v113) : FVec Ideal S327680x1024 .bf16) = w
  pointwise
  exact congrArg (fun p => w (ix2 p ⟨c.val % 1024, by omega⟩)) (Fin.ext (by show s.val * 2 + c.val / 1024 = 2 * s.val + c.val / 1024; omega))

end result

section rows

open Idealize.ShloMosaic.Routing

/-- The rows the call is handed: slot `s` holds the activations of its token. -/
theorem v110_at (V : Valuation τ sig (Elt Ideal)) (s : Fin 163840) (k : Fin 2048) (n : Fin 32768) (hn : (E V main_v107 : IVec S163840 32) (ix1 s) = BitVec.ofNat 32 n.val) :
    (E V main_v110 : FVec Ideal S327680x1024 .bf16) (ix2 ⟨2 * s.val + k.val / 1024, by omega⟩ ⟨k.val % 1024, by omega⟩)
      = (E V main_arg0 : FVec Ideal S32768x2048 .f32) (ix2 n k) := by
  have h109 : (E V main_v109 : FVec Ideal S163840x2048 .bf16) (ix2 s k) = (E V main_v102 : FVec Ideal S32768x2048 .bf16) (ix2 n k) := by
    rw [e_main_v109, e_main_v108]
    exact gather_row (nb := 32768) (B := 2048) (n := 163840) gather_S32768x2048_S163840x1_S163840x2048_1_0_n_n_0_1_12048 rfl rfl rfl rfl rfl _ _ s k n
      ((bcCol bcast_S163840_S163840x1_0 (E V main_v107 : IVec S163840 32) s).trans hn) (by decide)
  have h102 : (E V main_v102 : FVec Ideal S32768x2048 .bf16) (ix2 n k) = (E V main_arg0 : FVec Ideal S32768x2048 .f32) (ix2 n k) := by
    rw [e_main_v102]; rfl
  refine Eq.trans ?_ (h109.trans h102)
  rw [e_main_v110]
  generalize (E V main_v109 : FVec Ideal S163840x2048 .bf16) = w
  pointwise

theorem v111_at (V : Valuation τ sig (Elt Ideal)) (e : Fin 32) (p : Fin 4096) :
    (E V main_v111 : FVec Ideal S2x32x1x4096 .f32) (ix4 0 e 0 p) = (E V main_arg3 : FVec Ideal S2x32x4096 .f32) (ix3 0 e p) := by
  rw [e_main_v111]
  generalize (E V main_arg3 : FVec Ideal S2x32x4096 .f32) = w
  pointwise

theorem v112_at (V : Valuation τ sig (Elt Ideal)) (e : Fin 32) (p : Fin 2048) :
    (E V main_v112 : FVec Ideal S2x32x1x2048 .f32) (ix4 0 e 0 p) = (E V main_arg5 : FVec Ideal S2x32x2048 .f32) (ix3 0 e p) := by
  rw [e_main_v112]
  generalize (E V main_arg5 : FVec Ideal S2x32x2048 .f32) = w
  pointwise

theorem v0_arg (V : Valuation τ sig (Elt Ideal)) (n : Fin 32768) (k : Fin 4) :
    (E V main_v0 : IVec S131072 32) (ix1 ⟨4 * n.val + k.val, by omega⟩) = (E V main_arg1 : IVec S32768x4 32) (ix2 n k) := by
  rw [e_main_v0]
  generalize (E V main_arg1 : IVec S32768x4 32) = w
  pointwise

end rows

end Cert.KernelIdeal.Moe

end
-- ==== Proof.KI.Result.lean ====
/- The program's result, one element at a time: for pair `(n, k)` of a token and one of its experts, the expert's answer to the token. -/
module

public import proofs.«01_k».proof.Proof.KI.Blocks
public import proofs.«01_k».proof.Proof.KI.Tail
public import proofs.«01_k».proof.Proof.KI.Frame

@[expose] public section

set_option maxRecDepth 16384
set_option Elab.async false

noncomputable section

namespace Cert.KernelIdeal.Moe

open Cert.KernelIdeal Cert.KernelIdeal.Gen
open Idealize.ShloMosaic Idealize.ShloMosaic.TcCoe
open Idealize.SL Idealize.SL.RA
open Idealize.ShloMosaic.Pipeline (Dat Cfg Window)
open Cert.Moe

variable (m : (ℓ : Loc nD τ sig) → Buf (Elt Ideal) ℓ) (ad : (pcfg0 (F := Ideal)).Adm) (d : Dev nD)

/-- What the buffers hold when the call returns. -/
abbrev atReturn : Valuation τ sig (Elt Ideal) :=
  Pipeline.withArrays (Pipeline.pin (pcfgs (F := Ideal)) (fun _ => ad) (0 : Fin 1)).spec d (atCall m d)
    fun w => (dats (F := Ideal) (atCall m) ad (0 : Fin 1) d).arrAt w (Pipeline.pin (pcfgs (F := Ideal)) (fun _ => ad) (0 : Fin 1)).N

theorem return_v26 : (atReturn m ad d (Proc.devRef .tc main_v26) : IVec S131072 32) = E (fun b => m (d, b)) main_v26 :=
  Pipeline.withArrays_of_ne spec0 d (atCall m d) _ main_v26 (by decide +kernel)

theorem return_v113 : (atReturn m ad d (Proc.devRef .tc main_v113) : FVec Ideal S327680x1024 .bf16)
    = (dats (F := Ideal) (atCall m) ad (0 : Fin 1) d).arrAt (7 : Fin 8) (cfgA (F := Ideal) ad).N := by
  refine Pipeline.withArrays_arr_shared spec0 d (atCall m d)
    (fun w => (dats (F := Ideal) (atCall m) ad (0 : Fin 1) d).arrAt w (Pipeline.pin (pcfgs (F := Ideal)) (fun _ => ad) (0 : Fin 1)).N) (fun w w' hne he => ?_) (7 : Fin 8)
  have h7 : ∀ w w' : Fin 8, w ≠ w' → Pipeline.arrRef spec0 w = Pipeline.arrRef spec0 w' → w ≠ 7 := by decide +kernel
  have hin : ∀ w : Fin 8, w ≠ 7 → ((cfgA (F := Ideal) ad).win w).isOut = false := by
    intro w h
    match w, h with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, h => exact absurd rfl h
  exact (dats (F := Ideal) (atCall m) ad (0 : Fin 1) d).arrAt_in w (hin w (h7 w w' hne he)) _

/-- An argument is at the call what it was at the launch. -/
theorem call_arg (b : Ref sig .tc) (h0 : ∀ W ∈ beforeW, b ∉ W) : E (fun b => m (d, b)) b = m (d, Proc.devRef .tc b) :=
  after_flatten_of_not_mem b _ _ before_writes h0 (fun b => m (d, b))

/-- What the call is handed, in the arguments: the rows of the slot's block, -/
theorem rows_eq (n : Fin 32768) (s : Fin 163840) (i : Fin 160) (q : Fin 1024) (hiq : s.val = 1024 * i.val + q.val)
    (hn : (E (F := Ideal) (fun b => m (d, b)) main_v107 : IVec S163840 32) (ValueIdx.ix1 s) = BitVec.ofNat 32 n.val) :
    (fun j : Fin 2048 => (atCall m d (Proc.devRef .tc main_v110) : Vec Ideal S327680x1024 .bf16) (ix2 ⟨2048 * i.val + (2 * q.val + j.val / 1024), by omega⟩ ⟨j.val % 1024, by omega⟩))
      = fun j => (m (d, Proc.devRef .tc main_arg0) : FVec Ideal S32768x2048 .f32) (ix2 n j) := funext fun j => by
  have hrow : (⟨2048 * i.val + (2 * q.val + j.val / 1024), by omega⟩ : Fin 327680) = ⟨2 * s.val + j.val / 1024, by omega⟩ := Fin.ext (by
    show 2048 * i.val + (2 * q.val + j.val / 1024) = 2 * s.val + j.val / 1024
    omega)
  exact (congrArg (fun p => (atCall m d (Proc.devRef .tc main_v110) : Vec Ideal S327680x1024 .bf16) (ix2 p ⟨j.val % 1024, by omega⟩)) hrow).trans
    ((v110_at (fun b => m (d, b)) s j n hn).trans (congrFun (call_arg m d main_arg0 (by decide +kernel)) _))

/-- the biases -/
theorem bias3_eq (e : Fin 32) : (fun p : Fin 4096 => (atCall m d (Proc.devRef .tc main_v111) : Vec Ideal S2x32x1x4096 .f32) (ix4 0 e 0 p))
      = fun p => (m (d, Proc.devRef .tc main_arg3) : FVec Ideal S2x32x4096 .f32) (ix3 0 e p) := funext fun p =>
    (v111_at (fun b => m (d, b)) e p).trans (congrFun (call_arg m d main_arg3 (by decide +kernel)) _)

theorem bias5_eq (e : Fin 32) : (fun p : Fin 2048 => (atCall m d (Proc.devRef .tc main_v112) : Vec Ideal S2x32x1x2048 .f32) (ix4 0 e 0 p))
      = fun p => (m (d, Proc.devRef .tc main_arg5) : FVec Ideal S2x32x2048 .f32) (ix3 0 e p) := funext fun p =>
    (v112_at (fun b => m (d, b)) e p).trans (congrFun (call_arg m d main_arg5 (by decide +kernel)) _)

/-- and the weights. -/
theorem weight2_eq (e : Fin 32) : (fun (j : Fin 2048) (p : Fin 4096) => (atCall m d (Proc.devRef .tc main_arg2) : Vec Ideal S2x32x2048x4096 .f32) (ix4 0 e j p))
      = fun j p => (m (d, Proc.devRef .tc main_arg2) : FVec Ideal S2x32x2048x4096 .f32) (ix4 0 e j p) := funext fun j => funext fun p =>
    congrFun (call_arg m d main_arg2 (by decide +kernel)) _

theorem weight4_eq (e : Fin 32) : (fun (j : Fin 2048) (p : Fin 2048) => (atCall m d (Proc.devRef .tc main_arg4) : Vec Ideal S2x32x2048x2048 .f32) (ix4 0 e j p))
      = fun j p => (m (d, Proc.devRef .tc main_arg4) : FVec Ideal S2x32x2048x2048 .f32) (ix4 0 e j p) := funext fun j => funext fun p =>
    congrFun (call_arg m d main_arg4 (by decide +kernel)) _

theorem ffn_congr {X X' : Fin 2048 → EReal} {W W' : Fin 2048 → Fin 4096 → EReal} {B B' : Fin 4096 → EReal} {D D' : Fin 2048 → Fin 2048 → EReal} {b b' : Fin 2048 → EReal}
    (hX : X = X') (hW : W = W') (hB : B = B') (hD : D = D') (hb : b = b') (c : Fin 2048) : ffn X W B D b c = ffn X' W' B' D' b' c := by
  rw [hX, hW, hB, hD, hb]

section pair
/- One pair, its expert `e`, its rank `r` in the sorted order and its slot `s`. -/
variable (hV : ∀ c : Dev nD, InRange (F := Ideal) (fun b => m (c, b))) (k : Fin 4) (n : Fin 32768) (c : Fin 2048) (e : Fin 32) (r : ℕ)
  (h1 : cst (gV (F := Ideal) (fun b => m (d, b))) e.val ≤ r)
  (h2 : r < cst (gV (F := Ideal) (fun b => m (d, b))) e.val + cnt (gV (F := Ideal) (fun b => m (d, b))) e.val)
  (s : Fin 163840) (hs : s.val = pst (gV (F := Ideal) (fun b => m (d, b))) e.val + (r - cst (gV (F := Ideal) (fun b => m (d, b))) e.val))
include h1 h2 hs

/-- The slot's block reads its own rows, -/
theorem adm_x (i : Fin 160) (hi : i.val = s.val / 1024) : (((theAdm m hV).1 1 : S160.Idx → BitVec 32) (ValueIdx.ix1 i)).toNat = i.val := by
  refine (congrArg BitVec.toNat ((congrFun (congrFun (theAdm_eq m hV d).symm 1) (ValueIdx.ix1 i)).trans (blk_x e r h1 h2 s hs i hi (hV d)))).trans ?_
  have := i.isLt
  rw [BitVec.toNat_ofNat]; omega

/-- the weights of expert `e`, -/
theorem adm_e (i : Fin 160) (hi : i.val = s.val / 1024) : (((theAdm m hV).1 0 : S160.Idx → BitVec 32) (ValueIdx.ix1 i)).toNat = e.val := by
  refine (congrArg BitVec.toNat ((congrFun (congrFun (theAdm_eq m hV d).symm 0) (ValueIdx.ix1 i)).trans (blk_e e r h1 h2 s hs i hi (hV d)))).trans ?_
  have := e.isLt
  rw [BitVec.toNat_ofNat]; omega

/-- and runs. -/
theorem adm_v (i : Fin 160) (hi : i.val = s.val / 1024) : valid ((theAdm m hV).1 2 (ValueIdx.ix1 i) : BitVec 32) := by
  obtain ⟨w, hw0, hw1, hw⟩ := blk_v e r h1 h2 s hs i hi (hV d)
  refine (congrArg valid ((congrFun (congrFun (theAdm_eq m hV d).symm 2) (ValueIdx.ix1 i)).trans hw)).mpr ?_
  have hm : (BitVec.ofNat 32 w).toNat = w := by rw [BitVec.toNat_ofNat, Nat.mod_eq_of_lt (by omega)]
  refine (StableHlo.Predicate.sgt_iff_toNat ?_ ?_).2 ?_
  · rw [hm]; omega
  · decide
  · rw [hm]; exact hw0

/-- The array's row of the slot, when the slot's token is `n`. -/
theorem slot_at (hn : (E (F := Ideal) (fun b => m (d, b)) main_v107 : IVec S163840 32) (ValueIdx.ix1 s) = BitVec.ofNat 32 n.val) :
    ((dats (F := Ideal) (atCall m) (theAdm m hV) (0 : Fin 1) d).arrAt (7 : Fin 8) (cfgA (F := Ideal) (theAdm m hV)).N : Vec Ideal S327680x1024 .bf16)
        (ix2 ⟨2 * s.val + c.val / 1024, by omega⟩ ⟨c.val % 1024, by omega⟩)
      = ffn (fun j => (m (d, Proc.devRef .tc main_arg0) : FVec Ideal S32768x2048 .f32) (ix2 n j))
          (fun j p => (m (d, Proc.devRef .tc main_arg2) : FVec Ideal S2x32x2048x4096 .f32) (ix4 0 e j p))
          (fun p => (m (d, Proc.devRef .tc main_arg3) : FVec Ideal S2x32x4096 .f32) (ix3 0 e p))
          (fun p j => (m (d, Proc.devRef .tc main_arg4) : FVec Ideal S2x32x2048x2048 .f32) (ix4 0 e p j))
          (fun j => (m (d, Proc.devRef .tc main_arg5) : FVec Ideal S2x32x2048 .f32) (ix3 0 e j)) c := by
  have hsl := s.isLt
  obtain ⟨i, hi⟩ : ∃ i : Fin 160, i.val = s.val / 1024 := ⟨⟨s.val / 1024, by omega⟩, rfl⟩
  obtain ⟨q, hq⟩ : ∃ q : Fin 1024, q.val = s.val % 1024 := ⟨⟨s.val % 1024, by omega⟩, rfl⟩
  have hiq : s.val = 1024 * i.val + q.val := by omega
  have hrow : (⟨2 * s.val + c.val / 1024, by omega⟩ : Fin 327680) = ⟨2048 * i.val + (2 * q.val + c.val / 1024), by omega⟩ := Fin.ext (by
    show 2 * s.val + c.val / 1024 = 2048 * i.val + (2 * q.val + c.val / 1024)
    omega)
  refine (congrArg (fun p => ((dats (F := Ideal) (atCall m) (theAdm m hV) (0 : Fin 1) d).arrAt (7 : Fin 8) (cfgA (F := Ideal) (theAdm m hV)).N : Vec Ideal S327680x1024 .bf16)
    (ix2 p ⟨c.val % 1024, by omega⟩)) hrow).trans ?_
  refine (arr_running (atCall m) (theAdm m hV) d i (adm_v m d hV e r h1 h2 s hs i hi) q c).trans ?_
  refine (block_at (atCall m) (theAdm m hV) d i i e (adm_x m d hV e r h1 h2 s hs i hi) (adm_e m d hV e r h1 h2 s hs i hi) (adm_v m d hV e r h1 h2 s hs i hi) q c).trans ?_
  exact ffn_congr (rows_eq m d n s i q hiq hn) (weight2_eq m d e) (bias3_eq m d e) (weight4_eq m d e) (bias5_eq m d e) c

end pair

/-- The result's entry for pair `(n, k)`, column `c`: the answer of the pair's expert to the token. -/
theorem result_at (hV : ∀ c : Dev nD, InRange (F := Ideal) (fun b => m (c, b))) (k : Fin 4) (n : Fin 32768) (c : Fin 2048) (e : Fin 32)
    (he : (m (d, Proc.devRef .tc main_arg1) : IVec S32768x4 32) (ix2 n k) = BitVec.ofNat 32 e.val) :
    (atEnd m (theAdm m hV) d main_v126 : FVec Ideal S4x32768x2048 .f32) (ix3 k n c)
      = ffn (fun j => (m (d, Proc.devRef .tc main_arg0) : FVec Ideal S32768x2048 .f32) (ix2 n j))
          (fun j p => (m (d, Proc.devRef .tc main_arg2) : FVec Ideal S2x32x2048x4096 .f32) (ix4 0 e j p))
          (fun p => (m (d, Proc.devRef .tc main_arg3) : FVec Ideal S2x32x4096 .f32) (ix3 0 e p))
          (fun p j => (m (d, Proc.devRef .tc main_arg4) : FVec Ideal S2x32x2048x2048 .f32) (ix4 0 e p j))
          (fun j => (m (d, Proc.devRef .tc main_arg5) : FVec Ideal S2x32x2048 .f32) (ix3 0 e j)) c := by
  have hN : NP = 131072 := rfl
  have hel := e.isLt
  obtain ⟨a, ha⟩ : ∃ a : Fin NP, a = ⟨4 * n.val + k.val, by omega⟩ := ⟨_, rfl⟩
  have hav : a.val = 4 * n.val + k.val := congrArg Fin.val ha
  have h0 : (E (F := Ideal) (fun b => m (d, b)) main_v0 : IVec S131072 32) (ValueIdx.ix1 a) = BitVec.ofNat 32 e.val := by
    rw [ha]
    exact (v0_arg (fun b => m (d, b)) n k).trans ((congrFun (call_arg m d main_arg1 (by decide +kernel)) _).trans he)
  have hg : gV (F := Ideal) (fun b => m (d, b)) a.val = e.val := by
    unfold gV
    rw [dif_pos a.isLt]
    refine (congrArg BitVec.toNat h0).trans ?_
    rw [BitVec.toNat_ofNat]; omega
  obtain ⟨ρ, h21, h20, hρ⟩ := ranks (hV d)
  obtain ⟨h1, h2⟩ := hρ a
  have h26 := v26_at (hV d) a (ρ a).val (h21 a) h1
  rw [hg] at h1 h2 h26
  have hp := pst_add (gV (F := Ideal) (fun b => m (d, b))) e.val
  have hc := pad_ge (gV (F := Ideal) (fun b => m (d, b))) e.val
  have hl := pend_lt (gV (F := Ideal) (fun b => m (d, b))) e.val e.isLt
  obtain ⟨s, hs⟩ : ∃ s : Fin 163840, s.val = pst (gV (F := Ideal) (fun b => m (d, b))) e.val + ((ρ a).val - cst (gV (F := Ideal) (fun b => m (d, b))) e.val) :=
    ⟨⟨_, by omega⟩, rfl⟩
  rw [← hs] at h26
  have hn := v107_at e (ρ a).val h1 h2 s hs a.val a.isLt (ρ a).isLt (h20 a)
  have hd : a.val / 4 = n.val := by omega
  rw [hd] at hn
  refine (t126_at (atReturn m (theAdm m hV) d) k n c s ?_).trans ((congrFun (return_v113 m (theAdm m hV) d) _).trans (slot_at m d hV n c e (ρ a).val h1 h2 s hs hn))
  rw [return_v26, ← h26, ha]
  rfl

end Cert.KernelIdeal.Moe

end
-- ==== Proof.Algebraic.lean ====
/- The value claim: over the extended reals the kernel's result is the reference's, when the experts named are among the 32. -/
module

public import proofs.«01_k».proof.Proof.Frames
public import proofs.«01_k».proof.Proof.RefValue
public import proofs.«01_k».proof.Proof.KI.Result

@[expose] public section

noncomputable section

namespace Cert.Proof

open Idealize.ShloMosaic Idealize.SL.Sem

/-- The two results, from memories whose arguments agree. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hm : Cert.Pre_KernelIdeal m) (d : Dev Cert.KernelIdeal.nD)
    (h0 : m' ((d.tc : Thread Cert.ReferenceIdeal.nD Cert.ReferenceIdeal.τ).loc Cert.ReferenceIdeal.main_arg0) = m ((d.tc : Thread Cert.KernelIdeal.nD Cert.KernelIdeal.τ).loc Cert.KernelIdeal.main_arg0))
    (h1 : m' ((d.tc : Thread Cert.ReferenceIdeal.nD Cert.ReferenceIdeal.τ).loc Cert.ReferenceIdeal.main_arg1) = m ((d.tc : Thread Cert.KernelIdeal.nD Cert.KernelIdeal.τ).loc Cert.KernelIdeal.main_arg1))
    (h2 : m' ((d.tc : Thread Cert.ReferenceIdeal.nD Cert.ReferenceIdeal.τ).loc Cert.ReferenceIdeal.main_arg2) = m ((d.tc : Thread Cert.KernelIdeal.nD Cert.KernelIdeal.τ).loc Cert.KernelIdeal.main_arg2))
    (h3 : m' ((d.tc : Thread Cert.ReferenceIdeal.nD Cert.ReferenceIdeal.τ).loc Cert.ReferenceIdeal.main_arg3) = m ((d.tc : Thread Cert.KernelIdeal.nD Cert.KernelIdeal.τ).loc Cert.KernelIdeal.main_arg3))
    (h4 : m' ((d.tc : Thread Cert.ReferenceIdeal.nD Cert.ReferenceIdeal.τ).loc Cert.ReferenceIdeal.main_arg4) = m ((d.tc : Thread Cert.KernelIdeal.nD Cert.KernelIdeal.τ).loc Cert.KernelIdeal.main_arg4))
    (h5 : m' ((d.tc : Thread Cert.ReferenceIdeal.nD Cert.ReferenceIdeal.τ).loc Cert.ReferenceIdeal.main_arg5) = m ((d.tc : Thread Cert.KernelIdeal.nD Cert.KernelIdeal.τ).loc Cert.KernelIdeal.main_arg5)) :
    (Cert.ReferenceIdeal.Value.res_main_v51 (F := Ideal) m' d : FVec Ideal Cert.KernelIdeal.S4x32768x2048 .f32)
      = Cert.KernelIdeal.Moe.atEnd m (Cert.KernelIdeal.Moe.theAdm m (inRange_KI m hm)) d Cert.KernelIdeal.main_v126 := by
  funext j
  obtain ⟨k, n, c, rfl⟩ : ∃ (k : Fin 4) (n : Fin 32768) (c : Fin 2048), j = ix3 k n c := ⟨j 0, j 1, j 2, funext fun a => by
    match a with
    | ⟨0, _⟩ => rfl
    | ⟨1, _⟩ => rfl
    | ⟨2, _⟩ => rfl⟩
  have hlt := Cert.Moe.topi_lt (F := Ideal) _ _ _ _ _ _ (hm d) (ix2 n k)
  obtain ⟨e, he⟩ : ∃ e : Fin 32, (m (d, Proc.devRef .tc Cert.KernelIdeal.main_arg1) : IVec Cert.KernelIdeal.S32768x4 32) (ix2 n k) = BitVec.ofNat 32 e.val :=
    ⟨⟨_, hlt⟩, by rw [BitVec.ofNat_toNat, BitVec.setWidth_eq]⟩
  refine (Cert.ReferenceIdeal.Moe.res_at m' d k n c e ((congrFun h1 _).trans he)).trans (Eq.trans ?_ (Cert.KernelIdeal.Moe.result_at m d (inRange_KI m hm) k n c e he).symm)
  exact Cert.KernelIdeal.Moe.ffn_congr (funext fun j => congrFun h0 _) (funext fun j => funext fun p => congrFun h2 _) (funext fun p => congrFun h3 _)
    (funext fun p => funext fun j => congrFun h4 _) (funext fun p => congrFun h5 _) c

theorem algebraic : Cert.algebraic_KernelIdeal_ReferenceIdeal := fun m g m' g' hm ha =>
  ⟨fun c => Cert.KernelIdeal.Moe.atEnd m (Cert.KernelIdeal.Moe.theAdm m (inRange_KI m hm)) c Cert.KernelIdeal.main_v126,
    (θ_run _ _ _).mono (fun r h c => ⟨(h.1 c).2 Cert.KernelIdeal.main_v126 (Pipeline.mem_restRefs_of _ (by decide +kernel)
        (show ∀ w : Fin 8, Pipeline.arrRef Cert.KernelIdeal.spec0 w ≠ _ from by decide +kernel)), Cert.KernelIdeal.Moe.args_kept m _ r h.1 c⟩)
      (Cert.KernelIdeal.Moe.run_all m g (inRange_KI m hm)),
    (θ_run Cert.ReferenceIdeal.defs _ _).mono (fun r h c => ⟨(h c).1.trans
        (results_eq m m' hm c (ha c).1 (ha c).2.1 (ha c).2.2.1 (ha c).2.2.2.1 (ha c).2.2.2.2.1 (ha c).2.2.2.2.2), (h c).2⟩)
      (Cert.ReferenceIdeal.Value.run (F := Ideal) m' g')⟩

end Cert.Proof

end
-- ==== Proof.Two.Frames.lean ====
/- The second call's claims that are not about values: every run ends, every argument is as it began, every counter is at zero;
   and what the idealization replaced is what its rule says. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Read
public import proofs.«01_k».proof.Proof.Gen.Reference2Ideal.Run
public import Idealize.ShloMosaic.Lib.Bf16Pair
public import Idealize.ShloMosaic.Lib.Quiescent

@[expose] public section

noncomputable section

namespace Cert.Proof

open Idealize.ShloMosaic Idealize.SL.Sem

theorem frame_K2 : Cert.quiescent_Kernel2 := fun m g _ => Cert.Kernel2.Gen.frame m g

theorem frame_K2I : Cert.quiescent_Kernel2Ideal := fun m g _ => Cert.Kernel2Ideal.Gen.frame m g

theorem frame_R2I : Cert.quiescent_Reference2Ideal := fun m g _ =>
  (θ_run Cert.Reference2Ideal.defs _ _).mono (fun r h => ⟨fun c => (h c).2, sem_eq_zero_of_no_sems (by decide) r.2⟩) (Cert.Reference2Ideal.Value.run (F := Ideal) m g)

theorem preserves2 : Cert.preserves_Kernel2_Kernel2Ideal :=
  ⟨IdealRules.bf16_pair.statement Cert.Kernel2Ideal.S1x512x1024 Cert.Kernel2Ideal.S1x256x1024,
    IdealRules.bf16_pair.statement Cert.Kernel2Ideal.S512x1024 Cert.Kernel2Ideal.S256x1024⟩

end Cert.Proof

end
-- ==== Proof.Two.Value.lean ====
/- The second call's body over the extended reals, one element at a time: the experts' rows weighted and added, the modulated sum
   added to the residual stream, the row divided by its root mean square. -/
module

public import proofs.«01_k».proof.Proof.Gen.Kernel2Ideal
public import proofs.«01_k».proof.Proof.Gen.Kernel2Ideal.Value
public import Idealize.ShloMosaic.Lib.Pointwise
public import Idealize.ShloMosaic.Lib.Pipeline.ValueKit

@[expose] public section

set_option maxRecDepth 16384
set_option Elab.async false

noncomputable section

namespace Cert.Moe

open Idealize.ShloMosaic

/-- A token's new residual entry: the old one and the modulated sum of the four experts' entries by their gates. -/
def mix (x m : EReal) (y g : Fin 4 → EReal) : EReal := x + m * (y 0 * g 0 + y 1 * g 1 + y 2 * g 2 + y 3 * g 3)

/-- A row over its root mean square, scaled. -/
def rms (v w : Fin 2048 → EReal) (c : Fin 2048) : EReal :=
  v c * FloatOps.rsqrt (F := Ideal) (φ := .f32) (Ideal.div (∑ j, v j * v j) (FloatOps.ofBits (F := Ideal) .f32 0x45000000#32) + FloatOps.ofBits (F := Ideal) .f32 0x358637BD#32) * w c

end Cert.Moe

namespace Cert.Kernel2Ideal.Comb

open Cert.Kernel2Ideal Cert.Kernel2Ideal.Gen Cert.Moe
open Idealize.ShloMosaic Idealize.ShloMosaic.TcCoe Idealize.ShloMosaic.Tactic
open Idealize.SL Idealize.SL.RA
open Idealize.ShloMosaic.Pipeline (Dat Cfg Window)

theorem pay7_at (P0 : Vec Ideal S256x128 .f32) (P1 P2 P3 P4 : Vec Ideal S1x512x1024 .bf16) (P5 : Vec Ideal S256x2048 .f32) (P6 : Vec Ideal S1x1x2048 .f32) (r : Fin 256) (c : Fin 2048) :
    k0_pay7 (F := Ideal) (k0_pay2 P0) (k0_pay5 P0 P1 P2) (k0_pay6 P0 P1 P2) P3 P4 P5 P6 (ix2 r c)
      = mix (P5 (ix2 r c)) (P6 (ix3 0 0 c)) ![P1 (ix3 0 ⟨2 * r.val + c.val / 1024, by omega⟩ ⟨c.val % 1024, by omega⟩), P2 (ix3 0 ⟨2 * r.val + c.val / 1024, by omega⟩ ⟨c.val % 1024, by omega⟩),
          P3 (ix3 0 ⟨2 * r.val + c.val / 1024, by omega⟩ ⟨c.val % 1024, by omega⟩), P4 (ix3 0 ⟨2 * r.val + c.val / 1024, by omega⟩ ⟨c.val % 1024, by omega⟩)]
          ![P0 (ix2 r 0), P0 (ix2 r 1), P0 (ix2 r 2), P0 (ix2 r 3)] := by
  unfold k0_pay7 k0_pay5 k0_pay6 k0_pay3 k0_pay4 k0_pay2 mix
  pointwise
  by_cases h : c.val < 1024
  · have e0 : c.val / 1024 = 0 := by omega
    have e1 : c.val % 1024 = c.val := by omega
    simp only [h, e0, e1, dite_true, Nat.add_zero]
  · have e0 : c.val / 1024 = 1 := by omega
    have e1 : c.val % 1024 = c.val - 1024 := by omega
    simp only [h, e0, e1, dite_false]

theorem pay1_at (P0 : Vec Ideal S256x128 .f32) (P1 P2 P3 P4 : Vec Ideal S1x512x1024 .bf16) (P5 : Vec Ideal S256x2048 .f32) (P6 : Vec Ideal S1x1x2048 .f32) (P7 : Vec Ideal S1x2048 .f32)
    (r : Fin 256) (c : Fin 2048) (v w : Fin 2048 → EReal)
    (hv : ∀ c, k0_pay7 (F := Ideal) (k0_pay2 P0) (k0_pay5 P0 P1 P2) (k0_pay6 P0 P1 P2) P3 P4 P5 P6 (ix2 r c) = v c) (hw : ∀ c, P7 (ix2 0 c) = w c) :
    k0_pay1 (F := Ideal) (k0_pay7 (k0_pay2 P0) (k0_pay5 P0 P1 P2) (k0_pay6 P0 P1 P2) P3 P4 P5 P6) (k0_pay8 (k0_pay2 P0) (k0_pay5 P0 P1 P2) (k0_pay6 P0 P1 P2) P3 P4 P5 P6) P7 (ix2 r c)
      = rms v w c := by
  unfold k0_pay1 k0_pay8
  generalize k0_pay7 (F := Ideal) (k0_pay2 P0) (k0_pay5 P0 P1 P2) (k0_pay6 P0 P1 P2) P3 P4 P5 P6 = A at hv ⊢
  unfold rms
  rw [← funext hv, ← funext hw]
  pointwise

theorem v1_of (w : FVec Ideal S4x32768x2048 .f32) (k : Fin 4) (n : Fin 32768) (c : Fin 2048) :
    shapeCast S4x65536x1024 (truncf .bf16 w bitsLt_bf16_f32) shapeCasts_S4x32768x2048_S4x65536x1024 (ix3 k ⟨2 * n.val + c.val / 1024, by omega⟩ ⟨c.val % 1024, by omega⟩) = w (ix3 k n c) := by
  pointwise

theorem v2_of (w : FVec Ideal S8x4096x2048 .f32) (b : Fin 8) (t : Fin 4096) (c : Fin 2048) :
    shapeCast S32768x2048 w shapeCasts_S8x4096x2048_S32768x2048 (ix2 ⟨4096 * b.val + t.val, by omega⟩ c) = w (ix3 b t c) := by
  pointwise

theorem v3_of (w : FVec Ideal S32768x4 .f32) (z : FVec Ideal S_ .f32) (n : Fin 32768) (k : Fin 4) :
    pad S32768x128 ![0, 0] ![0, 124] ![0, 0] w z pads_S32768x4_S32768x128_000_01240 h_S_ (ix2 n ⟨k.val, by omega⟩) = w (ix2 n k) := by
  pointwise

theorem v4_of (w : FVec Ideal S2048 .f32) (c : Fin 2048) :
    shapeCast S1x2048 w shapeCasts_S2048_S1x2048 (ix2 0 c) = w (ix1 c) := by
  pointwise

section reads

variable (m : (ℓ : Loc nD τ sig) → Buf (Elt Ideal) ℓ) (d : Dev nD)

theorem e_v1 : (V m d main_v1 : FVec Ideal S4x65536x1024 .bf16) = shapeCast S4x65536x1024 (truncf (F := Ideal) .bf16 (m (d, Proc.devRef .tc main_arg1) : FVec Ideal S4x32768x2048 .f32) bitsLt_bf16_f32 : FVec Ideal S4x32768x2048 .bf16) shapeCasts_S4x32768x2048_S4x65536x1024 := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

theorem e_v2 : (V m d main_v2 : FVec Ideal S32768x2048 .f32) = shapeCast S32768x2048 (m (d, Proc.devRef .tc main_arg0) : FVec Ideal S8x4096x2048 .f32) shapeCasts_S8x4096x2048_S32768x2048 := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

theorem e_v3 : (V m d main_v3 : FVec Ideal S32768x128 .f32) = pad S32768x128 ![0, 0] ![0, 124] ![0, 0] (m (d, Proc.devRef .tc main_arg2) : FVec Ideal S32768x4 .f32)
    (sitofp .f32 (constantI S_ 32 0#32) : FVec Ideal S_ .f32) pads_S32768x4_S32768x128_000_01240 h_S_ := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

theorem e_v4 : (V m d main_v4 : FVec Ideal S1x2048 .f32) = shapeCast S1x2048 (m (d, Proc.devRef .tc main_arg4) : FVec Ideal S2048 .f32) shapeCasts_S2048_S1x2048 := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

/-- What the call is handed, in the arguments: the experts' rows, -/
theorem v1_at (k : Fin 4) (n : Fin 32768) (c : Fin 2048) :
    (V m d main_v1 : FVec Ideal S4x65536x1024 .bf16) (ix3 k ⟨2 * n.val + c.val / 1024, by omega⟩ ⟨c.val % 1024, by omega⟩) = (m (d, Proc.devRef .tc main_arg1) : FVec Ideal S4x32768x2048 .f32) (ix3 k n c) := by
  rw [e_v1]
  exact v1_of _ k n c

/-- the residual stream, -/
theorem v2_at (b : Fin 8) (t : Fin 4096) (c : Fin 2048) :
    (V m d main_v2 : FVec Ideal S32768x2048 .f32) (ix2 ⟨4096 * b.val + t.val, by omega⟩ c) = (m (d, Proc.devRef .tc main_arg0) : FVec Ideal S8x4096x2048 .f32) (ix3 b t c) := by
  rw [e_v2]
  exact v2_of _ b t c

/-- the gates -/
theorem v3_at (n : Fin 32768) (k : Fin 4) :
    (V m d main_v3 : FVec Ideal S32768x128 .f32) (ix2 n ⟨k.val, by omega⟩) = (m (d, Proc.devRef .tc main_arg2) : FVec Ideal S32768x4 .f32) (ix2 n k) := by
  rw [e_v3]
  exact v3_of _ _ n k

/-- and the scale. -/
theorem v4_at (c : Fin 2048) :
    (V m d main_v4 : FVec Ideal S1x2048 .f32) (ix2 0 c) = (m (d, Proc.devRef .tc main_arg4) : FVec Ideal S2048 .f32) (ix1 c) := by
  rw [e_v4]
  exact v4_of _ c

theorem ix_0 (t : Fin 128) : (win0_0.index t : Fin 2 → ℕ) = ![t.val, 0] := funext fun a => by
  match a with
  | ⟨0, _⟩ => exact (by decide +kernel : ∀ t : Fin 128, win0_0.index t 0 = t.val) t
  | ⟨1, _⟩ => exact (by decide +kernel : ∀ t : Fin 128, win0_0.index t 1 = 0) t
theorem ix_1 (t : Fin 128) : (win0_1.index t : Fin 3 → ℕ) = ![0, t.val, 0] := funext fun a => by
  match a with
  | ⟨0, _⟩ => exact (by decide +kernel : ∀ t : Fin 128, win0_1.index t 0 = 0) t
  | ⟨1, _⟩ => exact (by decide +kernel : ∀ t : Fin 128, win0_1.index t 1 = t.val) t
  | ⟨2, _⟩ => exact (by decide +kernel : ∀ t : Fin 128, win0_1.index t 2 = 0) t
theorem ix_2 (t : Fin 128) : (win0_2.index t : Fin 2 → ℕ) = ![t.val, 0] := funext fun a => by
  match a with
  | ⟨0, _⟩ => exact (by decide +kernel : ∀ t : Fin 128, win0_2.index t 0 = t.val) t
  | ⟨1, _⟩ => exact (by decide +kernel : ∀ t : Fin 128, win0_2.index t 1 = 0) t
theorem ix_3 (t : Fin 128) : (win0_3.index t : Fin 3 → ℕ) = ![t.val / 16, 0, 0] := funext fun a => by
  match a with
  | ⟨0, _⟩ => exact (by decide +kernel : ∀ t : Fin 128, win0_3.index t 0 = t.val / 16) t
  | ⟨1, _⟩ => exact (by decide +kernel : ∀ t : Fin 128, win0_3.index t 1 = 0) t
  | ⟨2, _⟩ => exact (by decide +kernel : ∀ t : Fin 128, win0_3.index t 2 = 0) t
theorem ix_4 (t : Fin 128) : (win0_4.index t : Fin 2 → ℕ) = ![0, 0] := funext fun a => by
  match a with
  | ⟨0, _⟩ => exact (by decide +kernel : ∀ t : Fin 128, win0_4.index t 0 = 0) t
  | ⟨1, _⟩ => exact (by decide +kernel : ∀ t : Fin 128, win0_4.index t 1 = 0) t
theorem ix_5 (t : Fin 128) : (win0_5.index t : Fin 2 → ℕ) = ![t.val, 0] := funext fun a => by
  match a with
  | ⟨0, _⟩ => exact (by decide +kernel : ∀ t : Fin 128, win0_5.index t 0 = t.val) t
  | ⟨1, _⟩ => exact (by decide +kernel : ∀ t : Fin 128, win0_5.index t 1 = 0) t

theorem ib0_at (t : Fin 128) (r : Fin 256) (c : Fin 2048) :
    (iblk m d 0 t : FVec Ideal S256x2048 .f32) (ix2 r c) = (V m d main_v2 : FVec Ideal S32768x2048 .f32) (ix2 ⟨256 * t.val + r.val, by omega⟩ c) := by
  refine congrArg (V m d main_v2 : FVec Ideal S32768x2048 .f32) (funext fun a => Fin.ext ((Window.rect_emb_val win0_0 t _ a rfl).trans ?_))
  rw [ix_0]
  match a with
  | ⟨0, _⟩ => show t.val * 256 + r.val = 256 * t.val + r.val; omega
  | ⟨1, _⟩ => show 0 * 2048 + c.val = c.val; omega

theorem ib1_at (t : Fin 128) (k : Fin 4) (r : Fin 512) (c : Fin 1024) :
    (iblk m d 1 t : FVec Ideal S4x512x1024 .bf16) (ix3 k r c) = (V m d main_v1 : FVec Ideal S4x65536x1024 .bf16) (ix3 k ⟨512 * t.val + r.val, by omega⟩ c) := by
  refine congrArg (V m d main_v1 : FVec Ideal S4x65536x1024 .bf16) (funext fun a => Fin.ext ((Window.rect_emb_val win0_1 t _ a rfl).trans ?_))
  rw [ix_1]
  match a with
  | ⟨0, _⟩ => show 0 * 4 + k.val = k.val; omega
  | ⟨1, _⟩ => show t.val * 512 + r.val = 512 * t.val + r.val; omega
  | ⟨2, _⟩ => show 0 * 1024 + c.val = c.val; omega

theorem ib2_at (t : Fin 128) (r : Fin 256) (k : Fin 128) :
    (iblk m d 2 t : FVec Ideal S256x128 .f32) (ix2 r k) = (V m d main_v3 : FVec Ideal S32768x128 .f32) (ix2 ⟨256 * t.val + r.val, by omega⟩ k) := by
  refine congrArg (V m d main_v3 : FVec Ideal S32768x128 .f32) (funext fun a => Fin.ext ((Window.rect_emb_val win0_2 t _ a rfl).trans ?_))
  rw [ix_2]
  match a with
  | ⟨0, _⟩ => show t.val * 256 + r.val = 256 * t.val + r.val; omega
  | ⟨1, _⟩ => show 0 * 128 + k.val = k.val; omega

theorem ib3_at (t : Fin 128) (c : Fin 2048) :
    (iblk m d 3 t : FVec Ideal S1x1x2048 .f32) (ix3 0 0 c) = (V m d main_arg3 : FVec Ideal S8x1x2048 .f32) (ix3 ⟨t.val / 16, by omega⟩ 0 c) := by
  refine congrArg (V m d main_arg3 : FVec Ideal S8x1x2048 .f32) (funext fun a => Fin.ext ((Window.rect_emb_val win0_3 t _ a rfl).trans ?_))
  rw [ix_3]
  match a with
  | ⟨0, _⟩ => show t.val / 16 * 1 + 0 = t.val / 16; omega
  | ⟨1, _⟩ => show 0 * 1 + 0 = 0; omega
  | ⟨2, _⟩ => show 0 * 2048 + c.val = c.val; omega

theorem ib4_at (t : Fin 128) (c : Fin 2048) :
    (iblk m d 4 t : FVec Ideal S1x2048 .f32) (ix2 0 c) = (V m d main_v4 : FVec Ideal S1x2048 .f32) (ix2 0 c) := by
  refine congrArg (V m d main_v4 : FVec Ideal S1x2048 .f32) (funext fun a => Fin.ext ((Window.rect_emb_val win0_4 t _ a rfl).trans ?_))
  rw [ix_4]
  match a with
  | ⟨0, _⟩ => show 0 * 1 + 0 = 0; omega
  | ⟨1, _⟩ => show 0 * 2048 + c.val = c.val; omega

end reads

end Cert.Kernel2Ideal.Comb

end
-- ==== Proof.Two.RefValue.lean ====
/- The second reference's result over the extended reals, one element at a time. -/
module

public import proofs.«01_k».proof.Proof.Two.Value
public import proofs.«01_k».proof.Proof.Gen.Reference2Ideal.Read

@[expose] public section

set_option maxRecDepth 16384
set_option Elab.async false

noncomputable section

namespace Cert.Reference2Ideal.Comb

open Cert.Reference2Ideal Cert.Reference2Ideal.Gen Cert.Reference2Ideal.Read Cert.Moe
open Idealize.ShloMosaic

theorem v4_at (x1 : FVec Ideal S4x32768x2048 .f32) (x2 : FVec Ideal S32768x4 .f32) (n : Fin 32768) (c : Fin 2048) :
    val_main_v4 (F := Ideal) x1 x2 (ix2 n c) = x1 (ix3 0 n c) * x2 (ix2 n 0) + x1 (ix3 1 n c) * x2 (ix2 n 1) + x1 (ix3 2 n c) * x2 (ix2 n 2) + x1 (ix3 3 n c) * x2 (ix2 n 3) := by
  rw [val_main_v4_apply, Fin.sum_univ_four]
  unfold val_main_cst val_main_v3 val_main_v2 val_main_v1 val_main_v0
  have h : ∀ k : Fin 4, idx_main_v4 (ix2 n c) k = ix3 k n c := fun k => funext fun a => by
    match a with
    | ⟨0, _⟩ => rfl
    | ⟨1, _⟩ => rfl
    | ⟨2, _⟩ => rfl
  rw [h, h, h, h]
  pointwise

theorem v8_at (x0 : FVec Ideal S8x4096x2048 .f32) (x1 : FVec Ideal S4x32768x2048 .f32) (x2 : FVec Ideal S32768x4 .f32) (x3 : FVec Ideal S8x1x2048 .f32) (b : Fin 8) (t : Fin 4096) (c : Fin 2048) :
    val_main_v8 (F := Ideal) x0 x1 x2 x3 (ix3 b t c) = mix (x0 (ix3 b t c)) (x3 (ix3 b 0 c)) (fun k => x1 (ix3 k ⟨4096 * b.val + t.val, by omega⟩ c)) (fun k => x2 (ix2 ⟨4096 * b.val + t.val, by omega⟩ k)) := by
  unfold val_main_v8 val_main_v7 val_main_v6 val_main_v5 mix
  have h := v4_at x1 x2 ⟨4096 * b.val + t.val, by omega⟩ c
  have hn : (⟨b.val * 4096 + t.val, by omega⟩ : Fin 32768) = ⟨4096 * b.val + t.val, by omega⟩ := Fin.ext (by show b.val * 4096 + t.val = 4096 * b.val + t.val; omega)
  generalize val_main_v4 (F := Ideal) x1 x2 = y at h ⊢
  rw [← h]
  pointwise
  rw [hn]

theorem res_at (x0 : FVec Ideal S8x4096x2048 .f32) (x1 : FVec Ideal S4x32768x2048 .f32) (x2 : FVec Ideal S32768x4 .f32) (x3 : FVec Ideal S8x1x2048 .f32) (x4 : FVec Ideal S2048 .f32) (b : Fin 8) (t : Fin 4096) (c : Fin 2048) :
    val_main_v22 (F := Ideal) x0 x1 x2 x3 x4 (ix2 ⟨4096 * b.val + t.val, by omega⟩ c)
      = rms (fun c => val_main_v8 (F := Ideal) x0 x1 x2 x3 (ix3 b t c)) (fun c => x4 (ix1 c)) c := by
  have hs := val_main_v10_apply x0 x1 x2 x3 (ix2 b t)
  have hi : ∀ k : Fin 2048, idx_main_v10 (ix2 b t) k = ix3 b t k := fun k => funext fun a => by
    match a with
    | ⟨0, _⟩ => rfl
    | ⟨1, _⟩ => rfl
    | ⟨2, _⟩ => rfl
  simp only [hi, val_main_v9_apply] at hs
  unfold val_main_v22 val_main_v21 val_main_v20 val_main_v19 val_main_v18 val_main_v17 val_main_v16 val_main_v15 val_main_v14 val_main_v13 val_main_v12 val_main_v11 val_main_cst_1 val_main_cst_2 rms
  generalize val_main_v10 (F := Ideal) x0 x1 x2 x3 = z at hs ⊢
  generalize val_main_v8 (F := Ideal) x0 x1 x2 x3 = y at hs ⊢
  have h0 : z (ix2 b t) = ∑ k : Fin 2048, y (ix3 b t k) * y (ix3 b t k) := by
    rw [hs]
    unfold val_main_cst_0
    pointwise
  pointwise
  rw [h0]

end Cert.Reference2Ideal.Comb

end
-- ==== Proof.Two.Algebraic.lean ====
/- The second call's value claim: over the extended reals its result is the reference's. -/
module

public import proofs.«01_k».proof.Proof.Two.Frames
public import proofs.«01_k».proof.Proof.Two.RefValue

@[expose] public section

set_option maxRecDepth 16384
set_option Elab.async false

noncomputable section

namespace Cert.Kernel2Ideal.Comb

open Cert.Kernel2Ideal Cert.Kernel2Ideal.Gen Cert.Kernel2Ideal.Value Cert.Moe
open Idealize.ShloMosaic Idealize.ShloMosaic.TcCoe
open Idealize.SL Idealize.SL.RA
open Idealize.ShloMosaic.Pipeline (Dat Cfg Window)

/-- The block a point stores, one element at a time, from the blocks it fetches. -/
theorem out_at (x0 : FVec Ideal S256x2048 .f32) (x1 : FVec Ideal S4x512x1024 .bf16) (x2 : FVec Ideal S256x128 .f32) (x3 : FVec Ideal S1x1x2048 .f32) (x4 : FVec Ideal S1x2048 .f32) (r : Fin 256) (c : Fin 2048) :
    out0_5 (F := Ideal) x0 x1 x2 x3 x4 (ix2 r c)
      = rms (fun c => mix (x0 (ix2 r c)) (x3 (ix3 0 0 c)) (fun k => x1 (ix3 k ⟨2 * r.val + c.val / 1024, by omega⟩ ⟨c.val % 1024, by omega⟩)) (fun k => x2 (ix2 r ⟨k.val, by omega⟩)))
          (fun c => x4 (ix2 0 c)) c := by
  unfold_out out0_5
  have hy : (ix2 r c : S256x2048.Idx) = r0_5.idx (ix2 r c) := funext fun a => Fin.ext (by
    match a with
    | ⟨0, _⟩ => show r.val = 0 + 1 * r.val; omega
    | ⟨1, _⟩ => show c.val = 0 + 1 * c.val; omega)
  refine (canon5_eq _ _ _ _ _ _ _ _ _).trans ((congrArg (E5 _ _ _ _ _ _ _ _) hy).trans ((piece5_0 _ _ _ _ _ _ _ _ _).symm.trans ?_))
  have ld2 : ∀ k : Fin 128, (View.ld (Val := Elt Ideal) (e' := .f32) x2 r0_0 : FVec Ideal S256x128 .f32) (ix2 r k) = x2 (ix2 r k) := fun k => by
    show x2 (r0_0.idx (ix2 r k)) = _
    exact congrArg x2 (funext fun a => Fin.ext (by
      match a with
      | ⟨0, _⟩ => show 0 + 1 * r.val = r.val; omega
      | ⟨1, _⟩ => show 0 + 1 * k.val = k.val; omega))
  have ld0 : ∀ c : Fin 2048, View.ld (Val := Elt Ideal) (e' := .f32) x0 r0_5 (ix2 r c) = x0 (ix2 r c) := fun c => congrArg x0 (funext fun a => Fin.ext (by
    match a with
    | ⟨0, _⟩ => show 0 + 1 * r.val = r.val; omega
    | ⟨1, _⟩ => show 0 + 1 * c.val = c.val; omega))
  have ld3 : ∀ c : Fin 2048, View.ld (Val := Elt Ideal) (e' := .f32) x3 r0_6 (ix3 0 0 c) = x3 (ix3 0 0 c) := fun c => congrArg x3 (funext fun a => Fin.ext (by
    match a with
    | ⟨0, _⟩ => rfl
    | ⟨1, _⟩ => rfl
    | ⟨2, _⟩ => show 0 + 1 * c.val = c.val; omega))
  have ld4 : ∀ c : Fin 2048, View.ld (Val := Elt Ideal) (e' := .f32) x4 r0_7 (ix2 0 c) = x4 (ix2 0 c) := fun c => congrArg x4 (funext fun a => Fin.ext (by
    match a with
    | ⟨0, _⟩ => rfl
    | ⟨1, _⟩ => show 0 + 1 * c.val = c.val; omega))
  have l0 : ∀ (q : Fin 512) (p : Fin 1024), View.ld (Val := Elt Ideal) (e' := .bf16) x1 r0_1 (ix3 0 q p) = x1 (ix3 0 q p) := fun q p => congrArg x1 (funext fun a => Fin.ext (by
    match a with
    | ⟨0, _⟩ => rfl
    | ⟨1, _⟩ => show 0 + 1 * q.val = q.val; omega
    | ⟨2, _⟩ => show 0 + 1 * p.val = p.val; omega))
  have l1 : ∀ (q : Fin 512) (p : Fin 1024), View.ld (Val := Elt Ideal) (e' := .bf16) x1 r0_2 (ix3 0 q p) = x1 (ix3 1 q p) := fun q p => congrArg x1 (funext fun a => Fin.ext (by
    match a with
    | ⟨0, _⟩ => rfl
    | ⟨1, _⟩ => show 0 + 1 * q.val = q.val; omega
    | ⟨2, _⟩ => show 0 + 1 * p.val = p.val; omega))
  have l2 : ∀ (q : Fin 512) (p : Fin 1024), View.ld (Val := Elt Ideal) (e' := .bf16) x1 r0_3 (ix3 0 q p) = x1 (ix3 2 q p) := fun q p => congrArg x1 (funext fun a => Fin.ext (by
    match a with
    | ⟨0, _⟩ => rfl
    | ⟨1, _⟩ => show 0 + 1 * q.val = q.val; omega
    | ⟨2, _⟩ => show 0 + 1 * p.val = p.val; omega))
  have l3 : ∀ (q : Fin 512) (p : Fin 1024), View.ld (Val := Elt Ideal) (e' := .bf16) x1 r0_4 (ix3 0 q p) = x1 (ix3 3 q p) := fun q p => congrArg x1 (funext fun a => Fin.ext (by
    match a with
    | ⟨0, _⟩ => rfl
    | ⟨1, _⟩ => show 0 + 1 * q.val = q.val; omega
    | ⟨2, _⟩ => show 0 + 1 * p.val = p.val; omega))
  refine pay1_at _ _ _ _ _ _ _ _ r c _ _ (fun c => (pay7_at _ _ _ _ _ _ _ r c).trans ?_) ld4
  rw [ld0, ld3, l0, l1, l2, l3, ld2, ld2, ld2, ld2]
  rfl

variable (m : (ℓ : Loc nD τ sig) → Buf (Elt Ideal) ℓ) (d : Dev nD)

/-- The array the call leaves, at a row of point `t`'s block. -/
theorem arr_at (t : Fin 128) (r : Fin 256) (c : Fin 2048) :
    ((dats m 0 d).arrAt 5 cfg0.N : FVec Ideal S32768x2048 .f32) (ix2 ⟨256 * t.val + r.val, by omega⟩ c)
      = out0_5 (F := Ideal) (iblk m d 0 t) (iblk m d 1 t) (iblk m d 2 t) (iblk m d 3 t) (iblk m d 4 t) (ix2 r c) := by
  have he : ((cfg0.win 5).blk t).view.emb (ix2 r c) = (ix2 ⟨256 * t.val + r.val, by omega⟩ c : S32768x2048.Idx) := by
    refine funext fun a => Fin.ext ((Window.rect_emb_val win0_5 t _ a rfl).trans ?_)
    rw [ix_5]
    match a with
    | ⟨0, _⟩ => show t.val * 256 + r.val = 256 * t.val + r.val; omega
    | ⟨1, _⟩ => show 0 * 2048 + c.val = c.val; omega
  refine (congrArg ((dats m 0 d).arrAt 5 cfg0.N : FVec Ideal S32768x2048 .f32) he.symm).trans ((congrFun (blocks5 m d t (flush0_5 t)) (ix2 r c)).trans ?_)
  exact congrFun (flushed5 m d t) (ix2 r c)

/-- The call's result at token `(b, s)`, in the arguments. -/
theorem result_at (b : Fin 8) (s : Fin 4096) (c : Fin 2048) :
    ((dats m 0 d).arrAt 5 cfg0.N : FVec Ideal S32768x2048 .f32) (ix2 ⟨4096 * b.val + s.val, by omega⟩ c)
      = rms (fun c => mix ((m (d, Proc.devRef .tc main_arg0) : FVec Ideal S8x4096x2048 .f32) (ix3 b s c)) ((m (d, Proc.devRef .tc main_arg3) : FVec Ideal S8x1x2048 .f32) (ix3 b 0 c))
            (fun k => (m (d, Proc.devRef .tc main_arg1) : FVec Ideal S4x32768x2048 .f32) (ix3 k ⟨4096 * b.val + s.val, by omega⟩ c))
            (fun k => (m (d, Proc.devRef .tc main_arg2) : FVec Ideal S32768x4 .f32) (ix2 ⟨4096 * b.val + s.val, by omega⟩ k)))
          (fun c => (m (d, Proc.devRef .tc main_arg4) : FVec Ideal S2048 .f32) (ix1 c)) c := by
  obtain ⟨t, ht⟩ : ∃ t : Fin 128, t.val = (4096 * b.val + s.val) / 256 := ⟨⟨(4096 * b.val + s.val) / 256, by omega⟩, rfl⟩
  obtain ⟨r, hr⟩ : ∃ r : Fin 256, r.val = (4096 * b.val + s.val) % 256 := ⟨⟨(4096 * b.val + s.val) % 256, by omega⟩, rfl⟩
  have hn : (⟨4096 * b.val + s.val, by omega⟩ : Fin 32768) = ⟨256 * t.val + r.val, by omega⟩ := Fin.ext (by show 4096 * b.val + s.val = 256 * t.val + r.val; omega)
  have hb : (⟨t.val / 16, by omega⟩ : Fin 8) = b := Fin.ext (by show t.val / 16 = b.val; omega)
  refine (congrArg (fun n => ((dats m 0 d).arrAt 5 cfg0.N : FVec Ideal S32768x2048 .f32) (ix2 n c)) hn).trans ((arr_at m d t r c).trans ((out_at _ _ _ _ _ r c).trans ?_))
  refine congrFun (congrArg₂ rms (funext fun c => ?_) (funext fun c => (ib4_at m d t c).trans (v4_at m d c))) c
  have e0 := (ib0_at m d t r c).trans ((congrArg (fun n => (V m d main_v2 : FVec Ideal S32768x2048 .f32) (ix2 n c)) hn.symm).trans (v2_at m d b s c))
  have e3 := (ib3_at m d t c).trans ((congrArg (fun b => (V m d main_arg3 : FVec Ideal S8x1x2048 .f32) (ix3 b 0 c)) hb).trans (congrFun (V_main_arg3 m d) (ix3 b 0 c)))
  have e1 : ∀ k : Fin 4, _ := fun k => (ib1_at m d t k ⟨2 * r.val + c.val / 1024, by omega⟩ ⟨c.val % 1024, by omega⟩).trans
    ((congrArg (fun n => (V m d main_v1 : FVec Ideal S4x65536x1024 .bf16) (ix3 k n ⟨c.val % 1024, by omega⟩))
      (Fin.ext (by show 512 * t.val + (2 * r.val + c.val / 1024) = 2 * (4096 * b.val + s.val) + c.val / 1024; omega) :
        (⟨512 * t.val + (2 * r.val + c.val / 1024), by omega⟩ : Fin 65536) = ⟨2 * (4096 * b.val + s.val) + c.val / 1024, by omega⟩)).trans (v1_at m d k ⟨4096 * b.val + s.val, by omega⟩ c))
  have e2 : ∀ k : Fin 4, _ := fun k => (ib2_at m d t r ⟨k.val, by omega⟩).trans
    ((congrArg (fun n => (V m d main_v3 : FVec Ideal S32768x128 .f32) (ix2 n ⟨k.val, by omega⟩)) hn.symm).trans (v3_at m d ⟨4096 * b.val + s.val, by omega⟩ k))
  rw [funext e1, funext e2]
  exact congrArg₂ (fun x y => mix x y _ _) e0 e3

end Cert.Kernel2Ideal.Comb

namespace Cert.Proof

open Idealize.ShloMosaic Idealize.SL.Sem

/-- The two results of the second call, from memories whose arguments agree. -/
theorem results2_eq (m : (ℓ : Loc Cert.Kernel2Ideal.nD Cert.Kernel2Ideal.τ Cert.Kernel2Ideal.sig) → Buf (Elt Ideal) ℓ) (d : Dev Cert.Kernel2Ideal.nD)
    (x0 : FVec Ideal Cert.Kernel2Ideal.S8x4096x2048 .f32) (x1 : FVec Ideal Cert.Kernel2Ideal.S4x32768x2048 .f32) (x2 : FVec Ideal Cert.Kernel2Ideal.S32768x4 .f32)
    (x3 : FVec Ideal Cert.Kernel2Ideal.S8x1x2048 .f32) (x4 : FVec Ideal Cert.Kernel2Ideal.S2048 .f32)
    (h0 : x0 = m ((d.tc : Thread Cert.Kernel2Ideal.nD Cert.Kernel2Ideal.τ).loc Cert.Kernel2Ideal.main_arg0))
    (h1 : x1 = m ((d.tc : Thread Cert.Kernel2Ideal.nD Cert.Kernel2Ideal.τ).loc Cert.Kernel2Ideal.main_arg1))
    (h2 : x2 = m ((d.tc : Thread Cert.Kernel2Ideal.nD Cert.Kernel2Ideal.τ).loc Cert.Kernel2Ideal.main_arg2))
    (h3 : x3 = m ((d.tc : Thread Cert.Kernel2Ideal.nD Cert.Kernel2Ideal.τ).loc Cert.Kernel2Ideal.main_arg3))
    (h4 : x4 = m ((d.tc : Thread Cert.Kernel2Ideal.nD Cert.Kernel2Ideal.τ).loc Cert.Kernel2Ideal.main_arg4)) :
    (Cert.Reference2Ideal.Read.val_main_v22 (F := Ideal) x0 x1 x2 x3 x4 : FVec Ideal Cert.Kernel2Ideal.S32768x2048 .f32)
      = (Cert.Kernel2Ideal.Gen.dats m 0 d).arrAt 5 Cert.Kernel2Ideal.cfg0.N := by
  funext j
  obtain ⟨n, c, rfl⟩ : ∃ (n : Fin 32768) (c : Fin 2048), j = ix2 n c := ⟨j 0, j 1, funext fun a => by
    match a with
    | ⟨0, _⟩ => rfl
    | ⟨1, _⟩ => rfl⟩
  obtain ⟨b, s, rfl⟩ : ∃ (b : Fin 8) (s : Fin 4096), n = ⟨4096 * b.val + s.val, by omega⟩ :=
    ⟨⟨n.val / 4096, by omega⟩, ⟨n.val % 4096, by omega⟩, Fin.ext (by show n.val = 4096 * (n.val / 4096) + n.val % 4096; omega)⟩
  refine (Cert.Reference2Ideal.Comb.res_at x0 x1 x2 x3 x4 b s c).trans (Eq.trans ?_ (Cert.Kernel2Ideal.Comb.result_at m d b s c).symm)
  refine congrFun (congrArg₂ Cert.Moe.rms (funext fun c => (Cert.Reference2Ideal.Comb.v8_at x0 x1 x2 x3 b s c).trans ?_) (funext fun c => congrFun h4 (ix1 c))) c
  rw [h0, h1, h2, h3]

theorem algebraic2 : Cert.algebraic_Kernel2Ideal_Reference2Ideal := fun m g m' g' _ ha =>
  ⟨fun c => (Cert.Kernel2Ideal.Gen.dats m 0 c).arrAt 5 Cert.Kernel2Ideal.cfg0.N,
    Cert.Kernel2Ideal.Value.run_blocks m g,
    (θ_run Cert.Reference2Ideal.defs _ _).mono (fun r h c => ⟨(h c).1.trans ((Cert.Reference2Ideal.Read.val_main_v22_eq _ _ _ _ _).trans
        (results2_eq m c _ _ _ _ _ (ha c).1 (ha c).2.1 (ha c).2.2.1 (ha c).2.2.2.1 (ha c).2.2.2.2)), (h c).2⟩)
      (Cert.Reference2Ideal.Value.run (F := Ideal) m' g')⟩

end Cert.Proof

end
-- ==== Proof.Three.Frames.lean ====
/- The third call's claims that are not about values: every run ends, every argument is as it began, every counter is at zero. -/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Read
public import proofs.«01_k».proof.Proof.Gen.Reference3Ideal.Run
public import Idealize.ShloMosaic.Lib.Quiescent

@[expose] public section

noncomputable section

namespace Cert.Proof

open Idealize.ShloMosaic Idealize.SL.Sem

theorem frame_K3 : Cert.quiescent_Kernel3 := fun m g _ => Cert.Kernel3.Gen.frame m g

theorem frame_K3I : Cert.quiescent_Kernel3Ideal := fun m g _ => Cert.Kernel3Ideal.Gen.frame m g

theorem frame_R3I : Cert.quiescent_Reference3Ideal := fun m g _ =>
  (θ_run Cert.Reference3Ideal.defs _ _).mono (fun r h => ⟨fun c => (h c).2, sem_eq_zero_of_no_sems (by decide) r.2⟩) (Cert.Reference3Ideal.Value.run (F := Ideal) m g)

theorem preserves3 : Cert.preserves_Kernel3_Kernel3Ideal := trivial

end Cert.Proof

end
-- ==== Proof.Three.Value.lean ====
/- The third call over the extended reals, one element at a time: the rows divided by their root mean square and modulated once per
   row block, kept in the scratch, and multiplied by every column block of the weight. -/
module

public import proofs.«01_k».proof.Proof.Three.Frames
public import proofs.«01_k».proof.Proof.Two.Value
public import proofs.«01_k».proof.Proof.Gen.Reference3Ideal.Read

@[expose] public section

set_option maxRecDepth 16384
set_option Elab.async false

noncomputable section

namespace Cert.Moe

open Idealize.ShloMosaic

/-- A row over its root mean square, modulated. -/
def nrm (x g sh sc : Fin 2048 → EReal) (c : Fin 2048) : EReal := rms x g c * (FloatOps.ofBits (F := Ideal) .f32 0x3F800000#32 + sc c) + sh c

end Cert.Moe

namespace Cert.Kernel3Ideal.Proj

open Cert.Kernel3Ideal Cert.Kernel3Ideal.Gen Cert.Kernel3Ideal.Value Cert.Moe
open Idealize.ShloMosaic Idealize.ShloMosaic.TcCoe Idealize.ShloMosaic.Tactic
open Idealize.SL Idealize.SL.RA
open Idealize.ShloMosaic.Pipeline (Dat Cfg Window)

theorem pay1_at (X : Vec Ideal S1024x2048 .f32) (G : Vec Ideal S1x2048 .f32) (SH SC : Vec Ideal S1x1x2048 .f32) (r : Fin 1024) (c : Fin 2048) :
    k0_pay1 (F := Ideal) X G SH SC (ix2 r c) = nrm (fun c => X (ix2 r c)) (fun c => G (ix2 0 c)) (fun c => SH (ix3 0 0 c)) (fun c => SC (ix3 0 0 c)) c := by
  unfold k0_pay1 nrm rms
  pointwise

theorem pay2_at (H : Vec Ideal S1024x2048 .bf16) (W : Vec Ideal S2048x1024 .bf16) (r q : Fin 1024) :
    k0_pay2 (F := Ideal) H W (ix2 r q) = ∑ k : Fin 2048, H (ix2 r k) * W (ix2 k q) := by
  unfold k0_pay2
  pointwise

theorem v0_of (w : FVec Ideal S8x4096x2048 .f32) (b : Fin 8) (t : Fin 4096) (c : Fin 2048) :
    shapeCast S32768x2048 w shapeCasts_S8x4096x2048_S32768x2048 (ix2 ⟨4096 * b.val + t.val, by omega⟩ c) = w (ix3 b t c) := by
  pointwise

theorem v1_of (w : FVec Ideal S2048 .f32) (c : Fin 2048) : shapeCast S1x2048 w shapeCasts_S2048_S1x2048 (ix2 0 c) = w (ix1 c) := by
  pointwise

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (d : Dev nD)

/-- At a row block's first point the scratch is filled, -/
theorem st_A (t : Fin cfg0.N) (h0 : t.val % 8 = 0) :
    outsAt0 m d t.val t.isLt = (k0_pay2 (F := Ideal) (k0_pay1 (iblk m d 0 t) (iblk m d 1 t) (iblk m d 2 t) (iblk m d 3 t)) (iblk m d 4 t),
      k0_pay1 (iblk m d 0 t) (iblk m d 1 t) (iblk m d 2 t) (iblk m d 3 t)) := by
  rw [outsAt0_A m d t h0]
  refine Prod.ext ?_ ?_
  · dsimp only
    unfold out0_A_5
    rw [View.read_writes_junk_eq_canon]
    unfold kernelRun0_A
    dsimp only
    sl_unfold_words
    rw [View.canon_unit_zero hz2, View.readCov_unit_zero _ hz2]
    simp only [View.readAt_eq_ld, Memref.IsWhole.read_unread, View.ld_unit_zero (S := S1024x2048) hz2, View.ld_unit_zero (S := S1x2048) hz2, View.ld_unit_zero (S := S1x1x2048) hz3, View.ld_unit_zero (S := S2048x1024) hz2]
  · dsimp only
    unfold sout0_A_0
    rw [View.read_writes_junk_eq_canon]
    unfold kernelRun0_A
    dsimp only
    sl_unfold_words
    rw [View.canon_unit_zero hz2]
    simp only [View.readAt_eq_ld, Memref.IsWhole.read_unread, View.ld_unit_zero (S := S1024x2048) hz2, View.ld_unit_zero (S := S1x2048) hz2, View.ld_unit_zero (S := S1x1x2048) hz3]

/-- at the others it is read as the point before left it. -/
theorem st_B (t : Fin cfg0.N) (h0 : ¬t.val % 8 = 0) :
    outsAt0 m d t.val t.isLt = (k0_pay2 (F := Ideal) (outsAt0 m d (t.val - 1) (Nat.lt_of_le_of_lt (Nat.sub_le _ _) t.isLt)).2 (iblk m d 4 t),
      (outsAt0 m d (t.val - 1) (Nat.lt_of_le_of_lt (Nat.sub_le _ _) t.isLt)).2) := by
  rw [outsAt0_B m d t h0]
  refine Prod.ext ?_ rfl
  dsimp only
  generalize (outsAt0 m d (t.val - 1) (Nat.lt_of_le_of_lt (Nat.sub_le _ _) t.isLt)).2 = s
  unfold out0_B_5
  rw [View.read_writes_junk_eq_canon]
  unfold kernelRun0_B
  dsimp only
  sl_unfold_words
  rw [View.canon_unit_zero hz2]
  simp only [View.readAt_eq_ld, Memref.IsWhole.read_unread, View.ld_unit_zero (S := S1024x2048) hz2, View.ld_unit_zero (S := S2048x1024) hz2]
  exact congrArg (fun z => k0_pay2 (F := Ideal) z _) ((Memref.isWhole_whole cc0_scratch0).read_unread s)

/-- So after every point of a row block the scratch holds what its first point stored, and the output their product with the point's column block. -/
theorem st_eq : ∀ (n : ℕ) (h : n < cfg0.N) (h' : 8 * (n / 8) < cfg0.N),
    outsAt0 m d n h = (k0_pay2 (F := Ideal) (k0_pay1 (iblk m d 0 ⟨8 * (n / 8), h'⟩) (iblk m d 1 ⟨8 * (n / 8), h'⟩) (iblk m d 2 ⟨8 * (n / 8), h'⟩) (iblk m d 3 ⟨8 * (n / 8), h'⟩)) (iblk m d 4 ⟨n, h⟩),
      k0_pay1 (iblk m d 0 ⟨8 * (n / 8), h'⟩) (iblk m d 1 ⟨8 * (n / 8), h'⟩) (iblk m d 2 ⟨8 * (n / 8), h'⟩) (iblk m d 3 ⟨8 * (n / 8), h'⟩)) := by
  intro n
  induction n with
  | zero => exact fun h _ => st_A m d ⟨0, h⟩ rfl
  | succ k ih =>
    intro h h'
    by_cases h0 : (k + 1) % 8 = 0
    · have e : (⟨8 * ((k + 1) / 8), h'⟩ : Fin cfg0.N) = ⟨k + 1, h⟩ := Fin.ext (by show 8 * ((k + 1) / 8) = k + 1; omega)
      rw [e]
      exact st_A m d ⟨k + 1, h⟩ h0
    · have e : (k + 1) / 8 = k / 8 := by omega
      have hp := ih (Nat.lt_of_succ_lt h) (by omega)
      have hb := st_B m d ⟨k + 1, h⟩ h0
      have eu : (⟨8 * ((k + 1) / 8), h'⟩ : Fin cfg0.N) = ⟨8 * (k / 8), by omega⟩ := Fin.ext (congrArg (8 * ·) e)
      rw [eu]
      refine hb.trans ?_
      show (k0_pay2 (F := Ideal) (outsAt0 m d k (Nat.lt_of_succ_lt h)).2 _, (outsAt0 m d k (Nat.lt_of_succ_lt h)).2) = _
      rw [hp]

theorem ib0_at (t : Fin 256) (r : Fin 1024) (c : Fin 2048) :
    (iblk m d 0 t : FVec Ideal S1024x2048 .f32) (ix2 r c) = (V m d main_v0 : FVec Ideal S32768x2048 .f32) (ix2 ⟨1024 * (t.val / 8) + r.val, by omega⟩ c) := by
  refine congrArg (V m d main_v0 : FVec Ideal S32768x2048 .f32) (funext fun a => Fin.ext ((Window.rect_emb_val win0_0 t _ a rfl).trans ?_))
  match a with
  | ⟨0, _⟩ => rw [show win0_0.index t ⟨0, _⟩ = t.val / 8 from (by decide +kernel : ∀ t : Fin 256, win0_0.index t 0 = t.val / 8) t]; show t.val / 8 * 1024 + r.val = 1024 * (t.val / 8) + r.val; omega
  | ⟨1, _⟩ => show 0 * 2048 + c.val = c.val; omega

theorem ib1_at (t : Fin 256) (c : Fin 2048) :
    (iblk m d 1 t : FVec Ideal S1x2048 .f32) (ix2 0 c) = (V m d main_v1 : FVec Ideal S1x2048 .f32) (ix2 0 c) := by
  refine congrArg (V m d main_v1 : FVec Ideal S1x2048 .f32) (funext fun a => Fin.ext ((Window.rect_emb_val win0_1 t _ a rfl).trans ?_))
  match a with
  | ⟨0, _⟩ => rfl
  | ⟨1, _⟩ => show 0 * 2048 + c.val = c.val; omega

theorem ib2_at (t : Fin 256) (c : Fin 2048) :
    (iblk m d 2 t : FVec Ideal S1x1x2048 .f32) (ix3 0 0 c) = (V m d main_arg2 : FVec Ideal S8x1x2048 .f32) (ix3 ⟨t.val / 32, by omega⟩ 0 c) := by
  refine congrArg (V m d main_arg2 : FVec Ideal S8x1x2048 .f32) (funext fun a => Fin.ext ((Window.rect_emb_val win0_2 t _ a rfl).trans ?_))
  match a with
  | ⟨0, _⟩ => rw [show win0_2.index t ⟨0, _⟩ = t.val / 32 from (by decide +kernel : ∀ t : Fin 256, win0_2.index t 0 = t.val / 32) t]; show t.val / 32 * 1 + 0 = t.val / 32; omega
  | ⟨1, _⟩ => rfl
  | ⟨2, _⟩ => show 0 * 2048 + c.val = c.val; omega

theorem ib3_at (t : Fin 256) (c : Fin 2048) :
    (iblk m d 3 t : FVec Ideal S1x1x2048 .f32) (ix3 0 0 c) = (V m d main_arg3 : FVec Ideal S8x1x2048 .f32) (ix3 ⟨t.val / 32, by omega⟩ 0 c) := by
  refine congrArg (V m d main_arg3 : FVec Ideal S8x1x2048 .f32) (funext fun a => Fin.ext ((Window.rect_emb_val win0_3 t _ a rfl).trans ?_))
  match a with
  | ⟨0, _⟩ => rw [show win0_3.index t ⟨0, _⟩ = t.val / 32 from (by decide +kernel : ∀ t : Fin 256, win0_3.index t 0 = t.val / 32) t]; show t.val / 32 * 1 + 0 = t.val / 32; omega
  | ⟨1, _⟩ => rfl
  | ⟨2, _⟩ => show 0 * 2048 + c.val = c.val; omega

theorem ib4_at (t : Fin 256) (k : Fin 2048) (q : Fin 1024) :
    (iblk m d 4 t : FVec Ideal S2048x1024 .bf16) (ix2 k q) = (V m d main_v2 : FVec Ideal S2048x8192 .bf16) (ix2 k ⟨1024 * (t.val % 8) + q.val, by omega⟩) := by
  refine congrArg (V m d main_v2 : FVec Ideal S2048x8192 .bf16) (funext fun a => Fin.ext ((Window.rect_emb_val win0_4 t _ a rfl).trans ?_))
  match a with
  | ⟨0, _⟩ => show 0 * 2048 + k.val = k.val; omega
  | ⟨1, _⟩ => rw [show win0_4.index t ⟨1, _⟩ = t.val % 8 from (by decide +kernel : ∀ t : Fin 256, win0_4.index t 1 = t.val % 8) t]; show t.val % 8 * 1024 + q.val = 1024 * (t.val % 8) + q.val; omega

theorem e_v0 : (V m d main_v0 : FVec Ideal S32768x2048 .f32) = shapeCast S32768x2048 (m (d, Proc.devRef .tc main_arg0) : FVec Ideal S8x4096x2048 .f32) shapeCasts_S8x4096x2048_S32768x2048 := by
  simp only [V, hostOps0, List.flatten_cons, List.flatten_nil, List.append_nil, List.cons_append, List.nil_append, StableHlo.TRef.binary, StableHlo.TRef.unary, StableHlo.TRef.toBuf, StableHlo.TRef.ofBuf, cast_eq]
  after_results_simp <;> rfl

theorem e_v1 : (V m d main_v1 : FVec Ideal S1x2048 .f32) = shapeCast S1x2048 (m (d, Proc.devRef .tc main_arg1) : FVec Ideal S2048 .f32) shapeCasts_S2048_S1x2048 := by
  simp only [V, hostOps0, List.flatten_cons, List.flatten_nil, List.append_nil, List.cons_append, List.nil_append, StableHlo.TRef.binary, StableHlo.TRef.unary, StableHlo.TRef.toBuf, StableHlo.TRef.ofBuf, cast_eq]
  after_results_simp <;> rfl

theorem e_v2 : (V m d main_v2 : FVec Ideal S2048x8192 .bf16) = truncf (F := Ideal) .bf16 (m (d, Proc.devRef .tc main_arg4) : FVec Ideal S2048x8192 .f32) bitsLt_bf16_f32 := by
  simp only [V, hostOps0, List.flatten_cons, List.flatten_nil, List.append_nil, List.cons_append, List.nil_append, StableHlo.TRef.binary, StableHlo.TRef.unary, StableHlo.TRef.toBuf, StableHlo.TRef.ofBuf, cast_eq]
  after_results_simp <;> rfl

/-- The call's result at token `(b, s)` and column `q`, in the arguments. -/
theorem result_at (b : Fin 8) (s : Fin 4096) (q : Fin 8192) :
    (G5 m d : FVec Ideal S32768x8192 .bf16) (ix2 ⟨4096 * b.val + s.val, by omega⟩ q)
      = ∑ k : Fin 2048, nrm (fun c => (m (d, Proc.devRef .tc main_arg0) : FVec Ideal S8x4096x2048 .f32) (ix3 b s c)) (fun c => (m (d, Proc.devRef .tc main_arg1) : FVec Ideal S2048 .f32) (ix1 c))
          (fun c => (m (d, Proc.devRef .tc main_arg2) : FVec Ideal S8x1x2048 .f32) (ix3 b 0 c)) (fun c => (m (d, Proc.devRef .tc main_arg3) : FVec Ideal S8x1x2048 .f32) (ix3 b 0 c)) k
          * (m (d, Proc.devRef .tc main_arg4) : FVec Ideal S2048x8192 .f32) (ix2 k q) := by
  obtain ⟨t, ht⟩ : ∃ t : Fin 256, t.val = 8 * ((4096 * b.val + s.val) / 1024) + q.val / 1024 := ⟨⟨8 * ((4096 * b.val + s.val) / 1024) + q.val / 1024, by omega⟩, rfl⟩
  obtain ⟨u, hu⟩ : ∃ u : Fin 256, u.val = 8 * (t.val / 8) := ⟨⟨8 * (t.val / 8), by omega⟩, rfl⟩
  obtain ⟨r, hr⟩ : ∃ r : Fin 1024, r.val = (4096 * b.val + s.val) % 1024 := ⟨⟨(4096 * b.val + s.val) % 1024, by omega⟩, rfl⟩
  obtain ⟨p, hp⟩ : ∃ p : Fin 1024, p.val = q.val % 1024 := ⟨⟨q.val % 1024, by omega⟩, rfl⟩
  have hn : (⟨1024 * (u.val / 8) + r.val, by omega⟩ : Fin 32768) = ⟨4096 * b.val + s.val, by omega⟩ := Fin.ext (by show 1024 * (u.val / 8) + r.val = 4096 * b.val + s.val; omega)
  have hb : (⟨u.val / 32, by omega⟩ : Fin 8) = b := Fin.ext (by show u.val / 32 = b.val; omega)
  have hq : (⟨1024 * (t.val % 8) + p.val, by omega⟩ : Fin 8192) = q := Fin.ext (by show 1024 * (t.val % 8) + p.val = q.val; omega)
  have hG : (G5 m d : FVec Ideal S32768x8192 .bf16) (ix2 ⟨4096 * b.val + s.val, by omega⟩ q) = (outsAt0 m d t.val t.isLt).1 (ix2 r p) := by
    have hpt : pt5Of (ix2 ⟨4096 * b.val + s.val, by omega⟩ q) = t.val := by
      show 8 * ((4096 * b.val + s.val) / 1024 - 0) + 1 * (q.val / 1024 - 0) = t.val
      omega
    have hl : loc5Of (ix2 ⟨4096 * b.val + s.val, by omega⟩ q) = ix2 r p := funext fun a => Fin.ext (by
      match a with
      | ⟨0, _⟩ => exact hr.symm
      | ⟨1, _⟩ => exact hp.symm)
    unfold G5
    rw [dif_pos (by rw [hpt]; exact t.isLt), hl, outsAt0_sweep m d t.val t.isLt, fold0_congr m d _ _ _ _ hpt]
  refine hG.trans ((congrFun (congrArg Prod.fst (st_eq m d t.val t.isLt (by rw [← hu]; exact u.isLt))) (ix2 r p)).trans ((pay2_at _ _ r p).trans (Finset.sum_congr rfl fun k _ => ?_)))
  have eu : (⟨8 * (t.val / 8), by rw [← hu]; exact u.isLt⟩ : Fin cfg0.N) = u := Fin.ext hu.symm
  rw [eu, pay1_at]
  have e0 : ∀ c, _ := fun c => (ib0_at m d u r c).trans ((congrArg (fun n => (V m d main_v0 : FVec Ideal S32768x2048 .f32) (ix2 n c)) hn).trans ((congrFun (e_v0 m d) _).trans (v0_of _ b s c)))
  have e1 : ∀ c, _ := fun c => (ib1_at m d u c).trans ((congrFun (e_v1 m d) _).trans (v1_of _ c))
  have e2 : ∀ c, _ := fun c => (ib2_at m d u c).trans ((congrArg (fun b => (V m d main_arg2 : FVec Ideal S8x1x2048 .f32) (ix3 b 0 c)) hb).trans (congrFun (V_main_arg2 m d) (ix3 b 0 c)))
  have e3 : ∀ c, _ := fun c => (ib3_at m d u c).trans ((congrArg (fun b => (V m d main_arg3 : FVec Ideal S8x1x2048 .f32) (ix3 b 0 c)) hb).trans (congrFun (V_main_arg3 m d) (ix3 b 0 c)))
  have e4 := (ib4_at m d t k p).trans ((congrArg (fun q => (V m d main_v2 : FVec Ideal S2048x8192 .bf16) (ix2 k q)) hq).trans (congrFun (e_v2 m d) _))
  rw [funext e0, funext e1, funext e2, funext e3]
  exact congrArg _ e4

end Cert.Kernel3Ideal.Proj

end
-- ==== Proof.Three.Algebraic.lean ====
/- The third call's value claim: over the extended reals its result is the reference's. -/
module

public import proofs.«01_k».proof.Proof.Three.Value

@[expose] public section

set_option maxRecDepth 16384
set_option Elab.async false

noncomputable section

namespace Cert.Reference3Ideal.Proj

open Cert.Reference3Ideal Cert.Reference3Ideal.Gen Cert.Reference3Ideal.Read Cert.Moe
open Idealize.ShloMosaic

theorem v18_at (x0 : FVec Ideal S8x4096x2048 .f32) (x1 : FVec Ideal S2048 .f32) (x2 x3 : FVec Ideal S8x1x2048 .f32) (b : Fin 8) (t : Fin 4096) (c : Fin 2048) :
    val_main_v18 (F := Ideal) x0 x1 x2 x3 (ix3 b t c) = nrm (fun c => x0 (ix3 b t c)) (fun c => x1 (ix1 c)) (fun c => x2 (ix3 b 0 c)) (fun c => x3 (ix3 b 0 c)) c := by
  have hs := val_main_v1_apply x0 (ix2 b t)
  have hi : ∀ k : Fin 2048, idx_main_v1 (ix2 b t) k = ix3 b t k := fun k => funext fun a => by
    match a with
    | ⟨0, _⟩ => rfl
    | ⟨1, _⟩ => rfl
    | ⟨2, _⟩ => rfl
  simp only [hi, val_main_v0_apply] at hs
  unfold val_main_v18 val_main_v17 val_main_v16 val_main_v15 val_main_v14 val_main_v13 val_main_v12 val_main_v11 val_main_v10 val_main_v9 val_main_v8 val_main_v7 val_main_v6 val_main_v5 val_main_v4 val_main_v3 val_main_v2 val_main_cst_0 val_main_cst_1 val_main_cst_2 nrm rms
  generalize val_main_v1 (F := Ideal) x0 = z at hs ⊢
  have h0 : z (ix2 b t) = ∑ k : Fin 2048, x0 (ix3 b t k) * x0 (ix3 b t k) := by
    rw [hs]
    unfold val_main_cst
    pointwise
  pointwise
  rw [h0]

theorem res_at (x0 : FVec Ideal S8x4096x2048 .f32) (x1 : FVec Ideal S2048 .f32) (x2 x3 : FVec Ideal S8x1x2048 .f32) (x4 : FVec Ideal S2048x8192 .f32) (b : Fin 8) (t : Fin 4096) (q : Fin 8192) :
    val_main_v21 (F := Ideal) x0 x1 x2 x3 x4 (ix2 ⟨4096 * b.val + t.val, by omega⟩ q)
      = ∑ k : Fin 2048, nrm (fun c => x0 (ix3 b t c)) (fun c => x1 (ix1 c)) (fun c => x2 (ix3 b 0 c)) (fun c => x3 (ix3 b 0 c)) k * x4 (ix2 k q) := by
  refine (val_main_v20_apply x0 x1 x2 x3 x4 _).trans (Finset.sum_congr rfl fun k _ => ?_)
  have hl : idx_main_v19 (lidx_main_v20 (ix2 ⟨4096 * b.val + t.val, by omega⟩ q) k) = ix3 b t k := funext fun a => Fin.ext (by
    match a with
    | ⟨0, _⟩ => show ((4096 * b.val + t.val) * 2048 + k.val) / 8388608 = b.val; omega
    | ⟨1, _⟩ => show ((4096 * b.val + t.val) * 2048 + k.val) / 2048 % 4096 = t.val; omega
    | ⟨2, _⟩ => show ((4096 * b.val + t.val) * 2048 + k.val) % 2048 = k.val; omega)
  have hr : ridx_main_v20 (ix2 ⟨4096 * b.val + t.val, by omega⟩ q) k = ix2 k q := funext fun a => by
    match a with
    | ⟨0, _⟩ => rfl
    | ⟨1, _⟩ => rfl
  rw [val_main_v19_apply, hl, hr, v18_at]

end Cert.Reference3Ideal.Proj

namespace Cert.Proof

open Idealize.ShloMosaic Idealize.SL.Sem

theorem results3_eq (m : (ℓ : Loc Cert.Kernel3Ideal.nD Cert.Kernel3Ideal.τ Cert.Kernel3Ideal.sig) → Buf (Elt Ideal) ℓ) (d : Dev Cert.Kernel3Ideal.nD)
    (x0 : FVec Ideal Cert.Kernel3Ideal.S8x4096x2048 .f32) (x1 : FVec Ideal Cert.Kernel3Ideal.S2048 .f32) (x2 x3 : FVec Ideal Cert.Kernel3Ideal.S8x1x2048 .f32) (x4 : FVec Ideal Cert.Kernel3Ideal.S2048x8192 .f32)
    (h0 : x0 = m ((d.tc : Thread Cert.Kernel3Ideal.nD Cert.Kernel3Ideal.τ).loc Cert.Kernel3Ideal.main_arg0))
    (h1 : x1 = m ((d.tc : Thread Cert.Kernel3Ideal.nD Cert.Kernel3Ideal.τ).loc Cert.Kernel3Ideal.main_arg1))
    (h2 : x2 = m ((d.tc : Thread Cert.Kernel3Ideal.nD Cert.Kernel3Ideal.τ).loc Cert.Kernel3Ideal.main_arg2))
    (h3 : x3 = m ((d.tc : Thread Cert.Kernel3Ideal.nD Cert.Kernel3Ideal.τ).loc Cert.Kernel3Ideal.main_arg3))
    (h4 : x4 = m ((d.tc : Thread Cert.Kernel3Ideal.nD Cert.Kernel3Ideal.τ).loc Cert.Kernel3Ideal.main_arg4)) :
    (Cert.Reference3Ideal.Read.val_main_v21 (F := Ideal) x0 x1 x2 x3 x4 : FVec Ideal Cert.Kernel3Ideal.S32768x8192 .bf16) = Cert.Kernel3Ideal.Value.G5 m d := by
  funext j
  obtain ⟨n, q, rfl⟩ : ∃ (n : Fin 32768) (q : Fin 8192), j = ix2 n q := ⟨j 0, j 1, funext fun a => by
    match a with
    | ⟨0, _⟩ => rfl
    | ⟨1, _⟩ => rfl⟩
  obtain ⟨b, s, rfl⟩ : ∃ (b : Fin 8) (s : Fin 4096), n = ⟨4096 * b.val + s.val, by omega⟩ :=
    ⟨⟨n.val / 4096, by omega⟩, ⟨n.val % 4096, by omega⟩, Fin.ext (by show n.val = 4096 * (n.val / 4096) + n.val % 4096; omega)⟩
  refine (Cert.Reference3Ideal.Proj.res_at x0 x1 x2 x3 x4 b s q).trans (Eq.trans ?_ (Cert.Kernel3Ideal.Proj.result_at m d b s q).symm)
  rw [h0, h1, h2, h3, h4]

theorem algebraic3 : Cert.algebraic_Kernel3Ideal_Reference3Ideal := fun m g m' g' _ ha =>
  ⟨fun c => Cert.Kernel3Ideal.Value.G5 m c,
    Cert.Kernel3Ideal.Value.run m g,
    (θ_run Cert.Reference3Ideal.defs _ _).mono (fun r h c => ⟨(h c).1.trans ((Cert.Reference3Ideal.Read.val_main_v21_eq _ _ _ _ _).trans
        (results3_eq m c _ _ _ _ _ (ha c).1 (ha c).2.1 (ha c).2.2.1 (ha c).2.2.2.1 (ha c).2.2.2.2)), (h c).2⟩)
      (Cert.Reference3Ideal.Value.run (F := Ideal) m' g')⟩

end Cert.Proof

end
-- ==== Proof.Four.Frames.lean ====
/- The fourth call's claims that are not about values: every run ends, every argument is as it began, every counter is at zero. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Read
public import proofs.«01_k».proof.Proof.Gen.Reference4Ideal.Run
public import Idealize.ShloMosaic.Lib.Quiescent

@[expose] public section

noncomputable section

namespace Cert.Proof

open Idealize.ShloMosaic Idealize.SL.Sem

theorem frame_K4 : Cert.quiescent_Kernel4 := fun m g _ => Cert.Kernel4.Gen.frame m g

theorem frame_K4I : Cert.quiescent_Kernel4Ideal := fun m g _ => Cert.Kernel4Ideal.Gen.frame m g

theorem frame_R4I : Cert.quiescent_Reference4Ideal := fun m g _ =>
  (θ_run Cert.Reference4Ideal.defs _ _).mono (fun r h => ⟨fun c => (h c).2, sem_eq_zero_of_no_sems (by decide) r.2⟩) (Cert.Reference4Ideal.Value.run (F := Ideal) m g)

theorem preserves4 : Cert.preserves_Kernel4_Kernel4Ideal := trivial

end Cert.Proof

end
-- ==== Proof.Four.Value.lean ====
/- The fourth call over the extended reals, one element at a time: the third call's normed rows, multiplied by a column block of each
   half of the weight, and the first product times the sigmoid of the second. -/
module

public import proofs.«01_k».proof.Proof.Four.Frames
public import proofs.«01_k».proof.Proof.Three.Value
public import proofs.«01_k».proof.Proof.Gen.Reference4Ideal.Read

@[expose] public section

set_option maxRecDepth 16384
set_option Elab.async false

noncomputable section

namespace Cert.Moe

open Idealize.ShloMosaic

/-- A gated unit: a row through two columns with biases, the first times the sigmoid of the second. -/
def glu (h : Fin 2048 → EReal) (wa wb : Fin 2048 → EReal) (ba bb : EReal) : EReal := ((∑ k, h k * wa k) + ba) * Ideal.logistic ((∑ k, h k * wb k) + bb)

end Cert.Moe

namespace Cert.Kernel4Ideal.Proj

open Cert.Kernel4Ideal Cert.Kernel4Ideal.Gen Cert.Kernel4Ideal.Value Cert.Moe
open Idealize.ShloMosaic Idealize.ShloMosaic.TcCoe Idealize.ShloMosaic.Tactic
open Idealize.SL Idealize.SL.RA
open Idealize.ShloMosaic.Pipeline (Dat Cfg Window)

theorem pay1_at (X : Vec Ideal S1024x2048 .f32) (G : Vec Ideal S1x2048 .f32) (SH SC : Vec Ideal S1x1x2048 .f32) (r : Fin 1024) (c : Fin 2048) :
    k0_pay1 (F := Ideal) X G SH SC (ix2 r c) = nrm (fun c => X (ix2 r c)) (fun c => G (ix2 0 c)) (fun c => SH (ix3 0 0 c)) (fun c => SC (ix3 0 0 c)) c := by
  unfold k0_pay1 nrm rms
  pointwise

theorem pay2_at (H : Vec Ideal S1024x2048 .bf16) (W W' : Vec Ideal S2048x1024 .bf16) (B B' : Vec Ideal S1x1024 .f32) (r q : Fin 1024) :
    k0_pay2 (F := Ideal) H W B W' B' (ix2 r q) = glu (fun k => H (ix2 r k)) (fun k => W (ix2 k q)) (fun k => W' (ix2 k q)) (B (ix2 0 q)) (B' (ix2 0 q)) := by
  unfold k0_pay2 glu
  pointwise

theorem v0_of (w : FVec Ideal S8x4096x2048 .f32) (b : Fin 8) (t : Fin 4096) (c : Fin 2048) :
    shapeCast S32768x2048 w shapeCasts_S8x4096x2048_S32768x2048 (ix2 ⟨4096 * b.val + t.val, by omega⟩ c) = w (ix3 b t c) := by
  pointwise

theorem v1_of (w : FVec Ideal S2048 .f32) (c : Fin 2048) : shapeCast S1x2048 w shapeCasts_S2048_S1x2048 (ix2 0 c) = w (ix1 c) := by
  pointwise

theorem v3_of (w : FVec Ideal S4096 .f32) (c : Fin 4096) : shapeCast S1x4096 w shapeCasts_S4096_S1x4096 (ix2 0 c) = w (ix1 c) := by
  pointwise

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (d : Dev nD)

/-- At a row block's first point the scratch is filled, -/
theorem st_A (t : Fin cfg0.N) (h0 : t.val % 2 = 0) :
    outsAt0 m d t.val t.isLt = (k0_pay2 (F := Ideal) (k0_pay1 (iblk m d 0 t) (iblk m d 1 t) (iblk m d 2 t) (iblk m d 3 t)) (iblk m d 4 t) (iblk m d 6 t) (iblk m d 5 t) (iblk m d 7 t),
      k0_pay1 (iblk m d 0 t) (iblk m d 1 t) (iblk m d 2 t) (iblk m d 3 t)) := by
  rw [outsAt0_A m d t h0]
  refine Prod.ext ?_ ?_
  · dsimp only
    unfold out0_A_8
    rw [View.read_writes_junk_eq_canon]
    unfold kernelRun0_A
    dsimp only
    sl_unfold_words
    rw [View.canon_unit_zero hz2, View.readCov_unit_zero _ hz2]
    simp only [View.readAt_eq_ld, Memref.IsWhole.read_unread, View.ld_unit_zero (S := S1024x2048) hz2, View.ld_unit_zero (S := S1x2048) hz2, View.ld_unit_zero (S := S1x1x2048) hz3, View.ld_unit_zero (S := S2048x1024) hz2, View.ld_unit_zero (S := S1x1024) hz2]
  · dsimp only
    unfold sout0_A_0
    rw [View.read_writes_junk_eq_canon]
    unfold kernelRun0_A
    dsimp only
    sl_unfold_words
    rw [View.canon_unit_zero hz2]
    simp only [View.readAt_eq_ld, Memref.IsWhole.read_unread, View.ld_unit_zero (S := S1024x2048) hz2, View.ld_unit_zero (S := S1x2048) hz2, View.ld_unit_zero (S := S1x1x2048) hz3]

/-- at the others it is read as the point before left it. -/
theorem st_B (t : Fin cfg0.N) (h0 : ¬t.val % 2 = 0) :
    outsAt0 m d t.val t.isLt = (k0_pay2 (F := Ideal) (outsAt0 m d (t.val - 1) (Nat.lt_of_le_of_lt (Nat.sub_le _ _) t.isLt)).2 (iblk m d 4 t) (iblk m d 6 t) (iblk m d 5 t) (iblk m d 7 t),
      (outsAt0 m d (t.val - 1) (Nat.lt_of_le_of_lt (Nat.sub_le _ _) t.isLt)).2) := by
  rw [outsAt0_B m d t h0]
  refine Prod.ext ?_ rfl
  dsimp only
  generalize (outsAt0 m d (t.val - 1) (Nat.lt_of_le_of_lt (Nat.sub_le _ _) t.isLt)).2 = s
  unfold out0_B_8
  rw [View.read_writes_junk_eq_canon]
  unfold kernelRun0_B
  dsimp only
  sl_unfold_words
  rw [View.canon_unit_zero hz2]
  simp only [View.readAt_eq_ld, Memref.IsWhole.read_unread, View.ld_unit_zero (S := S1024x2048) hz2, View.ld_unit_zero (S := S2048x1024) hz2, View.ld_unit_zero (S := S1x1024) hz2]
  exact congrArg (fun z => k0_pay2 (F := Ideal) z _ _ _ _) ((Memref.isWhole_whole cc0_scratch0).read_unread s)

/-- So after every point of a row block the scratch holds what its first point stored, and the output their product with the point's column block. -/
theorem st_eq : ∀ (n : ℕ) (h : n < cfg0.N) (h' : 2 * (n / 2) < cfg0.N),
    outsAt0 m d n h = (k0_pay2 (F := Ideal) (k0_pay1 (iblk m d 0 ⟨2 * (n / 2), h'⟩) (iblk m d 1 ⟨2 * (n / 2), h'⟩) (iblk m d 2 ⟨2 * (n / 2), h'⟩) (iblk m d 3 ⟨2 * (n / 2), h'⟩)) (iblk m d 4 ⟨n, h⟩) (iblk m d 6 ⟨n, h⟩) (iblk m d 5 ⟨n, h⟩) (iblk m d 7 ⟨n, h⟩),
      k0_pay1 (iblk m d 0 ⟨2 * (n / 2), h'⟩) (iblk m d 1 ⟨2 * (n / 2), h'⟩) (iblk m d 2 ⟨2 * (n / 2), h'⟩) (iblk m d 3 ⟨2 * (n / 2), h'⟩)) := by
  intro n
  induction n with
  | zero => exact fun h _ => st_A m d ⟨0, h⟩ rfl
  | succ k ih =>
    intro h h'
    by_cases h0 : (k + 1) % 2 = 0
    · have e : (⟨2 * ((k + 1) / 2), h'⟩ : Fin cfg0.N) = ⟨k + 1, h⟩ := Fin.ext (by show 2 * ((k + 1) / 2) = k + 1; omega)
      rw [e]
      exact st_A m d ⟨k + 1, h⟩ h0
    · have e : (k + 1) / 2 = k / 2 := by omega
      have hp := ih (Nat.lt_of_succ_lt h) (by omega)
      have hb := st_B m d ⟨k + 1, h⟩ h0
      have eu : (⟨2 * ((k + 1) / 2), h'⟩ : Fin cfg0.N) = ⟨2 * (k / 2), by omega⟩ := Fin.ext (congrArg (2 * ·) e)
      rw [eu]
      refine hb.trans ?_
      show (k0_pay2 (F := Ideal) (outsAt0 m d k (Nat.lt_of_succ_lt h)).2 _ _ _ _, (outsAt0 m d k (Nat.lt_of_succ_lt h)).2) = _
      rw [hp]

theorem ib0_at (t : Fin 64) (r : Fin 1024) (c : Fin 2048) :
    (iblk m d 0 t : FVec Ideal S1024x2048 .f32) (ix2 r c) = (V m d main_v0 : FVec Ideal S32768x2048 .f32) (ix2 ⟨1024 * (t.val / 2) + r.val, by omega⟩ c) := by
  refine congrArg (V m d main_v0 : FVec Ideal S32768x2048 .f32) (funext fun a => Fin.ext ((Window.rect_emb_val win0_0 t _ a rfl).trans ?_))
  match a with
  | ⟨0, _⟩ => rw [show win0_0.index t ⟨0, _⟩ = t.val / 2 from (by decide +kernel : ∀ t : Fin 64, win0_0.index t 0 = t.val / 2) t]; show t.val / 2 * 1024 + r.val = 1024 * (t.val / 2) + r.val; omega
  | ⟨1, _⟩ => show 0 * 2048 + c.val = c.val; omega

theorem ib1_at (t : Fin 64) (c : Fin 2048) :
    (iblk m d 1 t : FVec Ideal S1x2048 .f32) (ix2 0 c) = (V m d main_v1 : FVec Ideal S1x2048 .f32) (ix2 0 c) := by
  refine congrArg (V m d main_v1 : FVec Ideal S1x2048 .f32) (funext fun a => Fin.ext ((Window.rect_emb_val win0_1 t _ a rfl).trans ?_))
  match a with
  | ⟨0, _⟩ => rfl
  | ⟨1, _⟩ => show 0 * 2048 + c.val = c.val; omega

theorem ib2_at (t : Fin 64) (c : Fin 2048) :
    (iblk m d 2 t : FVec Ideal S1x1x2048 .f32) (ix3 0 0 c) = (V m d main_arg2 : FVec Ideal S8x1x2048 .f32) (ix3 ⟨t.val / 8, by omega⟩ 0 c) := by
  refine congrArg (V m d main_arg2 : FVec Ideal S8x1x2048 .f32) (funext fun a => Fin.ext ((Window.rect_emb_val win0_2 t _ a rfl).trans ?_))
  match a with
  | ⟨0, _⟩ => rw [show win0_2.index t ⟨0, _⟩ = t.val / 8 from (by decide +kernel : ∀ t : Fin 64, win0_2.index t 0 = t.val / 8) t]; show t.val / 8 * 1 + 0 = t.val / 8; omega
  | ⟨1, _⟩ => rfl
  | ⟨2, _⟩ => show 0 * 2048 + c.val = c.val; omega

theorem ib3_at (t : Fin 64) (c : Fin 2048) :
    (iblk m d 3 t : FVec Ideal S1x1x2048 .f32) (ix3 0 0 c) = (V m d main_arg3 : FVec Ideal S8x1x2048 .f32) (ix3 ⟨t.val / 8, by omega⟩ 0 c) := by
  refine congrArg (V m d main_arg3 : FVec Ideal S8x1x2048 .f32) (funext fun a => Fin.ext ((Window.rect_emb_val win0_3 t _ a rfl).trans ?_))
  match a with
  | ⟨0, _⟩ => rw [show win0_3.index t ⟨0, _⟩ = t.val / 8 from (by decide +kernel : ∀ t : Fin 64, win0_3.index t 0 = t.val / 8) t]; show t.val / 8 * 1 + 0 = t.val / 8; omega
  | ⟨1, _⟩ => rfl
  | ⟨2, _⟩ => show 0 * 2048 + c.val = c.val; omega

theorem ib4_at (t : Fin 64) (k : Fin 2048) (q : Fin 1024) :
    (iblk m d 4 t : FVec Ideal S2048x1024 .bf16) (ix2 k q) = (V m d main_v2 : FVec Ideal S2048x4096 .bf16) (ix2 k ⟨1024 * (t.val % 2) + q.val, by omega⟩) := by
  refine congrArg (V m d main_v2 : FVec Ideal S2048x4096 .bf16) (funext fun a => Fin.ext ((Window.rect_emb_val win0_4 t _ a rfl).trans ?_))
  match a with
  | ⟨0, _⟩ => show 0 * 2048 + k.val = k.val; omega
  | ⟨1, _⟩ => rw [show win0_4.index t ⟨1, _⟩ = t.val % 2 from (by decide +kernel : ∀ t : Fin 64, win0_4.index t 1 = t.val % 2) t]; show (t.val % 2) * 1024 + q.val = 1024 * (t.val % 2) + q.val; omega

theorem ib5_at (t : Fin 64) (k : Fin 2048) (q : Fin 1024) :
    (iblk m d 5 t : FVec Ideal S2048x1024 .bf16) (ix2 k q) = (V m d main_v2 : FVec Ideal S2048x4096 .bf16) (ix2 k ⟨2048 + (1024 * (t.val % 2) + q.val), by omega⟩) := by
  refine congrArg (V m d main_v2 : FVec Ideal S2048x4096 .bf16) (funext fun a => Fin.ext ((Window.rect_emb_val win0_5 t _ a rfl).trans ?_))
  match a with
  | ⟨0, _⟩ => show 0 * 2048 + k.val = k.val; omega
  | ⟨1, _⟩ => rw [show win0_5.index t ⟨1, _⟩ = t.val % 2 + 2 from (by decide +kernel : ∀ t : Fin 64, win0_5.index t 1 = t.val % 2 + 2) t]; show (t.val % 2 + 2) * 1024 + q.val = 2048 + (1024 * (t.val % 2) + q.val); omega

theorem ib6_at (t : Fin 64) (q : Fin 1024) :
    (iblk m d 6 t : FVec Ideal S1x1024 .f32) (ix2 0 q) = (V m d main_v3 : FVec Ideal S1x4096 .f32) (ix2 0 ⟨1024 * (t.val % 2) + q.val, by omega⟩) := by
  refine congrArg (V m d main_v3 : FVec Ideal S1x4096 .f32) (funext fun a => Fin.ext ((Window.rect_emb_val win0_6 t _ a rfl).trans ?_))
  match a with
  | ⟨0, _⟩ => rfl
  | ⟨1, _⟩ => rw [show win0_6.index t ⟨1, _⟩ = t.val % 2 from (by decide +kernel : ∀ t : Fin 64, win0_6.index t 1 = t.val % 2) t]; show (t.val % 2) * 1024 + q.val = 1024 * (t.val % 2) + q.val; omega

theorem ib7_at (t : Fin 64) (q : Fin 1024) :
    (iblk m d 7 t : FVec Ideal S1x1024 .f32) (ix2 0 q) = (V m d main_v3 : FVec Ideal S1x4096 .f32) (ix2 0 ⟨2048 + (1024 * (t.val % 2) + q.val), by omega⟩) := by
  refine congrArg (V m d main_v3 : FVec Ideal S1x4096 .f32) (funext fun a => Fin.ext ((Window.rect_emb_val win0_7 t _ a rfl).trans ?_))
  match a with
  | ⟨0, _⟩ => rfl
  | ⟨1, _⟩ => rw [show win0_7.index t ⟨1, _⟩ = t.val % 2 + 2 from (by decide +kernel : ∀ t : Fin 64, win0_7.index t 1 = t.val % 2 + 2) t]; show (t.val % 2 + 2) * 1024 + q.val = 2048 + (1024 * (t.val % 2) + q.val); omega

theorem e_v0 : (V m d main_v0 : FVec Ideal S32768x2048 .f32) = shapeCast S32768x2048 (m (d, Proc.devRef .tc main_arg0) : FVec Ideal S8x4096x2048 .f32) shapeCasts_S8x4096x2048_S32768x2048 := by
  simp only [V, hostOps0, List.flatten_cons, List.flatten_nil, List.append_nil, List.cons_append, List.nil_append, StableHlo.TRef.binary, StableHlo.TRef.unary, StableHlo.TRef.toBuf, StableHlo.TRef.ofBuf, cast_eq]
  after_results_simp <;> rfl

theorem e_v1 : (V m d main_v1 : FVec Ideal S1x2048 .f32) = shapeCast S1x2048 (m (d, Proc.devRef .tc main_arg1) : FVec Ideal S2048 .f32) shapeCasts_S2048_S1x2048 := by
  simp only [V, hostOps0, List.flatten_cons, List.flatten_nil, List.append_nil, List.cons_append, List.nil_append, StableHlo.TRef.binary, StableHlo.TRef.unary, StableHlo.TRef.toBuf, StableHlo.TRef.ofBuf, cast_eq]
  after_results_simp <;> rfl

theorem e_v2 : (V m d main_v2 : FVec Ideal S2048x4096 .bf16) = truncf (F := Ideal) .bf16 (m (d, Proc.devRef .tc main_arg4) : FVec Ideal S2048x4096 .f32) bitsLt_bf16_f32 := by
  simp only [V, hostOps0, List.flatten_cons, List.flatten_nil, List.append_nil, List.cons_append, List.nil_append, StableHlo.TRef.binary, StableHlo.TRef.unary, StableHlo.TRef.toBuf, StableHlo.TRef.ofBuf, cast_eq]
  after_results_simp <;> rfl

theorem e_v3 : (V m d main_v3 : FVec Ideal S1x4096 .f32) = shapeCast S1x4096 (m (d, Proc.devRef .tc main_arg5) : FVec Ideal S4096 .f32) shapeCasts_S4096_S1x4096 := by
  simp only [V, hostOps0, List.flatten_cons, List.flatten_nil, List.append_nil, List.cons_append, List.nil_append, StableHlo.TRef.binary, StableHlo.TRef.unary, StableHlo.TRef.toBuf, StableHlo.TRef.ofBuf, cast_eq]
  after_results_simp <;> rfl

/-- The call's result at token `(b, s)` and column `q`, in the arguments. -/
theorem result_at (b : Fin 8) (s : Fin 4096) (q : Fin 2048) :
    (G8 m d : FVec Ideal S32768x2048 .bf16) (ix2 ⟨4096 * b.val + s.val, by omega⟩ q)
      = glu (nrm (fun c => (m (d, Proc.devRef .tc main_arg0) : FVec Ideal S8x4096x2048 .f32) (ix3 b s c)) (fun c => (m (d, Proc.devRef .tc main_arg1) : FVec Ideal S2048 .f32) (ix1 c))
          (fun c => (m (d, Proc.devRef .tc main_arg2) : FVec Ideal S8x1x2048 .f32) (ix3 b 0 c)) (fun c => (m (d, Proc.devRef .tc main_arg3) : FVec Ideal S8x1x2048 .f32) (ix3 b 0 c)))
          (fun k => (m (d, Proc.devRef .tc main_arg4) : FVec Ideal S2048x4096 .f32) (ix2 k ⟨q.val, by omega⟩)) (fun k => (m (d, Proc.devRef .tc main_arg4) : FVec Ideal S2048x4096 .f32) (ix2 k ⟨2048 + q.val, by omega⟩))
          ((m (d, Proc.devRef .tc main_arg5) : FVec Ideal S4096 .f32) (ix1 ⟨q.val, by omega⟩)) ((m (d, Proc.devRef .tc main_arg5) : FVec Ideal S4096 .f32) (ix1 ⟨2048 + q.val, by omega⟩)) := by
  obtain ⟨t, ht⟩ : ∃ t : Fin 64, t.val = 2 * ((4096 * b.val + s.val) / 1024) + q.val / 1024 := ⟨⟨2 * ((4096 * b.val + s.val) / 1024) + q.val / 1024, by omega⟩, rfl⟩
  obtain ⟨u, hu⟩ : ∃ u : Fin 64, u.val = 2 * (t.val / 2) := ⟨⟨2 * (t.val / 2), by omega⟩, rfl⟩
  obtain ⟨r, hr⟩ : ∃ r : Fin 1024, r.val = (4096 * b.val + s.val) % 1024 := ⟨⟨(4096 * b.val + s.val) % 1024, by omega⟩, rfl⟩
  obtain ⟨p, hp⟩ : ∃ p : Fin 1024, p.val = q.val % 1024 := ⟨⟨q.val % 1024, by omega⟩, rfl⟩
  have hn : (⟨1024 * (u.val / 2) + r.val, by omega⟩ : Fin 32768) = ⟨4096 * b.val + s.val, by omega⟩ := Fin.ext (by show 1024 * (u.val / 2) + r.val = 4096 * b.val + s.val; omega)
  have hb : (⟨u.val / 8, by omega⟩ : Fin 8) = b := Fin.ext (by show u.val / 8 = b.val; omega)
  have hq : (⟨1024 * (t.val % 2) + p.val, by omega⟩ : Fin 4096) = ⟨q.val, by omega⟩ := Fin.ext (by show 1024 * (t.val % 2) + p.val = q.val; omega)
  have hq' : (⟨2048 + (1024 * (t.val % 2) + p.val), by omega⟩ : Fin 4096) = ⟨2048 + q.val, by omega⟩ := Fin.ext (by show 2048 + (1024 * (t.val % 2) + p.val) = 2048 + q.val; omega)
  have hG : (G8 m d : FVec Ideal S32768x2048 .bf16) (ix2 ⟨4096 * b.val + s.val, by omega⟩ q) = (outsAt0 m d t.val t.isLt).1 (ix2 r p) := by
    have hpt : pt8Of (ix2 ⟨4096 * b.val + s.val, by omega⟩ q) = t.val := by
      show 2 * ((4096 * b.val + s.val) / 1024 - 0) + 1 * (q.val / 1024 - 0) = t.val
      omega
    have hl : loc8Of (ix2 ⟨4096 * b.val + s.val, by omega⟩ q) = ix2 r p := funext fun a => Fin.ext (by
      match a with
      | ⟨0, _⟩ => exact hr.symm
      | ⟨1, _⟩ => exact hp.symm)
    unfold G8
    rw [dif_pos (by rw [hpt]; exact t.isLt), hl, outsAt0_sweep m d t.val t.isLt, fold0_congr m d _ _ _ _ hpt]
  refine hG.trans ((congrFun (congrArg Prod.fst (st_eq m d t.val t.isLt (by rw [← hu]; exact u.isLt))) (ix2 r p)).trans ((pay2_at _ _ _ _ _ r p).trans ?_))
  have eu : (⟨2 * (t.val / 2), by rw [← hu]; exact u.isLt⟩ : Fin cfg0.N) = u := Fin.ext hu.symm
  rw [eu, funext fun k => pay1_at _ _ _ _ r k]
  have e0 : ∀ c, _ := fun c => (ib0_at m d u r c).trans ((congrArg (fun n => (V m d main_v0 : FVec Ideal S32768x2048 .f32) (ix2 n c)) hn).trans ((congrFun (e_v0 m d) _).trans (v0_of _ b s c)))
  have e1 : ∀ c, _ := fun c => (ib1_at m d u c).trans ((congrFun (e_v1 m d) _).trans (v1_of _ c))
  have e2 : ∀ c, _ := fun c => (ib2_at m d u c).trans ((congrArg (fun b => (V m d main_arg2 : FVec Ideal S8x1x2048 .f32) (ix3 b 0 c)) hb).trans (congrFun (V_main_arg2 m d) (ix3 b 0 c)))
  have e3 : ∀ c, _ := fun c => (ib3_at m d u c).trans ((congrArg (fun b => (V m d main_arg3 : FVec Ideal S8x1x2048 .f32) (ix3 b 0 c)) hb).trans (congrFun (V_main_arg3 m d) (ix3 b 0 c)))
  have e4 : ∀ k, _ := fun k => (ib4_at m d t k p).trans ((congrArg (fun q => (V m d main_v2 : FVec Ideal S2048x4096 .bf16) (ix2 k q)) hq).trans (congrFun (e_v2 m d) _))
  have e5 : ∀ k, _ := fun k => (ib5_at m d t k p).trans ((congrArg (fun q => (V m d main_v2 : FVec Ideal S2048x4096 .bf16) (ix2 k q)) hq').trans (congrFun (e_v2 m d) _))
  have e6 := (ib6_at m d t p).trans ((congrArg (fun q => (V m d main_v3 : FVec Ideal S1x4096 .f32) (ix2 0 q)) hq).trans ((congrFun (e_v3 m d) _).trans (v3_of _ _)))
  have e7 := (ib7_at m d t p).trans ((congrArg (fun q => (V m d main_v3 : FVec Ideal S1x4096 .f32) (ix2 0 q)) hq').trans ((congrFun (e_v3 m d) _).trans (v3_of _ _)))
  rw [funext e0, funext e1, funext e2, funext e3]
  exact (congrArg₂ (fun a b => glu _ a b _ _) (funext e4) (funext e5)).trans (congrArg₂ (glu _ _ _) e6 e7)

end Cert.Kernel4Ideal.Proj

end
-- ==== Proof.Four.Algebraic.lean ====
/- The fourth call's value claim: over the extended reals its result is the reference's. -/
module

public import proofs.«01_k».proof.Proof.Four.Value

@[expose] public section

set_option maxRecDepth 16384
set_option Elab.async false

noncomputable section

namespace Cert.Reference4Ideal.Proj

open Cert.Reference4Ideal Cert.Reference4Ideal.Gen Cert.Reference4Ideal.Read Cert.Moe
open Idealize.ShloMosaic

theorem v18_at (x0 : FVec Ideal S8x4096x2048 .f32) (x1 : FVec Ideal S2048 .f32) (x2 x3 : FVec Ideal S8x1x2048 .f32) (b : Fin 8) (t : Fin 4096) (c : Fin 2048) :
    val_main_v18 (F := Ideal) x0 x1 x2 x3 (ix3 b t c) = nrm (fun c => x0 (ix3 b t c)) (fun c => x1 (ix1 c)) (fun c => x2 (ix3 b 0 c)) (fun c => x3 (ix3 b 0 c)) c := by
  have hs := val_main_v1_apply x0 (ix2 b t)
  have hi : ∀ k : Fin 2048, idx_main_v1 (ix2 b t) k = ix3 b t k := fun k => funext fun a => by
    match a with
    | ⟨0, _⟩ => rfl
    | ⟨1, _⟩ => rfl
    | ⟨2, _⟩ => rfl
  simp only [hi, val_main_v0_apply] at hs
  unfold val_main_v18 val_main_v17 val_main_v16 val_main_v15 val_main_v14 val_main_v13 val_main_v12 val_main_v11 val_main_v10 val_main_v9 val_main_v8 val_main_v7 val_main_v6 val_main_v5 val_main_v4 val_main_v3 val_main_v2 val_main_cst_0 val_main_cst_1 val_main_cst_2 nrm rms
  generalize val_main_v1 (F := Ideal) x0 = z at hs ⊢
  have h0 : z (ix2 b t) = ∑ k : Fin 2048, x0 (ix3 b t k) * x0 (ix3 b t k) := by
    rw [hs]
    unfold val_main_cst
    pointwise
  pointwise
  rw [h0]

variable (x0 : FVec Ideal S8x4096x2048 .f32) (x1 : FVec Ideal S2048 .f32) (x2 x3 : FVec Ideal S8x1x2048 .f32) (x4 : FVec Ideal S2048x4096 .f32) (x5 : FVec Ideal S4096 .f32)

theorem v23_at (b : Fin 8) (t : Fin 4096) (q : Fin 4096) :
    val_main_v23 (F := Ideal) x0 x1 x2 x3 x4 x5 (ix2 ⟨4096 * b.val + t.val, by omega⟩ q)
      = (∑ k : Fin 2048, nrm (fun c => x0 (ix3 b t c)) (fun c => x1 (ix1 c)) (fun c => x2 (ix3 b 0 c)) (fun c => x3 (ix3 b 0 c)) k * x4 (ix2 k q)) + x5 (ix1 q) := by
  refine congrArg₂ (· + ·) ((val_main_v20_apply x0 x1 x2 x3 x4 _).trans (Finset.sum_congr rfl fun k _ => ?_)) ?_
  · have hl : idx_main_v19 (lidx_main_v20 (ix2 ⟨4096 * b.val + t.val, by omega⟩ q) k) = ix3 b t k := funext fun a => Fin.ext (by
      match a with
      | ⟨0, _⟩ => show ((4096 * b.val + t.val) * 2048 + k.val) / 8388608 = b.val; omega
      | ⟨1, _⟩ => show ((4096 * b.val + t.val) * 2048 + k.val) / 2048 % 4096 = t.val; omega
      | ⟨2, _⟩ => show ((4096 * b.val + t.val) * 2048 + k.val) % 2048 = k.val; omega)
    have hr : ridx_main_v20 (ix2 ⟨4096 * b.val + t.val, by omega⟩ q) k = ix2 k q := funext fun a => by
      match a with
      | ⟨0, _⟩ => rfl
      | ⟨1, _⟩ => rfl
    rw [val_main_v19_apply, hl, hr, v18_at]
  · unfold val_main_v22 val_main_v21
    pointwise

theorem res_at (b : Fin 8) (t : Fin 4096) (q : Fin 2048) :
    val_main_v33 (F := Ideal) x0 x1 x2 x3 x4 x5 (ix2 ⟨4096 * b.val + t.val, by omega⟩ q)
      = glu (nrm (fun c => x0 (ix3 b t c)) (fun c => x1 (ix1 c)) (fun c => x2 (ix3 b 0 c)) (fun c => x3 (ix3 b 0 c)))
          (fun k => x4 (ix2 k ⟨q.val, by omega⟩)) (fun k => x4 (ix2 k ⟨2048 + q.val, by omega⟩)) (x5 (ix1 ⟨q.val, by omega⟩)) (x5 (ix1 ⟨2048 + q.val, by omega⟩)) := by
  have ha := v23_at x0 x1 x2 x3 x4 x5 b t ⟨q.val, by omega⟩
  have hb := v23_at x0 x1 x2 x3 x4 x5 b t ⟨2048 + q.val, by omega⟩
  unfold glu Ideal.logistic
  rw [← ha, ← hb]
  unfold val_main_v33 val_main_v32 val_main_v31 val_main_v30 val_main_v29 val_main_v28 val_main_v27 val_main_v26 val_main_v25 val_main_v24 val_main_cst_3 val_main_cst_4
  generalize val_main_v23 (F := Ideal) x0 x1 x2 x3 x4 x5 = z
  pointwise

end Cert.Reference4Ideal.Proj

namespace Cert.Proof

open Idealize.ShloMosaic Idealize.SL.Sem

theorem results4_eq (m : (ℓ : Loc Cert.Kernel4Ideal.nD Cert.Kernel4Ideal.τ Cert.Kernel4Ideal.sig) → Buf (Elt Ideal) ℓ) (d : Dev Cert.Kernel4Ideal.nD)
    (x0 : FVec Ideal Cert.Kernel4Ideal.S8x4096x2048 .f32) (x1 : FVec Ideal Cert.Kernel4Ideal.S2048 .f32) (x2 x3 : FVec Ideal Cert.Kernel4Ideal.S8x1x2048 .f32) (x4 : FVec Ideal Cert.Kernel4Ideal.S2048x4096 .f32) (x5 : FVec Ideal Cert.Kernel4Ideal.S4096 .f32)
    (h0 : x0 = m ((d.tc : Thread Cert.Kernel4Ideal.nD Cert.Kernel4Ideal.τ).loc Cert.Kernel4Ideal.main_arg0))
    (h1 : x1 = m ((d.tc : Thread Cert.Kernel4Ideal.nD Cert.Kernel4Ideal.τ).loc Cert.Kernel4Ideal.main_arg1))
    (h2 : x2 = m ((d.tc : Thread Cert.Kernel4Ideal.nD Cert.Kernel4Ideal.τ).loc Cert.Kernel4Ideal.main_arg2))
    (h3 : x3 = m ((d.tc : Thread Cert.Kernel4Ideal.nD Cert.Kernel4Ideal.τ).loc Cert.Kernel4Ideal.main_arg3))
    (h4 : x4 = m ((d.tc : Thread Cert.Kernel4Ideal.nD Cert.Kernel4Ideal.τ).loc Cert.Kernel4Ideal.main_arg4))
    (h5 : x5 = m ((d.tc : Thread Cert.Kernel4Ideal.nD Cert.Kernel4Ideal.τ).loc Cert.Kernel4Ideal.main_arg5)) :
    (Cert.Reference4Ideal.Read.val_main_v33 (F := Ideal) x0 x1 x2 x3 x4 x5 : FVec Ideal Cert.Kernel4Ideal.S32768x2048 .bf16) = Cert.Kernel4Ideal.Value.G8 m d := by
  funext j
  obtain ⟨n, q, rfl⟩ : ∃ (n : Fin 32768) (q : Fin 2048), j = ix2 n q := ⟨j 0, j 1, funext fun a => by
    match a with
    | ⟨0, _⟩ => rfl
    | ⟨1, _⟩ => rfl⟩
  obtain ⟨b, s, rfl⟩ : ∃ (b : Fin 8) (s : Fin 4096), n = ⟨4096 * b.val + s.val, by omega⟩ :=
    ⟨⟨n.val / 4096, by omega⟩, ⟨n.val % 4096, by omega⟩, Fin.ext (by show n.val = 4096 * (n.val / 4096) + n.val % 4096; omega)⟩
  refine (Cert.Reference4Ideal.Proj.res_at x0 x1 x2 x3 x4 x5 b s q).trans (Eq.trans ?_ (Cert.Kernel4Ideal.Proj.result_at m d b s q).symm)
  rw [h0, h1, h2, h3, h4, h5]

theorem algebraic4 : Cert.algebraic_Kernel4Ideal_Reference4Ideal := fun m g m' g' _ ha =>
  ⟨fun c => Cert.Kernel4Ideal.Value.G8 m c,
    Cert.Kernel4Ideal.Value.run m g,
    (θ_run Cert.Reference4Ideal.defs _ _).mono (fun r h c => ⟨(h c).1.trans ((Cert.Reference4Ideal.Read.val_main_v33_eq _ _ _ _ _ _).trans
        (results4_eq m c _ _ _ _ _ _ (ha c).1 (ha c).2.1 (ha c).2.2.1 (ha c).2.2.2.1 (ha c).2.2.2.2.1 (ha c).2.2.2.2.2)), (h c).2⟩)
      (Cert.Reference4Ideal.Value.run (F := Ideal) m' g')⟩

end Cert.Proof

end
-- ==== Proof.lean ====
/- The certificate's claim, put together from the frames, the preservation and the value claim proved under `Proof/`. -/
module

public import proofs.«01_k».proof.Defs
public import proofs.«01_k».proof.Proof.Frames
public import proofs.«01_k».proof.Proof.Algebraic
public import proofs.«01_k».proof.Proof.Two.Frames
public import proofs.«01_k».proof.Proof.Two.Algebraic
public import proofs.«01_k».proof.Proof.Three.Frames
public import proofs.«01_k».proof.Proof.Three.Algebraic
public import proofs.«01_k».proof.Proof.Four.Frames
public import proofs.«01_k».proof.Proof.Four.Algebraic

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_topi_in_range.Gen.facts,
  frame_K, frame_KI, frame_RI, frame_RI_pre, frame_K2, frame_K2I, frame_R2I, frame_K3, frame_K3I, frame_R3I, frame_K4, frame_K4I, frame_R4I, preserves, algebraic, preserves2, algebraic2, preserves3, algebraic3, preserves4, algebraic4⟩

end Cert.Proof

end
